-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_steps_nonzero [hPre_steps_nonzero : Cert.Pre_steps_nonzero.Facts] (m : (ℓ : Loc Cert.KernelIdeal.nD Cert.KernelIdeal.τ Cert.KernelIdeal.sig) → Buf (Elt Ideal) ℓ) : Prop :=
  ∀ c : Dev Cert.KernelIdeal.nD,
    (Cert.Pre_steps_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).1 = (fun _ => 1#1)
    ∧ (Cert.Pre_steps_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.1 = (fun _ => 1#1)
    ∧ (Cert.Pre_steps_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.1 = (fun _ => 1#1)
    ∧ (Cert.Pre_steps_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.1 = (fun _ => 1#1)
    ∧ (Cert.Pre_steps_nonzero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_steps_nonzero [hPre_steps_nonzero : Cert.Pre_steps_nonzero.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_steps_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).1 = (fun _ => 1#1)
    ∧ (Cert.Pre_steps_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.1 = (fun _ => 1#1)
    ∧ (Cert.Pre_steps_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.1 = (fun _ => 1#1)
    ∧ (Cert.Pre_steps_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.1 = (fun _ => 1#1)
    ∧ (Cert.Pre_steps_nonzero.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_KernelIdeal_pre_steps_nonzero [hKernelIdeal : Cert.KernelIdeal.Facts] [hPre_steps_nonzero : Cert.Pre_steps_nonzero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_steps_nonzero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def quiescent_ReferenceIdeal_pre_steps_nonzero [hReferenceIdeal : Cert.ReferenceIdeal.Facts] [hPre_steps_nonzero : Cert.Pre_steps_nonzero.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_steps_nonzero m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))
      ∧ r.2.sem = fun _ => 0)

def preserves_Kernel_KernelIdeal : Prop :=
  True

def algebraic_KernelIdeal_ReferenceIdeal_pre_steps_nonzero [hKernelIdeal : Cert.KernelIdeal.Facts] [hReferenceIdeal : Cert.ReferenceIdeal.Facts] [hPre_steps_nonzero : Cert.Pre_steps_nonzero.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_steps_nonzero m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)) (v2 : (c : Dev Cert.KernelIdeal.nD) → Buf (Elt Ideal) ((c.tc : Thread Cert.KernelIdeal.nD Cert.KernelIdeal.τ).loc Cert.KernelIdeal.main_v9_2)) (v3 : (c : Dev Cert.KernelIdeal.nD) → Buf (Elt Ideal) ((c.tc : Thread Cert.KernelIdeal.nD Cert.KernelIdeal.τ).loc Cert.KernelIdeal.main_v9_3)) (v4 : (c : Dev Cert.KernelIdeal.nD) → Buf (Elt Ideal) ((c.tc : Thread Cert.KernelIdeal.nD Cert.KernelIdeal.τ).loc Cert.KernelIdeal.main_v9_4)) (v5 : (c : Dev Cert.KernelIdeal.nD) → Buf (Elt Ideal) ((c.tc : Thread Cert.KernelIdeal.nD Cert.KernelIdeal.τ).loc Cert.KernelIdeal.main_v9_10)) (v6 : (c : Dev Cert.KernelIdeal.nD) → Buf (Elt Ideal) ((c.tc : Thread Cert.KernelIdeal.nD Cert.KernelIdeal.τ).loc Cert.KernelIdeal.main_v9_11)) (v7 : (c : Dev Cert.KernelIdeal.nD) → Buf (Elt Ideal) ((c.tc : Thread Cert.KernelIdeal.nD Cert.KernelIdeal.τ).loc Cert.KernelIdeal.main_v9_12)) (v8 : (c : Dev Cert.KernelIdeal.nD) → Buf (Elt Ideal) ((c.tc : Thread Cert.KernelIdeal.nD Cert.KernelIdeal.τ).loc Cert.KernelIdeal.main_v9_13)) (v9 : (c : Dev Cert.KernelIdeal.nD) → Buf (Elt Ideal) ((c.tc : Thread Cert.KernelIdeal.nD Cert.KernelIdeal.τ).loc Cert.KernelIdeal.main_v9_14)) (v10 : (c : Dev Cert.KernelIdeal.nD) → Buf (Elt Ideal) ((c.tc : Thread Cert.KernelIdeal.nD Cert.KernelIdeal.τ).loc Cert.KernelIdeal.main_v9_15)) (v11 : (c : Dev Cert.KernelIdeal.nD) → Buf (Elt Ideal) ((c.tc : Thread Cert.KernelIdeal.nD Cert.KernelIdeal.τ).loc Cert.KernelIdeal.main_v9_16)) (v12 : (c : Dev Cert.KernelIdeal.nD) → Buf (Elt Ideal) ((c.tc : Thread Cert.KernelIdeal.nD Cert.KernelIdeal.τ).loc Cert.KernelIdeal.main_v9_17)) (v13 : (c : Dev Cert.KernelIdeal.nD) → Buf (Elt Ideal) ((c.tc : Thread Cert.KernelIdeal.nD Cert.KernelIdeal.τ).loc Cert.KernelIdeal.main_v9_18)) (v14 : (c : Dev Cert.KernelIdeal.nD) → Buf (Elt Ideal) ((c.tc : Thread Cert.KernelIdeal.nD Cert.KernelIdeal.τ).loc Cert.KernelIdeal.main_v9_19)) (v15 : (c : Dev Cert.KernelIdeal.nD) → Buf (Elt Ideal) ((c.tc : Thread Cert.KernelIdeal.nD Cert.KernelIdeal.τ).loc Cert.KernelIdeal.main_v9_20)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_v9_2) = v2 c
          ∧ r.2.mem ((c.tc : Thread Cert.KernelIdeal.nD Cert.KernelIdeal.τ).loc Cert.KernelIdeal.main_v9_3) = v3 c
          ∧ r.2.mem ((c.tc : Thread Cert.KernelIdeal.nD Cert.KernelIdeal.τ).loc Cert.KernelIdeal.main_v9_4) = v4 c
          ∧ r.2.mem ((c.tc : Thread Cert.KernelIdeal.nD Cert.KernelIdeal.τ).loc Cert.KernelIdeal.main_v9_10) = v5 c
          ∧ r.2.mem ((c.tc : Thread Cert.KernelIdeal.nD Cert.KernelIdeal.τ).loc Cert.KernelIdeal.main_v9_11) = v6 c
          ∧ r.2.mem ((c.tc : Thread Cert.KernelIdeal.nD Cert.KernelIdeal.τ).loc Cert.KernelIdeal.main_v9_12) = v7 c
          ∧ r.2.mem ((c.tc : Thread Cert.KernelIdeal.nD Cert.KernelIdeal.τ).loc Cert.KernelIdeal.main_v9_13) = v8 c
          ∧ r.2.mem ((c.tc : Thread Cert.KernelIdeal.nD Cert.KernelIdeal.τ).loc Cert.KernelIdeal.main_v9_14) = v9 c
          ∧ r.2.mem ((c.tc : Thread Cert.KernelIdeal.nD Cert.KernelIdeal.τ).loc Cert.KernelIdeal.main_v9_15) = v10 c
          ∧ r.2.mem ((c.tc : Thread Cert.KernelIdeal.nD Cert.KernelIdeal.τ).loc Cert.KernelIdeal.main_v9_16) = v11 c
          ∧ r.2.mem ((c.tc : Thread Cert.KernelIdeal.nD Cert.KernelIdeal.τ).loc Cert.KernelIdeal.main_v9_17) = v12 c
          ∧ r.2.mem ((c.tc : Thread Cert.KernelIdeal.nD Cert.KernelIdeal.τ).loc Cert.KernelIdeal.main_v9_18) = v13 c
          ∧ r.2.mem ((c.tc : Thread Cert.KernelIdeal.nD Cert.KernelIdeal.τ).loc Cert.KernelIdeal.main_v9_19) = v14 c
          ∧ r.2.mem ((c.tc : Thread Cert.KernelIdeal.nD Cert.KernelIdeal.τ).loc Cert.KernelIdeal.main_v9_20) = v15 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8_0) = v0 c
          ∧ r.2.mem ((c.tc : Thread Cert.ReferenceIdeal.nD Cert.ReferenceIdeal.τ).loc Cert.ReferenceIdeal.main_v8_1) = v1 c
          ∧ r.2.mem ((c.tc : Thread Cert.ReferenceIdeal.nD Cert.ReferenceIdeal.τ).loc Cert.ReferenceIdeal.main_v8_2) = v2 c
          ∧ r.2.mem ((c.tc : Thread Cert.ReferenceIdeal.nD Cert.ReferenceIdeal.τ).loc Cert.ReferenceIdeal.main_v8_3) = v3 c
          ∧ r.2.mem ((c.tc : Thread Cert.ReferenceIdeal.nD Cert.ReferenceIdeal.τ).loc Cert.ReferenceIdeal.main_v8_4) = v4 c
          ∧ r.2.mem ((c.tc : Thread Cert.ReferenceIdeal.nD Cert.ReferenceIdeal.τ).loc Cert.ReferenceIdeal.main_v8_5) = v5 c
          ∧ r.2.mem ((c.tc : Thread Cert.ReferenceIdeal.nD Cert.ReferenceIdeal.τ).loc Cert.ReferenceIdeal.main_v8_6) = v6 c
          ∧ r.2.mem ((c.tc : Thread Cert.ReferenceIdeal.nD Cert.ReferenceIdeal.τ).loc Cert.ReferenceIdeal.main_v8_7) = v7 c
          ∧ r.2.mem ((c.tc : Thread Cert.ReferenceIdeal.nD Cert.ReferenceIdeal.τ).loc Cert.ReferenceIdeal.main_v8_8) = v8 c
          ∧ r.2.mem ((c.tc : Thread Cert.ReferenceIdeal.nD Cert.ReferenceIdeal.τ).loc Cert.ReferenceIdeal.main_v8_9) = v9 c
          ∧ r.2.mem ((c.tc : Thread Cert.ReferenceIdeal.nD Cert.ReferenceIdeal.τ).loc Cert.ReferenceIdeal.main_v8_10) = v10 c
          ∧ r.2.mem ((c.tc : Thread Cert.ReferenceIdeal.nD Cert.ReferenceIdeal.τ).loc Cert.ReferenceIdeal.main_v8_11) = v11 c
          ∧ r.2.mem ((c.tc : Thread Cert.ReferenceIdeal.nD Cert.ReferenceIdeal.τ).loc Cert.ReferenceIdeal.main_v8_12) = v12 c
          ∧ r.2.mem ((c.tc : Thread Cert.ReferenceIdeal.nD Cert.ReferenceIdeal.τ).loc Cert.ReferenceIdeal.main_v8_13) = v13 c
          ∧ r.2.mem ((c.tc : Thread Cert.ReferenceIdeal.nD Cert.ReferenceIdeal.τ).loc Cert.ReferenceIdeal.main_v8_14) = v14 c
          ∧ r.2.mem ((c.tc : Thread Cert.ReferenceIdeal.nD Cert.ReferenceIdeal.τ).loc Cert.ReferenceIdeal.main_v8_15) = v15 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_steps_nonzero : Cert.Pre_steps_nonzero.Facts),
    quiescent_Kernel (hKernel := hKernel)
    ∧ quiescent_KernelIdeal (hKernelIdeal := hKernelIdeal)
    ∧ quiescent_KernelIdeal_pre_steps_nonzero (hKernelIdeal := hKernelIdeal) (hPre_steps_nonzero := hPre_steps_nonzero)
    ∧ quiescent_ReferenceIdeal (hReferenceIdeal := hReferenceIdeal)
    ∧ quiescent_ReferenceIdeal_pre_steps_nonzero (hReferenceIdeal := hReferenceIdeal) (hPre_steps_nonzero := hPre_steps_nonzero)
    ∧ preserves_Kernel_KernelIdeal
    ∧ algebraic_KernelIdeal_ReferenceIdeal_pre_steps_nonzero (hKernelIdeal := hKernelIdeal) (hReferenceIdeal := hReferenceIdeal) (hPre_steps_nonzero := hPre_steps_nonzero)
-- ==== Pre_steps_nonzero.lean ====
abbrev S2x128x4096 : Shape := ⟨3, ![2, 128, 4096]⟩
abbrev S4096 : Shape := ⟨1, ![4096]⟩
abbrev S4096x14336 : Shape := ⟨2, ![4096, 14336]⟩
abbrev S14336x4096 : Shape := ⟨2, ![14336, 4096]⟩
abbrev S14336 : Shape := ⟨1, ![14336]⟩
abbrev S_ : Shape := ⟨0, ![]⟩

class Facts : Prop where
  bcast_S_S14336 : S_.BroadcastsInDim S14336 (![] : Fin 0 → Fin S14336.rank)
  bcast_S_S4096 : S_.BroadcastsInDim S4096 (![] : Fin 0 → Fin S4096.rank)

variable [Facts]

def fn {F : FTy → Type} [FloatOps F] (main_arg0 : FVec F S2x128x4096 .bf16) (main_arg1 : FVec F S2x128x4096 .bf16) (main_arg2 : FVec F S4096 .f32) (main_arg3 : FVec F S4096x14336 .bf16) (main_arg4 : FVec F S4096x14336 .bf16) (main_arg5 : FVec F S14336x4096 .bf16) (main_arg6 : FVec F S14336 .f32) (main_arg7 : FVec F S14336 .f32) (main_arg8 : FVec F S4096 .f32) (main_arg9 : FVec F S_ .f32) (main_arg10 : FVec F S_ .f32) : IVec S14336 1 × IVec S14336 1 × IVec S4096 1 × IVec S_ 1 × IVec S_ 1 :=
  let main_cst : FVec F S_ .f32 := constant S_ .f32 0x00000000#32
  let main_v0 : FVec F S14336 .f32 := broadcastInDim S14336 ![] bcast_S_S14336 main_cst
  let main_v1 : IVec S14336 1 := cmpf .une main_arg6 main_v0
  let main_cst_0 : FVec F S_ .f32 := constant S_ .f32 0x00000000#32
  let main_v2 : FVec F S14336 .f32 := broadcastInDim S14336 ![] bcast_S_S14336 main_cst_0
  let main_v3 : IVec S14336 1 := cmpf .une main_arg7 main_v2
  let main_cst_1 : FVec F S_ .f32 := constant S_ .f32 0x00000000#32
  let main_v4 : FVec F S4096 .f32 := broadcastInDim S4096 ![] bcast_S_S4096 main_cst_1
  let main_v5 : IVec S4096 1 := cmpf .une main_arg8 main_v4
  let main_cst_2 : FVec F S_ .f32 := constant S_ .f32 0x00000000#32
  let main_v6 : IVec S_ 1 := cmpf .une main_arg9 main_cst_2
  let main_cst_3 : FVec F S_ .f32 := constant S_ .f32 0x00000000#32
  let main_v7 : IVec S_ 1 := cmpf .une main_arg10 main_cst_3
  (main_v1, main_v3, main_v5, main_v6, main_v7)
-- ==== Kernel.lean ====
abbrev S2x128x4096 : Shape := ⟨3, ![2, 128, 4096]⟩
abbrev S4096 : Shape := ⟨1, ![4096]⟩
abbrev S4096x14336 : Shape := ⟨2, ![4096, 14336]⟩
abbrev S14336x4096 : Shape := ⟨2, ![14336, 4096]⟩
abbrev S14336 : Shape := ⟨1, ![14336]⟩
abbrev S_ : Shape := ⟨0, ![]⟩
abbrev S1 : Shape := ⟨1, ![1]⟩
abbrev S2 : Shape := ⟨1, ![2]⟩
abbrev S256x4096 : Shape := ⟨2, ![256, 4096]⟩
abbrev S1x4096 : Shape := ⟨2, ![1, 4096]⟩
abbrev S1x14336 : Shape := ⟨2, ![1, 14336]⟩
abbrev S8x4096 : Shape := ⟨2, ![8, 4096]⟩
abbrev S5x256x128 : Shape := ⟨3, ![5, 256, 128]⟩
abbrev S2x8x128 : Shape := ⟨3, ![2, 8, 128]⟩
abbrev S256x14336 : Shape := ⟨2, ![256, 14336]⟩
abbrev S4096x256 : Shape := ⟨2, ![4096, 256]⟩
abbrev S1x256 : Shape := ⟨2, ![1, 256]⟩
abbrev S256x256 : Shape := ⟨2, ![256, 256]⟩
abbrev S256x128 : Shape := ⟨2, ![256, 128]⟩
abbrev S1x128 : Shape := ⟨2, ![1, 128]⟩
abbrev S1x1 : Shape := ⟨2, ![1, 1]⟩
abbrev S256x512 : Shape := ⟨2, ![256, 512]⟩
abbrev S256 : Shape := ⟨1, ![256]⟩
abbrev S256x1 : Shape := ⟨2, ![256, 1]⟩
abbrev S1x512 : Shape := ⟨2, ![1, 512]⟩
abbrev S512x256 : Shape := ⟨2, ![512, 256]⟩
abbrev S8x256 : Shape := ⟨2, ![8, 256]⟩
abbrev S64x8x256 : Shape := ⟨3, ![64, 8, 256]⟩
abbrev S8x512 : Shape := ⟨2, ![8, 512]⟩
abbrev S32x8x512 : Shape := ⟨3, ![32, 8, 512]⟩
abbrev S512 : Shape := ⟨1, ![512]⟩
abbrev S1x256x128 : Shape := ⟨3, ![1, 256, 128]⟩
abbrev S8x128 : Shape := ⟨2, ![8, 128]⟩
abbrev S1x8x128 : Shape := ⟨3, ![1, 8, 128]⟩

abbrev nBuf : Space → Nat
  | .hbm => 41
  | .vmem => 57
  | .smem => 1
  | _ => 0

abbrev bufTy : (tb : Table) → Fin (tcTables nBuf tb) → BufTy
  | .hbm, ⟨0, _⟩ => ⟨S2x128x4096, .bf16⟩
  | .hbm, ⟨1, _⟩ => ⟨S2x128x4096, .bf16⟩
  | .hbm, ⟨2, _⟩ => ⟨S4096, .f32⟩
  | .hbm, ⟨3, _⟩ => ⟨S4096x14336, .bf16⟩
  | .hbm, ⟨4, _⟩ => ⟨S4096x14336, .bf16⟩
  | .hbm, ⟨5, _⟩ => ⟨S14336x4096, .bf16⟩
  | .hbm, ⟨6, _⟩ => ⟨S14336, .f32⟩
  | .hbm, ⟨7, _⟩ => ⟨S14336, .f32⟩
  | .hbm, ⟨8, _⟩ => ⟨S4096, .f32⟩
  | .hbm, ⟨9, _⟩ => ⟨S_, .f32⟩
  | .hbm, ⟨10, _⟩ => ⟨S_, .f32⟩
  | .hbm, ⟨11, _⟩ => ⟨S1, .f32⟩
  | .hbm, ⟨12, _⟩ => ⟨S1, .f32⟩
  | .hbm, ⟨13, _⟩ => ⟨S2, .f32⟩
  | .hbm, ⟨14, _⟩ => ⟨S256x4096, .bf16⟩
  | .hbm, ⟨15, _⟩ => ⟨S256x4096, .bf16⟩
  | .hbm, ⟨16, _⟩ => ⟨S1x4096, .f32⟩
  | .hbm, ⟨17, _⟩ => ⟨S1x14336, .f32⟩
  | .hbm, ⟨18, _⟩ => ⟨S1x14336, .f32⟩
  | .hbm, ⟨19, _⟩ => ⟨S1x4096, .f32⟩
  | .hbm, ⟨20, _⟩ => ⟨S256x4096, .bf16⟩
  | .hbm, ⟨21, _⟩ => ⟨S256x4096, .bf16⟩
  | .hbm, ⟨22, _⟩ => ⟨S4096x14336, .bf16⟩
  | .hbm, ⟨23, _⟩ => ⟨S4096x14336, .bf16⟩
  | .hbm, ⟨24, _⟩ => ⟨S14336x4096, .bf16⟩
  | .hbm, ⟨25, _⟩ => ⟨S1x14336, .f32⟩
  | .hbm, ⟨26, _⟩ => ⟨S1x14336, .f32⟩
  | .hbm, ⟨27, _⟩ => ⟨S8x4096, .f32⟩
  | .hbm, ⟨28, _⟩ => ⟨S5x256x128, .f32⟩
  | .hbm, ⟨29, _⟩ => ⟨S2x8x128, .f32⟩
  | .hbm, ⟨30, _⟩ => ⟨S1x4096, .f32⟩
  | .hbm, ⟨31, _⟩ => ⟨S256x14336, .f32⟩
  | .hbm, ⟨32, _⟩ => ⟨S256x14336, .f32⟩
  | .hbm, ⟨33, _⟩ => ⟨S256x4096, .f32⟩
  | .hbm, ⟨34, _⟩ => ⟨S256x14336, .f32⟩
  | .hbm, ⟨35, _⟩ => ⟨S256x4096, .f32⟩
  | .hbm, ⟨36, _⟩ => ⟨S256x4096, .i8⟩
  | .hbm, ⟨37, _⟩ => ⟨S4096x14336, .i8⟩
  | .hbm, ⟨38, _⟩ => ⟨S4096x14336, .i8⟩
  | .hbm, ⟨39, _⟩ => ⟨S256x14336, .i8⟩
  | .hbm, ⟨40, _⟩ => ⟨S14336x4096, .i8⟩
  | .local _ .vmem, ⟨0, _⟩ => ⟨S256x4096, .bf16⟩
  | .local _ .vmem, ⟨1, _⟩ => ⟨S256x4096, .bf16⟩
  | .local _ .vmem, ⟨2, _⟩ => ⟨S1x4096, .f32⟩
  | .local _ .vmem, ⟨3, _⟩ => ⟨S4096x256, .bf16⟩
  | .local _ .vmem, ⟨4, _⟩ => ⟨S4096x256, .bf16⟩
  | .local _ .vmem, ⟨5, _⟩ => ⟨S4096x256, .bf16⟩
  | .local _ .vmem, ⟨6, _⟩ => ⟨S4096x256, .bf16⟩
  | .local _ .vmem, ⟨7, _⟩ => ⟨S256x4096, .bf16⟩
  | .local _ .vmem, ⟨8, _⟩ => ⟨S256x4096, .bf16⟩
  | .local _ .vmem, ⟨9, _⟩ => ⟨S1x256, .f32⟩
  | .local _ .vmem, ⟨10, _⟩ => ⟨S1x256, .f32⟩
  | .local _ .vmem, ⟨11, _⟩ => ⟨S1x256, .f32⟩
  | .local _ .vmem, ⟨12, _⟩ => ⟨S1x256, .f32⟩
  | .local _ .vmem, ⟨13, _⟩ => ⟨S1x4096, .f32⟩
  | .local _ .vmem, ⟨14, _⟩ => ⟨S256x4096, .bf16⟩
  | .local _ .vmem, ⟨15, _⟩ => ⟨S256x4096, .bf16⟩
  | .local _ .vmem, ⟨16, _⟩ => ⟨S4096x256, .bf16⟩
  | .local _ .vmem, ⟨17, _⟩ => ⟨S4096x256, .bf16⟩
  | .local _ .vmem, ⟨18, _⟩ => ⟨S4096x256, .bf16⟩
  | .local _ .vmem, ⟨19, _⟩ => ⟨S4096x256, .bf16⟩
  | .local _ .vmem, ⟨20, _⟩ => ⟨S256x4096, .bf16⟩
  | .local _ .vmem, ⟨21, _⟩ => ⟨S256x4096, .bf16⟩
  | .local _ .vmem, ⟨22, _⟩ => ⟨S1x256, .f32⟩
  | .local _ .vmem, ⟨23, _⟩ => ⟨S1x256, .f32⟩
  | .local _ .vmem, ⟨24, _⟩ => ⟨S1x256, .f32⟩
  | .local _ .vmem, ⟨25, _⟩ => ⟨S1x256, .f32⟩
  | .local _ .vmem, ⟨26, _⟩ => ⟨S8x4096, .f32⟩
  | .local _ .vmem, ⟨27, _⟩ => ⟨S5x256x128, .f32⟩
  | .local _ .vmem, ⟨28, _⟩ => ⟨S2x8x128, .f32⟩
  | .local _ .vmem, ⟨29, _⟩ => ⟨S1x4096, .f32⟩
  | .local _ .vmem, ⟨30, _⟩ => ⟨S256x256, .f32⟩
  | .local _ .vmem, ⟨31, _⟩ => ⟨S256x256, .f32⟩
  | .local _ .vmem, ⟨32, _⟩ => ⟨S256x256, .f32⟩
  | .local _ .vmem, ⟨33, _⟩ => ⟨S256x256, .f32⟩
  | .local _ .vmem, ⟨34, _⟩ => ⟨S256x4096, .f32⟩
  | .local _ .vmem, ⟨35, _⟩ => ⟨S256x256, .f32⟩
  | .local _ .vmem, ⟨36, _⟩ => ⟨S256x256, .f32⟩
  | .local _ .vmem, ⟨37, _⟩ => ⟨S256x4096, .f32⟩
  | .local _ .vmem, ⟨38, _⟩ => ⟨S256x4096, .i8⟩
  | .local _ .vmem, ⟨39, _⟩ => ⟨S4096x256, .i8⟩
  | .local _ .vmem, ⟨40, _⟩ => ⟨S4096x256, .i8⟩
  | .local _ .vmem, ⟨41, _⟩ => ⟨S4096x256, .i8⟩
  | .local _ .vmem, ⟨42, _⟩ => ⟨S4096x256, .i8⟩
  | .local _ .vmem, ⟨43, _⟩ => ⟨S256x256, .i8⟩
  | .local _ .vmem, ⟨44, _⟩ => ⟨S256x256, .i8⟩
  | .local _ .vmem, ⟨45, _⟩ => ⟨S256x4096, .i8⟩
  | .local _ .vmem, ⟨46, _⟩ => ⟨S256x4096, .i8⟩
  | .local _ .vmem, ⟨47, _⟩ => ⟨S256x4096, .bf16⟩
  | .local _ .vmem, ⟨48, _⟩ => ⟨S4096x256, .bf16⟩
  | .local _ .vmem, ⟨49, _⟩ => ⟨S4096x256, .bf16⟩
  | .local _ .vmem, ⟨50, _⟩ => ⟨S4096x256, .bf16⟩
  | .local _ .vmem, ⟨51, _⟩ => ⟨S256x4096, .bf16⟩
  | .local _ .vmem, ⟨52, _⟩ => ⟨S1x4096, .f32⟩
  | .local _ .vmem, ⟨53, _⟩ => ⟨S1x4096, .bf16⟩
  | .local _ .vmem, ⟨54, _⟩ => ⟨S1x4096, .bf16⟩
  | .local _ .vmem, ⟨55, _⟩ => ⟨S256x128, .f32⟩
  | .local _ .vmem, ⟨56, _⟩ => ⟨S256x128, .f32⟩
  | .local _ .smem, ⟨0, _⟩ => ⟨S2, .f32⟩
  | _, _ => ⟨S2x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .smem, ⟨0, _⟩ => true
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev main_v9_3 : Ref sig .tc := ⟨.hbm, 23, rfl⟩
abbrev main_v9_4 : Ref sig .tc := ⟨.hbm, 24, rfl⟩
abbrev main_v9_5 : Ref sig .tc := ⟨.hbm, 25, rfl⟩
abbrev main_v9_6 : Ref sig .tc := ⟨.hbm, 26, rfl⟩
abbrev main_v9_7 : Ref sig .tc := ⟨.hbm, 27, rfl⟩
abbrev main_v9_8 : Ref sig .tc := ⟨.hbm, 28, rfl⟩
abbrev main_v9_9 : Ref sig .tc := ⟨.hbm, 29, rfl⟩
abbrev main_v9_10 : Ref sig .tc := ⟨.hbm, 30, rfl⟩
abbrev main_v9_11 : Ref sig .tc := ⟨.hbm, 31, rfl⟩
abbrev main_v9_12 : Ref sig .tc := ⟨.hbm, 32, rfl⟩
abbrev main_v9_13 : Ref sig .tc := ⟨.hbm, 33, rfl⟩
abbrev main_v9_14 : Ref sig .tc := ⟨.hbm, 34, rfl⟩
abbrev main_v9_15 : Ref sig .tc := ⟨.hbm, 35, rfl⟩
abbrev main_v9_16 : Ref sig .tc := ⟨.hbm, 36, rfl⟩
abbrev main_v9_17 : Ref sig .tc := ⟨.hbm, 37, rfl⟩
abbrev main_v9_18 : Ref sig .tc := ⟨.hbm, 38, rfl⟩
abbrev main_v9_19 : Ref sig .tc := ⟨.hbm, 39, rfl⟩
abbrev main_v9_20 : Ref sig .tc := ⟨.hbm, 40, rfl⟩
abbrev cc0_stg1_0 : Ref sig .tc := ⟨.vmem, 0, rfl⟩
abbrev cc0_stg2_0 : Ref sig .tc := ⟨.vmem, 1, rfl⟩
abbrev cc0_stg3_0 : Ref sig .tc := ⟨.vmem, 2, rfl⟩
abbrev cc0_stg4_0 : Ref sig .tc := ⟨.vmem, 3, rfl⟩
abbrev cc0_stg4_1 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg12_1 : Ref sig .tc := ⟨.vmem, 17, rfl⟩
abbrev cc0_stg13_0 : Ref sig .tc := ⟨.vmem, 18, rfl⟩
abbrev cc0_stg13_1 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg18_0 : Ref sig .tc := ⟨.vmem, 27, rfl⟩
abbrev cc0_stg19_0 : Ref sig .tc := ⟨.vmem, 28, rfl⟩
abbrev cc0_stg20_0 : Ref sig .tc := ⟨.vmem, 29, rfl⟩
abbrev cc0_stg21_0 : Ref sig .tc := ⟨.vmem, 30, rfl⟩
abbrev cc0_stg21_1 : Ref sig .tc := ⟨.vmem, 31, rfl⟩
abbrev cc0_stg22_0 : Ref sig .tc := ⟨.vmem, 32, rfl⟩
abbrev cc0_stg22_1 : Ref sig .tc := ⟨.vmem, 33, rfl⟩
abbrev cc0_stg23_0 : Ref sig .tc := ⟨.vmem, 34, rfl⟩
abbrev cc0_stg24_0 : Ref sig .tc := ⟨.vmem, 35, rfl⟩
abbrev cc0_stg24_1 : Ref sig .tc := ⟨.vmem, 36, rfl⟩
abbrev cc0_stg25_0 : Ref sig .tc := ⟨.vmem, 37, rfl⟩
abbrev cc0_stg26_0 : Ref sig .tc := ⟨.vmem, 38, rfl⟩
abbrev cc0_stg27_0 : Ref sig .tc := ⟨.vmem, 39, rfl⟩
abbrev cc0_stg27_1 : Ref sig .tc := ⟨.vmem, 40, rfl⟩
abbrev cc0_stg28_0 : Ref sig .tc := ⟨.vmem, 41, rfl⟩
abbrev cc0_stg28_1 : Ref sig .tc := ⟨.vmem, 42, rfl⟩
abbrev cc0_stg29_0 : Ref sig .tc := ⟨.vmem, 43, rfl⟩
abbrev cc0_stg29_1 : Ref sig .tc := ⟨.vmem, 44, rfl⟩
abbrev cc0_stg30_0 : Ref sig .tc := ⟨.vmem, 45, rfl⟩
abbrev cc0_stg30_1 : Ref sig .tc := ⟨.vmem, 46, rfl⟩
abbrev cc0_scratch0 : Ref sig .tc := ⟨.vmem, 47, rfl⟩
abbrev cc0_scratch1 : Ref sig .tc := ⟨.vmem, 48, rfl⟩
abbrev cc0_scratch2 : Ref sig .tc := ⟨.vmem, 49, rfl⟩
abbrev cc0_scratch3 : Ref sig .tc := ⟨.vmem, 50, rfl⟩
abbrev cc0_scratch4 : Ref sig .tc := ⟨.vmem, 51, rfl⟩
abbrev cc0_scratch5 : Ref sig .tc := ⟨.vmem, 52, rfl⟩
abbrev cc0_scratch6 : Ref sig .tc := ⟨.vmem, 53, rfl⟩
abbrev cc0_scratch7 : Ref sig .tc := ⟨.vmem, 54, rfl⟩
abbrev cc0_scratch8 : Ref sig .tc := ⟨.vmem, 55, rfl⟩
abbrev cc0_scratch9 : Ref sig .tc := ⟨.vmem, 56, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem10_0 : DmaSem sig := 15
abbrev cc0_sem11_0 : DmaSem sig := 16
abbrev cc0_sem12_0 : DmaSem sig := 17
abbrev cc0_sem12_1 : DmaSem sig := 18
abbrev cc0_sem13_0 : DmaSem sig := 19
abbrev cc0_sem13_1 : DmaSem sig := 20
abbrev cc0_sem14_0 : DmaSem sig := 21
abbrev cc0_sem14_1 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem18_0 : DmaSem sig := 28
abbrev cc0_sem19_0 : DmaSem sig := 29
abbrev cc0_sem20_0 : DmaSem sig := 30
abbrev cc0_sem21_0 : DmaSem sig := 31
abbrev cc0_sem21_1 : DmaSem sig := 32
abbrev cc0_sem22_0 : DmaSem sig := 33
abbrev cc0_sem22_1 : DmaSem sig := 34
abbrev cc0_sem23_0 : DmaSem sig := 35
abbrev cc0_sem24_0 : DmaSem sig := 36
abbrev cc0_sem24_1 : DmaSem sig := 37
abbrev cc0_sem25_0 : DmaSem sig := 38
abbrev cc0_sem26_0 : DmaSem sig := 39
abbrev cc0_sem27_0 : DmaSem sig := 40
abbrev cc0_sem27_1 : DmaSem sig := 41
abbrev cc0_sem28_0 : DmaSem sig := 42
abbrev cc0_sem28_1 : DmaSem sig := 43
abbrev cc0_sem29_0 : DmaSem sig := 44
abbrev cc0_sem29_1 : DmaSem sig := 45
abbrev cc0_sem30_0 : DmaSem sig := 46
abbrev cc0_sem30_1 : DmaSem sig := 47

abbrev nD : Nat := 1
abbrev τ : Topo := Topo.v7x

variable {F : FTy → Type} [FloatOps F]

abbrev grid0 : Pipeline.Grid := ⟨1, ![56], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_1 : BitVec 32 := 0#32
  let v12 : BitVec 1 := Scalar.cmpi .ne v11 c0_i32_1
  v12

@[reducible] def k0_t1_loop : Scf.Loop 32 :=
  let c0_i32_89 : BitVec 32 := 0#32
  let c8_i32_90 : BitVec 32 := 8#32
  let v216 : BitVec 32 := Scalar.addi c0_i32_89 c8_i32_90
  let c1_i32_91 : BitVec 32 := 1#32
  ⟨c0_i32_89, v216, c1_i32_91⟩
def k0_mult1 (k0_t1 : Fin k0_t1_loop.trips) : BitVec 32 :=
  let c0_i32_89 : BitVec 32 := 0#32
  let c1_i32_91 : BitVec 32 := 1#32
  let arg42 : BitVec 32 := Scf.iv c0_i32_89 c1_i32_91 k0_t1
  let c512_i32 : BitVec 32 := 512#32
  let v236 : BitVec 32 := Scalar.muli arg42 c512_i32
  v236
def k0_off1 (k0_t1 : Fin k0_t1_loop.trips) : Fin 2 → Nat :=
  let c0_109 : Index := 0#32
  let c0_i32_89 : BitVec 32 := 0#32
  let c1_i32_91 : BitVec 32 := 1#32
  let arg42 : BitVec 32 := Scf.iv c0_i32_89 c1_i32_91 k0_t1
  let c512_i32 : BitVec 32 := 512#32
  let v236 : BitVec 32 := Scalar.muli arg42 c512_i32
  let v237 : BitVec 32 := v236
  let v238 : Index := Scalar.indexCast v237
  ![0, v238.toNat]
@[reducible] def k0_t2_loop : Scf.Loop 32 :=
  let c0_i32_96 : BitVec 32 := 0#32
  let c8_i32_97 : BitVec 32 := 8#32
  let v225 : BitVec 32 := Scalar.addi c0_i32_96 c8_i32_97
  let c1_i32_98 : BitVec 32 := 1#32
  ⟨c0_i32_96, v225, c1_i32_98⟩
def k0_mult2 (k0_t2 : Fin k0_t2_loop.trips) : BitVec 32 :=
  let c0_i32_96 : BitVec 32 := 0#32
  let c1_i32_98 : BitVec 32 := 1#32
  let arg42 : BitVec 32 := Scf.iv c0_i32_96 c1_i32_98 k0_t2
  let c512_i32 : BitVec 32 := 512#32
  let v236 : BitVec 32 := Scalar.muli arg42 c512_i32
  v236
def k0_off2 (k0_t2 : Fin k0_t2_loop.trips) : Fin 2 → Nat :=
  let c0_109 : Index := 0#32
  let c0_i32_96 : BitVec 32 := 0#32
  let c1_i32_98 : BitVec 32 := 1#32
  let arg42 : BitVec 32 := Scf.iv c0_i32_96 c1_i32_98 k0_t2
  let c512_i32 : BitVec 32 := 512#32
  let v236 : BitVec 32 := Scalar.muli arg42 c512_i32
  let v237 : BitVec 32 := v236
  let v238 : Index := Scalar.indexCast v237
  ![0, v238.toNat]
def k0_off3 (k0_t2 : Fin k0_t2_loop.trips) : Fin 2 → Nat :=
  let c0_110 : Index := 0#32
  let c0_i32_96 : BitVec 32 := 0#32
  let c1_i32_98 : BitVec 32 := 1#32
  let arg42 : BitVec 32 := Scf.iv c0_i32_96 c1_i32_98 k0_t2
  let c512_i32 : BitVec 32 := 512#32
  let v236 : BitVec 32 := Scalar.muli arg42 c512_i32
  let v237 : BitVec 32 := v236
  let v244 : Index := Scalar.indexCast v237
  ![0, v244.toNat]
def k0_off4 (k0_t2 : Fin k0_t2_loop.trips) : Fin 2 → Nat :=
  let c0_i32_96 : BitVec 32 := 0#32
  let c1_i32_98 : BitVec 32 := 1#32
  let arg42 : BitVec 32 := Scf.iv c0_i32_96 c1_i32_98 k0_t2
  let c512_i32 : BitVec 32 := 512#32
  let v236 : BitVec 32 := Scalar.muli arg42 c512_i32
  let v237 : BitVec 32 := v236
  let v265 : Index := Scalar.indexCast v237
  let c0_115 : Index := 0#32
  ![v265.toNat, 0]
@[reducible] def k0_t3_loop : Scf.Loop 32 :=
  let c0_i32_33 : BitVec 32 := 0#32
  let c8_i32 : BitVec 32 := 8#32
  let v91 : BitVec 32 := Scalar.addi c0_i32_33 c8_i32
  let c1_i32 : BitVec 32 := 1#32
  ⟨c0_i32_33, v91, c1_i32⟩
def k0_mult3 (k0_t3 : Fin k0_t3_loop.trips) : BitVec 32 :=
  let c0_i32_33 : BitVec 32 := 0#32
  let c1_i32 : BitVec 32 := 1#32
  let arg42 : BitVec 32 := Scf.iv c0_i32_33 c1_i32 k0_t3
  let c512_i32 : BitVec 32 := 512#32
  let v215 : BitVec 32 := Scalar.muli arg42 c512_i32
  v215
def k0_off5 (k0_t3 : Fin k0_t3_loop.trips) : Fin 2 → Nat :=
  let c0_i32_33 : BitVec 32 := 0#32
  let c1_i32 : BitVec 32 := 1#32
  let arg42 : BitVec 32 := Scf.iv c0_i32_33 c1_i32 k0_t3
  let c512_i32 : BitVec 32 := 512#32
  let v215 : BitVec 32 := Scalar.muli arg42 c512_i32
  let v216 : BitVec 32 := v215
  let v217 : Index := Scalar.indexCast v216
  let c0_88 : Index := 0#32
  ![v217.toNat, 0]
def k0_off6 (k0_t3 : Fin k0_t3_loop.trips) : Fin 2 → Nat :=
  let c0_91 : Index := 0#32
  let c0_i32_33 : BitVec 32 := 0#32
  let c1_i32 : BitVec 32 := 1#32
  let arg42 : BitVec 32 := Scf.iv c0_i32_33 c1_i32 k0_t3
  let c512_i32 : BitVec 32 := 512#32
  let v215 : BitVec 32 := Scalar.muli arg42 c512_i32
  let v216 : BitVec 32 := v215
  let v238 : Index := Scalar.indexCast v216
  ![0, v238.toNat]
def k0_off7 (k0_t3 : Fin k0_t3_loop.trips) : Fin 2 → Nat :=
  let c0_106 : Index := 0#32
  let c0_i32_33 : BitVec 32 := 0#32
  let c1_i32 : BitVec 32 := 1#32
  let arg42 : BitVec 32 := Scf.iv c0_i32_33 c1_i32 k0_t3
  let c512_i32 : BitVec 32 := 512#32
  let v215 : BitVec 32 := Scalar.muli arg42 c512_i32
  let v216 : BitVec 32 := v215
  let v273 : Index := Scalar.indexCast v216
  ![0, v273.toNat]
@[reducible] def k0_t4_loop : Scf.Loop 32 :=
  let c0_i32_73 : BitVec 32 := 0#32
  let c8_i32_74 : BitVec 32 := 8#32
  let v184 : BitVec 32 := Scalar.addi c0_i32_73 c8_i32_74
  let c1_i32_75 : BitVec 32 := 1#32
  ⟨c0_i32_73, v184, c1_i32_75⟩
def k0_mult4 (k0_t4 : Fin k0_t4_loop.trips) : BitVec 32 :=
  let c0_i32_73 : BitVec 32 := 0#32
  let c1_i32_75 : BitVec 32 := 1#32
  let arg42 : BitVec 32 := Scf.iv c0_i32_73 c1_i32_75 k0_t4
  let c512_i32 : BitVec 32 := 512#32
  let v215 : BitVec 32 := Scalar.muli arg42 c512_i32
  v215
def k0_off8 (k0_t4 : Fin k0_t4_loop.trips) : Fin 2 → Nat :=
  let c0_88 : Index := 0#32
  let c0_i32_73 : BitVec 32 := 0#32
  let c1_i32_75 : BitVec 32 := 1#32
  let arg42 : BitVec 32 := Scf.iv c0_i32_73 c1_i32_75 k0_t4
  let c512_i32 : BitVec 32 := 512#32
  let v215 : BitVec 32 := Scalar.muli arg42 c512_i32
  let v216 : BitVec 32 := v215
  let v217 : Index := Scalar.indexCast v216
  ![0, v217.toNat]
def k0_off9 (k0_t4 : Fin k0_t4_loop.trips) : Fin 2 → Nat :=
  let c0_i32_73 : BitVec 32 := 0#32
  let c1_i32_75 : BitVec 32 := 1#32
  let arg42 : BitVec 32 := Scf.iv c0_i32_73 c1_i32_75 k0_t4
  let c512_i32 : BitVec 32 := 512#32
  let v215 : BitVec 32 := Scalar.muli arg42 c512_i32
  let v216 : BitVec 32 := v215
  let v229 : Index := Scalar.indexCast v216
  let c0_93 : Index := 0#32
  ![v229.toNat, 0]
def k0_off10 (k0_t4 : Fin k0_t4_loop.trips) : Fin 2 → Nat :=
  let c0_110 : Index := 0#32
  let c0_i32_73 : BitVec 32 := 0#32
  let c1_i32_75 : BitVec 32 := 1#32
  let arg42 : BitVec 32 := Scf.iv c0_i32_73 c1_i32_75 k0_t4
  let c512_i32 : BitVec 32 := 512#32
  let v215 : BitVec 32 := Scalar.muli arg42 c512_i32
  let v216 : BitVec 32 := v215
  let v285 : Index := Scalar.indexCast v216
  ![0, v285.toNat]
def k0_off11 (k0_t4 : Fin k0_t4_loop.trips) : Fin 2 → Nat :=
  let c0_112 : Index := 0#32
  let c0_i32_73 : BitVec 32 := 0#32
  let c1_i32_75 : BitVec 32 := 1#32
  let arg42 : BitVec 32 := Scf.iv c0_i32_73 c1_i32_75 k0_t4
  let c512_i32 : BitVec 32 := 512#32
  let v215 : BitVec 32 := Scalar.muli arg42 c512_i32
  let v216 : BitVec 32 := v215
  let v291 : Index := Scalar.indexCast v216
  ![0, v291.toNat]
def k0_cond2 (i : grid0.Coords) : BitVec 1 :=
  let arg0 : BitVec 32 := BitVec.ofNat 32 (i 0).val
  let c55_i32 : BitVec 32 := 55#32
  let v212 : BitVec 1 := Scalar.cmpi .eq arg0 c55_i32
  let v213 : BitVec 32 := Scalar.extui v212
  let c0_i32_87 : BitVec 32 := 0#32
  let v214 : BitVec 1 := Scalar.cmpi .ne v213 c0_i32_87
  v214

@[reducible] def k0_t5_loop : Scf.Loop 32 :=
  let c0_i32_89 : BitVec 32 := 0#32
  let c8_i32_90 : BitVec 32 := 8#32
  let v216 : BitVec 32 := Scalar.addi c0_i32_89 c8_i32_90
  let c1_i32_91 : BitVec 32 := 1#32
  ⟨c0_i32_89, v216, c1_i32_91⟩
def k0_mult5 (k0_t5 : Fin k0_t5_loop.trips) : BitVec 32 :=
  let c0_i32_89 : BitVec 32 := 0#32
  let c1_i32_91 : BitVec 32 := 1#32
  let arg42 : BitVec 32 := Scf.iv c0_i32_89 c1_i32_91 k0_t5
  let c512_i32 : BitVec 32 := 512#32
  let v293 : BitVec 32 := Scalar.muli arg42 c512_i32
  v293
def k0_off12 (k0_t5 : Fin k0_t5_loop.trips) : Fin 2 → Nat :=
  let c0_139 : Index := 0#32
  let c0_i32_89 : BitVec 32 := 0#32
  let c1_i32_91 : BitVec 32 := 1#32
  let arg42 : BitVec 32 := Scf.iv c0_i32_89 c1_i32_91 k0_t5
  let c512_i32 : BitVec 32 := 512#32
  let v293 : BitVec 32 := Scalar.muli arg42 c512_i32
  let v294 : BitVec 32 := v293
  let v295 : Index := Scalar.indexCast v294
  ![0, v295.toNat]
@[reducible] def k0_t6_loop : Scf.Loop 32 :=
  let c0_i32_97 : BitVec 32 := 0#32
  let c8_i32_98 : BitVec 32 := 8#32
  let v226 : BitVec 32 := Scalar.addi c0_i32_97 c8_i32_98
  let c1_i32_99 : BitVec 32 := 1#32
  ⟨c0_i32_97, v226, c1_i32_99⟩
def k0_mult6 (k0_t6 : Fin k0_t6_loop.trips) : BitVec 32 :=
  let c0_i32_97 : BitVec 32 := 0#32
  let c1_i32_99 : BitVec 32 := 1#32
  let arg42 : BitVec 32 := Scf.iv c0_i32_97 c1_i32_99 k0_t6
  let c512_i32 : BitVec 32 := 512#32
  let v293 : BitVec 32 := Scalar.muli arg42 c512_i32
  v293
def k0_off13 (k0_t6 : Fin k0_t6_loop.trips) : Fin 2 → Nat :=
  let c0_139 : Index := 0#32
  let c0_i32_97 : BitVec 32 := 0#32
  let c1_i32_99 : BitVec 32 := 1#32
  let arg42 : BitVec 32 := Scf.iv c0_i32_97 c1_i32_99 k0_t6
  let c512_i32 : BitVec 32 := 512#32
  let v293 : BitVec 32 := Scalar.muli arg42 c512_i32
  let v294 : BitVec 32 := v293
  let v295 : Index := Scalar.indexCast v294
  ![0, v295.toNat]
def k0_off14 (k0_t6 : Fin k0_t6_loop.trips) : Fin 2 → Nat :=
  let c0_143 : Index := 0#32
  let c0_i32_97 : BitVec 32 := 0#32
  let c1_i32_99 : BitVec 32 := 1#32
  let arg42 : BitVec 32 := Scf.iv c0_i32_97 c1_i32_99 k0_t6
  let c512_i32 : BitVec 32 := 512#32
  let v293 : BitVec 32 := Scalar.muli arg42 c512_i32
  let v294 : BitVec 32 := v293
  let v311 : Index := Scalar.indexCast v294
  ![0, v311.toNat]
def k0_off15 (k0_t6 : Fin k0_t6_loop.trips) : Fin 2 → Nat :=
  let c0_145 : Index := 0#32
  let c0_i32_97 : BitVec 32 := 0#32
  let c1_i32_99 : BitVec 32 := 1#32
  let arg42 : BitVec 32 := Scf.iv c0_i32_97 c1_i32_99 k0_t6
  let c512_i32 : BitVec 32 := 512#32
  let v293 : BitVec 32 := Scalar.muli arg42 c512_i32
  let v294 : BitVec 32 := v293
  let v316 : Index := Scalar.indexCast v294
  ![0, v316.toNat]
@[reducible] def k0_t7_loop : Scf.Loop 32 :=
  let c0_i32_135 : BitVec 32 := 0#32
  let c8_i32_136 : BitVec 32 := 8#32
  let v292 : BitVec 32 := Scalar.addi c0_i32_135 c8_i32_136
  let c1_i32_137 : BitVec 32 := 1#32
  ⟨c0_i32_135, v292, c1_i32_137⟩
def k0_mult7 (k0_t7 : Fin k0_t7_loop.trips) : BitVec 32 :=
  let c0_i32_135 : BitVec 32 := 0#32
  let c1_i32_137 : BitVec 32 := 1#32
  let arg42 : BitVec 32 := Scf.iv c0_i32_135 c1_i32_137 k0_t7
  let c512_i32 : BitVec 32 := 512#32
  let v293 : BitVec 32 := Scalar.muli arg42 c512_i32
  v293
def k0_off16 (k0_t7 : Fin k0_t7_loop.trips) : Fin 2 → Nat :=
  let c0_139 : Index := 0#32
  let c0_i32_135 : BitVec 32 := 0#32
  let c1_i32_137 : BitVec 32 := 1#32
  let arg42 : BitVec 32 := Scf.iv c0_i32_135 c1_i32_137 k0_t7
  let c512_i32 : BitVec 32 := 512#32
  let v293 : BitVec 32 := Scalar.muli arg42 c512_i32
  let v294 : BitVec 32 := v293
  let v295 : Index := Scalar.indexCast v294
  ![0, v295.toNat]
def k0_off17 (k0_t7 : Fin k0_t7_loop.trips) : Fin 2 → Nat :=
  let c0_140 : Index := 0#32
  let c0_i32_135 : BitVec 32 := 0#32
  let c1_i32_137 : BitVec 32 := 1#32
  let arg42 : BitVec 32 := Scf.iv c0_i32_135 c1_i32_137 k0_t7
  let c512_i32 : BitVec 32 := 512#32
  let v293 : BitVec 32 := Scalar.muli arg42 c512_i32
  let v294 : BitVec 32 := v293
  let v299 : Index := Scalar.indexCast v294
  ![0, v299.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_22 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_23 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_24 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_25 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_26 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_27 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_28 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_29 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_30 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .smem S2 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4096x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x4096 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S4096x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4096x256 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x4096 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S1x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x256 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 1 → Memref sig .tc .vmem S8x4096 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S5x256x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S2x8x128 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x4096 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 2 → Memref sig .tc .vmem S256x256 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S256x256 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]

abbrev stage0_23 : Fin 1 → Memref sig .tc .vmem S256x4096 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))
abbrev reads0_23 : Fin grid0.rank → Bool := ![false]

abbrev stage0_24 : Fin 2 → Memref sig .tc .vmem S256x256 .f32 := fun | 0 => Memref.whole cc0_stg24_0 | 1 => Memref.whole cc0_stg24_1 | ⟨_ + 2, h⟩ => absurd h (Nat.not_lt.2 (Nat.le_add_left _ _))
abbrev sem0_24 : Fin 2 → DmaSem sig := fun | 0 => cc0_sem24_0 | 1 => cc0_sem24_1 | ⟨_ + 2, h⟩ => absurd h (Nat.not_lt.2 (Nat.le_add_left _ _))
abbrev reads0_24 : Fin grid0.rank → Bool := ![true]

abbrev stage0_25 : Fin 1 → Memref sig .tc .vmem S256x4096 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))
abbrev reads0_25 : Fin grid0.rank → Bool := ![false]

abbrev stage0_26 : Fin 1 → Memref sig .tc .vmem S256x4096 .i8 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
abbrev reads0_26 : Fin grid0.rank → Bool := ![false]

abbrev stage0_27 : Fin 2 → Memref sig .tc .vmem S4096x256 .i8 := fun | 0 => Memref.whole cc0_stg27_0 | 1 => Memref.whole cc0_stg27_1 | ⟨_ + 2, h⟩ => absurd h (Nat.not_lt.2 (Nat.le_add_left _ _))
abbrev sem0_27 : Fin 2 → DmaSem sig := fun | 0 => cc0_sem27_0 | 1 => cc0_sem27_1 | ⟨_ + 2, h⟩ => absurd h (Nat.not_lt.2 (Nat.le_add_left _ _))
abbrev reads0_27 : Fin grid0.rank → Bool := ![true]

abbrev stage0_28 : Fin 2 → Memref sig .tc .vmem S4096x256 .i8 := fun | 0 => Memref.whole cc0_stg28_0 | 1 => Memref.whole cc0_stg28_1 | ⟨_ + 2, h⟩ => absurd h (Nat.not_lt.2 (Nat.le_add_left _ _))
abbrev sem0_28 : Fin 2 → DmaSem sig := fun | 0 => cc0_sem28_0 | 1 => cc0_sem28_1 | ⟨_ + 2, h⟩ => absurd h (Nat.not_lt.2 (Nat.le_add_left _ _))
abbrev reads0_28 : Fin grid0.rank → Bool := ![true]

abbrev stage0_29 : Fin 2 → Memref sig .tc .vmem S256x256 .i8 := fun | 0 => Memref.whole cc0_stg29_0 | 1 => Memref.whole cc0_stg29_1 | ⟨_ + 2, h⟩ => absurd h (Nat.not_lt.2 (Nat.le_add_left _ _))
abbrev sem0_29 : Fin 2 → DmaSem sig := fun | 0 => cc0_sem29_0 | 1 => cc0_sem29_1 | ⟨_ + 2, h⟩ => absurd h (Nat.not_lt.2 (Nat.le_add_left _ _))
abbrev reads0_29 : Fin grid0.rank → Bool := ![true]

abbrev stage0_30 : Fin 2 → Memref sig .tc .vmem S256x4096 .i8 := fun | 0 => Memref.whole cc0_stg30_0 | 1 => Memref.whole cc0_stg30_1 | ⟨_ + 2, h⟩ => absurd h (Nat.not_lt.2 (Nat.le_add_left _ _))
abbrev sem0_30 : Fin 2 → DmaSem sig := fun | 0 => cc0_sem30_0 | 1 => cc0_sem30_1 | ⟨_ + 2, h⟩ => absurd h (Nat.not_lt.2 (Nat.le_add_left _ _))
abbrev reads0_30 : Fin grid0.rank → Bool := ![true]
-- ==== ReferenceIdeal.lean ====
abbrev S2x128x4096 : Shape := ⟨3, ![2, 128, 4096]⟩
abbrev S4096 : Shape := ⟨1, ![4096]⟩
abbrev S4096x14336 : Shape := ⟨2, ![4096, 14336]⟩
abbrev S14336x4096 : Shape := ⟨2, ![14336, 4096]⟩
abbrev S14336 : Shape := ⟨1, ![14336]⟩
abbrev S_ : Shape := ⟨0, ![]⟩
abbrev S256x4096 : Shape := ⟨2, ![256, 4096]⟩
abbrev S1x4096 : Shape := ⟨2, ![1, 4096]⟩
abbrev S1x14336 : Shape := ⟨2, ![1, 14336]⟩
abbrev S1x1 : Shape := ⟨2, ![1, 1]⟩
abbrev S256x14336 : Shape := ⟨2, ![256, 14336]⟩
abbrev S256 : Shape := ⟨1, ![256]⟩
abbrev S256x1 : Shape := ⟨2, ![256, 1]⟩

abbrev nBuf : Space → Nat
  | .hbm => 35
  | .vmem => 27
  | .smem => 0
  | _ => 0

abbrev bufTy : (tb : Table) → Fin (tcTables nBuf tb) → BufTy
  | .hbm, ⟨0, _⟩ => ⟨S2x128x4096, .bf16⟩
  | .hbm, ⟨1, _⟩ => ⟨S2x128x4096, .bf16⟩
  | .hbm, ⟨2, _⟩ => ⟨S4096, .f32⟩
  | .hbm, ⟨3, _⟩ => ⟨S4096x14336, .bf16⟩
  | .hbm, ⟨4, _⟩ => ⟨S4096x14336, .bf16⟩
  | .hbm, ⟨5, _⟩ => ⟨S14336x4096, .bf16⟩
  | .hbm, ⟨6, _⟩ => ⟨S14336, .f32⟩
  | .hbm, ⟨7, _⟩ => ⟨S14336, .f32⟩
  | .hbm, ⟨8, _⟩ => ⟨S4096, .f32⟩
  | .hbm, ⟨9, _⟩ => ⟨S_, .f32⟩
  | .hbm, ⟨10, _⟩ => ⟨S_, .f32⟩
  | .hbm, ⟨11, _⟩ => ⟨S256x4096, .bf16⟩
  | .hbm, ⟨12, _⟩ => ⟨S256x4096, .bf16⟩
  | .hbm, ⟨13, _⟩ => ⟨S1x4096, .f32⟩
  | .hbm, ⟨14, _⟩ => ⟨S1x14336, .f32⟩
  | .hbm, ⟨15, _⟩ => ⟨S1x14336, .f32⟩
  | .hbm, ⟨16, _⟩ => ⟨S1x4096, .f32⟩
  | .hbm, ⟨17, _⟩ => ⟨S1x1, .f32⟩
  | .hbm, ⟨18, _⟩ => ⟨S1x1, .f32⟩
  | .hbm, ⟨19, _⟩ => ⟨S256x4096, .bf16⟩
  | .hbm, ⟨20, _⟩ => ⟨S256x4096, .bf16⟩
  | .hbm, ⟨21, _⟩ => ⟨S4096x14336, .bf16⟩
  | .hbm, ⟨22, _⟩ => ⟨S4096x14336, .bf16⟩
  | .hbm, ⟨23, _⟩ => ⟨S14336x4096, .bf16⟩
  | .hbm, ⟨24, _⟩ => ⟨S1x4096, .f32⟩
  | .hbm, ⟨25, _⟩ => ⟨S256x14336, .f32⟩
  | .hbm, ⟨26, _⟩ => ⟨S256x14336, .f32⟩
  | .hbm, ⟨27, _⟩ => ⟨S256x4096, .f32⟩
  | .hbm, ⟨28, _⟩ => ⟨S256x14336, .f32⟩
  | .hbm, ⟨29, _⟩ => ⟨S256x4096, .f32⟩
  | .hbm, ⟨30, _⟩ => ⟨S256x4096, .i8⟩
  | .hbm, ⟨31, _⟩ => ⟨S4096x14336, .i8⟩
  | .hbm, ⟨32, _⟩ => ⟨S4096x14336, .i8⟩
  | .hbm, ⟨33, _⟩ => ⟨S256x14336, .i8⟩
  | .hbm, ⟨34, _⟩ => ⟨S14336x4096, .i8⟩
  | .local _ .vmem, ⟨0, _⟩ => ⟨S256x4096, .bf16⟩
  | .local _ .vmem, ⟨1, _⟩ => ⟨S256x4096, .bf16⟩
  | .local _ .vmem, ⟨2, _⟩ => ⟨S1x4096, .f32⟩
  | .local _ .vmem, ⟨3, _⟩ => ⟨S4096x14336, .bf16⟩
  | .local _ .vmem, ⟨4, _⟩ => ⟨S4096x14336, .bf16⟩
  | .local _ .vmem, ⟨5, _⟩ => ⟨S14336x4096, .bf16⟩
  | .local _ .vmem, ⟨6, _⟩ => ⟨S1x14336, .f32⟩
  | .local _ .vmem, ⟨7, _⟩ => ⟨S1x14336, .f32⟩
  | .local _ .vmem, ⟨8, _⟩ => ⟨S1x4096, .f32⟩
  | .local _ .vmem, ⟨9, _⟩ => ⟨S1x1, .f32⟩
  | .local _ .vmem, ⟨10, _⟩ => ⟨S1x1, .f32⟩
  | .local _ .vmem, ⟨11, _⟩ => ⟨S256x4096, .bf16⟩
  | .local _ .vmem, ⟨12, _⟩ => ⟨S256x4096, .bf16⟩
  | .local _ .vmem, ⟨13, _⟩ => ⟨S4096x14336, .bf16⟩
  | .local _ .vmem, ⟨14, _⟩ => ⟨S4096x14336, .bf16⟩
  | .local _ .vmem, ⟨15, _⟩ => ⟨S14336x4096, .bf16⟩
  | .local _ .vmem, ⟨16, _⟩ => ⟨S1x4096, .f32⟩
  | .local _ .vmem, ⟨17, _⟩ => ⟨S256x14336, .f32⟩
  | .local _ .vmem, ⟨18, _⟩ => ⟨S256x14336, .f32⟩
  | .local _ .vmem, ⟨19, _⟩ => ⟨S256x4096, .f32⟩
  | .local _ .vmem, ⟨20, _⟩ => ⟨S256x14336, .f32⟩
  | .local _ .vmem, ⟨21, _⟩ => ⟨S256x4096, .f32⟩
  | .local _ .vmem, ⟨22, _⟩ => ⟨S256x4096, .i8⟩
  | .local _ .vmem, ⟨23, _⟩ => ⟨S4096x14336, .i8⟩
  | .local _ .vmem, ⟨24, _⟩ => ⟨S4096x14336, .i8⟩
  | .local _ .vmem, ⟨25, _⟩ => ⟨S256x14336, .i8⟩
  | .local _ .vmem, ⟨26, _⟩ => ⟨S14336x4096, .i8⟩
  | _, _ => ⟨S2x128x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8_0 : Ref sig .tc := ⟨.hbm, 19, rfl⟩
abbrev main_v8_1 : Ref sig .tc := ⟨.hbm, 20, rfl⟩
abbrev main_v8_2 : Ref sig .tc := ⟨.hbm, 21, rfl⟩
abbrev main_v8_3 : Ref sig .tc := ⟨.hbm, 22, rfl⟩
abbrev main_v8_4 : Ref sig .tc := ⟨.hbm, 23, rfl⟩
abbrev main_v8_5 : Ref sig .tc := ⟨.hbm, 24, rfl⟩
abbrev main_v8_6 : Ref sig .tc := ⟨.hbm, 25, rfl⟩
abbrev main_v8_7 : Ref sig .tc := ⟨.hbm, 26, rfl⟩
abbrev main_v8_8 : Ref sig .tc := ⟨.hbm, 27, rfl⟩
abbrev main_v8_9 : Ref sig .tc := ⟨.hbm, 28, rfl⟩
abbrev main_v8_10 : Ref sig .tc := ⟨.hbm, 29, rfl⟩
abbrev main_v8_11 : Ref sig .tc := ⟨.hbm, 30, rfl⟩
abbrev main_v8_12 : Ref sig .tc := ⟨.hbm, 31, rfl⟩
abbrev main_v8_13 : Ref sig .tc := ⟨.hbm, 32, rfl⟩
abbrev main_v8_14 : Ref sig .tc := ⟨.hbm, 33, rfl⟩
abbrev main_v8_15 : Ref sig .tc := ⟨.hbm, 34, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26

abbrev nD : Nat := 1
abbrev τ : Topo := Topo.v7x

variable {F : FTy → Type} [FloatOps F]

abbrev grid0 : Pipeline.Grid := .none

abbrev stage0_0 : Fin 1 → Memref sig .tc .vmem S256x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x14336 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x14336 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S14336x4096 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x14336 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x14336 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x4096 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x4096 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S4096x14336 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S4096x14336 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S14336x4096 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x4096 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S256x14336 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S256x14336 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S256x4096 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S256x14336 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S256x4096 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S256x4096 .i8 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S4096x14336 .i8 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S4096x14336 .i8 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S256x14336 .i8 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S14336x4096 .i8 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))
-- ==== Proof.Slab.lean ====
module

public import Idealize.ShloMosaic.Lib.WritesUnit
public import Idealize.ShloMosaic.Lib.VecWindow
public import Idealize.ShloMosaic.Lib.Pointwise.Index

/-!
Arrays worked on in eight slabs of 512 columns or 512 rows.

The kernel goes through its long axis of 4096 in eight trips.  Here: the slab of an array (`cs` columns,
`rs` rows), an array given by its slabs (`ofC`, `ofR`), an array whose first `k` slabs are new (`upC`,
`upR`), the value carried by a counted loop of eight trips (`accTo`), and what loads and stores through a
view do to them.
-/

@[expose] public section

namespace Cert.Slab

open Idealize.ShloMosaic

/-- The shape of a matrix. -/
abbrev Sh (m n : ℕ) : Shape := ⟨2, ![m, n]⟩

variable {α : Type} {m : ℕ}

/-- Columns `512 j … 512 j + 511`. -/
def cs (x : (Sh m 4096).Idx → α) (j : Fin 8) : (Sh m 512).Idx → α :=
  fun y => x (ix2 (y 0) ⟨512 * j.val + (y 1).val, by have h : (y 1).val < 512 := (y 1).isLt; have := j.isLt; omega⟩)

/-- Rows `512 j … 512 j + 511`. -/
def rs (x : (Sh 4096 m).Idx → α) (j : Fin 8) : (Sh 512 m).Idx → α :=
  fun y => x (ix2 ⟨512 * j.val + (y 0).val, by have h : (y 0).val < 512 := (y 0).isLt; have := j.isLt; omega⟩ (y 1))

/-- The slab a long coordinate lies in. -/
def sl (a : Fin 4096) : Fin 8 := ⟨a.val / 512, by have := a.isLt; omega⟩

/-- The place of a long coordinate inside its slab. -/
def pos (a : Fin 4096) : Fin 512 := ⟨a.val % 512, Nat.mod_lt _ (by decide)⟩

/-- An array given by its eight column slabs. -/
def ofC (w : Fin 8 → (Sh m 512).Idx → α) : (Sh m 4096).Idx → α := fun y => w (sl (y 1)) (ix2 (y 0) (pos (y 1)))

/-- An array given by its eight row slabs. -/
def ofR (w : Fin 8 → (Sh 512 m).Idx → α) : (Sh 4096 m).Idx → α := fun y => w (sl (y 0)) (ix2 (pos (y 0)) (y 1))

/-- An array whose first `k` column slabs have been rewritten. -/
def upC (k : ℕ) (w : Fin 8 → (Sh m 512).Idx → α) (old : (Sh m 4096).Idx → α) : (Sh m 4096).Idx → α :=
  fun y => if (sl (y 1)).val < k then ofC w y else old y

/-- An array whose first `k` row slabs have been rewritten. -/
def upR (k : ℕ) (w : Fin 8 → (Sh 512 m).Idx → α) (old : (Sh 4096 m).Idx → α) : (Sh 4096 m).Idx → α :=
  fun y => if (sl (y 0)).val < k then ofR w y else old y

/-- The value carried by a loop of eight trips, before trip `k`. -/
def accTo {β : Type} (step : Fin 8 → β → β) (a : β) : ℕ → β
  | 0 => a
  | k + 1 => if h : k < 8 then step ⟨k, h⟩ (accTo step a k) else accTo step a k

theorem accTo_succ {β : Type} (step : Fin 8 → β → β) (a : β) (k : ℕ) (h : k < 8) :
    accTo step a (k + 1) = step ⟨k, h⟩ (accTo step a k) := dif_pos h

theorem cs_ofC (w : Fin 8 → (Sh m 512).Idx → α) (j : Fin 8) : cs (ofC w) j = w j := by
  funext y
  have h : (y 1).val < 512 := (y 1).isLt
  have e1 : sl ⟨512 * j.val + (y 1).val, by have := j.isLt; omega⟩ = j := Fin.ext (by show (512 * j.val + (y 1).val) / 512 = j.val; omega)
  have e2 : pos ⟨512 * j.val + (y 1).val, by have := j.isLt; omega⟩ = y 1 := Fin.ext (by show (512 * j.val + (y 1).val) % 512 = (y 1).val; omega)
  show w (sl ⟨512 * j.val + (y 1).val, _⟩) (ix2 (y 0) (pos ⟨512 * j.val + (y 1).val, _⟩)) = w j y
  rw [e1, e2]
  exact congrArg (w j) (funext fun a => by revert a; exact Fin.forall_fin_two.mpr ⟨rfl, rfl⟩)

theorem rs_ofR (w : Fin 8 → (Sh 512 m).Idx → α) (j : Fin 8) : rs (ofR w) j = w j := by
  funext y
  have h : (y 0).val < 512 := (y 0).isLt
  have e1 : sl ⟨512 * j.val + (y 0).val, by have := j.isLt; omega⟩ = j := Fin.ext (by show (512 * j.val + (y 0).val) / 512 = j.val; omega)
  have e2 : pos ⟨512 * j.val + (y 0).val, by have := j.isLt; omega⟩ = y 0 := Fin.ext (by show (512 * j.val + (y 0).val) % 512 = (y 0).val; omega)
  show w (sl ⟨512 * j.val + (y 0).val, _⟩) (ix2 (pos ⟨512 * j.val + (y 0).val, _⟩) (y 1)) = w j y
  rw [e1, e2]
  exact congrArg (w j) (funext fun a => by revert a; exact Fin.forall_fin_two.mpr ⟨rfl, rfl⟩)

theorem upC_zero (w : Fin 8 → (Sh m 512).Idx → α) (old : (Sh m 4096).Idx → α) : upC 0 w old = old := rfl

theorem upR_zero (w : Fin 8 → (Sh 512 m).Idx → α) (old : (Sh 4096 m).Idx → α) : upR 0 w old = old := rfl

theorem upC_eight (w : Fin 8 → (Sh m 512).Idx → α) (old : (Sh m 4096).Idx → α) : upC 8 w old = ofC w :=
  funext fun y => if_pos (sl (y 1)).isLt

theorem upR_eight (w : Fin 8 → (Sh 512 m).Idx → α) (old : (Sh 4096 m).Idx → α) : upR 8 w old = ofR w :=
  funext fun y => if_pos (sl (y 0)).isLt

/-- Slab `k` is still the old one while the first `k` slabs are new. -/
theorem cs_upC (k : Fin 8) (w : Fin 8 → (Sh m 512).Idx → α) (old : (Sh m 4096).Idx → α) : cs (upC k.val w old) k = cs old k := by
  funext y
  have h : (y 1).val < 512 := (y 1).isLt
  exact if_neg (by show ¬ (512 * k.val + (y 1).val) / 512 < k.val; omega)

theorem rs_upR (k : Fin 8) (w : Fin 8 → (Sh 512 m).Idx → α) (old : (Sh 4096 m).Idx → α) : rs (upR k.val w old) k = rs old k := by
  funext y
  have h : (y 0).val < 512 := (y 0).isLt
  exact if_neg (by show ¬ (512 * k.val + (y 0).val) / 512 < k.val; omega)

section Views

variable {sig : RefSig} {κ : Kind} {sp : Space} {e : EltTy} {Val : EltTy → Type}

/-- A load of 512 columns. -/
theorem load_c (v : View sig κ sp (Sh m 4096) e) (f : v.ty.Contents Val) (k : Fin 8) {off : Fin 2 → ℕ}
    (h : off = ![0, 512 * k.val]) (inb : ∀ a, off a + (Sh m 512).size a ≤ (Sh m 4096).size a) :
    v.readAt Val (Rect.unit (s := Sh m 4096) off (Sh m 512).size inb).toLoadRect f = cs (v.read Val f) k := by
  subst h
  funext y
  refine congrArg (v.read Val f) (funext fun a => Fin.ext ?_)
  revert a
  refine Fin.forall_fin_two.mpr ⟨?_, ?_⟩
  · show 0 + 1 * (y 0).val = (y 0).val; omega
  · show 512 * k.val + 1 * (y 1).val = 512 * k.val + (y 1).val; omega

/-- A load of 512 rows. -/
theorem load_r (v : View sig κ sp (Sh 4096 m) e) (f : v.ty.Contents Val) (k : Fin 8) {off : Fin 2 → ℕ}
    (h : off = ![512 * k.val, 0]) (inb : ∀ a, off a + (Sh 512 m).size a ≤ (Sh 4096 m).size a) :
    v.readAt Val (Rect.unit (s := Sh 4096 m) off (Sh 512 m).size inb).toLoadRect f = rs (v.read Val f) k := by
  subst h
  funext y
  refine congrArg (v.read Val f) (funext fun a => Fin.ext ?_)
  revert a
  refine Fin.forall_fin_two.mpr ⟨?_, ?_⟩
  · show 512 * k.val + 1 * (y 0).val = 512 * k.val + (y 0).val; omega
  · show 0 + 1 * (y 1).val = (y 1).val; omega

/-- A store of 512 columns into an array whose slabs before them are new. -/
theorem store_c (v : View sig κ sp (Sh m 4096) e) (f : v.ty.Contents Val) (k : Fin 8) {off : Fin 2 → ℕ}
    (h : off = ![0, 512 * k.val]) (inb : ∀ a, off a + (Sh m 512).size a ≤ (Sh m 4096).size a)
    (w : Fin 8 → (Sh m 512).Idx → Val e) (old : (Sh m 4096).Idx → Val e)
    (hf : v.read Val f = upC k.val w old) (p : (Sh m 512).Idx → Val e) (hp : p = w k) :
    v.read Val (v.writes Val f [⟨Rect.unit (s := Sh m 4096) off (Sh m 512).size inb, p⟩]) = upC (k.val + 1) w old := by
  funext y
  have hy : (y 1).val < 4096 := (y 1).isLt
  by_cases hb : (sl (y 1)).val = k.val
  · have hb' : (y 1).val / 512 = k.val := hb
    rw [View.read_writes_cons_unit_of_mem v f inb p [] y (ix2 (y 0) (pos (y 1))) h
      (Fin.forall_fin_two.mpr ⟨by show (y 0).val = 0 + (y 0).val; omega,
        by show (y 1).val = 512 * k.val + (y 1).val % 512; omega⟩)]
    show p _ = if (sl (y 1)).val < k.val + 1 then ofC w y else old y
    rw [if_pos (by omega), hp]
    show w k _ = w (sl (y 1)) _
    rw [show sl (y 1) = k from Fin.ext hb]
  · have hb' : ¬ (y 1).val / 512 = k.val := hb
    rw [View.read_writes_cons_unit_of_not_mem v f inb p [] y h 1
      (by show (y 1).val < 512 * k.val ∨ 512 * k.val + 512 ≤ (y 1).val; omega)]
    show v.read Val f y = if (sl (y 1)).val < k.val + 1 then ofC w y else old y
    rw [hf]
    show (if (sl (y 1)).val < k.val then ofC w y else old y) = _
    by_cases hlt : (sl (y 1)).val < k.val
    · rw [if_pos hlt, if_pos (by omega)]
    · rw [if_neg hlt, if_neg (by omega)]

/-- A store of 512 rows into an array whose slabs before them are new. -/
theorem store_r (v : View sig κ sp (Sh 4096 m) e) (f : v.ty.Contents Val) (k : Fin 8) {off : Fin 2 → ℕ}
    (h : off = ![512 * k.val, 0]) (inb : ∀ a, off a + (Sh 512 m).size a ≤ (Sh 4096 m).size a)
    (w : Fin 8 → (Sh 512 m).Idx → Val e) (old : (Sh 4096 m).Idx → Val e)
    (hf : v.read Val f = upR k.val w old) (p : (Sh 512 m).Idx → Val e) (hp : p = w k) :
    v.read Val (v.writes Val f [⟨Rect.unit (s := Sh 4096 m) off (Sh 512 m).size inb, p⟩]) = upR (k.val + 1) w old := by
  funext y
  have hy : (y 0).val < 4096 := (y 0).isLt
  by_cases hb : (sl (y 0)).val = k.val
  · have hb' : (y 0).val / 512 = k.val := hb
    rw [View.read_writes_cons_unit_of_mem v f inb p [] y (ix2 (pos (y 0)) (y 1)) h
      (Fin.forall_fin_two.mpr ⟨by show (y 0).val = 512 * k.val + (y 0).val % 512; omega,
        by show (y 1).val = 0 + (y 1).val; omega⟩)]
    show p _ = if (sl (y 0)).val < k.val + 1 then ofR w y else old y
    rw [if_pos (by omega), hp]
    show w k _ = w (sl (y 0)) _
    rw [show sl (y 0) = k from Fin.ext hb]
  · have hb' : ¬ (y 0).val / 512 = k.val := hb
    rw [View.read_writes_cons_unit_of_not_mem v f inb p [] y h 0
      (by show (y 0).val < 512 * k.val ∨ 512 * k.val + 512 ≤ (y 0).val; omega)]
    show v.read Val f y = if (sl (y 0)).val < k.val + 1 then ofR w y else old y
    rw [hf]
    show (if (sl (y 0)).val < k.val then ofR w y else old y) = _
    by_cases hlt : (sl (y 0)).val < k.val
    · rw [if_pos hlt, if_pos (by omega)]
    · rw [if_neg hlt, if_neg (by omega)]

/-- A store over the whole array. -/
theorem store_all {s : Shape} (v : View sig κ sp s e) (f : v.ty.Contents Val) {off : Fin s.rank → ℕ}
    (inb : ∀ a, off a + s.size a ≤ s.size a) (L : List (View.Piece Val s e)) (p q : s.Idx → Val e) (hp : p = q) :
    v.read Val (v.writes Val f (⟨Rect.unit off s.size inb, p⟩ :: L)) = q := by
  subst hp
  funext y
  refine View.read_writes_cons_unit_of_mem v f inb p L y y rfl fun a => ?_
  have := inb a; omega

end Views

end Cert.Slab

end
-- ==== Proof.KernelIdeal.Spec.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Pipeline.Frame
public import Idealize.ShloMosaic.Lib.WritesUnit
public import proofs.«01_k».proof.Proof.Slab

@[expose] public section

set_option maxRecDepth 16384
set_option maxHeartbeats 4000000

/-!
What the loops of the kernel leave, in terms of what their buffers held: `wT_K` is what loop `T` leaves in
buffer `K`, `wT_aQ` the value number `Q` it carries at the end.
-/

noncomputable section

namespace Cert.KernelIdeal.Hand

open Cert.KernelIdeal Cert.KernelIdeal.Gen
open Cert.Slab
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ
def w1_a0 (x2 : S256x4096.Idx → Elt F .bf16) : FVec F S256x128 .f32 :=
  accTo (fun j a => k0_pay83 a (cs x2 j)) k0_pay82 8

def w2_24  : S256x4096.Idx → Elt F .f32 :=
  ofC fun j => k0_pay16

def w2_26  : S256x4096.Idx → Elt F .f32 :=
  ofC fun j => k0_pay85

def w2_27 (v0 : Elt F .f32) (v217 : FVec F S256x128 .f32) (x2 : S256x4096.Idx → Elt F .bf16) (x4 : S1x4096.Idx → Elt F .f32) : S256x4096.Idx → Elt F .i8 :=
  ofC fun j => k0_pay8 (k0_pay80 v0) (k0_pay84 v217) (cs x2 j) (cs x4 j)

def w2_32 (v0 : Elt F .f32) (v217 : FVec F S256x128 .f32) (x2 : S256x4096.Idx → Elt F .bf16) (x4 : S1x4096.Idx → Elt F .f32) : S256x4096.Idx → Elt F .bf16 :=
  ofC fun j => k0_pay6 (k0_pay80 v0) (k0_pay84 v217) (cs x2 j) (cs x4 j)

def w2_33 (v0 : Elt F .f32) (v217 : FVec F S256x128 .f32) (x2 : S256x4096.Idx → Elt F .bf16) (x4 : S1x4096.Idx → Elt F .f32) : S4096x256.Idx → Elt F .bf16 :=
  ofR fun j => k0_pay7 (k0_pay80 v0) (k0_pay84 v217) (cs x2 j) (cs x4 j)

def w2_37 (x10 : S1x4096.Idx → Elt F .f32) : S1x4096.Idx → Elt F .f32 :=
  ofC fun j => k0_pay13 (k0_pay9 (cs x10 j)) (Scalar.ofBits .f32 0x3F800000#32)

def w2_38 (x10 : S1x4096.Idx → Elt F .f32) : S1x4096.Idx → Elt F .bf16 :=
  ofC fun j => k0_pay14 (k0_pay9 (cs x10 j)) (Scalar.ofBits .f32 0x3F800000#32)

def w2_39 (x10 : S1x4096.Idx → Elt F .f32) : S1x4096.Idx → Elt F .bf16 :=
  ofC fun j => k0_pay15 (k0_pay9 (cs x10 j)) (Scalar.ofBits .f32 0x3F800000#32)

def w3_22 (v85 : FVec F S256x256 .f32) (v22 : FVec F S1x256 .f32) (v48 : FVec F S1x256 .bf16) (v50 : FVec F S1x256 .bf16) (x5 : S4096x256.Idx → Elt F .bf16) (x32 : S256x4096.Idx → Elt F .bf16) : S256x256.Idx → Elt F .f32 :=
  accTo (fun j a => k0_pay21 v22 v48 v50 (rs x5 j) (cs x32 j) a) v85 8

def w3_23 (x32 : S256x4096.Idx → Elt F .bf16) (v56 : FVec F S1x256 .f32) (v82 : FVec F S1x256 .bf16) (v84 : FVec F S1x256 .bf16) (x6 : S4096x256.Idx → Elt F .bf16) : S256x256.Idx → Elt F .f32 :=
  accTo (fun j a => k0_pay27 (cs x32 j) (k0_pay23 v56 v82 v84 (rs x6 j)) a) k0_pay106 8

def w3_25 (x7 : S256x4096.Idx → Elt F .bf16) (x10 : S1x4096.Idx → Elt F .f32) (x37 : S1x4096.Idx → Elt F .f32) (x38 : S1x4096.Idx → Elt F .bf16) (x39 : S1x4096.Idx → Elt F .bf16) (x3 : S256x4096.Idx → Elt F .bf16) : S256x256.Idx → Elt F .f32 :=
  accTo (fun j a => k0_pay108 (k0_pay31 (cs x7 j) (cs x10 j) (cs x37 j) (cs x38 j) (cs x39 j)) a (cs x3 j)) k0_pay107 8

def w3_28 (v22 : FVec F S1x256 .f32) (v48 : FVec F S1x256 .bf16) (v50 : FVec F S1x256 .bf16) (x5 : S4096x256.Idx → Elt F .bf16) : S4096x256.Idx → Elt F .i8 :=
  ofR fun j => k0_pay19 v22 v48 v50 (rs x5 j)

def w3_29 (v56 : FVec F S1x256 .f32) (v82 : FVec F S1x256 .bf16) (v84 : FVec F S1x256 .bf16) (x6 : S4096x256.Idx → Elt F .bf16) : S4096x256.Idx → Elt F .i8 :=
  ofR fun j => k0_pay24 v56 v82 v84 (rs x6 j)

def w3_31 (x7 : S256x4096.Idx → Elt F .bf16) (x37 : S1x4096.Idx → Elt F .f32) (x38 : S1x4096.Idx → Elt F .bf16) (x39 : S1x4096.Idx → Elt F .bf16) : S256x4096.Idx → Elt F .i8 :=
  ofC fun j => k0_pay30 (cs x7 j) (cs x37 j) (cs x38 j) (cs x39 j)

def w3_34 (v14 : FVec F S1x256 .f32) (v22 : FVec F S1x256 .f32) (v48 : FVec F S1x256 .bf16) (v50 : FVec F S1x256 .bf16) (x5 : S4096x256.Idx → Elt F .bf16) : S4096x256.Idx → Elt F .bf16 :=
  ofR fun j => k0_pay20 v14 v22 v48 v50 (rs x5 j)

def w3_35 (v16 : FVec F S1x256 .f32) (v56 : FVec F S1x256 .f32) (v82 : FVec F S1x256 .bf16) (v84 : FVec F S1x256 .bf16) (x6 : S4096x256.Idx → Elt F .bf16) : S4096x256.Idx → Elt F .bf16 :=
  ofR fun j => k0_pay26 (k0_pay25 v16 v56 v82 v84 (rs x6 j))

def w3_36 (x7 : S256x4096.Idx → Elt F .bf16) (x37 : S1x4096.Idx → Elt F .f32) (x38 : S1x4096.Idx → Elt F .bf16) (x39 : S1x4096.Idx → Elt F .bf16) : S256x4096.Idx → Elt F .bf16 :=
  ofC fun j => k0_pay32 (cs x7 j) (cs x37 j) (cs x38 j) (cs x39 j)

def w4_13 (v48 : FVec F S1x256 .bf16) (v50 : FVec F S1x256 .bf16) (v101 : FVec F S256x256 .f32) (v114 : FVec F S256x256 .f32) (v158 : FVec F S256x256 .f32) (cst_64 : F .f32) (v0 : Elt F .f32) (v14 : FVec F S1x256 .f32) (x33 : S4096x256.Idx → Elt F .bf16) (x5 : S4096x256.Idx → Elt F .bf16) : S4096x256.Idx → Elt F .bf16 :=
  ofR fun j => k0_pay38 v48 v50 (k0_pay124 v101 v114 v158 cst_64) (k0_pay128 v0 v14) (rs x33 j) (rs x5 j)

def w4_14 (v82 : FVec F S1x256 .bf16) (v84 : FVec F S1x256 .bf16) (v101 : FVec F S256x256 .f32) (v114 : FVec F S256x256 .f32) (v156 : FVec F S256x256 .f32) (v0 : Elt F .f32) (v16 : FVec F S1x256 .f32) (x33 : S4096x256.Idx → Elt F .bf16) (x6 : S4096x256.Idx → Elt F .bf16) : S4096x256.Idx → Elt F .bf16 :=
  ofR fun j => k0_pay43 v82 v84 (k0_pay125 v101 v114 v156) (k0_pay129 v0 v16) (rs x33 j) (rs x6 j)

def w4_15 (v126 : FVec F S256x256 .f32) (x3 : S256x4096.Idx → Elt F .bf16) (v1 : Elt F .f32) (x10 : S1x4096.Idx → Elt F .f32) (x7 : S256x4096.Idx → Elt F .bf16) (x38 : S1x4096.Idx → Elt F .bf16) (x39 : S1x4096.Idx → Elt F .bf16) : S256x4096.Idx → Elt F .bf16 :=
  ofC fun j => k0_pay134 v126 (k0_pay46 (cs x3 j)) (k0_pay47 v1 (cs x10 j)) (cs x7 j) (cs x38 j) (cs x39 j)

def w4_18 (v126 : FVec F S256x256 .f32) (y18 : S8x4096.Idx → Elt F .f32) (x3 : S256x4096.Idx → Elt F .bf16) (v1 : Elt F .f32) (x10 : S1x4096.Idx → Elt F .f32) (x7 : S256x4096.Idx → Elt F .bf16) (x38 : S1x4096.Idx → Elt F .bf16) (x39 : S1x4096.Idx → Elt F .bf16) : S8x4096.Idx → Elt F .f32 :=
  ofC fun j => k0_pay135 v126 (k0_pay45 (cs y18 j)) (k0_pay46 (cs x3 j)) (k0_pay47 v1 (cs x10 j)) (cs x7 j) (cs x38 j) (cs x39 j)

def w4_24 (v126 : FVec F S256x256 .f32) (y24 : S256x4096.Idx → Elt F .f32) (x36 : S256x4096.Idx → Elt F .bf16) : S256x4096.Idx → Elt F .f32 :=
  ofC fun j => k0_pay33 (k0_pay126 v126) (cs y24 j) (cs x36 j)

def w4_26 (v101 : FVec F S256x256 .f32) (v114 : FVec F S256x256 .f32) (v158 : FVec F S256x256 .f32) (cst_64 : F .f32) (v156 : FVec F S256x256 .f32) (y26 : S256x4096.Idx → Elt F .f32) (x34 : S4096x256.Idx → Elt F .bf16) (x35 : S4096x256.Idx → Elt F .bf16) : S256x4096.Idx → Elt F .f32 :=
  ofC fun j => k0_pay34 (k0_pay124 v101 v114 v158 cst_64) (k0_pay125 v101 v114 v156) (cs y26 j) (rs x34 j) (rs x35 j)

def w4_a0 (x5 : S4096x256.Idx → Elt F .bf16) (v101 : FVec F S256x256 .f32) (v114 : FVec F S256x256 .f32) (v158 : FVec F S256x256 .f32) (cst_64 : F .f32) (v0 : Elt F .f32) (v14 : FVec F S1x256 .f32) (x33 : S4096x256.Idx → Elt F .bf16) (v48 : FVec F S1x256 .bf16) (v50 : FVec F S1x256 .bf16) : FVec F S8x256 .f32 :=
  accTo (fun j a => k0_pay39 a (rs x5 j) (k0_pay35 (k0_pay124 v101 v114 v158 cst_64) (k0_pay128 v0 v14) (rs x33 j)) (k0_pay36 v48 v50 (rs x5 j)) k0_pay37) k0_pay130 8

def w4_a1 (v82 : FVec F S1x256 .bf16) (v84 : FVec F S1x256 .bf16) (v101 : FVec F S256x256 .f32) (v114 : FVec F S256x256 .f32) (v156 : FVec F S256x256 .f32) (v0 : Elt F .f32) (v16 : FVec F S1x256 .f32) (x33 : S4096x256.Idx → Elt F .bf16) (x6 : S4096x256.Idx → Elt F .bf16) : FVec F S8x256 .f32 :=
  accTo (fun j a => k0_pay44 v82 v84 (k0_pay125 v101 v114 v156) (k0_pay129 v0 v16) a (rs x33 j) (rs x6 j)) k0_pay130 8

def w5_a0 (x2 : S256x4096.Idx → Elt F .bf16) : FVec F S256x128 .f32 :=
  accTo (fun j a => k0_pay61 a (cs x2 j)) k0_pay60 8

def w6_11 (v1 : Elt F .f32) (x2 : S256x4096.Idx → Elt F .bf16) (y24 : S256x4096.Idx → Elt F .f32) (x10 : S1x4096.Idx → Elt F .f32) : S256x4096.Idx → Elt F .bf16 :=
  ofC fun j => k0_pay52 v1 (cs x2 j) (cs y24 j) (cs x10 j)

def w6_18 (v1 : Elt F .f32) (y24 : S256x4096.Idx → Elt F .f32) (x3 : S256x4096.Idx → Elt F .bf16) (y18 : S8x4096.Idx → Elt F .f32) (x37 : S1x4096.Idx → Elt F .f32) : S8x4096.Idx → Elt F .f32 :=
  ofC fun j => k0_pay50 v1 (cs y24 j) (cs x3 j) (cs y18 j) (cs x37 j)

def w6_21 (v217 : FVec F S256x128 .f32) (x2 : S256x4096.Idx → Elt F .bf16) (x26 : S256x4096.Idx → Elt F .f32) (v6 : FVec F S1x1 .f32) (x4 : S1x4096.Idx → Elt F .f32) : S1x4096.Idx → Elt F .f32 :=
  ofC fun j => k0_pay65 v217 (k0_pay48 (cs x2 j)) (k0_pay53 (cs x26 j)) (k0_pay57 v6 (k0_pay62 v217) (k0_pay48 (cs x2 j)) (cs x4 j))

def w6_24 (v1 : Elt F .f32) (y24 : S256x4096.Idx → Elt F .f32) (x10 : S1x4096.Idx → Elt F .f32) : S256x4096.Idx → Elt F .f32 :=
  ofC fun j => k0_pay51 v1 (cs y24 j) (cs x10 j)

def w6_a0 (v6 : FVec F S1x1 .f32) (v217 : FVec F S256x128 .f32) (x2 : S256x4096.Idx → Elt F .bf16) (x26 : S256x4096.Idx → Elt F .f32) (x4 : S1x4096.Idx → Elt F .f32) : FVec F S256x128 .f32 :=
  accTo (fun j a => k0_pay58 v6 (k0_pay62 v217) a (k0_pay48 (cs x2 j)) (cs x26 j) (cs x4 j)) k0_pay63 8

def w6_a1 (v6 : FVec F S1x1 .f32) (v217 : FVec F S256x128 .f32) (x2 : S256x4096.Idx → Elt F .bf16) (x26 : S256x4096.Idx → Elt F .f32) (x4 : S1x4096.Idx → Elt F .f32) : FVec F S256x128 .f32 :=
  accTo (fun j a => k0_pay59 v6 (k0_pay62 v217) a (k0_pay48 (cs x2 j)) (cs x26 j) (cs x4 j)) k0_pay63 8

def w6_a2 (x2 : S256x4096.Idx → Elt F .bf16) (x26 : S256x4096.Idx → Elt F .f32) (x4 : S1x4096.Idx → Elt F .f32) (v6 : FVec F S1x1 .f32) (v217 : FVec F S256x128 .f32) : FVec F S256x128 .f32 :=
  accTo (fun j a => k0_pay66 a (k0_pay48 (cs x2 j)) (k0_pay53 (cs x26 j)) (k0_pay54 (cs x4 j)) (k0_pay57 v6 (k0_pay62 v217) (k0_pay48 (cs x2 j)) (cs x4 j))) k0_pay63 8

def w7_12 (v6 : FVec F S1x1 .f32) (v224 : FVec F S256x1 .f32) (v250 : FVec F S256x1 .f32) (x2 : S256x4096.Idx → Elt F .bf16) (x4 : S1x4096.Idx → Elt F .f32) (x26 : S256x4096.Idx → Elt F .f32) (x3 : S256x4096.Idx → Elt F .bf16) : S256x4096.Idx → Elt F .bf16 :=
  ofC fun j => k0_pay4 v6 v224 v250 (cs x2 j) (cs x4 j) (cs x26 j) (cs x3 j)

end Cert.KernelIdeal.Hand

end
-- ==== Proof.KernelIdeal.StepSpec.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Pipeline.Frame
public import Idealize.ShloMosaic.Lib.WritesUnit
public import proofs.«01_k».proof.Proof.Slab
public import proofs.«01_k».proof.Proof.KernelIdeal.Spec

@[expose] public section

set_option maxRecDepth 16384
set_option maxHeartbeats 4000000

noncomputable section

namespace Cert.KernelIdeal.Hand

open Cert.KernelIdeal Cert.KernelIdeal.Gen
open Cert.Slab
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ
def d_v9 (v1 : Elt F .f32) : FVec F S1x1 .f32 :=
  k0_pay81 v1

def d_v14 (x8 : S1x256.Idx → Elt F .f32) : FVec F S1x256 .f32 :=
  k0_pay89 x8

def d_v16 (x9 : S1x256.Idx → Elt F .f32) : FVec F S1x256 .f32 :=
  k0_pay90 x9

def d_v22 (x8 : S1x256.Idx → Elt F .f32) : FVec F S1x256 .f32 :=
  k0_pay92 x8

def d_v34 (x8 : S1x256.Idx → Elt F .f32) : FVec F S1x256 .f32 :=
  k0_pay93 x8

def d_v38 (x8 : S1x256.Idx → Elt F .f32) : FVec F S1x256 .f32 :=
  k0_pay94 x8

def d_v39 (x8 : S1x256.Idx → Elt F .f32) : FVec F S1x256 .f32 :=
  k0_pay95 x8

def d_v48 (x8 : S1x256.Idx → Elt F .f32) : FVec F S1x256 .bf16 :=
  k0_pay97 (d_v34 x8) (d_v38 x8) (d_v39 x8) (Scalar.ofBits .f32 0x40E00000#32)

def d_v50 (x8 : S1x256.Idx → Elt F .f32) : FVec F S1x256 .bf16 :=
  k0_pay98 (d_v34 x8) (d_v38 x8) (d_v39 x8) (Scalar.ofBits .f32 0x40E00000#32)

def d_v56 (x9 : S1x256.Idx → Elt F .f32) : FVec F S1x256 .f32 :=
  k0_pay100 (d_v16 x9)

def d_v82 (x9 : S1x256.Idx → Elt F .f32) : FVec F S1x256 .bf16 :=
  k0_pay103 (d_v16 x9)

def d_v84 (x9 : S1x256.Idx → Elt F .f32) : FVec F S1x256 .bf16 :=
  k0_pay104 (d_v16 x9)

def d_v85  : FVec F S256x256 .f32 :=
  k0_pay105

def d_G (x5 : S4096x256.Idx → Elt F .bf16) (x8 : S1x256.Idx → Elt F .f32) (x32 : S256x4096.Idx → Elt F .bf16) : FVec F S256x256 .f32 :=
  w3_22 (d_v85 (F := F)) (d_v22 x8) (d_v48 x8) (d_v50 x8) x5 x32

def d_U (x6 : S4096x256.Idx → Elt F .bf16) (x9 : S1x256.Idx → Elt F .f32) (x32 : S256x4096.Idx → Elt F .bf16) : FVec F S256x256 .f32 :=
  w3_23 x32 (d_v56 x9) (d_v82 x9) (d_v84 x9) x6

def d_DA (x3 : S256x4096.Idx → Elt F .bf16) (x7 : S256x4096.Idx → Elt F .bf16) (x10 : S1x4096.Idx → Elt F .f32) (x37 : S1x4096.Idx → Elt F .f32) (x38 : S1x4096.Idx → Elt F .bf16) (x39 : S1x4096.Idx → Elt F .bf16) : FVec F S256x256 .f32 :=
  w3_25 x7 x10 x37 x38 x39 x3

def d_n28 (x5 : S4096x256.Idx → Elt F .bf16) (x8 : S1x256.Idx → Elt F .f32) : S4096x256.Idx → Elt F .i8 :=
  w3_28 (d_v22 x8) (d_v48 x8) (d_v50 x8) x5

def d_n29 (x6 : S4096x256.Idx → Elt F .bf16) (x9 : S1x256.Idx → Elt F .f32) : S4096x256.Idx → Elt F .i8 :=
  w3_29 (d_v56 x9) (d_v82 x9) (d_v84 x9) x6

def d_n31 (x7 : S256x4096.Idx → Elt F .bf16) (x37 : S1x4096.Idx → Elt F .f32) (x38 : S1x4096.Idx → Elt F .bf16) (x39 : S1x4096.Idx → Elt F .bf16) : S256x4096.Idx → Elt F .i8 :=
  w3_31 x7 x37 x38 x39

def d_n34 (x5 : S4096x256.Idx → Elt F .bf16) (x8 : S1x256.Idx → Elt F .f32) : S4096x256.Idx → Elt F .bf16 :=
  w3_34 (d_v14 x8) (d_v22 x8) (d_v48 x8) (d_v50 x8) x5

def d_n35 (x6 : S4096x256.Idx → Elt F .bf16) (x9 : S1x256.Idx → Elt F .f32) : S4096x256.Idx → Elt F .bf16 :=
  w3_35 (d_v16 x9) (d_v56 x9) (d_v82 x9) (d_v84 x9) x6

def d_n36 (x7 : S256x4096.Idx → Elt F .bf16) (x37 : S1x4096.Idx → Elt F .f32) (x38 : S1x4096.Idx → Elt F .bf16) (x39 : S1x4096.Idx → Elt F .bf16) : S256x4096.Idx → Elt F .bf16 :=
  w3_36 x7 x37 x38 x39

def d_v93 (x5 : S4096x256.Idx → Elt F .bf16) (x8 : S1x256.Idx → Elt F .f32) (x32 : S256x4096.Idx → Elt F .bf16) : FVec F S256x256 .f32 :=
  k0_pay109 (d_G x5 x8 x32)

def d_v95 (x6 : S4096x256.Idx → Elt F .bf16) (x9 : S1x256.Idx → Elt F .f32) (x32 : S256x4096.Idx → Elt F .bf16) : FVec F S256x256 .f32 :=
  k0_pay110 (d_U x6 x9 x32)

def d_v97 (x3 : S256x4096.Idx → Elt F .bf16) (x7 : S256x4096.Idx → Elt F .bf16) (x10 : S1x4096.Idx → Elt F .f32) (x37 : S1x4096.Idx → Elt F .f32) (x38 : S1x4096.Idx → Elt F .bf16) (x39 : S1x4096.Idx → Elt F .bf16) : FVec F S256x256 .f32 :=
  k0_pay111 (d_DA x3 x7 x10 x37 x38 x39)

def d_v101 (v0 : Elt F .f32) (x5 : S4096x256.Idx → Elt F .bf16) (x8 : S1x256.Idx → Elt F .f32) (x32 : S256x4096.Idx → Elt F .bf16) : FVec F S256x256 .f32 :=
  k0_pay112 v0 (d_v14 x8) (d_G x5 x8 x32)

def d_v105 (v0 : Elt F .f32) (x6 : S4096x256.Idx → Elt F .bf16) (x9 : S1x256.Idx → Elt F .f32) (x32 : S256x4096.Idx → Elt F .bf16) : FVec F S256x256 .f32 :=
  k0_pay113 v0 (d_v16 x9) (d_U x6 x9 x32)

def d_v114 (v0 : Elt F .f32) (x5 : S4096x256.Idx → Elt F .bf16) (x8 : S1x256.Idx → Elt F .f32) (x32 : S256x4096.Idx → Elt F .bf16) : FVec F S256x256 .f32 :=
  k0_pay114 v0 (d_v14 x8) (d_G x5 x8 x32)

def d_v116 (v0 : Elt F .f32) (x5 : S4096x256.Idx → Elt F .bf16) (x6 : S4096x256.Idx → Elt F .bf16) (x8 : S1x256.Idx → Elt F .f32) (x9 : S1x256.Idx → Elt F .f32) (x32 : S256x4096.Idx → Elt F .bf16) : FVec F S256x256 .f32 :=
  k0_pay115 v0 (d_v14 x8) (d_v16 x9) (d_G x5 x8 x32) (d_U x6 x9 x32)

def d_v117 (v1 : Elt F .f32) : FVec F S256x256 .f32 :=
  k0_pay116 (d_v9 v1)

def d_v126 (v0 : Elt F .f32) (v1 : Elt F .f32) (x5 : S4096x256.Idx → Elt F .bf16) (x6 : S4096x256.Idx → Elt F .bf16) (x8 : S1x256.Idx → Elt F .f32) (x9 : S1x256.Idx → Elt F .f32) (x32 : S256x4096.Idx → Elt F .bf16) : FVec F S256x256 .f32 :=
  k0_pay118 (d_v116 v0 x5 x6 x8 x9 x32) (d_v117 v1)

def d_v156 (v0 : Elt F .f32) (v1 : Elt F .f32) (x3 : S256x4096.Idx → Elt F .bf16) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x37 : S1x4096.Idx → Elt F .f32) (x38 : S1x4096.Idx → Elt F .bf16) (x39 : S1x4096.Idx → Elt F .bf16) : FVec F S256x256 .f32 :=
  k0_pay122 (d_v97 x3 x7 x10 x37 x38 x39) (d_v116 v0 x5 x6 x8 x9 x32) (d_v117 v1)

def d_v158 (v0 : Elt F .f32) (v1 : Elt F .f32) (x3 : S256x4096.Idx → Elt F .bf16) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x37 : S1x4096.Idx → Elt F .f32) (x38 : S1x4096.Idx → Elt F .bf16) (x39 : S1x4096.Idx → Elt F .bf16) : FVec F S256x256 .f32 :=
  k0_pay123 (d_v97 x3 x7 x10 x37 x38 x39) (d_v105 v0 x6 x9 x32) (d_v114 v0 x5 x8 x32) (d_v116 v0 x5 x6 x8 x9 x32) (d_v117 v1)

def d_n40 (v0 : Elt F .f32) (v1 : Elt F .f32) (x3 : S256x4096.Idx → Elt F .bf16) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x37 : S1x4096.Idx → Elt F .f32) (x38 : S1x4096.Idx → Elt F .bf16) (x39 : S1x4096.Idx → Elt F .bf16) (y40 : S256x128.Idx → Elt F .f32) : FVec F S256x128 .f32 :=
  k0_pay120 (d_v97 x3 x7 x10 x37 x38 x39) (d_v116 v0 x5 x6 x8 x9 x32) (d_v117 v1) y40

def d_n41 (v0 : Elt F .f32) (v1 : Elt F .f32) (x3 : S256x4096.Idx → Elt F .bf16) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x37 : S1x4096.Idx → Elt F .f32) (x38 : S1x4096.Idx → Elt F .bf16) (x39 : S1x4096.Idx → Elt F .bf16) (y41 : S256x128.Idx → Elt F .f32) : FVec F S256x128 .f32 :=
  k0_pay121 (d_v97 x3 x7 x10 x37 x38 x39) (d_v116 v0 x5 x6 x8 x9 x32) (d_v117 v1) y41

def d_n30 (v0 : Elt F .f32) (v1 : Elt F .f32) (x5 : S4096x256.Idx → Elt F .bf16) (x6 : S4096x256.Idx → Elt F .bf16) (x8 : S1x256.Idx → Elt F .f32) (x9 : S1x256.Idx → Elt F .f32) (x32 : S256x4096.Idx → Elt F .bf16) : IVec S256x256 8 :=
  k0_pay127 (d_v126 v0 v1 x5 x6 x8 x9 x32)

def d_n13 (v0 : Elt F .f32) (v1 : Elt F .f32) (x3 : S256x4096.Idx → Elt F .bf16) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x33 : S4096x256.Idx → Elt F .bf16) (x37 : S1x4096.Idx → Elt F .f32) (x38 : S1x4096.Idx → Elt F .bf16) (x39 : S1x4096.Idx → Elt F .bf16) : S4096x256.Idx → Elt F .bf16 :=
  w4_13 (d_v48 x8) (d_v50 x8) (d_v101 v0 x5 x8 x32) (d_v114 v0 x5 x8 x32) (d_v158 v0 v1 x3 x5 x6 x7 x8 x9 x10 x32 x37 x38 x39) (Scalar.ofBits .f32 0x3F800000#32) v0 (d_v14 x8) x33 x5

def d_n14 (v0 : Elt F .f32) (v1 : Elt F .f32) (x3 : S256x4096.Idx → Elt F .bf16) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x33 : S4096x256.Idx → Elt F .bf16) (x37 : S1x4096.Idx → Elt F .f32) (x38 : S1x4096.Idx → Elt F .bf16) (x39 : S1x4096.Idx → Elt F .bf16) : S4096x256.Idx → Elt F .bf16 :=
  w4_14 (d_v82 x9) (d_v84 x9) (d_v101 v0 x5 x8 x32) (d_v114 v0 x5 x8 x32) (d_v156 v0 v1 x3 x5 x6 x7 x8 x9 x10 x32 x37 x38 x39) v0 (d_v16 x9) x33 x6

def d_n15 (v0 : Elt F .f32) (v1 : Elt F .f32) (x3 : S256x4096.Idx → Elt F .bf16) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x38 : S1x4096.Idx → Elt F .bf16) (x39 : S1x4096.Idx → Elt F .bf16) : S256x4096.Idx → Elt F .bf16 :=
  w4_15 (d_v126 v0 v1 x5 x6 x8 x9 x32) x3 v1 x10 x7 x38 x39

def d_n18 (v0 : Elt F .f32) (v1 : Elt F .f32) (x3 : S256x4096.Idx → Elt F .bf16) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x38 : S1x4096.Idx → Elt F .bf16) (x39 : S1x4096.Idx → Elt F .bf16) (y18 : S8x4096.Idx → Elt F .f32) : S8x4096.Idx → Elt F .f32 :=
  w4_18 (d_v126 v0 v1 x5 x6 x8 x9 x32) y18 x3 v1 x10 x7 x38 x39

def d_n24 (v0 : Elt F .f32) (v1 : Elt F .f32) (x5 : S4096x256.Idx → Elt F .bf16) (x6 : S4096x256.Idx → Elt F .bf16) (x7 : S256x4096.Idx → Elt F .bf16) (x8 : S1x256.Idx → Elt F .f32) (x9 : S1x256.Idx → Elt F .f32) (x32 : S256x4096.Idx → Elt F .bf16) (x37 : S1x4096.Idx → Elt F .f32) (x38 : S1x4096.Idx → Elt F .bf16) (x39 : S1x4096.Idx → Elt F .bf16) (y24 : S256x4096.Idx → Elt F .f32) : S256x4096.Idx → Elt F .f32 :=
  w4_24 (d_v126 v0 v1 x5 x6 x8 x9 x32) y24 (d_n36 x7 x37 x38 x39)

def d_n26 (v0 : Elt F .f32) (v1 : Elt F .f32) (x3 : S256x4096.Idx → Elt F .bf16) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x37 : S1x4096.Idx → Elt F .f32) (x38 : S1x4096.Idx → Elt F .bf16) (x39 : S1x4096.Idx → Elt F .bf16) (y26 : S256x4096.Idx → Elt F .f32) : S256x4096.Idx → Elt F .f32 :=
  w4_26 (d_v101 v0 x5 x8 x32) (d_v114 v0 x5 x8 x32) (d_v158 v0 v1 x3 x5 x6 x7 x8 x9 x10 x32 x37 x38 x39) (Scalar.ofBits .f32 0x3F800000#32) (d_v156 v0 v1 x3 x5 x6 x7 x8 x9 x10 x32 x37 x38 x39) y26 (d_n34 x5 x8) (d_n35 x6 x9)

def d_n4a0 (v0 : Elt F .f32) (v1 : Elt F .f32) (x3 : S256x4096.Idx → Elt F .bf16) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x33 : S4096x256.Idx → Elt F .bf16) (x37 : S1x4096.Idx → Elt F .f32) (x38 : S1x4096.Idx → Elt F .bf16) (x39 : S1x4096.Idx → Elt F .bf16) : FVec F S8x256 .f32 :=
  w4_a0 x5 (d_v101 v0 x5 x8 x32) (d_v114 v0 x5 x8 x32) (d_v158 v0 v1 x3 x5 x6 x7 x8 x9 x10 x32 x37 x38 x39) (Scalar.ofBits .f32 0x3F800000#32) v0 (d_v14 x8) x33 (d_v48 x8) (d_v50 x8)

def d_n4a1 (v0 : Elt F .f32) (v1 : Elt F .f32) (x3 : S256x4096.Idx → Elt F .bf16) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x33 : S4096x256.Idx → Elt F .bf16) (x37 : S1x4096.Idx → Elt F .f32) (x38 : S1x4096.Idx → Elt F .bf16) (x39 : S1x4096.Idx → Elt F .bf16) : FVec F S8x256 .f32 :=
  w4_a1 (d_v82 x9) (d_v84 x9) (d_v101 v0 x5 x8 x32) (d_v114 v0 x5 x8 x32) (d_v156 v0 v1 x3 x5 x6 x7 x8 x9 x10 x32 x37 x38 x39) v0 (d_v16 x9) x33 x6

def d_n16 (v0 : Elt F .f32) (v1 : Elt F .f32) (x3 : S256x4096.Idx → Elt F .bf16) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x33 : S4096x256.Idx → Elt F .bf16) (x37 : S1x4096.Idx → Elt F .f32) (x38 : S1x4096.Idx → Elt F .bf16) (x39 : S1x4096.Idx → Elt F .bf16) : FVec F S1x256 .f32 :=
  k0_pay136 v0 (d_v22 x8) (d_v93 x5 x8 x32) (d_v101 v0 x5 x8 x32) (d_v114 v0 x5 x8 x32) (d_v158 v0 v1 x3 x5 x6 x7 x8 x9 x10 x32 x37 x38 x39) (Scalar.ofBits .f32 0x3F800000#32) (d_n4a0 v0 v1 x3 x5 x6 x7 x8 x9 x10 x32 x33 x37 x38 x39)

def d_v199 (v0 : Elt F .f32) (v1 : Elt F .f32) (x3 : S256x4096.Idx → Elt F .bf16) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x37 : S1x4096.Idx → Elt F .f32) (x38 : S1x4096.Idx → Elt F .bf16) (x39 : S1x4096.Idx → Elt F .bf16) : FVec F S256x256 .f32 :=
  k0_pay137 (d_v101 v0 x5 x8 x32) (d_v114 v0 x5 x8 x32) (d_v156 v0 v1 x3 x5 x6 x7 x8 x9 x10 x32 x37 x38 x39)

def d_n17 (v0 : Elt F .f32) (v1 : Elt F .f32) (x3 : S256x4096.Idx → Elt F .bf16) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x33 : S4096x256.Idx → Elt F .bf16) (x37 : S1x4096.Idx → Elt F .f32) (x38 : S1x4096.Idx → Elt F .bf16) (x39 : S1x4096.Idx → Elt F .bf16) : FVec F S1x256 .f32 :=
  k0_pay1 v0 (d_v56 x9) (d_v95 x6 x9 x32) (d_n4a1 v0 v1 x3 x5 x6 x7 x8 x9 x10 x32 x33 x37 x38 x39) (d_v199 v0 v1 x3 x5 x6 x7 x8 x9 x10 x32 x37 x38 x39)

def d_e6 (v0 : Elt F .f32) : FVec F S1x1 .f32 :=
  k0_pay80 v0

def d_e217 (x2 : S256x4096.Idx → Elt F .bf16) : FVec F S256x128 .f32 :=
  w5_a0 x2

def d_e11 (v0 : Elt F .f32) (v1 : Elt F .f32) (x2 : S256x4096.Idx → Elt F .bf16) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x37 : S1x4096.Idx → Elt F .f32) (x38 : S1x4096.Idx → Elt F .bf16) (x39 : S1x4096.Idx → Elt F .bf16) (y24 : S256x4096.Idx → Elt F .f32) : S256x4096.Idx → Elt F .bf16 :=
  w6_11 v1 x2 (d_n24 v0 v1 x5 x6 x7 x8 x9 x32 x37 x38 x39 y24) x10

def d_e18 (v0 : Elt F .f32) (v1 : Elt F .f32) (x3 : S256x4096.Idx → Elt F .bf16) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x37 : S1x4096.Idx → Elt F .f32) (x38 : S1x4096.Idx → Elt F .bf16) (x39 : S1x4096.Idx → Elt F .bf16) (y18 : S8x4096.Idx → Elt F .f32) (y24 : S256x4096.Idx → Elt F .f32) : S8x4096.Idx → Elt F .f32 :=
  w6_18 v1 (d_n24 v0 v1 x5 x6 x7 x8 x9 x32 x37 x38 x39 y24) x3 (d_n18 v0 v1 x3 x5 x6 x7 x8 x9 x10 x32 x38 x39 y18) x37

def d_e21 (v0 : Elt F .f32) (v1 : Elt F .f32) (x2 : S256x4096.Idx → Elt F .bf16) (x3 : S256x4096.Idx → Elt F .bf16) (x4 : S1x4096.Idx → Elt F .f32) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x37 : S1x4096.Idx → Elt F .f32) (x38 : S1x4096.Idx → Elt F .bf16) (x39 : S1x4096.Idx → Elt F .bf16) (y26 : S256x4096.Idx → Elt F .f32) : S1x4096.Idx → Elt F .f32 :=
  w6_21 (d_e217 x2) x2 (d_n26 v0 v1 x3 x5 x6 x7 x8 x9 x10 x32 x37 x38 x39 y26) (d_e6 v0) x4

def d_e24 (v0 : Elt F .f32) (v1 : Elt F .f32) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x37 : S1x4096.Idx → Elt F .f32) (x38 : S1x4096.Idx → Elt F .bf16) (x39 : S1x4096.Idx → Elt F .bf16) (y24 : S256x4096.Idx → Elt F .f32) : S256x4096.Idx → Elt F .f32 :=
  w6_24 v1 (d_n24 v0 v1 x5 x6 x7 x8 x9 x32 x37 x38 x39 y24) x10

def d_ea0 (v0 : Elt F .f32) (v1 : Elt F .f32) (x2 : S256x4096.Idx → Elt F .bf16) (x3 : S256x4096.Idx → Elt F .bf16) (x4 : S1x4096.Idx → Elt F .f32) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x37 : S1x4096.Idx → Elt F .f32) (x38 : S1x4096.Idx → Elt F .bf16) (x39 : S1x4096.Idx → Elt F .bf16) (y26 : S256x4096.Idx → Elt F .f32) : FVec F S256x128 .f32 :=
  w6_a0 (d_e6 v0) (d_e217 x2) x2 (d_n26 v0 v1 x3 x5 x6 x7 x8 x9 x10 x32 x37 x38 x39 y26) x4

def d_ea1 (v0 : Elt F .f32) (v1 : Elt F .f32) (x2 : S256x4096.Idx → Elt F .bf16) (x3 : S256x4096.Idx → Elt F .bf16) (x4 : S1x4096.Idx → Elt F .f32) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x37 : S1x4096.Idx → Elt F .f32) (x38 : S1x4096.Idx → Elt F .bf16) (x39 : S1x4096.Idx → Elt F .bf16) (y26 : S256x4096.Idx → Elt F .f32) : FVec F S256x128 .f32 :=
  w6_a1 (d_e6 v0) (d_e217 x2) x2 (d_n26 v0 v1 x3 x5 x6 x7 x8 x9 x10 x32 x37 x38 x39 y26) x4

def d_ea2 (v0 : Elt F .f32) (v1 : Elt F .f32) (x2 : S256x4096.Idx → Elt F .bf16) (x3 : S256x4096.Idx → Elt F .bf16) (x4 : S1x4096.Idx → Elt F .f32) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x37 : S1x4096.Idx → Elt F .f32) (x38 : S1x4096.Idx → Elt F .bf16) (x39 : S1x4096.Idx → Elt F .bf16) (y26 : S256x4096.Idx → Elt F .f32) : FVec F S256x128 .f32 :=
  w6_a2 x2 (d_n26 v0 v1 x3 x5 x6 x7 x8 x9 x10 x32 x37 x38 x39 y26) x4 (d_e6 v0) (d_e217 x2)

def d_e224 (x2 : S256x4096.Idx → Elt F .bf16) : FVec F S256x1 .f32 :=
  k0_pay62 (d_e217 x2)

def d_e231 (v0 : Elt F .f32) (v1 : Elt F .f32) (x2 : S256x4096.Idx → Elt F .bf16) (x3 : S256x4096.Idx → Elt F .bf16) (x4 : S1x4096.Idx → Elt F .f32) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x37 : S1x4096.Idx → Elt F .f32) (x38 : S1x4096.Idx → Elt F .bf16) (x39 : S1x4096.Idx → Elt F .bf16) (y26 : S256x4096.Idx → Elt F .f32) : FVec F S256x1 .f32 :=
  k0_pay67 (d_ea0 v0 v1 x2 x3 x4 x5 x6 x7 x8 x9 x10 x32 x37 x38 x39 y26)

def d_e235 (v0 : Elt F .f32) (v1 : Elt F .f32) (x2 : S256x4096.Idx → Elt F .bf16) (x3 : S256x4096.Idx → Elt F .bf16) (x4 : S1x4096.Idx → Elt F .f32) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x37 : S1x4096.Idx → Elt F .f32) (x38 : S1x4096.Idx → Elt F .bf16) (x39 : S1x4096.Idx → Elt F .bf16) (y26 : S256x4096.Idx → Elt F .f32) : FVec F S256x1 .f32 :=
  k0_pay68 (d_ea1 v0 v1 x2 x3 x4 x5 x6 x7 x8 x9 x10 x32 x37 x38 x39 y26)

def d_e240 (v0 : Elt F .f32) (v1 : Elt F .f32) (x3 : S256x4096.Idx → Elt F .bf16) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x37 : S1x4096.Idx → Elt F .f32) (x38 : S1x4096.Idx → Elt F .bf16) (x39 : S1x4096.Idx → Elt F .bf16) (y40 : S256x128.Idx → Elt F .f32) : FVec F S256x1 .f32 :=
  k0_pay69 (d_n40 v0 v1 x3 x5 x6 x7 x8 x9 x10 x32 x37 x38 x39 y40)

def d_e245 (v0 : Elt F .f32) (v1 : Elt F .f32) (x3 : S256x4096.Idx → Elt F .bf16) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x37 : S1x4096.Idx → Elt F .f32) (x38 : S1x4096.Idx → Elt F .bf16) (x39 : S1x4096.Idx → Elt F .bf16) (y41 : S256x128.Idx → Elt F .f32) : FVec F S256x1 .f32 :=
  k0_pay70 (d_n41 v0 v1 x3 x5 x6 x7 x8 x9 x10 x32 x37 x38 x39 y41)

def d_e247 (v0 : Elt F .f32) (v1 : Elt F .f32) (x2 : S256x4096.Idx → Elt F .bf16) (x3 : S256x4096.Idx → Elt F .bf16) (x4 : S1x4096.Idx → Elt F .f32) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x37 : S1x4096.Idx → Elt F .f32) (x38 : S1x4096.Idx → Elt F .bf16) (x39 : S1x4096.Idx → Elt F .bf16) (y26 : S256x4096.Idx → Elt F .f32) : FVec F S256x1 .f32 :=
  k0_pay71 (d_ea2 v0 v1 x2 x3 x4 x5 x6 x7 x8 x9 x10 x32 x37 x38 x39 y26)

def d_e250 (v0 : Elt F .f32) (v1 : Elt F .f32) (x2 : S256x4096.Idx → Elt F .bf16) (x3 : S256x4096.Idx → Elt F .bf16) (x4 : S1x4096.Idx → Elt F .f32) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x37 : S1x4096.Idx → Elt F .f32) (x38 : S1x4096.Idx → Elt F .bf16) (x39 : S1x4096.Idx → Elt F .bf16) (y26 : S256x4096.Idx → Elt F .f32) : FVec F S256x1 .f32 :=
  k0_pay72 (d_e224 x2) (d_e247 v0 v1 x2 x3 x4 x5 x6 x7 x8 x9 x10 x32 x37 x38 x39 y26) (Scalar.ofBits .f32 0x39800000#32)

def d_e277 (v0 : Elt F .f32) (v1 : Elt F .f32) (x3 : S256x4096.Idx → Elt F .bf16) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x37 : S1x4096.Idx → Elt F .f32) (x38 : S1x4096.Idx → Elt F .bf16) (x39 : S1x4096.Idx → Elt F .bf16) (y40 : S256x128.Idx → Elt F .f32) (y41 : S256x128.Idx → Elt F .f32) : FVec F S256x1 .f32 :=
  k0_pay78 (d_e240 v0 v1 x3 x5 x6 x7 x8 x9 x10 x32 x37 x38 x39 y40) (d_e245 v0 v1 x3 x5 x6 x7 x8 x9 x10 x32 x37 x38 x39 y41)

def d_e281 (v0 : Elt F .f32) (v1 : Elt F .f32) (x2 : S256x4096.Idx → Elt F .bf16) (x3 : S256x4096.Idx → Elt F .bf16) (x4 : S1x4096.Idx → Elt F .f32) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x37 : S1x4096.Idx → Elt F .f32) (x38 : S1x4096.Idx → Elt F .bf16) (x39 : S1x4096.Idx → Elt F .bf16) (y26 : S256x4096.Idx → Elt F .f32) : FVec F S8x128 .f32 :=
  k0_pay79 (d_e231 v0 v1 x2 x3 x4 x5 x6 x7 x8 x9 x10 x32 x37 x38 x39 y26) (d_e235 v0 v1 x2 x3 x4 x5 x6 x7 x8 x9 x10 x32 x37 x38 x39 y26)

def d_e12 (v0 : Elt F .f32) (v1 : Elt F .f32) (x2 : S256x4096.Idx → Elt F .bf16) (x3 : S256x4096.Idx → Elt F .bf16) (x4 : S1x4096.Idx → Elt F .f32) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x32 : S256x4096.Idx → Elt F .bf16) (x37 : S1x4096.Idx → Elt F .f32) (x38 : S1x4096.Idx → Elt F .bf16) (x39 : S1x4096.Idx → Elt F .bf16) (y26 : S256x4096.Idx → Elt F .f32) : S256x4096.Idx → Elt F .bf16 :=
  w7_12 (d_e6 v0) (d_e224 x2) (d_e250 v0 v1 x2 x3 x4 x5 x6 x7 x8 x9 x10 x32 x37 x38 x39 y26) x2 x4 (d_n26 v0 v1 x3 x5 x6 x7 x8 x9 x10 x32 x37 x38 x39 y26) x3

/-- A called part, by what is proved of it. -/
theorem use_part {α β : Type} (c : Dev nD) {p : Prog (TpuEff nD τ sig (Elt F) Λ₀ .tc) α} {P : sProp 𝕄G} {Q : α → sProp 𝕄G}
    {k : α → Prog (TpuEff nD τ sig (Elt F) Λ₀ .tc) β} {R : β → sProp 𝕄G}
    (h : P ⊢ wp frame (wpE (defs₀ (F := F)) Variants.none (c : Thread nD τ) none) Set.univ p Q) :
    P ⊢ iprop((∀ a, Q a -∗ wp frame (wpE (defs₀ (F := F)) Variants.none (c : Thread nD τ) none) Set.univ (k a) R)
      -∗ wp frame (wpE (defs₀ (F := F)) Variants.none (c : Thread nD τ) none) Set.univ (p >>= k) R) := by
  rw [wp_bind]
  iintro HP HK
  iapply (wp_wand frame (wpE (defs₀ (F := F)) Variants.none (c : Thread nD τ) none) Set.univ) $$ [HP]
  · iapply h; iexact HP
  iexact HK

end Cert.KernelIdeal.Hand

end
-- ==== Proof.KernelIdeal.PartA.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Pipeline.Frame
public import Idealize.ShloMosaic.Lib.WritesUnit
public import proofs.«01_k».proof.Proof.Slab
public import proofs.«01_k».proof.Proof.KernelIdeal.Spec

@[expose] public section

set_option maxRecDepth 16384
set_option maxHeartbeats 4000000

noncomputable section

namespace Cert.KernelIdeal.Hand

open Cert.KernelIdeal Cert.KernelIdeal.Gen
open Cert.Slab
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ
variable (arg1 : Memref sig .tc .smem S2 .f32) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S256x4096 .bf16) (harg15 : arg15.IsWhole) (arg16 : Memref sig .tc .vmem S1x256 .f32) (harg16 : arg16.IsWhole) (arg17 : Memref sig .tc .vmem S1x256 .f32) (harg17 : arg17.IsWhole) (arg18 : Memref sig .tc .vmem S8x4096 .f32) (harg18 : arg18.IsWhole) (arg19 : Memref sig .tc .vmem S5x256x128 .f32) (harg19 : arg19.IsWhole) (arg20 : Memref sig .tc .vmem S2x8x128 .f32) (harg20 : arg20.IsWhole) (arg21 : Memref sig .tc .vmem S1x4096 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x4096 .f32) (harg24 : arg24.IsWhole) (arg25 : Memref sig .tc .vmem S256x256 .f32) (harg25 : arg25.IsWhole) (arg26 : Memref sig .tc .vmem S256x4096 .f32) (harg26 : arg26.IsWhole) (arg27 : Memref sig .tc .vmem S256x4096 .i8) (harg27 : arg27.IsWhole) (arg28 : Memref sig .tc .vmem S4096x256 .i8) (harg28 : arg28.IsWhole) (arg29 : Memref sig .tc .vmem S4096x256 .i8) (harg29 : arg29.IsWhole) (arg30 : Memref sig .tc .vmem S256x256 .i8) (harg30 : arg30.IsWhole) (arg31 : Memref sig .tc .vmem S256x4096 .i8) (harg31 : arg31.IsWhole) (arg32 : Memref sig .tc .vmem S256x4096 .bf16) (harg32 : arg32.IsWhole) (arg33 : Memref sig .tc .vmem S4096x256 .bf16) (harg33 : arg33.IsWhole) (arg34 : Memref sig .tc .vmem S4096x256 .bf16) (harg34 : arg34.IsWhole) (arg35 : Memref sig .tc .vmem S4096x256 .bf16) (harg35 : arg35.IsWhole) (arg36 : Memref sig .tc .vmem S256x4096 .bf16) (harg36 : arg36.IsWhole) (arg37 : Memref sig .tc .vmem S1x4096 .f32) (harg37 : arg37.IsWhole) (arg38 : Memref sig .tc .vmem S1x4096 .bf16) (harg38 : arg38.IsWhole) (arg39 : Memref sig .tc .vmem S1x4096 .bf16) (harg39 : arg39.IsWhole) (arg40 : Memref sig .tc .vmem S256x128 .f32) (harg40 : arg40.IsWhole) (arg41 : Memref sig .tc .vmem S256x128 .f32) (harg41 : arg41.IsWhole)

theorem tr1 : Scf.trips k0_t1_loop.lb k0_t1_loop.ub k0_t1_loop.st = 8 := by decide
theorem tr2 : Scf.trips k0_t2_loop.lb k0_t2_loop.ub k0_t2_loop.st = 8 := by decide
theorem tr3 : Scf.trips k0_t3_loop.lb k0_t3_loop.ub k0_t3_loop.st = 8 := by decide
theorem tr4 : Scf.trips k0_t4_loop.lb k0_t4_loop.ub k0_t4_loop.st = 8 := by decide
theorem tr5 : Scf.trips k0_t5_loop.lb k0_t5_loop.ub k0_t5_loop.st = 8 := by decide
theorem tr6 : Scf.trips k0_t6_loop.lb k0_t6_loop.ub k0_t6_loop.st = 8 := by decide
theorem tr7 : Scf.trips k0_t7_loop.lb k0_t7_loop.ub k0_t7_loop.st = 8 := by decide

/-- The first step size. -/
abbrev sv0 (arg1 : Memref sig .tc .smem S2 .f32) (X1 : BufTy.Contents (Elt F) arg1.view.ty) : Elt F .f32 :=
  View.readAt (Elt F) arg1.view (Rect.unit (s := S2) ![0] S1.size inb_S2_S1_0).toLoadRect X1 (Shape.Idx.first (by decide))

/-- The second step size. -/
abbrev sv1 (arg1 : Memref sig .tc .smem S2 .f32) (X1 : BufTy.Contents (Elt F) arg1.view.ty) : Elt F .f32 :=
  View.readAt (Elt F) arg1.view (Rect.unit (s := S2) ![1] S1.size inb_S2_S1_1).toLoadRect X1 (Shape.Idx.first (by decide))

theorem part11_later (c : Dev nD) (i : grid0.Coords)  (k0_h1 : ¬ k0_cond1 i = 1#1) (X1 : BufTy.Contents (Elt F) arg1.view.ty) (X8 : BufTy.Contents (Elt F) arg8.view.ty) (X9 : BufTy.Contents (Elt F) arg9.view.ty) :
  (iprop((arg1.view.loc (c : Thread nD τ) ↦[arg1.view.set]{fullShare} X1) ∗ (arg8.view.loc (c : Thread nD τ) ↦[arg8.view.set]{fullShare} X8) ∗ (arg9.view.loc (c : Thread nD τ) ↦[arg9.view.set]{fullShare} X9)) : sProp 𝕄G)
  ⊢ wp frame (wpE (defs₀ (F := F)) Variants.none (c : Thread nD τ) none) Set.univ (k0_part11 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41  ) (fun r => iprop((arg1.view.loc (c : Thread nD τ) ↦[arg1.view.set]{fullShare} X1) ∗ (arg8.view.loc (c : Thread nD τ) ↦[arg8.view.set]{fullShare} X8) ∗ (arg9.view.loc (c : Thread nD τ) ↦[arg9.view.set]{fullShare} X9) ∗ ⌜r = ⟨BitVec.ofNat 32 (i 0).val, (sv0 arg1 X1), (sv1 arg1 X1), k0_pay80 (sv0 arg1 X1), k0_pay81 (sv1 arg1 X1), k0_pay89 (arg8.view.read (Elt F) X8), k0_pay90 (arg9.view.read (Elt F) X9), k0_pay92 (arg8.view.read (Elt F) X8), k0_pay93 (arg8.view.read (Elt F) X8), k0_pay94 (arg8.view.read (Elt F) X8), k0_pay95 (arg8.view.read (Elt F) X8), Scalar.ofBits .f32 0x40E00000#32⟩⌝)) := by
  rw [k0_part11_eq_skeleton]
  unfold k0_part11_skel
  iintro ⟨H1, H8, H9⟩
  sl_exec
  sl_unfold_run_names
  sl_step
  isplitl [H1]; · iexact H1
  isplitl [H8]; · iexact H8
  isplitl [H9]; · iexact H9
  ipureintro; rw [View.readAt_full arg8.view X8, View.readAt_full arg9.view X9]

theorem part12_sound (c : Dev nD) (i : grid0.Coords) (v16 : FVec F S1x256 .f32) (v34 : FVec F S1x256 .f32) (v38 : FVec F S1x256 .f32) (v39 : FVec F S1x256 .f32) (cst_13 : F .f32)  (X22 : BufTy.Contents (Elt F) arg22.view.ty) :
  (iprop((arg22.view.loc (c : Thread nD τ) ↦[arg22.view.set]{fullShare} X22)) : sProp 𝕄G)
  ⊢ wp frame (wpE (defs₀ (F := F)) Variants.none (c : Thread nD τ) none) Set.univ (k0_part12 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v16 v34 v38 v39 cst_13 ) (fun r => iprop((arg22.view.loc (c : Thread nD τ) ↦[arg22.view.set]{fullShare} X22) ∗ ⌜r = ⟨k0_pay97 v34 v38 v39 cst_13, k0_pay98 v34 v38 v39 cst_13, k0_pay100 v16, k0_pay103 v16, k0_pay104 v16, k0_pay105⟩⌝)) := by
  rw [k0_part12_eq_skeleton]
  unfold k0_part12_skel
  iintro H22
  sl_exec
  sl_unfold_run_names
  sl_step
  isplitl [H22]; · iexact H22
  ipureintro; rfl

theorem part14_sound (c : Dev nD) (i : grid0.Coords) (v97 : FVec F S256x256 .f32) (v105 : FVec F S256x256 .f32) (v114 : FVec F S256x256 .f32) (v116 : FVec F S256x256 .f32) (v117 : FVec F S256x256 .f32)  (X40 : BufTy.Contents (Elt F) arg40.view.ty) (X41 : BufTy.Contents (Elt F) arg41.view.ty) :
  (iprop((arg40.view.loc (c : Thread nD τ) ↦[arg40.view.set]{fullShare} X40) ∗ (arg41.view.loc (c : Thread nD τ) ↦[arg41.view.set]{fullShare} X41)) : sProp 𝕄G)
  ⊢ wp frame (wpE (defs₀ (F := F)) Variants.none (c : Thread nD τ) none) Set.univ (k0_part14 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v97 v105 v114 v116 v117 ) (fun r => iprop((∃ f, (arg40.view.loc (c : Thread nD τ) ↦[arg40.view.set]{fullShare} f) ∗ ⌜(arg40.view.read (Elt F) f) = k0_pay120 v97 v116 v117 (arg40.view.read (Elt F) X40)⌝) ∗ (∃ f, (arg41.view.loc (c : Thread nD τ) ↦[arg41.view.set]{fullShare} f) ∗ ⌜(arg41.view.read (Elt F) f) = k0_pay121 v97 v116 v117 (arg41.view.read (Elt F) X41)⌝) ∗ ⌜r = ⟨k0_pay118 v116 v117, k0_pay122 v97 v116 v117, k0_pay123 v97 v105 v114 v116 v117, Scalar.ofBits .f32 0x3F800000#32⟩⌝)) := by
  rw [k0_part14_eq_skeleton]
  unfold k0_part14_skel
  iintro ⟨H40, H41⟩
  sl_exec
  sl_unfold_run_names
  sl_step
  isplitl [H40]
  · iexists _; isplitl [H40]; · iexact H40
    ipureintro; exact store_all _ _ _ _ _ _ (by rw [View.readAt_full arg40.view X40])
  isplitl [H41]
  · iexists _; isplitl [H41]; · iexact H41
    ipureintro; exact store_all _ _ _ _ _ _ (by rw [View.readAt_full arg41.view X41])
  ipureintro; rfl

end Cert.KernelIdeal.Hand

end
-- ==== Proof.KernelIdeal.Words.lean ====
module

public import proofs.«01_k».proof.Proof.KernelIdeal.PartA

@[expose] public section

noncomputable section

namespace Cert.KernelIdeal.Hand

open Cert.KernelIdeal Cert.KernelIdeal.Gen
open Idealize.ShloMosaic Idealize.ShloMosaic.TcCoe

variable {F : FTy → Type} [FloatOps F]

/-- The first activation step size, read off the pair of step sizes. -/
def s0 (x : S2.Idx → Elt F .f32) : Elt F .f32 :=
  x ((Rect.unit (s := S2) ![0] S1.size inb_S2_S1_0).toLoadRect.idx (Shape.Idx.first (by decide)))
/-- The second activation step size, read off the pair of step sizes. -/
def s1 (x : S2.Idx → Elt F .f32) : Elt F .f32 :=
  x ((Rect.unit (s := S2) ![1] S1.size inb_S2_S1_1).toLoadRect.idx (Shape.Idx.first (by decide)))

theorem sv0_eq (arg1 : Memref sig .tc .smem S2 .f32) (X1) : sv0 (F := F) arg1 X1 = s0 (arg1.view.read (Elt F) X1) := rfl
theorem sv1_eq (arg1 : Memref sig .tc .smem S2 .f32) (X1) : sv1 (F := F) arg1 X1 = s1 (arg1.view.read (Elt F) X1) := rfl

open Idealize.SL Idealize.SL.RA Idealize.SL.BI
open scoped Idealize.SL.BI
open Idealize.SL.BI.BIBase Idealize.SL.BI.Laws Idealize.SL.ProofMode Idealize.SL.Sem

local notation "𝕄G" => MT nD τ sig Unit (Elt F) ℕ (UR sig nD τ) ℕ

/-- A whole program, by what is proved of it. -/
theorem use_whole {α : Type} (c : Dev nD) {p : Prog (TpuEff nD τ sig (Elt F) Λ₀ .tc) α} {P R : sProp 𝕄G} {Q : α → sProp 𝕄G}
    (h : P ⊢ wp frame (wpE (defs₀ (F := F)) Variants.none (c : Thread nD τ) none) Set.univ p Q) :
    P ⊢ iprop((∀ a, Q a -∗ R)
      -∗ wp frame (wpE (defs₀ (F := F)) Variants.none (c : Thread nD τ) none) Set.univ p (fun _ => R)) := by
  iintro HP HK
  iapply (wp_wand frame (wpE (defs₀ (F := F)) Variants.none (c : Thread nD τ) none) Set.univ) $$ [HP]
  · iapply h; iexact HP
  iexact HK

end Cert.KernelIdeal.Hand

end
-- ==== Proof.KernelIdeal.Data.lean ====
module

public import proofs.«01_k».proof.Proof.Gen.KernelIdeal.Skeleton
public import proofs.«01_k».proof.Proof.Gen.KernelIdeal.Frame
public import Idealize.ShloMosaic.Lib.Tactic
public import Idealize.ShloMosaic.Lib.Pipeline.Frame
public import Idealize.ShloMosaic.Lib.Pipeline.FrameBody
public import proofs.«01_k».proof.Proof.KernelIdeal.Spec
public import proofs.«01_k».proof.Proof.KernelIdeal.StepSpec
public import proofs.«01_k».proof.Proof.KernelIdeal.Words

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]

local notation "𝕄G" => MT nD τ sig Unit (Elt F) ℕ (UR sig nD τ) ℕ

variable (m : (ℓ : Loc nD τ sig) → Buf (Elt F) ℓ)

/-! ## The blocks the body reads and what it makes of them -/

/-- The first grid point. -/
def t0 : Fin cfg0.N := ⟨0, by decide⟩
/-- The grid point of number `n` (modulo the number of points). -/
def tt (n : ℕ) : Fin cfg0.N := ⟨n % cfg0.N, Nat.mod_lt _ (by decide)⟩
theorem tt_val (t : Fin cfg0.N) : tt t.val = t := Fin.ext (Nat.mod_eq_of_lt t.isLt)

/-- Operand 1 at point `t`: the block of its window. -/
abbrev b1 (c : Dev nD) (t : Fin cfg0.N) : S2.Idx → Elt F .f32 := iblk m c 0 t
/-- Operand 2 at point `t`: the block of its window. -/
abbrev b2 (c : Dev nD) (t : Fin cfg0.N) : S256x4096.Idx → Elt F .bf16 := iblk m c 1 t
/-- Operand 3 at point `t`: the block of its window. -/
abbrev b3 (c : Dev nD) (t : Fin cfg0.N) : S256x4096.Idx → Elt F .bf16 := iblk m c 2 t
/-- Operand 4 at point `t`: the block of its window. -/
abbrev b4 (c : Dev nD) (t : Fin cfg0.N) : S1x4096.Idx → Elt F .f32 := iblk m c 3 t
/-- Operand 5 at point `t`: the block of its window. -/
abbrev b5 (c : Dev nD) (t : Fin cfg0.N) : S4096x256.Idx → Elt F .bf16 := iblk m c 4 t
/-- Operand 6 at point `t`: the block of its window. -/
abbrev b6 (c : Dev nD) (t : Fin cfg0.N) : S4096x256.Idx → Elt F .bf16 := iblk m c 5 t
/-- Operand 7 at point `t`: the block of its window. -/
abbrev b7 (c : Dev nD) (t : Fin cfg0.N) : S256x4096.Idx → Elt F .bf16 := iblk m c 6 t
/-- Operand 8 at point `t`: the block of its window. -/
abbrev b8 (c : Dev nD) (t : Fin cfg0.N) : S1x256.Idx → Elt F .f32 := iblk m c 7 t
/-- Operand 9 at point `t`: the block of its window. -/
abbrev b9 (c : Dev nD) (t : Fin cfg0.N) : S1x256.Idx → Elt F .f32 := iblk m c 8 t
/-- Operand 10 at point `t`: the block of its window. -/
abbrev b10 (c : Dev nD) (t : Fin cfg0.N) : S1x4096.Idx → Elt F .f32 := iblk m c 9 t

/-! The five scratch arrays that the first point fills and every later one reads. -/
def c32 (c : Dev nD) : S256x4096.Idx → Elt F .bf16 := (w2_32 (s0 (b1 m c t0)) (w1_a0 (b2 m c t0)) (b2 m c t0) (b4 m c t0))
def c33 (c : Dev nD) : S4096x256.Idx → Elt F .bf16 := (w2_33 (s0 (b1 m c t0)) (w1_a0 (b2 m c t0)) (b2 m c t0) (b4 m c t0))
def c37 (c : Dev nD) : S1x4096.Idx → Elt F .f32 := (w2_37 (b10 m c t0))
def c38 (c : Dev nD) : S1x4096.Idx → Elt F .bf16 := (w2_38 (b10 m c t0))
def c39 (c : Dev nD) : S1x4096.Idx → Elt F .bf16 := (w2_39 (b10 m c t0))
/-- The codes of the normalised activations, as the first point leaves them. -/
def cc1 (c : Dev nD) : S256x4096.Idx → Elt F .i8 := (w2_27 (s0 (b1 m c t0)) (w1_a0 (b2 m c t0)) (b2 m c t0) (b4 m c t0))

/-- The running sum held in operand 24 after the first `n` points. -/
def P24 (c : Dev nD) : ℕ → (S256x4096.Idx → Elt F .f32)
  | 0 => w2_24 (F := F)
  | n + 1 => (d_n24 (s0 (b1 m c (tt n))) (s1 (b1 m c (tt n))) (b5 m c (tt n)) (b6 m c (tt n)) (b7 m c (tt n)) (b8 m c (tt n)) (b9 m c (tt n)) (c32 m c) (c37 m c) (c38 m c) (c39 m c) (P24 c n))
theorem P24_succ (c : Dev nD) (t : Fin cfg0.N) : P24 m c (t.val + 1) = (d_n24 (s0 (b1 m c t)) (s1 (b1 m c t)) (b5 m c t) (b6 m c t) (b7 m c t) (b8 m c t) (b9 m c t) (c32 m c) (c37 m c) (c38 m c) (c39 m c) (P24 m c t.val)) := by
  rw [P24, tt_val]

/-- The running sum held in operand 26 after the first `n` points. -/
def P26 (c : Dev nD) : ℕ → (S256x4096.Idx → Elt F .f32)
  | 0 => w2_26 (F := F)
  | n + 1 => (d_n26 (s0 (b1 m c (tt n))) (s1 (b1 m c (tt n))) (b3 m c (tt n)) (b5 m c (tt n)) (b6 m c (tt n)) (b7 m c (tt n)) (b8 m c (tt n)) (b9 m c (tt n)) (b10 m c (tt n)) (c32 m c) (c37 m c) (c38 m c) (c39 m c) (P26 c n))
theorem P26_succ (c : Dev nD) (t : Fin cfg0.N) : P26 m c (t.val + 1) = (d_n26 (s0 (b1 m c t)) (s1 (b1 m c t)) (b3 m c t) (b5 m c t) (b6 m c t) (b7 m c t) (b8 m c t) (b9 m c t) (b10 m c t) (c32 m c) (c37 m c) (c38 m c) (c39 m c) (P26 m c t.val)) := by
  rw [P26, tt_val]

/-! ## What the body leaves in each window -/

/-- What window `w` may hold after point `t`, if it held `Y` before. -/
def afterW (c : Dev nD) (w : Fin 31) (t : Fin cfg0.N) :
    ((cfg0.win w).block.Idx → Elt F (cfg0.win w).elt) → ((cfg0.win w).block.Idx → Elt F (cfg0.win w).elt) → Prop :=
  match w with
  | 0 => fun Y X => X = Y
  | 1 => fun Y X => X = Y
  | 2 => fun Y X => X = Y
  | 3 => fun Y X => X = Y
  | 4 => fun Y X => X = Y
  | 5 => fun Y X => X = Y
  | 6 => fun Y X => X = Y
  | 7 => fun Y X => X = Y
  | 8 => fun Y X => X = Y
  | 9 => fun Y X => X = Y
  | 10 => fun _ X => t.val = 55 → X = ((d_e11 (s0 (b1 m c t)) (s1 (b1 m c t)) (b2 m c t) (b5 m c t) (b6 m c t) (b7 m c t) (b8 m c t) (b9 m c t) (b10 m c t) (c32 m c) (c37 m c) (c38 m c) (c39 m c) (P24 m c t.val)) : S256x4096.Idx → Elt F .bf16)
  | 11 => fun _ X => t.val = 55 → X = ((d_e12 (s0 (b1 m c t)) (s1 (b1 m c t)) (b2 m c t) (b3 m c t) (b4 m c t) (b5 m c t) (b6 m c t) (b7 m c t) (b8 m c t) (b9 m c t) (b10 m c t) (c32 m c) (c37 m c) (c38 m c) (c39 m c) (P26 m c t.val)) : S256x4096.Idx → Elt F .bf16)
  | 12 => fun _ X => X = ((d_n13 (s0 (b1 m c t)) (s1 (b1 m c t)) (b3 m c t) (b5 m c t) (b6 m c t) (b7 m c t) (b8 m c t) (b9 m c t) (b10 m c t) (c32 m c) (c33 m c) (c37 m c) (c38 m c) (c39 m c)) : S4096x256.Idx → Elt F .bf16)
  | 13 => fun _ X => X = ((d_n14 (s0 (b1 m c t)) (s1 (b1 m c t)) (b3 m c t) (b5 m c t) (b6 m c t) (b7 m c t) (b8 m c t) (b9 m c t) (b10 m c t) (c32 m c) (c33 m c) (c37 m c) (c38 m c) (c39 m c)) : S4096x256.Idx → Elt F .bf16)
  | 14 => fun _ X => X = ((d_n15 (s0 (b1 m c t)) (s1 (b1 m c t)) (b3 m c t) (b5 m c t) (b6 m c t) (b7 m c t) (b8 m c t) (b9 m c t) (b10 m c t) (c32 m c) (c38 m c) (c39 m c)) : S256x4096.Idx → Elt F .bf16)
  | 15 => fun _ _ => True
  | 16 => fun _ _ => True
  | 17 => fun _ _ => True
  | 18 => fun _ _ => True
  | 19 => fun _ _ => True
  | 20 => fun _ X => t.val = 55 → X = ((d_e21 (s0 (b1 m c t)) (s1 (b1 m c t)) (b2 m c t) (b3 m c t) (b4 m c t) (b5 m c t) (b6 m c t) (b7 m c t) (b8 m c t) (b9 m c t) (b10 m c t) (c32 m c) (c37 m c) (c38 m c) (c39 m c) (P26 m c t.val)) : S1x4096.Idx → Elt F .f32)
  | 21 => fun _ X => X = ((d_v101 (s0 (b1 m c t)) (b5 m c t) (b8 m c t) (c32 m c)) : S256x256.Idx → Elt F .f32)
  | 22 => fun _ X => X = ((d_v105 (s0 (b1 m c t)) (b6 m c t) (b9 m c t) (c32 m c)) : S256x256.Idx → Elt F .f32)
  | 23 => fun _ X => (t.val ≠ 55 → X = (P24 m c (t.val + 1) : S256x4096.Idx → Elt F .f32)) ∧ (t.val = 55 → X = ((d_e24 (s0 (b1 m c t)) (s1 (b1 m c t)) (b5 m c t) (b6 m c t) (b7 m c t) (b8 m c t) (b9 m c t) (b10 m c t) (c32 m c) (c37 m c) (c38 m c) (c39 m c) (P24 m c t.val)) : S256x4096.Idx → Elt F .f32))
  | 24 => fun _ X => X = ((d_DA (b3 m c t) (b7 m c t) (b10 m c t) (c37 m c) (c38 m c) (c39 m c)) : S256x256.Idx → Elt F .f32)
  | 25 => fun _ X => X = (P26 m c (t.val + 1) : S256x4096.Idx → Elt F .f32)
  | 26 => fun _ X => X = (cc1 m c : S256x4096.Idx → Elt F .i8)
  | 27 => fun _ X => X = ((d_n28 (b5 m c t) (b8 m c t)) : S4096x256.Idx → Elt F .i8)
  | 28 => fun _ X => X = ((d_n29 (b6 m c t) (b9 m c t)) : S4096x256.Idx → Elt F .i8)
  | 29 => fun _ X => X = ((d_n30 (s0 (b1 m c t)) (s1 (b1 m c t)) (b5 m c t) (b6 m c t) (b8 m c t) (b9 m c t) (c32 m c)) : S256x256.Idx → Elt F .i8)
  | 30 => fun _ X => X = ((d_n31 (b7 m c t) (c37 m c) (c38 m c) (c39 m c)) : S256x4096.Idx → Elt F .i8)
  | ⟨_ + 31, h⟩ => absurd h (Nat.not_lt.2 (Nat.le_add_left _ _))

/-! ## The invariant between the points -/

/-- The scratch arrays at any contents, and the generator register. -/
def PhiAny (c : Dev nD) : sProp 𝕄G :=
  iprop((∃ x, owns (c : Thread nD τ) (Memref.whole cc0_scratch0) fullShare x) ∗ (∃ x, owns (c : Thread nD τ) (Memref.whole cc0_scratch1) fullShare x) ∗ (∃ x, owns (c : Thread nD τ) (Memref.whole cc0_scratch2) fullShare x) ∗ (∃ x, owns (c : Thread nD τ) (Memref.whole cc0_scratch3) fullShare x) ∗ (∃ x, owns (c : Thread nD τ) (Memref.whole cc0_scratch4) fullShare x) ∗ (∃ x, owns (c : Thread nD τ) (Memref.whole cc0_scratch5) fullShare x) ∗ (∃ x, owns (c : Thread nD τ) (Memref.whole cc0_scratch6) fullShare x) ∗ (∃ x, owns (c : Thread nD τ) (Memref.whole cc0_scratch7) fullShare x) ∗ (∃ x, owns (c : Thread nD τ) (Memref.whole cc0_scratch8) fullShare x) ∗ (∃ x, owns (c : Thread nD τ) (Memref.whole cc0_scratch9) fullShare x) ∗ (∃ r, prngReg c r))
/-- After the first point: the five arrays it filled at their contents, the others at any. -/
def PhiOwn (c : Dev nD) : sProp 𝕄G :=
  iprop(owns (c : Thread nD τ) (Memref.whole cc0_scratch0) fullShare (c32 m c) ∗ owns (c : Thread nD τ) (Memref.whole cc0_scratch1) fullShare (c33 m c) ∗ (∃ x, owns (c : Thread nD τ) (Memref.whole cc0_scratch2) fullShare x) ∗ (∃ x, owns (c : Thread nD τ) (Memref.whole cc0_scratch3) fullShare x) ∗ (∃ x, owns (c : Thread nD τ) (Memref.whole cc0_scratch4) fullShare x) ∗ owns (c : Thread nD τ) (Memref.whole cc0_scratch5) fullShare (c37 m c) ∗ owns (c : Thread nD τ) (Memref.whole cc0_scratch6) fullShare (c38 m c) ∗ owns (c : Thread nD τ) (Memref.whole cc0_scratch7) fullShare (c39 m c) ∗ (∃ x, owns (c : Thread nD τ) (Memref.whole cc0_scratch8) fullShare x) ∗ (∃ x, owns (c : Thread nD τ) (Memref.whole cc0_scratch9) fullShare x) ∗ (∃ r, prngReg c r))

theorem PhiA_eq (c : Dev nD) : (Pipeline.ΦA spec0 c : sProp 𝕄G) ⊣⊢ PhiAny c := by
  have h : (Pipeline.ΦA spec0 c : sProp 𝕄G) = iprop(Pipeline.scopedRest spec0 c ∗ ∃ r, prngReg c r) := rfl
  rw [h, scopedRest0_eq]; unfold PhiAny; simp only [owns_whole]
  constructor
  · iintro ⟨⟨H0, H1, H2, H3, H4, H5, H6, H7, H8, H9⟩, Hg⟩
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact Hg
  · iintro ⟨H0, H1, H2, H3, H4, H5, H6, H7, H8, H9, Hg⟩
    isplitr [Hg]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    iexact Hg

theorem PhiOwn_any (c : Dev nD) : PhiOwn m c ⊢ (PhiAny c : sProp 𝕄G) := by
  unfold PhiOwn PhiAny
  iintro ⟨H0, H1, H2, H3, H4, H5, H6, H7, H8, H9, Hg⟩
  isplitl [H0]; · iexists _; iexact H0
  isplitl [H1]; · iexists _; iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [H8]; · iexact H8
  isplitl [H9]; · iexact H9
  iexact Hg

/-! ## The relational proof data -/

def rdat (c : Dev nD) : RDat τ (Elt F) Unit ℕ (UR sig nD τ) ℕ cfg0 c where
  A w := V m c (Pipeline.arrRef spec0 w)
  after w t Y X := afterW m c w t Y X
  Φ t := if t.val = 0 then PhiAny c else PhiOwn m c
  q _ := fullShare
  owed _ := 0
  recorded _ := Set.univ

theorem rdat_A (c : Dev nD) (w : Fin cfg0.W) : (rdat m c).A w = V m c (Pipeline.arrRef spec0 w) := rfl

/-! What the body may find in each window it reads. -/

theorem finds_0 (c : Dev nD) (t : Fin cfg0.N) (Y) (h : (rdat m c).Finds 0 t Y) : Y = iblk m c 0 t := by
  obtain ⟨d, rfl⟩ := (rdat m c).finds_in_eq_fetched 0 rfl (fun _ _ _ => rfl) (fun _ _ _ hX => hX) t Y h
  unfold RDat.fetched RDat.blockOf iblk; rw [rdat_A]; rfl
theorem finds_1 (c : Dev nD) (t : Fin cfg0.N) (Y) (h : (rdat m c).Finds 1 t Y) : Y = iblk m c 1 t := by
  obtain ⟨d, rfl⟩ := (rdat m c).finds_in_eq_fetched 1 rfl (fun _ _ _ => rfl) (fun _ _ _ hX => hX) t Y h
  unfold RDat.fetched RDat.blockOf iblk; rw [rdat_A]; rfl
theorem finds_2 (c : Dev nD) (t : Fin cfg0.N) (Y) (h : (rdat m c).Finds 2 t Y) : Y = iblk m c 2 t := by
  obtain ⟨d, rfl⟩ := (rdat m c).finds_in_eq_fetched 2 rfl (fun _ _ _ => rfl) (fun _ _ _ hX => hX) t Y h
  unfold RDat.fetched RDat.blockOf iblk; rw [rdat_A]; rfl
theorem finds_3 (c : Dev nD) (t : Fin cfg0.N) (Y) (h : (rdat m c).Finds 3 t Y) : Y = iblk m c 3 t := by
  obtain ⟨d, rfl⟩ := (rdat m c).finds_in_eq_fetched 3 rfl (fun _ _ _ => rfl) (fun _ _ _ hX => hX) t Y h
  unfold RDat.fetched RDat.blockOf iblk; rw [rdat_A]; rfl
theorem finds_4 (c : Dev nD) (t : Fin cfg0.N) (Y) (h : (rdat m c).Finds 4 t Y) : Y = iblk m c 4 t := by
  obtain ⟨d, rfl⟩ := (rdat m c).finds_in_eq_fetched 4 rfl (fun _ _ _ => rfl) (fun _ _ _ hX => hX) t Y h
  unfold RDat.fetched RDat.blockOf iblk; rw [rdat_A]; rfl
theorem finds_5 (c : Dev nD) (t : Fin cfg0.N) (Y) (h : (rdat m c).Finds 5 t Y) : Y = iblk m c 5 t := by
  obtain ⟨d, rfl⟩ := (rdat m c).finds_in_eq_fetched 5 rfl (fun _ _ _ => rfl) (fun _ _ _ hX => hX) t Y h
  unfold RDat.fetched RDat.blockOf iblk; rw [rdat_A]; rfl
theorem finds_6 (c : Dev nD) (t : Fin cfg0.N) (Y) (h : (rdat m c).Finds 6 t Y) : Y = iblk m c 6 t := by
  obtain ⟨d, rfl⟩ := (rdat m c).finds_in_eq_fetched 6 rfl (fun _ _ _ => rfl) (fun _ _ _ hX => hX) t Y h
  unfold RDat.fetched RDat.blockOf iblk; rw [rdat_A]; rfl
theorem finds_7 (c : Dev nD) (t : Fin cfg0.N) (Y) (h : (rdat m c).Finds 7 t Y) : Y = iblk m c 7 t := by
  obtain ⟨d, rfl⟩ := (rdat m c).finds_in_eq_fetched 7 rfl (fun _ _ _ => rfl) (fun _ _ _ hX => hX) t Y h
  unfold RDat.fetched RDat.blockOf iblk; rw [rdat_A]; rfl
theorem finds_8 (c : Dev nD) (t : Fin cfg0.N) (Y) (h : (rdat m c).Finds 8 t Y) : Y = iblk m c 8 t := by
  obtain ⟨d, rfl⟩ := (rdat m c).finds_in_eq_fetched 8 rfl (fun _ _ _ => rfl) (fun _ _ _ hX => hX) t Y h
  unfold RDat.fetched RDat.blockOf iblk; rw [rdat_A]; rfl
theorem finds_9 (c : Dev nD) (t : Fin cfg0.N) (Y) (h : (rdat m c).Finds 9 t Y) : Y = iblk m c 9 t := by
  obtain ⟨d, rfl⟩ := (rdat m c).finds_in_eq_fetched 9 rfl (fun _ _ _ => rfl) (fun _ _ _ hX => hX) t Y h
  unfold RDat.fetched RDat.blockOf iblk; rw [rdat_A]; rfl

/-- The point before `t`. -/
abbrev prev (t : Fin cfg0.N) : Fin cfg0.N := ⟨t.val - 1, Nat.lt_of_le_of_lt (Nat.sub_le _ _) t.isLt⟩

theorem finds_23 (c : Dev nD) (t : Fin cfg0.N) (ht : t.val ≠ 0) (X) (h : (rdat m c).Finds 23 t X) : X = (P24 m c t.val : S256x4096.Idx → Elt F .f32) := by
  have hN : t.val < 56 := lt_of_lt_of_eq t.isLt N_0
  rcases ((rdat m c).finds_of_pos (w := 23) (t := t) rfl ht X).mp h with hfl | ⟨Y', hY', hX⟩
  · exact absurd ((flush0_23 (prev t)).mp hfl) (by show (t.val - 1) % 56 ≠ 55; omega)
  have h1 := hX.1 (by show t.val - 1 ≠ 55; omega)
  rw [h1]; show P24 m c (t.val - 1 + 1) = _; rw [Nat.sub_add_cancel (Nat.pos_of_ne_zero ht)]
theorem finds_25 (c : Dev nD) (t : Fin cfg0.N) (ht : t.val ≠ 0) (X) (h : (rdat m c).Finds 25 t X) : X = (P26 m c t.val : S256x4096.Idx → Elt F .f32) := by
  have hN : t.val < 56 := lt_of_lt_of_eq t.isLt N_0
  rcases ((rdat m c).finds_of_pos (w := 25) (t := t) rfl ht X).mp h with hfl | ⟨Y', hY', hX⟩
  · exact absurd ((flush0_25 (prev t)).mp hfl) (by show (t.val - 1) % 56 ≠ 55; omega)
  have h1 : X = P26 m c (t.val - 1 + 1) := hX
  rw [h1, Nat.sub_add_cancel (Nat.pos_of_ne_zero ht)]
theorem finds_26 (c : Dev nD) (t : Fin cfg0.N) (ht : t.val ≠ 0) (X) (h : (rdat m c).Finds 26 t X) : X = (cc1 m c : S256x4096.Idx → Elt F .i8) := by
  have hN : t.val < 56 := lt_of_lt_of_eq t.isLt N_0
  rcases ((rdat m c).finds_of_pos (w := 26) (t := t) rfl ht X).mp h with hfl | ⟨Y', hY', hX⟩
  · exact absurd ((flush0_26 (prev t)).mp hfl) (by show (t.val - 1) % 56 ≠ 55; omega)
  exact hX

end Cert.KernelIdeal.Hand

end
-- ==== Proof.KernelIdeal.LoopsB.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Pipeline.Frame
public import Idealize.ShloMosaic.Lib.WritesUnit
public import proofs.«01_k».proof.Proof.Slab

@[expose] public section

set_option maxRecDepth 16384
set_option maxHeartbeats 4000000

noncomputable section

namespace Cert.KernelIdeal.Hand

open Cert.KernelIdeal Cert.KernelIdeal.Gen
open Cert.Slab
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ
variable (arg1 : Memref sig .tc .smem S2 .f32) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S256x4096 .bf16) (harg15 : arg15.IsWhole) (arg16 : Memref sig .tc .vmem S1x256 .f32) (harg16 : arg16.IsWhole) (arg17 : Memref sig .tc .vmem S1x256 .f32) (harg17 : arg17.IsWhole) (arg18 : Memref sig .tc .vmem S8x4096 .f32) (harg18 : arg18.IsWhole) (arg19 : Memref sig .tc .vmem S5x256x128 .f32) (harg19 : arg19.IsWhole) (arg20 : Memref sig .tc .vmem S2x8x128 .f32) (harg20 : arg20.IsWhole) (arg21 : Memref sig .tc .vmem S1x4096 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x4096 .f32) (harg24 : arg24.IsWhole) (arg25 : Memref sig .tc .vmem S256x256 .f32) (harg25 : arg25.IsWhole) (arg26 : Memref sig .tc .vmem S256x4096 .f32) (harg26 : arg26.IsWhole) (arg27 : Memref sig .tc .vmem S256x4096 .i8) (harg27 : arg27.IsWhole) (arg28 : Memref sig .tc .vmem S4096x256 .i8) (harg28 : arg28.IsWhole) (arg29 : Memref sig .tc .vmem S4096x256 .i8) (harg29 : arg29.IsWhole) (arg30 : Memref sig .tc .vmem S256x256 .i8) (harg30 : arg30.IsWhole) (arg31 : Memref sig .tc .vmem S256x4096 .i8) (harg31 : arg31.IsWhole) (arg32 : Memref sig .tc .vmem S256x4096 .bf16) (harg32 : arg32.IsWhole) (arg33 : Memref sig .tc .vmem S4096x256 .bf16) (harg33 : arg33.IsWhole) (arg34 : Memref sig .tc .vmem S4096x256 .bf16) (harg34 : arg34.IsWhole) (arg35 : Memref sig .tc .vmem S4096x256 .bf16) (harg35 : arg35.IsWhole) (arg36 : Memref sig .tc .vmem S256x4096 .bf16) (harg36 : arg36.IsWhole) (arg37 : Memref sig .tc .vmem S1x4096 .f32) (harg37 : arg37.IsWhole) (arg38 : Memref sig .tc .vmem S1x4096 .bf16) (harg38 : arg38.IsWhole) (arg39 : Memref sig .tc .vmem S1x4096 .bf16) (harg39 : arg39.IsWhole) (arg40 : Memref sig .tc .vmem S256x128 .f32) (harg40 : arg40.IsWhole) (arg41 : Memref sig .tc .vmem S256x128 .f32) (harg41 : arg41.IsWhole)

/-- Loop 3 of the kernel: what its buffers hold before trip `k`. -/
def inv3 (c : Dev nD) (i : grid0.Coords) (v0 : Elt F .f32) (v9 : FVec F S1x1 .f32) (v14 : FVec F S1x256 .f32) (v16 : FVec F S1x256 .f32) (v22 : FVec F S1x256 .f32) (v48 : FVec F S1x256 .bf16) (v50 : FVec F S1x256 .bf16) (v56 : FVec F S1x256 .f32) (v82 : FVec F S1x256 .bf16) (v84 : FVec F S1x256 .bf16) (v85 : FVec F S256x256 .f32) (X3 : BufTy.Contents (Elt F) arg3.view.ty) (X5 : BufTy.Contents (Elt F) arg5.view.ty) (X6 : BufTy.Contents (Elt F) arg6.view.ty) (X7 : BufTy.Contents (Elt F) arg7.view.ty) (X10 : BufTy.Contents (Elt F) arg10.view.ty) (X32 : BufTy.Contents (Elt F) arg32.view.ty) (X37 : BufTy.Contents (Elt F) arg37.view.ty) (X38 : BufTy.Contents (Elt F) arg38.view.ty) (X39 : BufTy.Contents (Elt F) arg39.view.ty) (y22 : S256x256.Idx → Elt F .f32) (y23 : S256x256.Idx → Elt F .f32) (y25 : S256x256.Idx → Elt F .f32) (y28 : S4096x256.Idx → Elt F .i8) (y29 : S4096x256.Idx → Elt F .i8) (y31 : S256x4096.Idx → Elt F .i8) (y34 : S4096x256.Idx → Elt F .bf16) (y35 : S4096x256.Idx → Elt F .bf16) (y36 : S256x4096.Idx → Elt F .bf16)  : ℕ → PUnit → sProp 𝕄G :=
  fun k _ => iprop((arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg10.view.loc (c : Thread nD τ) ↦[arg10.view.set]{fullShare} X10) ∗ (arg32.view.loc (c : Thread nD τ) ↦[arg32.view.set]{fullShare} X32) ∗ (arg37.view.loc (c : Thread nD τ) ↦[arg37.view.set]{fullShare} X37) ∗ (arg38.view.loc (c : Thread nD τ) ↦[arg38.view.set]{fullShare} X38) ∗ (arg39.view.loc (c : Thread nD τ) ↦[arg39.view.set]{fullShare} X39) ∗ (∃ f, (arg22.view.loc (c : Thread nD τ) ↦[arg22.view.set]{fullShare} f) ∗ ⌜(arg22.view.read (Elt F) f) = accTo (fun j a => k0_pay21 v22 v48 v50 (rs (arg5.view.read (Elt F) X5) j) (cs (arg32.view.read (Elt F) X32) j) a) y22 k⌝) ∗ (∃ f, (arg23.view.loc (c : Thread nD τ) ↦[arg23.view.set]{fullShare} f) ∗ ⌜(arg23.view.read (Elt F) f) = accTo (fun j a => k0_pay27 (cs (arg32.view.read (Elt F) X32) j) (k0_pay23 v56 v82 v84 (rs (arg6.view.read (Elt F) X6) j)) a) y23 k⌝) ∗ (∃ f, (arg25.view.loc (c : Thread nD τ) ↦[arg25.view.set]{fullShare} f) ∗ ⌜(arg25.view.read (Elt F) f) = accTo (fun j a => k0_pay108 (k0_pay31 (cs (arg7.view.read (Elt F) X7) j) (cs (arg10.view.read (Elt F) X10) j) (cs (arg37.view.read (Elt F) X37) j) (cs (arg38.view.read (Elt F) X38) j) (cs (arg39.view.read (Elt F) X39) j)) a (cs (arg3.view.read (Elt F) X3) j)) y25 k⌝) ∗ (∃ f, (arg28.view.loc (c : Thread nD τ) ↦[arg28.view.set]{fullShare} f) ∗ ⌜(arg28.view.read (Elt F) f) = upR k (fun j => k0_pay19 v22 v48 v50 (rs (arg5.view.read (Elt F) X5) j)) y28⌝) ∗ (∃ f, (arg29.view.loc (c : Thread nD τ) ↦[arg29.view.set]{fullShare} f) ∗ ⌜(arg29.view.read (Elt F) f) = upR k (fun j => k0_pay24 v56 v82 v84 (rs (arg6.view.read (Elt F) X6) j)) y29⌝) ∗ (∃ f, (arg31.view.loc (c : Thread nD τ) ↦[arg31.view.set]{fullShare} f) ∗ ⌜(arg31.view.read (Elt F) f) = upC k (fun j => k0_pay30 (cs (arg7.view.read (Elt F) X7) j) (cs (arg37.view.read (Elt F) X37) j) (cs (arg38.view.read (Elt F) X38) j) (cs (arg39.view.read (Elt F) X39) j)) y31⌝) ∗ (∃ f, (arg34.view.loc (c : Thread nD τ) ↦[arg34.view.set]{fullShare} f) ∗ ⌜(arg34.view.read (Elt F) f) = upR k (fun j => k0_pay20 v14 v22 v48 v50 (rs (arg5.view.read (Elt F) X5) j)) y34⌝) ∗ (∃ f, (arg35.view.loc (c : Thread nD τ) ↦[arg35.view.set]{fullShare} f) ∗ ⌜(arg35.view.read (Elt F) f) = upR k (fun j => k0_pay26 (k0_pay25 v16 v56 v82 v84 (rs (arg6.view.read (Elt F) X6) j))) y35⌝) ∗ (∃ f, (arg36.view.loc (c : Thread nD τ) ↦[arg36.view.set]{fullShare} f) ∗ ⌜(arg36.view.read (Elt F) f) = upC k (fun j => k0_pay32 (cs (arg7.view.read (Elt F) X7) j) (cs (arg37.view.read (Elt F) X37) j) (cs (arg38.view.read (Elt F) X38) j) (cs (arg39.view.read (Elt F) X39) j)) y36⌝))

/-- One trip of loop 3. -/
theorem step3 (c : Dev nD) (i : grid0.Coords) (v0 : Elt F .f32) (v9 : FVec F S1x1 .f32) (v14 : FVec F S1x256 .f32) (v16 : FVec F S1x256 .f32) (v22 : FVec F S1x256 .f32) (v48 : FVec F S1x256 .bf16) (v50 : FVec F S1x256 .bf16) (v56 : FVec F S1x256 .f32) (v82 : FVec F S1x256 .bf16) (v84 : FVec F S1x256 .bf16) (v85 : FVec F S256x256 .f32) (X3 : BufTy.Contents (Elt F) arg3.view.ty) (X5 : BufTy.Contents (Elt F) arg5.view.ty) (X6 : BufTy.Contents (Elt F) arg6.view.ty) (X7 : BufTy.Contents (Elt F) arg7.view.ty) (X10 : BufTy.Contents (Elt F) arg10.view.ty) (X32 : BufTy.Contents (Elt F) arg32.view.ty) (X37 : BufTy.Contents (Elt F) arg37.view.ty) (X38 : BufTy.Contents (Elt F) arg38.view.ty) (X39 : BufTy.Contents (Elt F) arg39.view.ty) (y22 : S256x256.Idx → Elt F .f32) (y23 : S256x256.Idx → Elt F .f32) (y25 : S256x256.Idx → Elt F .f32) (y28 : S4096x256.Idx → Elt F .i8) (y29 : S4096x256.Idx → Elt F .i8) (y31 : S256x4096.Idx → Elt F .i8) (y34 : S4096x256.Idx → Elt F .bf16) (y35 : S4096x256.Idx → Elt F .bf16) (y36 : S256x4096.Idx → Elt F .bf16)  (k : Fin (Scf.trips k0_t3_loop.lb k0_t3_loop.ub k0_t3_loop.st)) (acc : PUnit) :
  inv3 arg3 arg5 arg6 arg7 arg10 arg22 arg23 arg25 arg28 arg29 arg31 arg32 arg34 arg35 arg36 arg37 arg38 arg39 c i v0 v9 v14 v16 v22 v48 v50 v56 v82 v84 v85 X3 X5 X6 X7 X10 X32 X37 X38 X39 y22 y23 y25 y28 y29 y31 y34 y35 y36 k.val acc ⊢ wp frame (wpE (defs₀ (F := F)) Variants.none (c : Thread nD τ) none) Set.univ (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v0 v9 v14 v16 v22 v48 v50 v56 v82 v84 v85 k acc) (inv3 arg3 arg5 arg6 arg7 arg10 arg22 arg23 arg25 arg28 arg29 arg31 arg32 arg34 arg35 arg36 arg37 arg38 arg39 c i v0 v9 v14 v16 v22 v48 v50 v56 v82 v84 v85 X3 X5 X6 X7 X10 X32 X37 X38 X39 y22 y23 y25 y28 y29 y31 y34 y35 y36 (k.val + 1)) := by
    have hk : k.val < 8 := Nat.lt_of_lt_of_le k.isLt k0_t3_abs.2.1
    unfold k0_t3_body inv3
    iintro ⟨H3, H5, H6, H7, H10, H32, H37, H38, H39, ⟨%f22, H22, %h22⟩, ⟨%f23, H23, %h23⟩, ⟨%f25, H25, %h25⟩, ⟨%f28, H28, %h28⟩, ⟨%f29, H29, %h29⟩, ⟨%f31, H31, %h31⟩, ⟨%f34, H34, %h34⟩, ⟨%f35, H35, %h35⟩, ⟨%f36, H36, %h36⟩⟩
    sl_exec
    sl_unfold_run_names
    sl_step
    isplitl [H3]; · iexact H3
    isplitl [H5]; · iexact H5
    isplitl [H6]; · iexact H6
    isplitl [H7]; · iexact H7
    isplitl [H10]; · iexact H10
    isplitl [H32]; · iexact H32
    isplitl [H37]; · iexact H37
    isplitl [H38]; · iexact H38
    isplitl [H39]; · iexact H39
    isplitl [H22]
    · iexists _; isplitl [H22]; · iexact H22
      ipureintro; exact store_all _ _ _ _ _ _ (by rw [accTo_succ _ _ _ hk, ← h22, View.readAt_full arg22.view f22, load_r (m := 256) arg5.view X5 ⟨k.val, hk⟩ (k0_off5_eq k), load_c (m := 256) arg32.view X32 ⟨k.val, hk⟩ (k0_off6_eq k)])
    isplitl [H23]
    · iexists _; isplitl [H23]; · iexact H23
      ipureintro; exact store_all _ _ _ _ _ _ (by rw [accTo_succ _ _ _ hk, ← h23, View.readAt_full arg23.view f23, load_r (m := 256) arg6.view X6 ⟨k.val, hk⟩ (k0_off5_eq k), load_c (m := 256) arg32.view X32 ⟨k.val, hk⟩ (k0_off6_eq k)])
    isplitl [H25]
    · iexists _; isplitl [H25]; · iexact H25
      ipureintro; exact store_all _ _ _ _ _ _ (by rw [accTo_succ _ _ _ hk, ← h25, View.readAt_full arg25.view f25, load_c (m := 256) arg3.view X3 ⟨k.val, hk⟩ (k0_off6_eq k), load_c (m := 256) arg7.view X7 ⟨k.val, hk⟩ (k0_off6_eq k), load_c (m := 1) arg10.view X10 ⟨k.val, hk⟩ (k0_off7_eq k), load_c (m := 1) arg37.view X37 ⟨k.val, hk⟩ (k0_off7_eq k), load_c (m := 1) arg38.view X38 ⟨k.val, hk⟩ (k0_off7_eq k), load_c (m := 1) arg39.view X39 ⟨k.val, hk⟩ (k0_off7_eq k)])
    isplitl [H28]
    · iexists _; isplitl [H28]; · iexact H28
      ipureintro; exact store_r (m := 256) arg28.view f28 ⟨k.val, hk⟩ (k0_off5_eq k) _ _ _ h28 _ (by rw [load_r (m := 256) arg5.view X5 ⟨k.val, hk⟩ (k0_off5_eq k)])
    isplitl [H29]
    · iexists _; isplitl [H29]; · iexact H29
      ipureintro; exact store_r (m := 256) arg29.view f29 ⟨k.val, hk⟩ (k0_off5_eq k) _ _ _ h29 _ (by rw [load_r (m := 256) arg6.view X6 ⟨k.val, hk⟩ (k0_off5_eq k)])
    isplitl [H31]
    · iexists _; isplitl [H31]; · iexact H31
      ipureintro; exact store_c (m := 256) arg31.view f31 ⟨k.val, hk⟩ (k0_off6_eq k) _ _ _ h31 _ (by rw [load_c (m := 256) arg7.view X7 ⟨k.val, hk⟩ (k0_off6_eq k), load_c (m := 1) arg37.view X37 ⟨k.val, hk⟩ (k0_off7_eq k), load_c (m := 1) arg38.view X38 ⟨k.val, hk⟩ (k0_off7_eq k), load_c (m := 1) arg39.view X39 ⟨k.val, hk⟩ (k0_off7_eq k)])
    isplitl [H34]
    · iexists _; isplitl [H34]; · iexact H34
      ipureintro; exact store_r (m := 256) arg34.view f34 ⟨k.val, hk⟩ (k0_off5_eq k) _ _ _ h34 _ (by rw [load_r (m := 256) arg5.view X5 ⟨k.val, hk⟩ (k0_off5_eq k)])
    isplitl [H35]
    · iexists _; isplitl [H35]; · iexact H35
      ipureintro; exact store_r (m := 256) arg35.view f35 ⟨k.val, hk⟩ (k0_off5_eq k) _ _ _ h35 _ (by rw [load_r (m := 256) arg6.view X6 ⟨k.val, hk⟩ (k0_off5_eq k)])
    iexists _; isplitl [H36]; · iexact H36
    ipureintro; exact store_c (m := 256) arg36.view f36 ⟨k.val, hk⟩ (k0_off6_eq k) _ _ _ h36 _ (by rw [load_c (m := 256) arg7.view X7 ⟨k.val, hk⟩ (k0_off6_eq k), load_c (m := 1) arg37.view X37 ⟨k.val, hk⟩ (k0_off7_eq k), load_c (m := 1) arg38.view X38 ⟨k.val, hk⟩ (k0_off7_eq k), load_c (m := 1) arg39.view X39 ⟨k.val, hk⟩ (k0_off7_eq k)])

end Cert.KernelIdeal.Hand

end
-- ==== Proof.KernelIdeal.PartB.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Pipeline.Frame
public import Idealize.ShloMosaic.Lib.WritesUnit
public import proofs.«01_k».proof.Proof.Slab
public import proofs.«01_k».proof.Proof.KernelIdeal.Spec
public import proofs.«01_k».proof.Proof.KernelIdeal.LoopsB
public import proofs.«01_k».proof.Proof.KernelIdeal.PartA

@[expose] public section

set_option maxRecDepth 16384
set_option maxHeartbeats 4000000

noncomputable section

namespace Cert.KernelIdeal.Hand

open Cert.KernelIdeal Cert.KernelIdeal.Gen
open Cert.Slab
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ
variable (arg1 : Memref sig .tc .smem S2 .f32) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S256x4096 .bf16) (harg15 : arg15.IsWhole) (arg16 : Memref sig .tc .vmem S1x256 .f32) (harg16 : arg16.IsWhole) (arg17 : Memref sig .tc .vmem S1x256 .f32) (harg17 : arg17.IsWhole) (arg18 : Memref sig .tc .vmem S8x4096 .f32) (harg18 : arg18.IsWhole) (arg19 : Memref sig .tc .vmem S5x256x128 .f32) (harg19 : arg19.IsWhole) (arg20 : Memref sig .tc .vmem S2x8x128 .f32) (harg20 : arg20.IsWhole) (arg21 : Memref sig .tc .vmem S1x4096 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x4096 .f32) (harg24 : arg24.IsWhole) (arg25 : Memref sig .tc .vmem S256x256 .f32) (harg25 : arg25.IsWhole) (arg26 : Memref sig .tc .vmem S256x4096 .f32) (harg26 : arg26.IsWhole) (arg27 : Memref sig .tc .vmem S256x4096 .i8) (harg27 : arg27.IsWhole) (arg28 : Memref sig .tc .vmem S4096x256 .i8) (harg28 : arg28.IsWhole) (arg29 : Memref sig .tc .vmem S4096x256 .i8) (harg29 : arg29.IsWhole) (arg30 : Memref sig .tc .vmem S256x256 .i8) (harg30 : arg30.IsWhole) (arg31 : Memref sig .tc .vmem S256x4096 .i8) (harg31 : arg31.IsWhole) (arg32 : Memref sig .tc .vmem S256x4096 .bf16) (harg32 : arg32.IsWhole) (arg33 : Memref sig .tc .vmem S4096x256 .bf16) (harg33 : arg33.IsWhole) (arg34 : Memref sig .tc .vmem S4096x256 .bf16) (harg34 : arg34.IsWhole) (arg35 : Memref sig .tc .vmem S4096x256 .bf16) (harg35 : arg35.IsWhole) (arg36 : Memref sig .tc .vmem S256x4096 .bf16) (harg36 : arg36.IsWhole) (arg37 : Memref sig .tc .vmem S1x4096 .f32) (harg37 : arg37.IsWhole) (arg38 : Memref sig .tc .vmem S1x4096 .bf16) (harg38 : arg38.IsWhole) (arg39 : Memref sig .tc .vmem S1x4096 .bf16) (harg39 : arg39.IsWhole) (arg40 : Memref sig .tc .vmem S256x128 .f32) (harg40 : arg40.IsWhole) (arg41 : Memref sig .tc .vmem S256x128 .f32) (harg41 : arg41.IsWhole)

theorem part13_sound (c : Dev nD) (i : grid0.Coords) (v0 : Elt F .f32) (v9 : FVec F S1x1 .f32) (v14 : FVec F S1x256 .f32) (v16 : FVec F S1x256 .f32) (v22 : FVec F S1x256 .f32) (v48 : FVec F S1x256 .bf16) (v50 : FVec F S1x256 .bf16) (v56 : FVec F S1x256 .f32) (v82 : FVec F S1x256 .bf16) (v84 : FVec F S1x256 .bf16) (v85 : FVec F S256x256 .f32)  (X3 : BufTy.Contents (Elt F) arg3.view.ty) (X5 : BufTy.Contents (Elt F) arg5.view.ty) (X6 : BufTy.Contents (Elt F) arg6.view.ty) (X7 : BufTy.Contents (Elt F) arg7.view.ty) (X10 : BufTy.Contents (Elt F) arg10.view.ty) (X32 : BufTy.Contents (Elt F) arg32.view.ty) (X37 : BufTy.Contents (Elt F) arg37.view.ty) (X38 : BufTy.Contents (Elt F) arg38.view.ty) (X39 : BufTy.Contents (Elt F) arg39.view.ty) (X22 : BufTy.Contents (Elt F) arg22.view.ty) (X23 : BufTy.Contents (Elt F) arg23.view.ty) (X25 : BufTy.Contents (Elt F) arg25.view.ty) (X28 : BufTy.Contents (Elt F) arg28.view.ty) (X29 : BufTy.Contents (Elt F) arg29.view.ty) (X31 : BufTy.Contents (Elt F) arg31.view.ty) (X34 : BufTy.Contents (Elt F) arg34.view.ty) (X35 : BufTy.Contents (Elt F) arg35.view.ty) (X36 : BufTy.Contents (Elt F) arg36.view.ty) :
  (iprop((arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg10.view.loc (c : Thread nD τ) ↦[arg10.view.set]{fullShare} X10) ∗ (arg32.view.loc (c : Thread nD τ) ↦[arg32.view.set]{fullShare} X32) ∗ (arg37.view.loc (c : Thread nD τ) ↦[arg37.view.set]{fullShare} X37) ∗ (arg38.view.loc (c : Thread nD τ) ↦[arg38.view.set]{fullShare} X38) ∗ (arg39.view.loc (c : Thread nD τ) ↦[arg39.view.set]{fullShare} X39) ∗ (arg22.view.loc (c : Thread nD τ) ↦[arg22.view.set]{fullShare} X22) ∗ (arg23.view.loc (c : Thread nD τ) ↦[arg23.view.set]{fullShare} X23) ∗ (arg25.view.loc (c : Thread nD τ) ↦[arg25.view.set]{fullShare} X25) ∗ (arg28.view.loc (c : Thread nD τ) ↦[arg28.view.set]{fullShare} X28) ∗ (arg29.view.loc (c : Thread nD τ) ↦[arg29.view.set]{fullShare} X29) ∗ (arg31.view.loc (c : Thread nD τ) ↦[arg31.view.set]{fullShare} X31) ∗ (arg34.view.loc (c : Thread nD τ) ↦[arg34.view.set]{fullShare} X34) ∗ (arg35.view.loc (c : Thread nD τ) ↦[arg35.view.set]{fullShare} X35) ∗ (arg36.view.loc (c : Thread nD τ) ↦[arg36.view.set]{fullShare} X36)) : sProp 𝕄G)
  ⊢ wp frame (wpE (defs₀ (F := F)) Variants.none (c : Thread nD τ) none) Set.univ (k0_part13 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v0 v9 v14 v16 v22 v48 v50 v56 v82 v84 v85 ) (fun r => iprop((arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg10.view.loc (c : Thread nD τ) ↦[arg10.view.set]{fullShare} X10) ∗ (arg32.view.loc (c : Thread nD τ) ↦[arg32.view.set]{fullShare} X32) ∗ (arg37.view.loc (c : Thread nD τ) ↦[arg37.view.set]{fullShare} X37) ∗ (arg38.view.loc (c : Thread nD τ) ↦[arg38.view.set]{fullShare} X38) ∗ (arg39.view.loc (c : Thread nD τ) ↦[arg39.view.set]{fullShare} X39) ∗ (∃ f, (arg22.view.loc (c : Thread nD τ) ↦[arg22.view.set]{fullShare} f) ∗ ⌜(arg22.view.read (Elt F) f) = k0_pay112 v0 v14 (w3_22 v85 v22 v48 v50 (arg5.view.read (Elt F) X5) (arg32.view.read (Elt F) X32))⌝) ∗ (∃ f, (arg23.view.loc (c : Thread nD τ) ↦[arg23.view.set]{fullShare} f) ∗ ⌜(arg23.view.read (Elt F) f) = k0_pay113 v0 v16 (w3_23 (arg32.view.read (Elt F) X32) v56 v82 v84 (arg6.view.read (Elt F) X6))⌝) ∗ (∃ f, (arg25.view.loc (c : Thread nD τ) ↦[arg25.view.set]{fullShare} f) ∗ ⌜(arg25.view.read (Elt F) f) = (w3_25 (arg7.view.read (Elt F) X7) (arg10.view.read (Elt F) X10) (arg37.view.read (Elt F) X37) (arg38.view.read (Elt F) X38) (arg39.view.read (Elt F) X39) (arg3.view.read (Elt F) X3))⌝) ∗ (∃ f, (arg28.view.loc (c : Thread nD τ) ↦[arg28.view.set]{fullShare} f) ∗ ⌜(arg28.view.read (Elt F) f) = (w3_28 v22 v48 v50 (arg5.view.read (Elt F) X5))⌝) ∗ (∃ f, (arg29.view.loc (c : Thread nD τ) ↦[arg29.view.set]{fullShare} f) ∗ ⌜(arg29.view.read (Elt F) f) = (w3_29 v56 v82 v84 (arg6.view.read (Elt F) X6))⌝) ∗ (∃ f, (arg31.view.loc (c : Thread nD τ) ↦[arg31.view.set]{fullShare} f) ∗ ⌜(arg31.view.read (Elt F) f) = (w3_31 (arg7.view.read (Elt F) X7) (arg37.view.read (Elt F) X37) (arg38.view.read (Elt F) X38) (arg39.view.read (Elt F) X39))⌝) ∗ (∃ f, (arg34.view.loc (c : Thread nD τ) ↦[arg34.view.set]{fullShare} f) ∗ ⌜(arg34.view.read (Elt F) f) = (w3_34 v14 v22 v48 v50 (arg5.view.read (Elt F) X5))⌝) ∗ (∃ f, (arg35.view.loc (c : Thread nD τ) ↦[arg35.view.set]{fullShare} f) ∗ ⌜(arg35.view.read (Elt F) f) = (w3_35 v16 v56 v82 v84 (arg6.view.read (Elt F) X6))⌝) ∗ (∃ f, (arg36.view.loc (c : Thread nD τ) ↦[arg36.view.set]{fullShare} f) ∗ ⌜(arg36.view.read (Elt F) f) = (w3_36 (arg7.view.read (Elt F) X7) (arg37.view.read (Elt F) X37) (arg38.view.read (Elt F) X38) (arg39.view.read (Elt F) X39))⌝) ∗ ⌜r = ⟨k0_pay109 (w3_22 v85 v22 v48 v50 (arg5.view.read (Elt F) X5) (arg32.view.read (Elt F) X32)), k0_pay110 (w3_23 (arg32.view.read (Elt F) X32) v56 v82 v84 (arg6.view.read (Elt F) X6)), k0_pay111 (w3_25 (arg7.view.read (Elt F) X7) (arg10.view.read (Elt F) X10) (arg37.view.read (Elt F) X37) (arg38.view.read (Elt F) X38) (arg39.view.read (Elt F) X39) (arg3.view.read (Elt F) X3)), k0_pay112 v0 v14 (w3_22 v85 v22 v48 v50 (arg5.view.read (Elt F) X5) (arg32.view.read (Elt F) X32)), k0_pay113 v0 v16 (w3_23 (arg32.view.read (Elt F) X32) v56 v82 v84 (arg6.view.read (Elt F) X6)), k0_pay114 v0 v14 (w3_22 v85 v22 v48 v50 (arg5.view.read (Elt F) X5) (arg32.view.read (Elt F) X32)), k0_pay115 v0 v14 v16 (w3_22 v85 v22 v48 v50 (arg5.view.read (Elt F) X5) (arg32.view.read (Elt F) X32)) (w3_23 (arg32.view.read (Elt F) X32) v56 v82 v84 (arg6.view.read (Elt F) X6)), k0_pay116 v9⟩⌝)) := by
  rw [k0_part13_eq_skeleton]
  unfold k0_part13_skel
  iintro ⟨H3, H5, H6, H7, H10, H32, H37, H38, H39, H22, H23, H25, H28, H29, H31, H34, H35, H36⟩
  sl_exec
  sl_unfold_run_names
  sl_for (inv3 arg3 arg5 arg6 arg7 arg10 arg22 arg23 arg25 arg28 arg29 arg31 arg32 arg34 arg35 arg36 arg37 arg38 arg39 c i v0 v9 v14 v16 v22 v48 v50 v56 v82 v84 v85 X3 X5 X6 X7 X10 X32 X37 X38 X39 v85 k0_pay106 k0_pay107 (arg28.view.read (Elt F) X28) (arg29.view.read (Elt F) X29) (arg31.view.read (Elt F) X31) (arg34.view.read (Elt F) X34) (arg35.view.read (Elt F) X35) (arg36.view.read (Elt F) X36)) $$ [H3 H5 H6 H7 H10 H32 H37 H38 H39 H22 H23 H25 H28 H29 H31 H34 H35 H36]
  · exact fun k acc => step3 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i v0 v9 v14 v16 v22 v48 v50 v56 v82 v84 v85 X3 X5 X6 X7 X10 X32 X37 X38 X39 v85 k0_pay106 k0_pay107 (arg28.view.read (Elt F) X28) (arg29.view.read (Elt F) X29) (arg31.view.read (Elt F) X31) (arg34.view.read (Elt F) X34) (arg35.view.read (Elt F) X35) (arg36.view.read (Elt F) X36) k acc
  · unfold inv3
    isplitl [H3]; · iexact H3
    isplitl [H5]; · iexact H5
    isplitl [H6]; · iexact H6
    isplitl [H7]; · iexact H7
    isplitl [H10]; · iexact H10
    isplitl [H32]; · iexact H32
    isplitl [H37]; · iexact H37
    isplitl [H38]; · iexact H38
    isplitl [H39]; · iexact H39
    isplitl [H22]
    · iexists _; isplitl [H22]; · iexact H22
      ipureintro; exact store_all _ _ _ _ _ _ rfl
    isplitl [H23]
    · iexists _; isplitl [H23]; · iexact H23
      ipureintro; exact store_all _ _ _ _ _ _ rfl
    isplitl [H25]
    · iexists _; isplitl [H25]; · iexact H25
      ipureintro; exact store_all _ _ _ _ _ _ rfl
    isplitl [H28]
    · iexists _; isplitl [H28]; · iexact H28
      ipureintro; exact rfl
    isplitl [H29]
    · iexists _; isplitl [H29]; · iexact H29
      ipureintro; exact rfl
    isplitl [H31]
    · iexists _; isplitl [H31]; · iexact H31
      ipureintro; exact rfl
    isplitl [H34]
    · iexists _; isplitl [H34]; · iexact H34
      ipureintro; exact rfl
    isplitl [H35]
    · iexists _; isplitl [H35]; · iexact H35
      ipureintro; exact rfl
    iexists _; isplitl [H36]; · iexact H36
    ipureintro; exact rfl
  iintro %acc HI
  unfold inv3
  icases HI with ⟨H3, H5, H6, H7, H10, H32, H37, H38, H39, ⟨%f22, H22, %h22⟩, ⟨%f23, H23, %h23⟩, ⟨%f25, H25, %h25⟩, ⟨%f28, H28, %h28⟩, ⟨%f29, H29, %h29⟩, ⟨%f31, H31, %h31⟩, ⟨%f34, H34, %h34⟩, ⟨%f35, H35, %h35⟩, ⟨%f36, H36, %h36⟩⟩
  rw [tr3] at h22
  rw [tr3] at h23
  rw [tr3] at h25
  rw [tr3, upR_eight] at h28
  rw [tr3, upR_eight] at h29
  rw [tr3, upC_eight] at h31
  rw [tr3, upR_eight] at h34
  rw [tr3, upR_eight] at h35
  rw [tr3, upC_eight] at h36
  have g22 : arg22.view.read (Elt F) f22 = (w3_22 v85 v22 v48 v50 (arg5.view.read (Elt F) X5) (arg32.view.read (Elt F) X32)) := h22
  have g23 : arg23.view.read (Elt F) f23 = (w3_23 (arg32.view.read (Elt F) X32) v56 v82 v84 (arg6.view.read (Elt F) X6)) := h23
  have g25 : arg25.view.read (Elt F) f25 = (w3_25 (arg7.view.read (Elt F) X7) (arg10.view.read (Elt F) X10) (arg37.view.read (Elt F) X37) (arg38.view.read (Elt F) X38) (arg39.view.read (Elt F) X39) (arg3.view.read (Elt F) X3)) := h25
  sl_exec
  sl_unfold_run_names
  sl_step
  isplitl [H3]; · iexact H3
  isplitl [H5]; · iexact H5
  isplitl [H6]; · iexact H6
  isplitl [H7]; · iexact H7
  isplitl [H10]; · iexact H10
  isplitl [H32]; · iexact H32
  isplitl [H37]; · iexact H37
  isplitl [H38]; · iexact H38
  isplitl [H39]; · iexact H39
  isplitl [H22]
  · iexists _; isplitl [H22]; · iexact H22
    ipureintro; exact store_all _ _ _ _ _ _ (by rw [View.readAt_full arg22.view f22, g22])
  isplitl [H23]
  · iexists _; isplitl [H23]; · iexact H23
    ipureintro; exact store_all _ _ _ _ _ _ (by rw [View.readAt_full arg23.view f23, g23])
  isplitl [H25]
  · iexists _; isplitl [H25]; · iexact H25
    ipureintro; exact h25
  isplitl [H28]
  · iexists _; isplitl [H28]; · iexact H28
    ipureintro; exact h28
  isplitl [H29]
  · iexists _; isplitl [H29]; · iexact H29
    ipureintro; exact h29
  isplitl [H31]
  · iexists _; isplitl [H31]; · iexact H31
    ipureintro; exact h31
  isplitl [H34]
  · iexists _; isplitl [H34]; · iexact H34
    ipureintro; exact h34
  isplitl [H35]
  · iexists _; isplitl [H35]; · iexact H35
    ipureintro; exact h35
  isplitl [H36]
  · iexists _; isplitl [H36]; · iexact H36
    ipureintro; exact h36
  ipureintro; rw [View.readAt_full arg22.view f22, View.readAt_full arg23.view f23, View.readAt_full arg25.view f25, g22, g23, g25]

end Cert.KernelIdeal.Hand

end
-- ==== Proof.KernelIdeal.LoopsC.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Pipeline.Frame
public import Idealize.ShloMosaic.Lib.WritesUnit
public import proofs.«01_k».proof.Proof.Slab

@[expose] public section

set_option maxRecDepth 16384
set_option maxHeartbeats 4000000

noncomputable section

namespace Cert.KernelIdeal.Hand

open Cert.KernelIdeal Cert.KernelIdeal.Gen
open Cert.Slab
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ
variable (arg1 : Memref sig .tc .smem S2 .f32) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S256x4096 .bf16) (harg15 : arg15.IsWhole) (arg16 : Memref sig .tc .vmem S1x256 .f32) (harg16 : arg16.IsWhole) (arg17 : Memref sig .tc .vmem S1x256 .f32) (harg17 : arg17.IsWhole) (arg18 : Memref sig .tc .vmem S8x4096 .f32) (harg18 : arg18.IsWhole) (arg19 : Memref sig .tc .vmem S5x256x128 .f32) (harg19 : arg19.IsWhole) (arg20 : Memref sig .tc .vmem S2x8x128 .f32) (harg20 : arg20.IsWhole) (arg21 : Memref sig .tc .vmem S1x4096 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x4096 .f32) (harg24 : arg24.IsWhole) (arg25 : Memref sig .tc .vmem S256x256 .f32) (harg25 : arg25.IsWhole) (arg26 : Memref sig .tc .vmem S256x4096 .f32) (harg26 : arg26.IsWhole) (arg27 : Memref sig .tc .vmem S256x4096 .i8) (harg27 : arg27.IsWhole) (arg28 : Memref sig .tc .vmem S4096x256 .i8) (harg28 : arg28.IsWhole) (arg29 : Memref sig .tc .vmem S4096x256 .i8) (harg29 : arg29.IsWhole) (arg30 : Memref sig .tc .vmem S256x256 .i8) (harg30 : arg30.IsWhole) (arg31 : Memref sig .tc .vmem S256x4096 .i8) (harg31 : arg31.IsWhole) (arg32 : Memref sig .tc .vmem S256x4096 .bf16) (harg32 : arg32.IsWhole) (arg33 : Memref sig .tc .vmem S4096x256 .bf16) (harg33 : arg33.IsWhole) (arg34 : Memref sig .tc .vmem S4096x256 .bf16) (harg34 : arg34.IsWhole) (arg35 : Memref sig .tc .vmem S4096x256 .bf16) (harg35 : arg35.IsWhole) (arg36 : Memref sig .tc .vmem S256x4096 .bf16) (harg36 : arg36.IsWhole) (arg37 : Memref sig .tc .vmem S1x4096 .f32) (harg37 : arg37.IsWhole) (arg38 : Memref sig .tc .vmem S1x4096 .bf16) (harg38 : arg38.IsWhole) (arg39 : Memref sig .tc .vmem S1x4096 .bf16) (harg39 : arg39.IsWhole) (arg40 : Memref sig .tc .vmem S256x128 .f32) (harg40 : arg40.IsWhole) (arg41 : Memref sig .tc .vmem S256x128 .f32) (harg41 : arg41.IsWhole)

/-- Loop 4 of the kernel: what its buffers hold before trip `k`. -/
def inv4 (c : Dev nD) (i : grid0.Coords) (v0 : Elt F .f32) (v1 : Elt F .f32) (v14 : FVec F S1x256 .f32) (v16 : FVec F S1x256 .f32) (v22 : FVec F S1x256 .f32) (v48 : FVec F S1x256 .bf16) (v50 : FVec F S1x256 .bf16) (v82 : FVec F S1x256 .bf16) (v84 : FVec F S1x256 .bf16) (v93 : FVec F S256x256 .f32) (v101 : FVec F S256x256 .f32) (v114 : FVec F S256x256 .f32) (v126 : FVec F S256x256 .f32) (v156 : FVec F S256x256 .f32) (v158 : FVec F S256x256 .f32) (cst_64 : F .f32) (X3 : BufTy.Contents (Elt F) arg3.view.ty) (X5 : BufTy.Contents (Elt F) arg5.view.ty) (X6 : BufTy.Contents (Elt F) arg6.view.ty) (X7 : BufTy.Contents (Elt F) arg7.view.ty) (X10 : BufTy.Contents (Elt F) arg10.view.ty) (X33 : BufTy.Contents (Elt F) arg33.view.ty) (X34 : BufTy.Contents (Elt F) arg34.view.ty) (X35 : BufTy.Contents (Elt F) arg35.view.ty) (X36 : BufTy.Contents (Elt F) arg36.view.ty) (X38 : BufTy.Contents (Elt F) arg38.view.ty) (X39 : BufTy.Contents (Elt F) arg39.view.ty) (y13 : S4096x256.Idx → Elt F .bf16) (y14 : S4096x256.Idx → Elt F .bf16) (y15 : S256x4096.Idx → Elt F .bf16) (y18 : S8x4096.Idx → Elt F .f32) (y24 : S256x4096.Idx → Elt F .f32) (y26 : S256x4096.Idx → Elt F .f32) (z0 : FVec F S8x256 .f32) (z1 : FVec F S8x256 .f32) : ℕ → (FVec F S8x256 .f32) × (FVec F S8x256 .f32) → sProp 𝕄G :=
  fun k acc => iprop((arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg10.view.loc (c : Thread nD τ) ↦[arg10.view.set]{fullShare} X10) ∗ (arg33.view.loc (c : Thread nD τ) ↦[arg33.view.set]{fullShare} X33) ∗ (arg34.view.loc (c : Thread nD τ) ↦[arg34.view.set]{fullShare} X34) ∗ (arg35.view.loc (c : Thread nD τ) ↦[arg35.view.set]{fullShare} X35) ∗ (arg36.view.loc (c : Thread nD τ) ↦[arg36.view.set]{fullShare} X36) ∗ (arg38.view.loc (c : Thread nD τ) ↦[arg38.view.set]{fullShare} X38) ∗ (arg39.view.loc (c : Thread nD τ) ↦[arg39.view.set]{fullShare} X39) ∗ (∃ f, (arg13.view.loc (c : Thread nD τ) ↦[arg13.view.set]{fullShare} f) ∗ ⌜(arg13.view.read (Elt F) f) = upR k (fun j => k0_pay38 v48 v50 (k0_pay124 v101 v114 v158 cst_64) (k0_pay128 v0 v14) (rs (arg33.view.read (Elt F) X33) j) (rs (arg5.view.read (Elt F) X5) j)) y13⌝) ∗ (∃ f, (arg14.view.loc (c : Thread nD τ) ↦[arg14.view.set]{fullShare} f) ∗ ⌜(arg14.view.read (Elt F) f) = upR k (fun j => k0_pay43 v82 v84 (k0_pay125 v101 v114 v156) (k0_pay129 v0 v16) (rs (arg33.view.read (Elt F) X33) j) (rs (arg6.view.read (Elt F) X6) j)) y14⌝) ∗ (∃ f, (arg15.view.loc (c : Thread nD τ) ↦[arg15.view.set]{fullShare} f) ∗ ⌜(arg15.view.read (Elt F) f) = upC k (fun j => k0_pay134 v126 (k0_pay46 (cs (arg3.view.read (Elt F) X3) j)) (k0_pay47 v1 (cs (arg10.view.read (Elt F) X10) j)) (cs (arg7.view.read (Elt F) X7) j) (cs (arg38.view.read (Elt F) X38) j) (cs (arg39.view.read (Elt F) X39) j)) y15⌝) ∗ (∃ f, (arg18.view.loc (c : Thread nD τ) ↦[arg18.view.set]{fullShare} f) ∗ ⌜(arg18.view.read (Elt F) f) = upC k (fun j => k0_pay135 v126 (k0_pay45 (cs y18 j)) (k0_pay46 (cs (arg3.view.read (Elt F) X3) j)) (k0_pay47 v1 (cs (arg10.view.read (Elt F) X10) j)) (cs (arg7.view.read (Elt F) X7) j) (cs (arg38.view.read (Elt F) X38) j) (cs (arg39.view.read (Elt F) X39) j)) y18⌝) ∗ (∃ f, (arg24.view.loc (c : Thread nD τ) ↦[arg24.view.set]{fullShare} f) ∗ ⌜(arg24.view.read (Elt F) f) = upC k (fun j => k0_pay33 (k0_pay126 v126) (cs y24 j) (cs (arg36.view.read (Elt F) X36) j)) y24⌝) ∗ (∃ f, (arg26.view.loc (c : Thread nD τ) ↦[arg26.view.set]{fullShare} f) ∗ ⌜(arg26.view.read (Elt F) f) = upC k (fun j => k0_pay34 (k0_pay124 v101 v114 v158 cst_64) (k0_pay125 v101 v114 v156) (cs y26 j) (rs (arg34.view.read (Elt F) X34) j) (rs (arg35.view.read (Elt F) X35) j)) y26⌝) ∗ ⌜acc = (accTo (fun j a => k0_pay39 a (rs (arg5.view.read (Elt F) X5) j) (k0_pay35 (k0_pay124 v101 v114 v158 cst_64) (k0_pay128 v0 v14) (rs (arg33.view.read (Elt F) X33) j)) (k0_pay36 v48 v50 (rs (arg5.view.read (Elt F) X5) j)) k0_pay37) z0 k, accTo (fun j a => k0_pay44 v82 v84 (k0_pay125 v101 v114 v156) (k0_pay129 v0 v16) a (rs (arg33.view.read (Elt F) X33) j) (rs (arg6.view.read (Elt F) X6) j)) z1 k)⌝)

/-- One trip of loop 4. -/
theorem step4 (c : Dev nD) (i : grid0.Coords) (v0 : Elt F .f32) (v1 : Elt F .f32) (v14 : FVec F S1x256 .f32) (v16 : FVec F S1x256 .f32) (v22 : FVec F S1x256 .f32) (v48 : FVec F S1x256 .bf16) (v50 : FVec F S1x256 .bf16) (v82 : FVec F S1x256 .bf16) (v84 : FVec F S1x256 .bf16) (v93 : FVec F S256x256 .f32) (v101 : FVec F S256x256 .f32) (v114 : FVec F S256x256 .f32) (v126 : FVec F S256x256 .f32) (v156 : FVec F S256x256 .f32) (v158 : FVec F S256x256 .f32) (cst_64 : F .f32) (X3 : BufTy.Contents (Elt F) arg3.view.ty) (X5 : BufTy.Contents (Elt F) arg5.view.ty) (X6 : BufTy.Contents (Elt F) arg6.view.ty) (X7 : BufTy.Contents (Elt F) arg7.view.ty) (X10 : BufTy.Contents (Elt F) arg10.view.ty) (X33 : BufTy.Contents (Elt F) arg33.view.ty) (X34 : BufTy.Contents (Elt F) arg34.view.ty) (X35 : BufTy.Contents (Elt F) arg35.view.ty) (X36 : BufTy.Contents (Elt F) arg36.view.ty) (X38 : BufTy.Contents (Elt F) arg38.view.ty) (X39 : BufTy.Contents (Elt F) arg39.view.ty) (y13 : S4096x256.Idx → Elt F .bf16) (y14 : S4096x256.Idx → Elt F .bf16) (y15 : S256x4096.Idx → Elt F .bf16) (y18 : S8x4096.Idx → Elt F .f32) (y24 : S256x4096.Idx → Elt F .f32) (y26 : S256x4096.Idx → Elt F .f32) (z0 : FVec F S8x256 .f32) (z1 : FVec F S8x256 .f32) (k : Fin (Scf.trips k0_t4_loop.lb k0_t4_loop.ub k0_t4_loop.st)) (acc : (FVec F S8x256 .f32) × (FVec F S8x256 .f32)) :
  inv4 arg3 arg5 arg6 arg7 arg10 arg13 arg14 arg15 arg18 arg24 arg26 arg33 arg34 arg35 arg36 arg38 arg39 c i v0 v1 v14 v16 v22 v48 v50 v82 v84 v93 v101 v114 v126 v156 v158 cst_64 X3 X5 X6 X7 X10 X33 X34 X35 X36 X38 X39 y13 y14 y15 y18 y24 y26 z0 z1 k.val acc ⊢ wp frame (wpE (defs₀ (F := F)) Variants.none (c : Thread nD τ) none) Set.univ (k0_t4_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v0 v1 v14 v16 v22 v48 v50 v82 v84 v93 v101 v114 v126 v156 v158 cst_64 k acc) (inv4 arg3 arg5 arg6 arg7 arg10 arg13 arg14 arg15 arg18 arg24 arg26 arg33 arg34 arg35 arg36 arg38 arg39 c i v0 v1 v14 v16 v22 v48 v50 v82 v84 v93 v101 v114 v126 v156 v158 cst_64 X3 X5 X6 X7 X10 X33 X34 X35 X36 X38 X39 y13 y14 y15 y18 y24 y26 z0 z1 (k.val + 1)) := by
    obtain ⟨a0, a1⟩ := acc
    have hk : k.val < 8 := Nat.lt_of_lt_of_le k.isLt k0_t4_abs.2.1
    unfold k0_t4_body inv4
    iintro ⟨H3, H5, H6, H7, H10, H33, H34, H35, H36, H38, H39, ⟨%f13, H13, %h13⟩, ⟨%f14, H14, %h14⟩, ⟨%f15, H15, %h15⟩, ⟨%f18, H18, %h18⟩, ⟨%f24, H24, %h24⟩, ⟨%f26, H26, %h26⟩, %ha⟩
    obtain ⟨ha0, ha1⟩ := Prod.mk.inj ha
    subst ha0; subst ha1
    sl_exec
    sl_unfold_run_names
    sl_step
    isplitl [H3]; · iexact H3
    isplitl [H5]; · iexact H5
    isplitl [H6]; · iexact H6
    isplitl [H7]; · iexact H7
    isplitl [H10]; · iexact H10
    isplitl [H33]; · iexact H33
    isplitl [H34]; · iexact H34
    isplitl [H35]; · iexact H35
    isplitl [H36]; · iexact H36
    isplitl [H38]; · iexact H38
    isplitl [H39]; · iexact H39
    isplitl [H13]
    · iexists _; isplitl [H13]; · iexact H13
      ipureintro; exact store_r (m := 256) arg13.view f13 ⟨k.val, hk⟩ (k0_off9_eq k) _ _ _ h13 _ (by rw [load_r (m := 256) arg5.view X5 ⟨k.val, hk⟩ (k0_off9_eq k), load_r (m := 256) arg33.view X33 ⟨k.val, hk⟩ (k0_off9_eq k)])
    isplitl [H14]
    · iexists _; isplitl [H14]; · iexact H14
      ipureintro; exact store_r (m := 256) arg14.view f14 ⟨k.val, hk⟩ (k0_off9_eq k) _ _ _ h14 _ (by rw [load_r (m := 256) arg6.view X6 ⟨k.val, hk⟩ (k0_off9_eq k), load_r (m := 256) arg33.view X33 ⟨k.val, hk⟩ (k0_off9_eq k)])
    isplitl [H15]
    · iexists _; isplitl [H15]; · iexact H15
      ipureintro; exact store_c (m := 256) arg15.view f15 ⟨k.val, hk⟩ (k0_off8_eq k) _ _ _ h15 _ (by rw [load_c (m := 256) arg3.view X3 ⟨k.val, hk⟩ (k0_off8_eq k), load_c (m := 256) arg7.view X7 ⟨k.val, hk⟩ (k0_off8_eq k), load_c (m := 1) arg10.view X10 ⟨k.val, hk⟩ (k0_off11_eq k), load_c (m := 1) arg38.view X38 ⟨k.val, hk⟩ (k0_off11_eq k), load_c (m := 1) arg39.view X39 ⟨k.val, hk⟩ (k0_off11_eq k)])
    isplitl [H18]
    · iexists _; isplitl [H18]; · iexact H18
      ipureintro; exact store_c (m := 8) arg18.view f18 ⟨k.val, hk⟩ (k0_off10_eq k) _ _ _ h18 _ (by rw [load_c (m := 256) arg3.view X3 ⟨k.val, hk⟩ (k0_off8_eq k), load_c (m := 256) arg7.view X7 ⟨k.val, hk⟩ (k0_off8_eq k), load_c (m := 1) arg10.view X10 ⟨k.val, hk⟩ (k0_off11_eq k), load_c (m := 1) arg38.view X38 ⟨k.val, hk⟩ (k0_off11_eq k), load_c (m := 1) arg39.view X39 ⟨k.val, hk⟩ (k0_off11_eq k), load_c (m := 8) arg18.view f18 ⟨k.val, hk⟩ (k0_off10_eq k), h18, cs_upC ⟨k.val, hk⟩])
    isplitl [H24]
    · iexists _; isplitl [H24]; · iexact H24
      ipureintro; exact store_c (m := 256) arg24.view f24 ⟨k.val, hk⟩ (k0_off8_eq k) _ _ _ h24 _ (by rw [load_c (m := 256) arg36.view X36 ⟨k.val, hk⟩ (k0_off8_eq k), load_c (m := 256) arg24.view f24 ⟨k.val, hk⟩ (k0_off8_eq k), h24, cs_upC ⟨k.val, hk⟩])
    isplitl [H26]
    · iexists _; isplitl [H26]; · iexact H26
      ipureintro; exact store_c (m := 256) arg26.view f26 ⟨k.val, hk⟩ (k0_off8_eq k) _ _ _ h26 _ (by rw [load_r (m := 256) arg34.view X34 ⟨k.val, hk⟩ (k0_off9_eq k), load_r (m := 256) arg35.view X35 ⟨k.val, hk⟩ (k0_off9_eq k), load_c (m := 256) arg26.view f26 ⟨k.val, hk⟩ (k0_off8_eq k), h26, cs_upC ⟨k.val, hk⟩])
    ipureintro
    exact congrArg₂ Prod.mk (by rw [accTo_succ _ _ _ hk, load_r (m := 256) arg5.view X5 ⟨k.val, hk⟩ (k0_off9_eq k), load_r (m := 256) arg33.view X33 ⟨k.val, hk⟩ (k0_off9_eq k)]) (by rw [accTo_succ _ _ _ hk, load_r (m := 256) arg6.view X6 ⟨k.val, hk⟩ (k0_off9_eq k), load_r (m := 256) arg33.view X33 ⟨k.val, hk⟩ (k0_off9_eq k)])

end Cert.KernelIdeal.Hand

end
-- ==== Proof.KernelIdeal.PartC.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Pipeline.Frame
public import Idealize.ShloMosaic.Lib.WritesUnit
public import proofs.«01_k».proof.Proof.Slab
public import proofs.«01_k».proof.Proof.KernelIdeal.Spec
public import proofs.«01_k».proof.Proof.KernelIdeal.LoopsC
public import proofs.«01_k».proof.Proof.KernelIdeal.PartA

@[expose] public section

set_option maxRecDepth 16384
set_option maxHeartbeats 4000000

noncomputable section

namespace Cert.KernelIdeal.Hand

open Cert.KernelIdeal Cert.KernelIdeal.Gen
open Cert.Slab
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ
variable (arg1 : Memref sig .tc .smem S2 .f32) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S256x4096 .bf16) (harg15 : arg15.IsWhole) (arg16 : Memref sig .tc .vmem S1x256 .f32) (harg16 : arg16.IsWhole) (arg17 : Memref sig .tc .vmem S1x256 .f32) (harg17 : arg17.IsWhole) (arg18 : Memref sig .tc .vmem S8x4096 .f32) (harg18 : arg18.IsWhole) (arg19 : Memref sig .tc .vmem S5x256x128 .f32) (harg19 : arg19.IsWhole) (arg20 : Memref sig .tc .vmem S2x8x128 .f32) (harg20 : arg20.IsWhole) (arg21 : Memref sig .tc .vmem S1x4096 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x4096 .f32) (harg24 : arg24.IsWhole) (arg25 : Memref sig .tc .vmem S256x256 .f32) (harg25 : arg25.IsWhole) (arg26 : Memref sig .tc .vmem S256x4096 .f32) (harg26 : arg26.IsWhole) (arg27 : Memref sig .tc .vmem S256x4096 .i8) (harg27 : arg27.IsWhole) (arg28 : Memref sig .tc .vmem S4096x256 .i8) (harg28 : arg28.IsWhole) (arg29 : Memref sig .tc .vmem S4096x256 .i8) (harg29 : arg29.IsWhole) (arg30 : Memref sig .tc .vmem S256x256 .i8) (harg30 : arg30.IsWhole) (arg31 : Memref sig .tc .vmem S256x4096 .i8) (harg31 : arg31.IsWhole) (arg32 : Memref sig .tc .vmem S256x4096 .bf16) (harg32 : arg32.IsWhole) (arg33 : Memref sig .tc .vmem S4096x256 .bf16) (harg33 : arg33.IsWhole) (arg34 : Memref sig .tc .vmem S4096x256 .bf16) (harg34 : arg34.IsWhole) (arg35 : Memref sig .tc .vmem S4096x256 .bf16) (harg35 : arg35.IsWhole) (arg36 : Memref sig .tc .vmem S256x4096 .bf16) (harg36 : arg36.IsWhole) (arg37 : Memref sig .tc .vmem S1x4096 .f32) (harg37 : arg37.IsWhole) (arg38 : Memref sig .tc .vmem S1x4096 .bf16) (harg38 : arg38.IsWhole) (arg39 : Memref sig .tc .vmem S1x4096 .bf16) (harg39 : arg39.IsWhole) (arg40 : Memref sig .tc .vmem S256x128 .f32) (harg40 : arg40.IsWhole) (arg41 : Memref sig .tc .vmem S256x128 .f32) (harg41 : arg41.IsWhole)

theorem part15_sound (c : Dev nD) (i : grid0.Coords) (v0 : Elt F .f32) (v1 : Elt F .f32) (v14 : FVec F S1x256 .f32) (v16 : FVec F S1x256 .f32) (v22 : FVec F S1x256 .f32) (v48 : FVec F S1x256 .bf16) (v50 : FVec F S1x256 .bf16) (v82 : FVec F S1x256 .bf16) (v84 : FVec F S1x256 .bf16) (v93 : FVec F S256x256 .f32) (v101 : FVec F S256x256 .f32) (v114 : FVec F S256x256 .f32) (v126 : FVec F S256x256 .f32) (v156 : FVec F S256x256 .f32) (v158 : FVec F S256x256 .f32) (cst_64 : F .f32)  (X3 : BufTy.Contents (Elt F) arg3.view.ty) (X5 : BufTy.Contents (Elt F) arg5.view.ty) (X6 : BufTy.Contents (Elt F) arg6.view.ty) (X7 : BufTy.Contents (Elt F) arg7.view.ty) (X10 : BufTy.Contents (Elt F) arg10.view.ty) (X33 : BufTy.Contents (Elt F) arg33.view.ty) (X34 : BufTy.Contents (Elt F) arg34.view.ty) (X35 : BufTy.Contents (Elt F) arg35.view.ty) (X36 : BufTy.Contents (Elt F) arg36.view.ty) (X38 : BufTy.Contents (Elt F) arg38.view.ty) (X39 : BufTy.Contents (Elt F) arg39.view.ty) (X13 : BufTy.Contents (Elt F) arg13.view.ty) (X14 : BufTy.Contents (Elt F) arg14.view.ty) (X15 : BufTy.Contents (Elt F) arg15.view.ty) (X18 : BufTy.Contents (Elt F) arg18.view.ty) (X24 : BufTy.Contents (Elt F) arg24.view.ty) (X26 : BufTy.Contents (Elt F) arg26.view.ty) (X16 : BufTy.Contents (Elt F) arg16.view.ty) (X30 : BufTy.Contents (Elt F) arg30.view.ty) :
  (iprop((arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg10.view.loc (c : Thread nD τ) ↦[arg10.view.set]{fullShare} X10) ∗ (arg33.view.loc (c : Thread nD τ) ↦[arg33.view.set]{fullShare} X33) ∗ (arg34.view.loc (c : Thread nD τ) ↦[arg34.view.set]{fullShare} X34) ∗ (arg35.view.loc (c : Thread nD τ) ↦[arg35.view.set]{fullShare} X35) ∗ (arg36.view.loc (c : Thread nD τ) ↦[arg36.view.set]{fullShare} X36) ∗ (arg38.view.loc (c : Thread nD τ) ↦[arg38.view.set]{fullShare} X38) ∗ (arg39.view.loc (c : Thread nD τ) ↦[arg39.view.set]{fullShare} X39) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg18.view.loc (c : Thread nD τ) ↦[arg18.view.set]{fullShare} X18) ∗ (arg24.view.loc (c : Thread nD τ) ↦[arg24.view.set]{fullShare} X24) ∗ (arg26.view.loc (c : Thread nD τ) ↦[arg26.view.set]{fullShare} X26) ∗ (arg16.view.loc (c : Thread nD τ) ↦[arg16.view.set]{fullShare} X16) ∗ (arg30.view.loc (c : Thread nD τ) ↦[arg30.view.set]{fullShare} X30)) : sProp 𝕄G)
  ⊢ wp frame (wpE (defs₀ (F := F)) Variants.none (c : Thread nD τ) none) Set.univ (k0_part15 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v0 v1 v14 v16 v22 v48 v50 v82 v84 v93 v101 v114 v126 v156 v158 cst_64 ) (fun r => iprop((arg3.view.loc (c : Thread nD τ) ↦[arg3.view.set]{fullShare} X3) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg10.view.loc (c : Thread nD τ) ↦[arg10.view.set]{fullShare} X10) ∗ (arg33.view.loc (c : Thread nD τ) ↦[arg33.view.set]{fullShare} X33) ∗ (arg34.view.loc (c : Thread nD τ) ↦[arg34.view.set]{fullShare} X34) ∗ (arg35.view.loc (c : Thread nD τ) ↦[arg35.view.set]{fullShare} X35) ∗ (arg36.view.loc (c : Thread nD τ) ↦[arg36.view.set]{fullShare} X36) ∗ (arg38.view.loc (c : Thread nD τ) ↦[arg38.view.set]{fullShare} X38) ∗ (arg39.view.loc (c : Thread nD τ) ↦[arg39.view.set]{fullShare} X39) ∗ (∃ f, (arg13.view.loc (c : Thread nD τ) ↦[arg13.view.set]{fullShare} f) ∗ ⌜(arg13.view.read (Elt F) f) = (w4_13 v48 v50 v101 v114 v158 cst_64 v0 v14 (arg33.view.read (Elt F) X33) (arg5.view.read (Elt F) X5))⌝) ∗ (∃ f, (arg14.view.loc (c : Thread nD τ) ↦[arg14.view.set]{fullShare} f) ∗ ⌜(arg14.view.read (Elt F) f) = (w4_14 v82 v84 v101 v114 v156 v0 v16 (arg33.view.read (Elt F) X33) (arg6.view.read (Elt F) X6))⌝) ∗ (∃ f, (arg15.view.loc (c : Thread nD τ) ↦[arg15.view.set]{fullShare} f) ∗ ⌜(arg15.view.read (Elt F) f) = (w4_15 v126 (arg3.view.read (Elt F) X3) v1 (arg10.view.read (Elt F) X10) (arg7.view.read (Elt F) X7) (arg38.view.read (Elt F) X38) (arg39.view.read (Elt F) X39))⌝) ∗ (∃ f, (arg18.view.loc (c : Thread nD τ) ↦[arg18.view.set]{fullShare} f) ∗ ⌜(arg18.view.read (Elt F) f) = (w4_18 v126 (arg18.view.read (Elt F) X18) (arg3.view.read (Elt F) X3) v1 (arg10.view.read (Elt F) X10) (arg7.view.read (Elt F) X7) (arg38.view.read (Elt F) X38) (arg39.view.read (Elt F) X39))⌝) ∗ (∃ f, (arg24.view.loc (c : Thread nD τ) ↦[arg24.view.set]{fullShare} f) ∗ ⌜(arg24.view.read (Elt F) f) = (w4_24 v126 (arg24.view.read (Elt F) X24) (arg36.view.read (Elt F) X36))⌝) ∗ (∃ f, (arg26.view.loc (c : Thread nD τ) ↦[arg26.view.set]{fullShare} f) ∗ ⌜(arg26.view.read (Elt F) f) = (w4_26 v101 v114 v158 cst_64 v156 (arg26.view.read (Elt F) X26) (arg34.view.read (Elt F) X34) (arg35.view.read (Elt F) X35))⌝) ∗ (∃ f, (arg16.view.loc (c : Thread nD τ) ↦[arg16.view.set]{fullShare} f) ∗ ⌜(arg16.view.read (Elt F) f) = k0_pay136 v0 v22 v93 v101 v114 v158 cst_64 (w4_a0 (arg5.view.read (Elt F) X5) v101 v114 v158 cst_64 v0 v14 (arg33.view.read (Elt F) X33) v48 v50)⌝) ∗ (∃ f, (arg30.view.loc (c : Thread nD τ) ↦[arg30.view.set]{fullShare} f) ∗ ⌜(arg30.view.read (Elt F) f) = k0_pay127 v126⌝) ∗ ⌜r = ⟨(w4_a1 v82 v84 v101 v114 v156 v0 v16 (arg33.view.read (Elt F) X33) (arg6.view.read (Elt F) X6)), k0_pay137 v101 v114 v156⟩⌝)) := by
  rw [k0_part15_eq_skeleton]
  unfold k0_part15_skel
  iintro ⟨H3, H5, H6, H7, H10, H33, H34, H35, H36, H38, H39, H13, H14, H15, H18, H24, H26, H16, H30⟩
  sl_exec
  sl_unfold_run_names
  sl_for (inv4 arg3 arg5 arg6 arg7 arg10 arg13 arg14 arg15 arg18 arg24 arg26 arg33 arg34 arg35 arg36 arg38 arg39 c i v0 v1 v14 v16 v22 v48 v50 v82 v84 v93 v101 v114 v126 v156 v158 cst_64 X3 X5 X6 X7 X10 X33 X34 X35 X36 X38 X39 (arg13.view.read (Elt F) X13) (arg14.view.read (Elt F) X14) (arg15.view.read (Elt F) X15) (arg18.view.read (Elt F) X18) (arg24.view.read (Elt F) X24) (arg26.view.read (Elt F) X26) k0_pay130 k0_pay130) $$ [H3 H5 H6 H7 H10 H33 H34 H35 H36 H38 H39 H13 H14 H15 H18 H24 H26]
  · exact fun k acc => step4 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i v0 v1 v14 v16 v22 v48 v50 v82 v84 v93 v101 v114 v126 v156 v158 cst_64 X3 X5 X6 X7 X10 X33 X34 X35 X36 X38 X39 (arg13.view.read (Elt F) X13) (arg14.view.read (Elt F) X14) (arg15.view.read (Elt F) X15) (arg18.view.read (Elt F) X18) (arg24.view.read (Elt F) X24) (arg26.view.read (Elt F) X26) k0_pay130 k0_pay130 k acc
  · unfold inv4
    isplitl [H3]; · iexact H3
    isplitl [H5]; · iexact H5
    isplitl [H6]; · iexact H6
    isplitl [H7]; · iexact H7
    isplitl [H10]; · iexact H10
    isplitl [H33]; · iexact H33
    isplitl [H34]; · iexact H34
    isplitl [H35]; · iexact H35
    isplitl [H36]; · iexact H36
    isplitl [H38]; · iexact H38
    isplitl [H39]; · iexact H39
    isplitl [H13]
    · iexists _; isplitl [H13]; · iexact H13
      ipureintro; exact rfl
    isplitl [H14]
    · iexists _; isplitl [H14]; · iexact H14
      ipureintro; exact rfl
    isplitl [H15]
    · iexists _; isplitl [H15]; · iexact H15
      ipureintro; exact rfl
    isplitl [H18]
    · iexists _; isplitl [H18]; · iexact H18
      ipureintro; exact rfl
    isplitl [H24]
    · iexists _; isplitl [H24]; · iexact H24
      ipureintro; exact rfl
    isplitl [H26]
    · iexists _; isplitl [H26]; · iexact H26
      ipureintro; exact rfl
    ipureintro; rfl
  iintro %acc HI
  unfold inv4
  icases HI with ⟨H3, H5, H6, H7, H10, H33, H34, H35, H36, H38, H39, ⟨%f13, H13, %h13⟩, ⟨%f14, H14, %h14⟩, ⟨%f15, H15, %h15⟩, ⟨%f18, H18, %h18⟩, ⟨%f24, H24, %h24⟩, ⟨%f26, H26, %h26⟩, %ha⟩
  rw [tr4, upR_eight] at h13
  rw [tr4, upR_eight] at h14
  rw [tr4, upC_eight] at h15
  rw [tr4, upC_eight] at h18
  rw [tr4, upC_eight] at h24
  rw [tr4, upC_eight] at h26
  rw [tr4] at ha; subst ha
  sl_exec
  sl_unfold_run_names
  sl_step
  isplitl [H3]; · iexact H3
  isplitl [H5]; · iexact H5
  isplitl [H6]; · iexact H6
  isplitl [H7]; · iexact H7
  isplitl [H10]; · iexact H10
  isplitl [H33]; · iexact H33
  isplitl [H34]; · iexact H34
  isplitl [H35]; · iexact H35
  isplitl [H36]; · iexact H36
  isplitl [H38]; · iexact H38
  isplitl [H39]; · iexact H39
  isplitl [H13]
  · iexists _; isplitl [H13]; · iexact H13
    ipureintro; exact h13
  isplitl [H14]
  · iexists _; isplitl [H14]; · iexact H14
    ipureintro; exact h14
  isplitl [H15]
  · iexists _; isplitl [H15]; · iexact H15
    ipureintro; exact h15
  isplitl [H18]
  · iexists _; isplitl [H18]; · iexact H18
    ipureintro; exact h18
  isplitl [H24]
  · iexists _; isplitl [H24]; · iexact H24
    ipureintro; exact h24
  isplitl [H26]
  · iexists _; isplitl [H26]; · iexact H26
    ipureintro; exact h26
  isplitl [H16]
  · iexists _; isplitl [H16]; · iexact H16
    ipureintro; exact store_all _ _ _ _ _ _ rfl
  isplitl [H30]
  · iexists _; isplitl [H30]; · iexact H30
    ipureintro; exact store_all _ _ _ _ _ _ rfl
  ipureintro; rfl

end Cert.KernelIdeal.Hand

end
-- ==== Proof.KernelIdeal.LoopsA.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Pipeline.Frame
public import Idealize.ShloMosaic.Lib.WritesUnit
public import proofs.«01_k».proof.Proof.Slab

@[expose] public section

set_option maxRecDepth 16384
set_option maxHeartbeats 4000000

noncomputable section

namespace Cert.KernelIdeal.Hand

open Cert.KernelIdeal Cert.KernelIdeal.Gen
open Cert.Slab
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ
variable (arg1 : Memref sig .tc .smem S2 .f32) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S256x4096 .bf16) (harg15 : arg15.IsWhole) (arg16 : Memref sig .tc .vmem S1x256 .f32) (harg16 : arg16.IsWhole) (arg17 : Memref sig .tc .vmem S1x256 .f32) (harg17 : arg17.IsWhole) (arg18 : Memref sig .tc .vmem S8x4096 .f32) (harg18 : arg18.IsWhole) (arg19 : Memref sig .tc .vmem S5x256x128 .f32) (harg19 : arg19.IsWhole) (arg20 : Memref sig .tc .vmem S2x8x128 .f32) (harg20 : arg20.IsWhole) (arg21 : Memref sig .tc .vmem S1x4096 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x4096 .f32) (harg24 : arg24.IsWhole) (arg25 : Memref sig .tc .vmem S256x256 .f32) (harg25 : arg25.IsWhole) (arg26 : Memref sig .tc .vmem S256x4096 .f32) (harg26 : arg26.IsWhole) (arg27 : Memref sig .tc .vmem S256x4096 .i8) (harg27 : arg27.IsWhole) (arg28 : Memref sig .tc .vmem S4096x256 .i8) (harg28 : arg28.IsWhole) (arg29 : Memref sig .tc .vmem S4096x256 .i8) (harg29 : arg29.IsWhole) (arg30 : Memref sig .tc .vmem S256x256 .i8) (harg30 : arg30.IsWhole) (arg31 : Memref sig .tc .vmem S256x4096 .i8) (harg31 : arg31.IsWhole) (arg32 : Memref sig .tc .vmem S256x4096 .bf16) (harg32 : arg32.IsWhole) (arg33 : Memref sig .tc .vmem S4096x256 .bf16) (harg33 : arg33.IsWhole) (arg34 : Memref sig .tc .vmem S4096x256 .bf16) (harg34 : arg34.IsWhole) (arg35 : Memref sig .tc .vmem S4096x256 .bf16) (harg35 : arg35.IsWhole) (arg36 : Memref sig .tc .vmem S256x4096 .bf16) (harg36 : arg36.IsWhole) (arg37 : Memref sig .tc .vmem S1x4096 .f32) (harg37 : arg37.IsWhole) (arg38 : Memref sig .tc .vmem S1x4096 .bf16) (harg38 : arg38.IsWhole) (arg39 : Memref sig .tc .vmem S1x4096 .bf16) (harg39 : arg39.IsWhole) (arg40 : Memref sig .tc .vmem S256x128 .f32) (harg40 : arg40.IsWhole) (arg41 : Memref sig .tc .vmem S256x128 .f32) (harg41 : arg41.IsWhole)

/-- Loop 1 of the kernel: what its buffers hold before trip `k`. -/
def inv1 (c : Dev nD) (i : grid0.Coords) (k0_h1 : k0_cond1 i = 1#1) (X2 : BufTy.Contents (Elt F) arg2.view.ty)  (z0 : FVec F S256x128 .f32) : ℕ → (FVec F S256x128 .f32) → sProp 𝕄G :=
  fun k acc => iprop((arg2.view.loc (c : Thread nD τ) ↦[arg2.view.set]{fullShare} X2) ∗ ⌜acc = accTo (fun j a => k0_pay83 a (cs (arg2.view.read (Elt F) X2) j)) z0 k⌝)

/-- One trip of loop 1. -/
theorem step1 (c : Dev nD) (i : grid0.Coords) (k0_h1 : k0_cond1 i = 1#1) (X2 : BufTy.Contents (Elt F) arg2.view.ty)  (z0 : FVec F S256x128 .f32) (k : Fin (Scf.trips k0_t1_loop.lb k0_t1_loop.ub k0_t1_loop.st)) (acc : (FVec F S256x128 .f32)) :
  inv1 arg2 c i k0_h1 X2 z0 k.val acc ⊢ wp frame (wpE (defs₀ (F := F)) Variants.none (c : Thread nD τ) none) Set.univ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 k0_h1 k acc) (inv1 arg2 c i k0_h1 X2 z0 (k.val + 1)) := by
    have hk : k.val < 8 := Nat.lt_of_lt_of_le k.isLt k0_t1_abs.2.1
    unfold k0_t1_body inv1
    iintro ⟨H2, %ha⟩
    subst ha
    sl_exec
    sl_unfold_run_names
    sl_step
    isplitl [H2]; · iexact H2
    ipureintro
    exact (by rw [accTo_succ _ _ _ hk, load_c (m := 256) arg2.view X2 ⟨k.val, hk⟩ (k0_off1_eq k)])

/-- Loop 2 of the kernel: what its buffers hold before trip `k`. -/
def inv2 (c : Dev nD) (i : grid0.Coords) (v0 : Elt F .f32) (k0_h1 : k0_cond1 i = 1#1) (v217 : FVec F S256x128 .f32) (X2 : BufTy.Contents (Elt F) arg2.view.ty) (X4 : BufTy.Contents (Elt F) arg4.view.ty) (X10 : BufTy.Contents (Elt F) arg10.view.ty) (y24 : S256x4096.Idx → Elt F .f32) (y26 : S256x4096.Idx → Elt F .f32) (y27 : S256x4096.Idx → Elt F .i8) (y32 : S256x4096.Idx → Elt F .bf16) (y33 : S4096x256.Idx → Elt F .bf16) (y37 : S1x4096.Idx → Elt F .f32) (y38 : S1x4096.Idx → Elt F .bf16) (y39 : S1x4096.Idx → Elt F .bf16)  : ℕ → PUnit → sProp 𝕄G :=
  fun k _ => iprop((arg2.view.loc (c : Thread nD τ) ↦[arg2.view.set]{fullShare} X2) ∗ (arg4.view.loc (c : Thread nD τ) ↦[arg4.view.set]{fullShare} X4) ∗ (arg10.view.loc (c : Thread nD τ) ↦[arg10.view.set]{fullShare} X10) ∗ (∃ f, (arg24.view.loc (c : Thread nD τ) ↦[arg24.view.set]{fullShare} f) ∗ ⌜(arg24.view.read (Elt F) f) = upC k (fun j => k0_pay16) y24⌝) ∗ (∃ f, (arg26.view.loc (c : Thread nD τ) ↦[arg26.view.set]{fullShare} f) ∗ ⌜(arg26.view.read (Elt F) f) = upC k (fun j => k0_pay85) y26⌝) ∗ (∃ f, (arg27.view.loc (c : Thread nD τ) ↦[arg27.view.set]{fullShare} f) ∗ ⌜(arg27.view.read (Elt F) f) = upC k (fun j => k0_pay8 (k0_pay80 v0) (k0_pay84 v217) (cs (arg2.view.read (Elt F) X2) j) (cs (arg4.view.read (Elt F) X4) j)) y27⌝) ∗ (∃ f, (arg32.view.loc (c : Thread nD τ) ↦[arg32.view.set]{fullShare} f) ∗ ⌜(arg32.view.read (Elt F) f) = upC k (fun j => k0_pay6 (k0_pay80 v0) (k0_pay84 v217) (cs (arg2.view.read (Elt F) X2) j) (cs (arg4.view.read (Elt F) X4) j)) y32⌝) ∗ (∃ f, (arg33.view.loc (c : Thread nD τ) ↦[arg33.view.set]{fullShare} f) ∗ ⌜(arg33.view.read (Elt F) f) = upR k (fun j => k0_pay7 (k0_pay80 v0) (k0_pay84 v217) (cs (arg2.view.read (Elt F) X2) j) (cs (arg4.view.read (Elt F) X4) j)) y33⌝) ∗ (∃ f, (arg37.view.loc (c : Thread nD τ) ↦[arg37.view.set]{fullShare} f) ∗ ⌜(arg37.view.read (Elt F) f) = upC k (fun j => k0_pay13 (k0_pay9 (cs (arg10.view.read (Elt F) X10) j)) (Scalar.ofBits .f32 0x3F800000#32)) y37⌝) ∗ (∃ f, (arg38.view.loc (c : Thread nD τ) ↦[arg38.view.set]{fullShare} f) ∗ ⌜(arg38.view.read (Elt F) f) = upC k (fun j => k0_pay14 (k0_pay9 (cs (arg10.view.read (Elt F) X10) j)) (Scalar.ofBits .f32 0x3F800000#32)) y38⌝) ∗ (∃ f, (arg39.view.loc (c : Thread nD τ) ↦[arg39.view.set]{fullShare} f) ∗ ⌜(arg39.view.read (Elt F) f) = upC k (fun j => k0_pay15 (k0_pay9 (cs (arg10.view.read (Elt F) X10) j)) (Scalar.ofBits .f32 0x3F800000#32)) y39⌝))

/-- One trip of loop 2. -/
theorem step2 (c : Dev nD) (i : grid0.Coords) (v0 : Elt F .f32) (k0_h1 : k0_cond1 i = 1#1) (v217 : FVec F S256x128 .f32) (X2 : BufTy.Contents (Elt F) arg2.view.ty) (X4 : BufTy.Contents (Elt F) arg4.view.ty) (X10 : BufTy.Contents (Elt F) arg10.view.ty) (y24 : S256x4096.Idx → Elt F .f32) (y26 : S256x4096.Idx → Elt F .f32) (y27 : S256x4096.Idx → Elt F .i8) (y32 : S256x4096.Idx → Elt F .bf16) (y33 : S4096x256.Idx → Elt F .bf16) (y37 : S1x4096.Idx → Elt F .f32) (y38 : S1x4096.Idx → Elt F .bf16) (y39 : S1x4096.Idx → Elt F .bf16)  (k : Fin (Scf.trips k0_t2_loop.lb k0_t2_loop.ub k0_t2_loop.st)) (acc : PUnit) :
  inv2 arg2 arg4 arg10 arg24 arg26 arg27 arg32 arg33 arg37 arg38 arg39 c i v0 k0_h1 v217 X2 X4 X10 y24 y26 y27 y32 y33 y37 y38 y39 k.val acc ⊢ wp frame (wpE (defs₀ (F := F)) Variants.none (c : Thread nD τ) none) Set.univ (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v0 k0_h1 v217 k acc) (inv2 arg2 arg4 arg10 arg24 arg26 arg27 arg32 arg33 arg37 arg38 arg39 c i v0 k0_h1 v217 X2 X4 X10 y24 y26 y27 y32 y33 y37 y38 y39 (k.val + 1)) := by
    have hk : k.val < 8 := Nat.lt_of_lt_of_le k.isLt k0_t2_abs.2.1
    unfold k0_t2_body inv2
    iintro ⟨H2, H4, H10, ⟨%f24, H24, %h24⟩, ⟨%f26, H26, %h26⟩, ⟨%f27, H27, %h27⟩, ⟨%f32, H32, %h32⟩, ⟨%f33, H33, %h33⟩, ⟨%f37, H37, %h37⟩, ⟨%f38, H38, %h38⟩, ⟨%f39, H39, %h39⟩⟩
    sl_exec
    sl_unfold_run_names
    sl_step
    isplitl [H2]; · iexact H2
    isplitl [H4]; · iexact H4
    isplitl [H10]; · iexact H10
    isplitl [H24]
    · iexists _; isplitl [H24]; · iexact H24
      ipureintro; exact store_c (m := 256) arg24.view f24 ⟨k.val, hk⟩ (k0_off2_eq k) _ _ _ h24 _ rfl
    isplitl [H26]
    · iexists _; isplitl [H26]; · iexact H26
      ipureintro; exact store_c (m := 256) arg26.view f26 ⟨k.val, hk⟩ (k0_off2_eq k) _ _ _ h26 _ rfl
    isplitl [H27]
    · iexists _; isplitl [H27]; · iexact H27
      ipureintro; exact store_c (m := 256) arg27.view f27 ⟨k.val, hk⟩ (k0_off2_eq k) _ _ _ h27 _ (by rw [load_c (m := 256) arg2.view X2 ⟨k.val, hk⟩ (k0_off2_eq k), load_c (m := 1) arg4.view X4 ⟨k.val, hk⟩ (k0_off3_eq k)])
    isplitl [H32]
    · iexists _; isplitl [H32]; · iexact H32
      ipureintro; exact store_c (m := 256) arg32.view f32 ⟨k.val, hk⟩ (k0_off2_eq k) _ _ _ h32 _ (by rw [load_c (m := 256) arg2.view X2 ⟨k.val, hk⟩ (k0_off2_eq k), load_c (m := 1) arg4.view X4 ⟨k.val, hk⟩ (k0_off3_eq k)])
    isplitl [H33]
    · iexists _; isplitl [H33]; · iexact H33
      ipureintro; exact store_r (m := 256) arg33.view f33 ⟨k.val, hk⟩ (k0_off4_eq k) _ _ _ h33 _ (by rw [load_c (m := 256) arg2.view X2 ⟨k.val, hk⟩ (k0_off2_eq k), load_c (m := 1) arg4.view X4 ⟨k.val, hk⟩ (k0_off3_eq k)])
    isplitl [H37]
    · iexists _; isplitl [H37]; · iexact H37
      ipureintro; exact store_c (m := 1) arg37.view f37 ⟨k.val, hk⟩ (k0_off3_eq k) _ _ _ h37 _ (by rw [load_c (m := 1) arg10.view X10 ⟨k.val, hk⟩ (k0_off3_eq k)])
    isplitl [H38]
    · iexists _; isplitl [H38]; · iexact H38
      ipureintro; exact store_c (m := 1) arg38.view f38 ⟨k.val, hk⟩ (k0_off3_eq k) _ _ _ h38 _ (by rw [load_c (m := 1) arg10.view X10 ⟨k.val, hk⟩ (k0_off3_eq k)])
    iexists _; isplitl [H39]; · iexact H39
    ipureintro; exact store_c (m := 1) arg39.view f39 ⟨k.val, hk⟩ (k0_off3_eq k) _ _ _ h39 _ (by rw [load_c (m := 1) arg10.view X10 ⟨k.val, hk⟩ (k0_off3_eq k)])

/-- Loop 5 of the kernel: what its buffers hold before trip `k`. -/
def inv5 (c : Dev nD) (i : grid0.Coords) (v1 : Elt F .f32) (v6 : FVec F S1x1 .f32) (k0_h2 : k0_cond2 i = 1#1) (X2 : BufTy.Contents (Elt F) arg2.view.ty)  (z0 : FVec F S256x128 .f32) : ℕ → (FVec F S256x128 .f32) → sProp 𝕄G :=
  fun k acc => iprop((arg2.view.loc (c : Thread nD τ) ↦[arg2.view.set]{fullShare} X2) ∗ ⌜acc = accTo (fun j a => k0_pay61 a (cs (arg2.view.read (Elt F) X2) j)) z0 k⌝)

/-- One trip of loop 5. -/
theorem step5 (c : Dev nD) (i : grid0.Coords) (v1 : Elt F .f32) (v6 : FVec F S1x1 .f32) (k0_h2 : k0_cond2 i = 1#1) (X2 : BufTy.Contents (Elt F) arg2.view.ty)  (z0 : FVec F S256x128 .f32) (k : Fin (Scf.trips k0_t5_loop.lb k0_t5_loop.ub k0_t5_loop.st)) (acc : (FVec F S256x128 .f32)) :
  inv5 arg2 c i v1 v6 k0_h2 X2 z0 k.val acc ⊢ wp frame (wpE (defs₀ (F := F)) Variants.none (c : Thread nD τ) none) Set.univ (k0_t5_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v1 v6 k0_h2 k acc) (inv5 arg2 c i v1 v6 k0_h2 X2 z0 (k.val + 1)) := by
    have hk : k.val < 8 := Nat.lt_of_lt_of_le k.isLt k0_t5_abs.2.1
    unfold k0_t5_body inv5
    iintro ⟨H2, %ha⟩
    subst ha
    sl_exec
    sl_unfold_run_names
    sl_step
    isplitl [H2]; · iexact H2
    ipureintro
    exact (by rw [accTo_succ _ _ _ hk, load_c (m := 256) arg2.view X2 ⟨k.val, hk⟩ (k0_off12_eq k)])

/-- Loop 7 of the kernel: what its buffers hold before trip `k`. -/
def inv7 (c : Dev nD) (i : grid0.Coords) (v6 : FVec F S1x1 .f32) (k0_h2 : k0_cond2 i = 1#1) (v224 : FVec F S256x1 .f32) (v250 : FVec F S256x1 .f32) (X2 : BufTy.Contents (Elt F) arg2.view.ty) (X3 : BufTy.Contents (Elt F) arg3.view.ty) (X4 : BufTy.Contents (Elt F) arg4.view.ty) (X26 : BufTy.Contents (Elt F) arg26.view.ty) (y12 : S256x4096.Idx → Elt F .bf16)  : ℕ → PUnit → sProp 𝕄G :=
  fun k _ => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg26.view.loc (c : Thread nD τ) ↦[arg26.view.set]{fullShare} X26) ∗ (∃ f, (arg12.view.loc (c : Thread nD τ) ↦[arg12.view.set]{fullShare} f) ∗ ⌜(arg12.view.read (Elt F) f) = upC k (fun j => k0_pay4 v6 v224 v250 (cs (arg2.view.read (Elt F) X2) j) (cs (arg4.view.read (Elt F) X4) j) (cs (arg26.view.read (Elt F) X26) j) (cs (arg3.view.read (Elt F) X3) j)) y12⌝))

/-- One trip of loop 7. -/
theorem step7 (c : Dev nD) (i : grid0.Coords) (v6 : FVec F S1x1 .f32) (k0_h2 : k0_cond2 i = 1#1) (v224 : FVec F S256x1 .f32) (v250 : FVec F S256x1 .f32) (X2 : BufTy.Contents (Elt F) arg2.view.ty) (X3 : BufTy.Contents (Elt F) arg3.view.ty) (X4 : BufTy.Contents (Elt F) arg4.view.ty) (X26 : BufTy.Contents (Elt F) arg26.view.ty) (y12 : S256x4096.Idx → Elt F .bf16)  (k : Fin (Scf.trips k0_t7_loop.lb k0_t7_loop.ub k0_t7_loop.st)) (acc : PUnit) :
  inv7 arg2 arg3 arg4 arg12 arg26 c i v6 k0_h2 v224 v250 X2 X3 X4 X26 y12 k.val acc ⊢ wp frame (wpE (defs₀ (F := F)) Variants.none (c : Thread nD τ) none) Set.univ (k0_t7_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v6 k0_h2 v224 v250 k acc) (inv7 arg2 arg3 arg4 arg12 arg26 c i v6 k0_h2 v224 v250 X2 X3 X4 X26 y12 (k.val + 1)) := by
    have hk : k.val < 8 := Nat.lt_of_lt_of_le k.isLt k0_t7_abs.2.1
    unfold k0_t7_body inv7
    iintro ⟨H2, H3, H4, H26, ⟨%f12, H12, %h12⟩⟩
    sl_exec
    sl_unfold_run_names
    sl_step
    isplitl [H2]; · iexact H2
    isplitl [H3]; · iexact H3
    isplitl [H4]; · iexact H4
    isplitl [H26]; · iexact H26
    iexists _; isplitl [H12]; · iexact H12
    ipureintro; exact store_c (m := 256) arg12.view f12 ⟨k.val, hk⟩ (k0_off16_eq k) _ _ _ h12 _ (by rw [load_c (m := 256) arg2.view X2 ⟨k.val, hk⟩ (k0_off16_eq k), load_c (m := 256) arg3.view X3 ⟨k.val, hk⟩ (k0_off16_eq k), load_c (m := 1) arg4.view X4 ⟨k.val, hk⟩ (k0_off17_eq k), load_c (m := 256) arg26.view X26 ⟨k.val, hk⟩ (k0_off16_eq k)])

end Cert.KernelIdeal.Hand

end
-- ==== Proof.KernelIdeal.PartD.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Pipeline.Frame
public import Idealize.ShloMosaic.Lib.WritesUnit
public import proofs.«01_k».proof.Proof.Slab
public import proofs.«01_k».proof.Proof.KernelIdeal.Spec
public import proofs.«01_k».proof.Proof.KernelIdeal.LoopsA
public import proofs.«01_k».proof.Proof.KernelIdeal.PartA

@[expose] public section

set_option maxRecDepth 16384
set_option maxHeartbeats 4000000

noncomputable section

namespace Cert.KernelIdeal.Hand

open Cert.KernelIdeal Cert.KernelIdeal.Gen
open Cert.Slab
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ
variable (arg1 : Memref sig .tc .smem S2 .f32) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S256x4096 .bf16) (harg15 : arg15.IsWhole) (arg16 : Memref sig .tc .vmem S1x256 .f32) (harg16 : arg16.IsWhole) (arg17 : Memref sig .tc .vmem S1x256 .f32) (harg17 : arg17.IsWhole) (arg18 : Memref sig .tc .vmem S8x4096 .f32) (harg18 : arg18.IsWhole) (arg19 : Memref sig .tc .vmem S5x256x128 .f32) (harg19 : arg19.IsWhole) (arg20 : Memref sig .tc .vmem S2x8x128 .f32) (harg20 : arg20.IsWhole) (arg21 : Memref sig .tc .vmem S1x4096 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x4096 .f32) (harg24 : arg24.IsWhole) (arg25 : Memref sig .tc .vmem S256x256 .f32) (harg25 : arg25.IsWhole) (arg26 : Memref sig .tc .vmem S256x4096 .f32) (harg26 : arg26.IsWhole) (arg27 : Memref sig .tc .vmem S256x4096 .i8) (harg27 : arg27.IsWhole) (arg28 : Memref sig .tc .vmem S4096x256 .i8) (harg28 : arg28.IsWhole) (arg29 : Memref sig .tc .vmem S4096x256 .i8) (harg29 : arg29.IsWhole) (arg30 : Memref sig .tc .vmem S256x256 .i8) (harg30 : arg30.IsWhole) (arg31 : Memref sig .tc .vmem S256x4096 .i8) (harg31 : arg31.IsWhole) (arg32 : Memref sig .tc .vmem S256x4096 .bf16) (harg32 : arg32.IsWhole) (arg33 : Memref sig .tc .vmem S4096x256 .bf16) (harg33 : arg33.IsWhole) (arg34 : Memref sig .tc .vmem S4096x256 .bf16) (harg34 : arg34.IsWhole) (arg35 : Memref sig .tc .vmem S4096x256 .bf16) (harg35 : arg35.IsWhole) (arg36 : Memref sig .tc .vmem S256x4096 .bf16) (harg36 : arg36.IsWhole) (arg37 : Memref sig .tc .vmem S1x4096 .f32) (harg37 : arg37.IsWhole) (arg38 : Memref sig .tc .vmem S1x4096 .bf16) (harg38 : arg38.IsWhole) (arg39 : Memref sig .tc .vmem S1x4096 .bf16) (harg39 : arg39.IsWhole) (arg40 : Memref sig .tc .vmem S256x128 .f32) (harg40 : arg40.IsWhole) (arg41 : Memref sig .tc .vmem S256x128 .f32) (harg41 : arg41.IsWhole)

theorem part11_first (c : Dev nD) (i : grid0.Coords)  (k0_h1 : k0_cond1 i = 1#1) (X1 : BufTy.Contents (Elt F) arg1.view.ty) (X2 : BufTy.Contents (Elt F) arg2.view.ty) (X4 : BufTy.Contents (Elt F) arg4.view.ty) (X8 : BufTy.Contents (Elt F) arg8.view.ty) (X9 : BufTy.Contents (Elt F) arg9.view.ty) (X10 : BufTy.Contents (Elt F) arg10.view.ty) (X18 : BufTy.Contents (Elt F) arg18.view.ty) (X24 : BufTy.Contents (Elt F) arg24.view.ty) (X26 : BufTy.Contents (Elt F) arg26.view.ty) (X27 : BufTy.Contents (Elt F) arg27.view.ty) (X32 : BufTy.Contents (Elt F) arg32.view.ty) (X33 : BufTy.Contents (Elt F) arg33.view.ty) (X37 : BufTy.Contents (Elt F) arg37.view.ty) (X38 : BufTy.Contents (Elt F) arg38.view.ty) (X39 : BufTy.Contents (Elt F) arg39.view.ty) (X40 : BufTy.Contents (Elt F) arg40.view.ty) (X41 : BufTy.Contents (Elt F) arg41.view.ty) :
  (iprop((arg1.view.loc (c : Thread nD τ) ↦[arg1.view.set]{fullShare} X1) ∗ (arg2.view.loc (c : Thread nD τ) ↦[arg2.view.set]{fullShare} X2) ∗ (arg4.view.loc (c : Thread nD τ) ↦[arg4.view.set]{fullShare} X4) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg18.view.loc (c : Thread nD τ) ↦[arg18.view.set]{fullShare} X18) ∗ (arg24.view.loc (c : Thread nD τ) ↦[arg24.view.set]{fullShare} X24) ∗ (arg26.view.loc (c : Thread nD τ) ↦[arg26.view.set]{fullShare} X26) ∗ (arg27.view.loc (c : Thread nD τ) ↦[arg27.view.set]{fullShare} X27) ∗ (arg32.view.loc (c : Thread nD τ) ↦[arg32.view.set]{fullShare} X32) ∗ (arg33.view.loc (c : Thread nD τ) ↦[arg33.view.set]{fullShare} X33) ∗ (arg37.view.loc (c : Thread nD τ) ↦[arg37.view.set]{fullShare} X37) ∗ (arg38.view.loc (c : Thread nD τ) ↦[arg38.view.set]{fullShare} X38) ∗ (arg39.view.loc (c : Thread nD τ) ↦[arg39.view.set]{fullShare} X39) ∗ (arg40.view.loc (c : Thread nD τ) ↦[arg40.view.set]{fullShare} X40) ∗ (arg41.view.loc (c : Thread nD τ) ↦[arg41.view.set]{fullShare} X41)) : sProp 𝕄G)
  ⊢ wp frame (wpE (defs₀ (F := F)) Variants.none (c : Thread nD τ) none) Set.univ (k0_part11 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41  ) (fun r => iprop((arg1.view.loc (c : Thread nD τ) ↦[arg1.view.set]{fullShare} X1) ∗ (arg2.view.loc (c : Thread nD τ) ↦[arg2.view.set]{fullShare} X2) ∗ (arg4.view.loc (c : Thread nD τ) ↦[arg4.view.set]{fullShare} X4) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (∃ f, (arg18.view.loc (c : Thread nD τ) ↦[arg18.view.set]{fullShare} f) ∗ ⌜(arg18.view.read (Elt F) f) = k0_pay86⌝) ∗ (∃ f, (arg24.view.loc (c : Thread nD τ) ↦[arg24.view.set]{fullShare} f) ∗ ⌜(arg24.view.read (Elt F) f) = (w2_24 (F := F))⌝) ∗ (∃ f, (arg26.view.loc (c : Thread nD τ) ↦[arg26.view.set]{fullShare} f) ∗ ⌜(arg26.view.read (Elt F) f) = (w2_26 (F := F))⌝) ∗ (∃ f, (arg27.view.loc (c : Thread nD τ) ↦[arg27.view.set]{fullShare} f) ∗ ⌜(arg27.view.read (Elt F) f) = (w2_27 (sv0 arg1 X1) (w1_a0 (arg2.view.read (Elt F) X2)) (arg2.view.read (Elt F) X2) (arg4.view.read (Elt F) X4))⌝) ∗ (∃ f, (arg32.view.loc (c : Thread nD τ) ↦[arg32.view.set]{fullShare} f) ∗ ⌜(arg32.view.read (Elt F) f) = (w2_32 (sv0 arg1 X1) (w1_a0 (arg2.view.read (Elt F) X2)) (arg2.view.read (Elt F) X2) (arg4.view.read (Elt F) X4))⌝) ∗ (∃ f, (arg33.view.loc (c : Thread nD τ) ↦[arg33.view.set]{fullShare} f) ∗ ⌜(arg33.view.read (Elt F) f) = (w2_33 (sv0 arg1 X1) (w1_a0 (arg2.view.read (Elt F) X2)) (arg2.view.read (Elt F) X2) (arg4.view.read (Elt F) X4))⌝) ∗ (∃ f, (arg37.view.loc (c : Thread nD τ) ↦[arg37.view.set]{fullShare} f) ∗ ⌜(arg37.view.read (Elt F) f) = (w2_37 (arg10.view.read (Elt F) X10))⌝) ∗ (∃ f, (arg38.view.loc (c : Thread nD τ) ↦[arg38.view.set]{fullShare} f) ∗ ⌜(arg38.view.read (Elt F) f) = (w2_38 (arg10.view.read (Elt F) X10))⌝) ∗ (∃ f, (arg39.view.loc (c : Thread nD τ) ↦[arg39.view.set]{fullShare} f) ∗ ⌜(arg39.view.read (Elt F) f) = (w2_39 (arg10.view.read (Elt F) X10))⌝) ∗ (∃ f, (arg40.view.loc (c : Thread nD τ) ↦[arg40.view.set]{fullShare} f) ∗ ⌜(arg40.view.read (Elt F) f) = k0_pay87⌝) ∗ (∃ f, (arg41.view.loc (c : Thread nD τ) ↦[arg41.view.set]{fullShare} f) ∗ ⌜(arg41.view.read (Elt F) f) = k0_pay88⌝) ∗ ⌜r = ⟨BitVec.ofNat 32 (i 0).val, (sv0 arg1 X1), (sv1 arg1 X1), k0_pay80 (sv0 arg1 X1), k0_pay81 (sv1 arg1 X1), k0_pay89 (arg8.view.read (Elt F) X8), k0_pay90 (arg9.view.read (Elt F) X9), k0_pay92 (arg8.view.read (Elt F) X8), k0_pay93 (arg8.view.read (Elt F) X8), k0_pay94 (arg8.view.read (Elt F) X8), k0_pay95 (arg8.view.read (Elt F) X8), Scalar.ofBits .f32 0x40E00000#32⟩⌝)) := by
  rw [k0_part11_eq_skeleton]
  unfold k0_part11_skel
  iintro ⟨H1, H2, H4, H8, H9, H10, H18, H24, H26, H27, H32, H33, H37, H38, H39, H40, H41⟩
  sl_exec
  sl_unfold_run_names
  sl_for (inv1 arg2 c i k0_h1 X2 k0_pay82) $$ [H2]
  · exact fun k acc => step1 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i k0_h1 X2 k0_pay82 k acc
  · unfold inv1
    isplitl [H2]; · iexact H2
    ipureintro; rfl
  iintro %acc HI
  unfold inv1
  icases HI with ⟨H2, %ha⟩
  rw [tr1] at ha; subst ha
  sl_exec
  sl_unfold_run_names
  sl_for (inv2 arg2 arg4 arg10 arg24 arg26 arg27 arg32 arg33 arg37 arg38 arg39 c i (sv0 arg1 X1) k0_h1 (w1_a0 (arg2.view.read (Elt F) X2)) X2 X4 X10 (arg24.view.read (Elt F) X24) (arg26.view.read (Elt F) X26) (arg27.view.read (Elt F) X27) (arg32.view.read (Elt F) X32) (arg33.view.read (Elt F) X33) (arg37.view.read (Elt F) X37) (arg38.view.read (Elt F) X38) (arg39.view.read (Elt F) X39)) $$ [H2 H4 H10 H24 H26 H27 H32 H33 H37 H38 H39]
  · exact fun k acc => step2 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i (sv0 arg1 X1) k0_h1 (w1_a0 (arg2.view.read (Elt F) X2)) X2 X4 X10 (arg24.view.read (Elt F) X24) (arg26.view.read (Elt F) X26) (arg27.view.read (Elt F) X27) (arg32.view.read (Elt F) X32) (arg33.view.read (Elt F) X33) (arg37.view.read (Elt F) X37) (arg38.view.read (Elt F) X38) (arg39.view.read (Elt F) X39) k acc
  · unfold inv2
    isplitl [H2]; · iexact H2
    isplitl [H4]; · iexact H4
    isplitl [H10]; · iexact H10
    isplitl [H24]
    · iexists _; isplitl [H24]; · iexact H24
      ipureintro; exact rfl
    isplitl [H26]
    · iexists _; isplitl [H26]; · iexact H26
      ipureintro; exact rfl
    isplitl [H27]
    · iexists _; isplitl [H27]; · iexact H27
      ipureintro; exact rfl
    isplitl [H32]
    · iexists _; isplitl [H32]; · iexact H32
      ipureintro; exact rfl
    isplitl [H33]
    · iexists _; isplitl [H33]; · iexact H33
      ipureintro; exact rfl
    isplitl [H37]
    · iexists _; isplitl [H37]; · iexact H37
      ipureintro; exact rfl
    isplitl [H38]
    · iexists _; isplitl [H38]; · iexact H38
      ipureintro; exact rfl
    iexists _; isplitl [H39]; · iexact H39
    ipureintro; exact rfl
  iintro %acc HI
  unfold inv2
  icases HI with ⟨H2, H4, H10, ⟨%f24, H24, %h24⟩, ⟨%f26, H26, %h26⟩, ⟨%f27, H27, %h27⟩, ⟨%f32, H32, %h32⟩, ⟨%f33, H33, %h33⟩, ⟨%f37, H37, %h37⟩, ⟨%f38, H38, %h38⟩, ⟨%f39, H39, %h39⟩⟩
  rw [tr2, upC_eight] at h24
  rw [tr2, upC_eight] at h26
  rw [tr2, upC_eight] at h27
  rw [tr2, upC_eight] at h32
  rw [tr2, upR_eight] at h33
  rw [tr2, upC_eight] at h37
  rw [tr2, upC_eight] at h38
  rw [tr2, upC_eight] at h39
  sl_exec
  sl_unfold_run_names
  sl_step
  isplitl [H1]; · iexact H1
  isplitl [H2]; · iexact H2
  isplitl [H4]; · iexact H4
  isplitl [H8]; · iexact H8
  isplitl [H9]; · iexact H9
  isplitl [H10]; · iexact H10
  isplitl [H18]
  · iexists _; isplitl [H18]; · iexact H18
    ipureintro; exact store_all _ _ _ _ _ _ rfl
  isplitl [H24]
  · iexists _; isplitl [H24]; · iexact H24
    ipureintro; exact h24
  isplitl [H26]
  · iexists _; isplitl [H26]; · iexact H26
    ipureintro; exact h26
  isplitl [H27]
  · iexists _; isplitl [H27]; · iexact H27
    ipureintro; exact h27
  isplitl [H32]
  · iexists _; isplitl [H32]; · iexact H32
    ipureintro; exact h32
  isplitl [H33]
  · iexists _; isplitl [H33]; · iexact H33
    ipureintro; exact h33
  isplitl [H37]
  · iexists _; isplitl [H37]; · iexact H37
    ipureintro; exact h37
  isplitl [H38]
  · iexists _; isplitl [H38]; · iexact H38
    ipureintro; exact h38
  isplitl [H39]
  · iexists _; isplitl [H39]; · iexact H39
    ipureintro; exact h39
  isplitl [H40]
  · iexists _; isplitl [H40]; · iexact H40
    ipureintro; exact store_all _ _ _ _ _ _ rfl
  isplitl [H41]
  · iexists _; isplitl [H41]; · iexact H41
    ipureintro; exact store_all _ _ _ _ _ _ rfl
  ipureintro; rw [View.readAt_full arg8.view X8, View.readAt_full arg9.view X9]

end Cert.KernelIdeal.Hand

end
-- ==== Proof.KernelIdeal.BodyFirst.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Pipeline.Frame
public import Idealize.ShloMosaic.Lib.WritesUnit
public import proofs.«01_k».proof.Proof.Slab
public import proofs.«01_k».proof.Proof.KernelIdeal.Spec
public import proofs.«01_k».proof.Proof.KernelIdeal.StepSpec
public import proofs.«01_k».proof.Proof.KernelIdeal.PartA
public import proofs.«01_k».proof.Proof.KernelIdeal.PartB
public import proofs.«01_k».proof.Proof.KernelIdeal.PartC
public import proofs.«01_k».proof.Proof.KernelIdeal.PartD

@[expose] public section

set_option maxRecDepth 16384
set_option maxHeartbeats 4000000

noncomputable section

namespace Cert.KernelIdeal.Hand

open Cert.KernelIdeal Cert.KernelIdeal.Gen
open Cert.Slab
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ
variable (arg1 : Memref sig .tc .smem S2 .f32) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S256x4096 .bf16) (harg15 : arg15.IsWhole) (arg16 : Memref sig .tc .vmem S1x256 .f32) (harg16 : arg16.IsWhole) (arg17 : Memref sig .tc .vmem S1x256 .f32) (harg17 : arg17.IsWhole) (arg18 : Memref sig .tc .vmem S8x4096 .f32) (harg18 : arg18.IsWhole) (arg19 : Memref sig .tc .vmem S5x256x128 .f32) (harg19 : arg19.IsWhole) (arg20 : Memref sig .tc .vmem S2x8x128 .f32) (harg20 : arg20.IsWhole) (arg21 : Memref sig .tc .vmem S1x4096 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x4096 .f32) (harg24 : arg24.IsWhole) (arg25 : Memref sig .tc .vmem S256x256 .f32) (harg25 : arg25.IsWhole) (arg26 : Memref sig .tc .vmem S256x4096 .f32) (harg26 : arg26.IsWhole) (arg27 : Memref sig .tc .vmem S256x4096 .i8) (harg27 : arg27.IsWhole) (arg28 : Memref sig .tc .vmem S4096x256 .i8) (harg28 : arg28.IsWhole) (arg29 : Memref sig .tc .vmem S4096x256 .i8) (harg29 : arg29.IsWhole) (arg30 : Memref sig .tc .vmem S256x256 .i8) (harg30 : arg30.IsWhole) (arg31 : Memref sig .tc .vmem S256x4096 .i8) (harg31 : arg31.IsWhole) (arg32 : Memref sig .tc .vmem S256x4096 .bf16) (harg32 : arg32.IsWhole) (arg33 : Memref sig .tc .vmem S4096x256 .bf16) (harg33 : arg33.IsWhole) (arg34 : Memref sig .tc .vmem S4096x256 .bf16) (harg34 : arg34.IsWhole) (arg35 : Memref sig .tc .vmem S4096x256 .bf16) (harg35 : arg35.IsWhole) (arg36 : Memref sig .tc .vmem S256x4096 .bf16) (harg36 : arg36.IsWhole) (arg37 : Memref sig .tc .vmem S1x4096 .f32) (harg37 : arg37.IsWhole) (arg38 : Memref sig .tc .vmem S1x4096 .bf16) (harg38 : arg38.IsWhole) (arg39 : Memref sig .tc .vmem S1x4096 .bf16) (harg39 : arg39.IsWhole) (arg40 : Memref sig .tc .vmem S256x128 .f32) (harg40 : arg40.IsWhole) (arg41 : Memref sig .tc .vmem S256x128 .f32) (harg41 : arg41.IsWhole)

theorem body_first (c : Dev nD) (i : grid0.Coords) (k0_h1 : k0_cond1 i = 1#1) (k0_h2 : ¬ k0_cond2 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (X23 : BufTy.Contents (Elt F) arg23.view.ty) (X24 : BufTy.Contents (Elt F) arg24.view.ty) (X25 : BufTy.Contents (Elt F) arg25.view.ty) (X26 : BufTy.Contents (Elt F) arg26.view.ty) (X27 : BufTy.Contents (Elt F) arg27.view.ty) (X28 : BufTy.Contents (Elt F) arg28.view.ty) (X29 : BufTy.Contents (Elt F) arg29.view.ty) (X30 : BufTy.Contents (Elt F) arg30.view.ty) (X31 : BufTy.Contents (Elt F) arg31.view.ty) (X32 : BufTy.Contents (Elt F) arg32.view.ty) (X33 : BufTy.Contents (Elt F) arg33.view.ty) (X34 : BufTy.Contents (Elt F) arg34.view.ty) (X35 : BufTy.Contents (Elt F) arg35.view.ty) (X36 : BufTy.Contents (Elt F) arg36.view.ty) (X37 : BufTy.Contents (Elt F) arg37.view.ty) (X38 : BufTy.Contents (Elt F) arg38.view.ty) (X39 : BufTy.Contents (Elt F) arg39.view.ty) (X40 : BufTy.Contents (Elt F) arg40.view.ty) (X41 : BufTy.Contents (Elt F) arg41.view.ty) :
  (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22) ∗ (arg23.view.loc (c : Thread nD τ) ↦[arg23.view.set]{fullShare} X23) ∗ (arg24.view.loc (c : Thread nD τ) ↦[arg24.view.set]{fullShare} X24) ∗ (arg25.view.loc (c : Thread nD τ) ↦[arg25.view.set]{fullShare} X25) ∗ (arg26.view.loc (c : Thread nD τ) ↦[arg26.view.set]{fullShare} X26) ∗ (arg27.view.loc (c : Thread nD τ) ↦[arg27.view.set]{fullShare} X27) ∗ (arg28.view.loc (c : Thread nD τ) ↦[arg28.view.set]{fullShare} X28) ∗ (arg29.view.loc (c : Thread nD τ) ↦[arg29.view.set]{fullShare} X29) ∗ (arg30.view.loc (c : Thread nD τ) ↦[arg30.view.set]{fullShare} X30) ∗ (arg31.view.loc (c : Thread nD τ) ↦[arg31.view.set]{fullShare} X31) ∗ (arg32.view.loc (c : Thread nD τ) ↦[arg32.view.set]{fullShare} X32) ∗ (arg33.view.loc (c : Thread nD τ) ↦[arg33.view.set]{fullShare} X33) ∗ (arg34.view.loc (c : Thread nD τ) ↦[arg34.view.set]{fullShare} X34) ∗ (arg35.view.loc (c : Thread nD τ) ↦[arg35.view.set]{fullShare} X35) ∗ (arg36.view.loc (c : Thread nD τ) ↦[arg36.view.set]{fullShare} X36) ∗ (arg37.view.loc (c : Thread nD τ) ↦[arg37.view.set]{fullShare} X37) ∗ (arg38.view.loc (c : Thread nD τ) ↦[arg38.view.set]{fullShare} X38) ∗ (arg39.view.loc (c : Thread nD τ) ↦[arg39.view.set]{fullShare} X39) ∗ (arg40.view.loc (c : Thread nD τ) ↦[arg40.view.set]{fullShare} X40) ∗ (arg41.view.loc (c : Thread nD τ) ↦[arg41.view.set]{fullShare} X41)) : sProp 𝕄G)
  ⊢ wp frame (wpE (defs₀ (F := F)) Variants.none (c : Thread nD τ) none) Set.univ (cc0_lsq_mlp (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41) (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (∃ f, (arg13.view.loc (c : Thread nD τ) ↦[arg13.view.set]{fullShare} f) ∗ ⌜(arg13.view.read (Elt F) f) = (d_n13 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (w2_32 (sv0 arg1 X1) (w1_a0 (arg2.view.read (Elt F) X2)) (arg2.view.read (Elt F) X2) (arg4.view.read (Elt F) X4)) (w2_33 (sv0 arg1 X1) (w1_a0 (arg2.view.read (Elt F) X2)) (arg2.view.read (Elt F) X2) (arg4.view.read (Elt F) X4)) (w2_37 (arg10.view.read (Elt F) X10)) (w2_38 (arg10.view.read (Elt F) X10)) (w2_39 (arg10.view.read (Elt F) X10)))⌝) ∗ (∃ f, (arg14.view.loc (c : Thread nD τ) ↦[arg14.view.set]{fullShare} f) ∗ ⌜(arg14.view.read (Elt F) f) = (d_n14 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (w2_32 (sv0 arg1 X1) (w1_a0 (arg2.view.read (Elt F) X2)) (arg2.view.read (Elt F) X2) (arg4.view.read (Elt F) X4)) (w2_33 (sv0 arg1 X1) (w1_a0 (arg2.view.read (Elt F) X2)) (arg2.view.read (Elt F) X2) (arg4.view.read (Elt F) X4)) (w2_37 (arg10.view.read (Elt F) X10)) (w2_38 (arg10.view.read (Elt F) X10)) (w2_39 (arg10.view.read (Elt F) X10)))⌝) ∗ (∃ f, (arg15.view.loc (c : Thread nD τ) ↦[arg15.view.set]{fullShare} f) ∗ ⌜(arg15.view.read (Elt F) f) = (d_n15 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (w2_32 (sv0 arg1 X1) (w1_a0 (arg2.view.read (Elt F) X2)) (arg2.view.read (Elt F) X2) (arg4.view.read (Elt F) X4)) (w2_38 (arg10.view.read (Elt F) X10)) (w2_39 (arg10.view.read (Elt F) X10)))⌝) ∗ (∃ f, (arg16.view.loc (c : Thread nD τ) ↦[arg16.view.set]{fullShare} f) ∗ ⌜(arg16.view.read (Elt F) f) = (d_n16 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (w2_32 (sv0 arg1 X1) (w1_a0 (arg2.view.read (Elt F) X2)) (arg2.view.read (Elt F) X2) (arg4.view.read (Elt F) X4)) (w2_33 (sv0 arg1 X1) (w1_a0 (arg2.view.read (Elt F) X2)) (arg2.view.read (Elt F) X2) (arg4.view.read (Elt F) X4)) (w2_37 (arg10.view.read (Elt F) X10)) (w2_38 (arg10.view.read (Elt F) X10)) (w2_39 (arg10.view.read (Elt F) X10)))⌝) ∗ (∃ f, (arg17.view.loc (c : Thread nD τ) ↦[arg17.view.set]{fullShare} f) ∗ ⌜(arg17.view.read (Elt F) f) = (d_n17 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (w2_32 (sv0 arg1 X1) (w1_a0 (arg2.view.read (Elt F) X2)) (arg2.view.read (Elt F) X2) (arg4.view.read (Elt F) X4)) (w2_33 (sv0 arg1 X1) (w1_a0 (arg2.view.read (Elt F) X2)) (arg2.view.read (Elt F) X2) (arg4.view.read (Elt F) X4)) (w2_37 (arg10.view.read (Elt F) X10)) (w2_38 (arg10.view.read (Elt F) X10)) (w2_39 (arg10.view.read (Elt F) X10)))⌝) ∗ (∃ f, (arg18.view.loc (c : Thread nD τ) ↦[arg18.view.set]{fullShare} f) ∗ ⌜(arg18.view.read (Elt F) f) = (d_n18 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (w2_32 (sv0 arg1 X1) (w1_a0 (arg2.view.read (Elt F) X2)) (arg2.view.read (Elt F) X2) (arg4.view.read (Elt F) X4)) (w2_38 (arg10.view.read (Elt F) X10)) (w2_39 (arg10.view.read (Elt F) X10)) (k0_pay86 (F := F)))⌝) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (∃ f, (arg22.view.loc (c : Thread nD τ) ↦[arg22.view.set]{fullShare} f) ∗ ⌜(arg22.view.read (Elt F) f) = (d_v101 (sv0 arg1 X1) (arg5.view.read (Elt F) X5) (arg8.view.read (Elt F) X8) (w2_32 (sv0 arg1 X1) (w1_a0 (arg2.view.read (Elt F) X2)) (arg2.view.read (Elt F) X2) (arg4.view.read (Elt F) X4)))⌝) ∗ (∃ f, (arg23.view.loc (c : Thread nD τ) ↦[arg23.view.set]{fullShare} f) ∗ ⌜(arg23.view.read (Elt F) f) = (d_v105 (sv0 arg1 X1) (arg6.view.read (Elt F) X6) (arg9.view.read (Elt F) X9) (w2_32 (sv0 arg1 X1) (w1_a0 (arg2.view.read (Elt F) X2)) (arg2.view.read (Elt F) X2) (arg4.view.read (Elt F) X4)))⌝) ∗ (∃ f, (arg24.view.loc (c : Thread nD τ) ↦[arg24.view.set]{fullShare} f) ∗ ⌜(arg24.view.read (Elt F) f) = (d_n24 (sv0 arg1 X1) (sv1 arg1 X1) (arg5.view.read (Elt F) X5) (arg6.view.read (Elt F) X6) (arg7.view.read (Elt F) X7) (arg8.view.read (Elt F) X8) (arg9.view.read (Elt F) X9) (w2_32 (sv0 arg1 X1) (w1_a0 (arg2.view.read (Elt F) X2)) (arg2.view.read (Elt F) X2) (arg4.view.read (Elt F) X4)) (w2_37 (arg10.view.read (Elt F) X10)) (w2_38 (arg10.view.read (Elt F) X10)) (w2_39 (arg10.view.read (Elt F) X10)) (w2_24 (F := F)))⌝) ∗ (∃ f, (arg25.view.loc (c : Thread nD τ) ↦[arg25.view.set]{fullShare} f) ∗ ⌜(arg25.view.read (Elt F) f) = (d_DA (arg3.view.read (Elt F) X3) (arg7.view.read (Elt F) X7) (arg10.view.read (Elt F) X10) (w2_37 (arg10.view.read (Elt F) X10)) (w2_38 (arg10.view.read (Elt F) X10)) (w2_39 (arg10.view.read (Elt F) X10)))⌝) ∗ (∃ f, (arg26.view.loc (c : Thread nD τ) ↦[arg26.view.set]{fullShare} f) ∗ ⌜(arg26.view.read (Elt F) f) = (d_n26 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (w2_32 (sv0 arg1 X1) (w1_a0 (arg2.view.read (Elt F) X2)) (arg2.view.read (Elt F) X2) (arg4.view.read (Elt F) X4)) (w2_37 (arg10.view.read (Elt F) X10)) (w2_38 (arg10.view.read (Elt F) X10)) (w2_39 (arg10.view.read (Elt F) X10)) (w2_26 (F := F)))⌝) ∗ (∃ f, (arg27.view.loc (c : Thread nD τ) ↦[arg27.view.set]{fullShare} f) ∗ ⌜(arg27.view.read (Elt F) f) = (w2_27 (sv0 arg1 X1) (w1_a0 (arg2.view.read (Elt F) X2)) (arg2.view.read (Elt F) X2) (arg4.view.read (Elt F) X4))⌝) ∗ (∃ f, (arg28.view.loc (c : Thread nD τ) ↦[arg28.view.set]{fullShare} f) ∗ ⌜(arg28.view.read (Elt F) f) = (d_n28 (arg5.view.read (Elt F) X5) (arg8.view.read (Elt F) X8))⌝) ∗ (∃ f, (arg29.view.loc (c : Thread nD τ) ↦[arg29.view.set]{fullShare} f) ∗ ⌜(arg29.view.read (Elt F) f) = (d_n29 (arg6.view.read (Elt F) X6) (arg9.view.read (Elt F) X9))⌝) ∗ (∃ f, (arg30.view.loc (c : Thread nD τ) ↦[arg30.view.set]{fullShare} f) ∗ ⌜(arg30.view.read (Elt F) f) = (d_n30 (sv0 arg1 X1) (sv1 arg1 X1) (arg5.view.read (Elt F) X5) (arg6.view.read (Elt F) X6) (arg8.view.read (Elt F) X8) (arg9.view.read (Elt F) X9) (w2_32 (sv0 arg1 X1) (w1_a0 (arg2.view.read (Elt F) X2)) (arg2.view.read (Elt F) X2) (arg4.view.read (Elt F) X4)))⌝) ∗ (∃ f, (arg31.view.loc (c : Thread nD τ) ↦[arg31.view.set]{fullShare} f) ∗ ⌜(arg31.view.read (Elt F) f) = (d_n31 (arg7.view.read (Elt F) X7) (w2_37 (arg10.view.read (Elt F) X10)) (w2_38 (arg10.view.read (Elt F) X10)) (w2_39 (arg10.view.read (Elt F) X10)))⌝) ∗ (∃ f, (arg32.view.loc (c : Thread nD τ) ↦[arg32.view.set]{fullShare} f) ∗ ⌜(arg32.view.read (Elt F) f) = (w2_32 (sv0 arg1 X1) (w1_a0 (arg2.view.read (Elt F) X2)) (arg2.view.read (Elt F) X2) (arg4.view.read (Elt F) X4))⌝) ∗ (∃ f, (arg33.view.loc (c : Thread nD τ) ↦[arg33.view.set]{fullShare} f) ∗ ⌜(arg33.view.read (Elt F) f) = (w2_33 (sv0 arg1 X1) (w1_a0 (arg2.view.read (Elt F) X2)) (arg2.view.read (Elt F) X2) (arg4.view.read (Elt F) X4))⌝) ∗ (∃ f, (arg34.view.loc (c : Thread nD τ) ↦[arg34.view.set]{fullShare} f) ∗ ⌜(arg34.view.read (Elt F) f) = (d_n34 (arg5.view.read (Elt F) X5) (arg8.view.read (Elt F) X8))⌝) ∗ (∃ f, (arg35.view.loc (c : Thread nD τ) ↦[arg35.view.set]{fullShare} f) ∗ ⌜(arg35.view.read (Elt F) f) = (d_n35 (arg6.view.read (Elt F) X6) (arg9.view.read (Elt F) X9))⌝) ∗ (∃ f, (arg36.view.loc (c : Thread nD τ) ↦[arg36.view.set]{fullShare} f) ∗ ⌜(arg36.view.read (Elt F) f) = (d_n36 (arg7.view.read (Elt F) X7) (w2_37 (arg10.view.read (Elt F) X10)) (w2_38 (arg10.view.read (Elt F) X10)) (w2_39 (arg10.view.read (Elt F) X10)))⌝) ∗ (∃ f, (arg37.view.loc (c : Thread nD τ) ↦[arg37.view.set]{fullShare} f) ∗ ⌜(arg37.view.read (Elt F) f) = (w2_37 (arg10.view.read (Elt F) X10))⌝) ∗ (∃ f, (arg38.view.loc (c : Thread nD τ) ↦[arg38.view.set]{fullShare} f) ∗ ⌜(arg38.view.read (Elt F) f) = (w2_38 (arg10.view.read (Elt F) X10))⌝) ∗ (∃ f, (arg39.view.loc (c : Thread nD τ) ↦[arg39.view.set]{fullShare} f) ∗ ⌜(arg39.view.read (Elt F) f) = (w2_39 (arg10.view.read (Elt F) X10))⌝) ∗ (∃ f, (arg40.view.loc (c : Thread nD τ) ↦[arg40.view.set]{fullShare} f) ∗ ⌜(arg40.view.read (Elt F) f) = (d_n40 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (w2_32 (sv0 arg1 X1) (w1_a0 (arg2.view.read (Elt F) X2)) (arg2.view.read (Elt F) X2) (arg4.view.read (Elt F) X4)) (w2_37 (arg10.view.read (Elt F) X10)) (w2_38 (arg10.view.read (Elt F) X10)) (w2_39 (arg10.view.read (Elt F) X10)) (k0_pay87 (F := F)))⌝) ∗ (∃ f, (arg41.view.loc (c : Thread nD τ) ↦[arg41.view.set]{fullShare} f) ∗ ⌜(arg41.view.read (Elt F) f) = (d_n41 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (w2_32 (sv0 arg1 X1) (w1_a0 (arg2.view.read (Elt F) X2)) (arg2.view.read (Elt F) X2) (arg4.view.read (Elt F) X4)) (w2_37 (arg10.view.read (Elt F) X10)) (w2_38 (arg10.view.read (Elt F) X10)) (w2_39 (arg10.view.read (Elt F) X10)) (k0_pay88 (F := F)))⌝))) := by
  rw [cc0_lsq_mlp_eq_skeleton]
  unfold cc0_lsq_mlp_skel
  iintro ⟨H1, H2, H3, H4, H5, H6, H7, H8, H9, H10, H11, H12, H13, H14, H15, H16, H17, H18, H19, H20, H21, H22, H23, H24, H25, H26, H27, H28, H29, H30, H31, H32, H33, H34, H35, H36, H37, H38, H39, H40, H41⟩
  iapply (use_part c (part11_first arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i k0_h1 X1 X2 X4 X8 X9 X10 X18 X24 X26 X27 X32 X33 X37 X38 X39 X40 X41)) $$ [H1 H2 H4 H8 H9 H10 H18 H24 H26 H27 H32 H33 H37 H38 H39 H40 H41]
  · isplitl [H1]; · iexact H1
    isplitl [H2]; · iexact H2
    isplitl [H4]; · iexact H4
    isplitl [H8]; · iexact H8
    isplitl [H9]; · iexact H9
    isplitl [H10]; · iexact H10
    isplitl [H18]; · iexact H18
    isplitl [H24]; · iexact H24
    isplitl [H26]; · iexact H26
    isplitl [H27]; · iexact H27
    isplitl [H32]; · iexact H32
    isplitl [H33]; · iexact H33
    isplitl [H37]; · iexact H37
    isplitl [H38]; · iexact H38
    isplitl [H39]; · iexact H39
    isplitl [H40]; · iexact H40
    iexact H41
  iintro %r ⟨H1, H2, H4, H8, H9, H10, ⟨%f18, H18, %h18⟩, ⟨%f24, H24, %h24⟩, ⟨%f26, H26, %h26⟩, ⟨%f27, H27, %h27⟩, ⟨%f32, H32, %h32⟩, ⟨%f33, H33, %h33⟩, ⟨%f37, H37, %h37⟩, ⟨%f38, H38, %h38⟩, ⟨%f39, H39, %h39⟩, ⟨%f40, H40, %h40⟩, ⟨%f41, H41, %h41⟩, %hr⟩
  subst hr
  iapply (use_part c (part12_sound arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i _ _ _ _ _ X22)) $$ [H22]
  · iexact H22
  iintro %r ⟨H22, %hr⟩
  subst hr
  iapply (use_part c (part13_sound arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i _ _ _ _ _ _ _ _ _ _ _ X3 X5 X6 X7 X10 f32 f37 f38 f39 X22 X23 X25 X28 X29 X31 X34 X35 X36)) $$ [H3 H5 H6 H7 H10 H32 H37 H38 H39 H22 H23 H25 H28 H29 H31 H34 H35 H36]
  · isplitl [H3]; · iexact H3
    isplitl [H5]; · iexact H5
    isplitl [H6]; · iexact H6
    isplitl [H7]; · iexact H7
    isplitl [H10]; · iexact H10
    isplitl [H32]; · iexact H32
    isplitl [H37]; · iexact H37
    isplitl [H38]; · iexact H38
    isplitl [H39]; · iexact H39
    isplitl [H22]; · iexact H22
    isplitl [H23]; · iexact H23
    isplitl [H25]; · iexact H25
    isplitl [H28]; · iexact H28
    isplitl [H29]; · iexact H29
    isplitl [H31]; · iexact H31
    isplitl [H34]; · iexact H34
    isplitl [H35]; · iexact H35
    iexact H36
  iintro %r ⟨H3, H5, H6, H7, H10, H32, H37, H38, H39, ⟨%f22, H22, %h22⟩, ⟨%f23, H23, %h23⟩, ⟨%f25, H25, %h25⟩, ⟨%f28, H28, %h28⟩, ⟨%f29, H29, %h29⟩, ⟨%f31, H31, %h31⟩, ⟨%f34, H34, %h34⟩, ⟨%f35, H35, %h35⟩, ⟨%f36, H36, %h36⟩, %hr⟩
  subst hr
  iapply (use_part c (part14_sound arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i _ _ _ _ _ f40 f41)) $$ [H40 H41]
  · isplitl [H40]; · iexact H40
    iexact H41
  iintro %r ⟨⟨%g40, H40, %k40⟩, ⟨%g41, H41, %k41⟩, %hr⟩
  subst hr
  iapply (use_part c (part15_sound arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i _ _ _ _ _ _ _ _ _ _ _ _ _ _ _ _ X3 X5 X6 X7 X10 f33 f34 f35 f36 f38 f39 X13 X14 X15 f18 f24 f26 X16 X30)) $$ [H3 H5 H6 H7 H10 H33 H34 H35 H36 H38 H39 H13 H14 H15 H18 H24 H26 H16 H30]
  · isplitl [H3]; · iexact H3
    isplitl [H5]; · iexact H5
    isplitl [H6]; · iexact H6
    isplitl [H7]; · iexact H7
    isplitl [H10]; · iexact H10
    isplitl [H33]; · iexact H33
    isplitl [H34]; · iexact H34
    isplitl [H35]; · iexact H35
    isplitl [H36]; · iexact H36
    isplitl [H38]; · iexact H38
    isplitl [H39]; · iexact H39
    isplitl [H13]; · iexact H13
    isplitl [H14]; · iexact H14
    isplitl [H15]; · iexact H15
    isplitl [H18]; · iexact H18
    isplitl [H24]; · iexact H24
    isplitl [H26]; · iexact H26
    isplitl [H16]; · iexact H16
    iexact H30
  iintro %r ⟨H3, H5, H6, H7, H10, H33, H34, H35, H36, H38, H39, ⟨%g13, H13, %k13⟩, ⟨%g14, H14, %k14⟩, ⟨%g15, H15, %k15⟩, ⟨%g18, H18, %k18⟩, ⟨%g24, H24, %k24⟩, ⟨%g26, H26, %k26⟩, ⟨%g16, H16, %k16⟩, ⟨%g30, H30, %k30⟩, %hr⟩
  subst hr
  sl_exec
  sl_unfold_run_names
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _; isplitl [H13]; · iexact H13
    ipureintro; refine k13.trans ?_
    try rw [h34]
    try rw [h35]
    try rw [h36]
    try rw [h18]
    try rw [h24]
    try rw [h26]
    try rw [h40]
    try rw [h41]
    try rw [h32]
    try rw [h33]
    try rw [h37]
    try rw [h38]
    try rw [h39]
    exact rfl
  isplitl [H14]
  · iexists _; isplitl [H14]; · iexact H14
    ipureintro; refine k14.trans ?_
    try rw [h34]
    try rw [h35]
    try rw [h36]
    try rw [h18]
    try rw [h24]
    try rw [h26]
    try rw [h40]
    try rw [h41]
    try rw [h32]
    try rw [h33]
    try rw [h37]
    try rw [h38]
    try rw [h39]
    exact rfl
  isplitl [H15]
  · iexists _; isplitl [H15]; · iexact H15
    ipureintro; refine k15.trans ?_
    try rw [h34]
    try rw [h35]
    try rw [h36]
    try rw [h18]
    try rw [h24]
    try rw [h26]
    try rw [h40]
    try rw [h41]
    try rw [h32]
    try rw [h33]
    try rw [h37]
    try rw [h38]
    try rw [h39]
    exact rfl
  isplitl [H16]
  · iexists _; isplitl [H16]; · iexact H16
    ipureintro; refine k16.trans ?_
    try rw [h34]
    try rw [h35]
    try rw [h36]
    try rw [h18]
    try rw [h24]
    try rw [h26]
    try rw [h40]
    try rw [h41]
    try rw [h32]
    try rw [h33]
    try rw [h37]
    try rw [h38]
    try rw [h39]
    exact rfl
  isplitl [H17]
  · iexists _; isplitl [H17]; · iexact H17
    ipureintro; refine store_all _ _ _ _ _ _ ?_
    try rw [h34]
    try rw [h35]
    try rw [h36]
    try rw [h18]
    try rw [h24]
    try rw [h26]
    try rw [h40]
    try rw [h41]
    try rw [h32]
    try rw [h33]
    try rw [h37]
    try rw [h38]
    try rw [h39]
    exact rfl
  isplitl [H18]
  · iexists _; isplitl [H18]; · iexact H18
    ipureintro; refine k18.trans ?_
    try rw [h34]
    try rw [h35]
    try rw [h36]
    try rw [h18]
    try rw [h24]
    try rw [h26]
    try rw [h40]
    try rw [h41]
    try rw [h32]
    try rw [h33]
    try rw [h37]
    try rw [h38]
    try rw [h39]
    exact rfl
  isplitl [H19]; · iexact H19
  isplitl [H20]; · iexact H20
  isplitl [H21]; · iexact H21
  isplitl [H22]
  · iexists _; isplitl [H22]; · iexact H22
    ipureintro; refine h22.trans ?_
    try rw [h18]
    try rw [h24]
    try rw [h26]
    try rw [h40]
    try rw [h41]
    try rw [h32]
    try rw [h33]
    try rw [h37]
    try rw [h38]
    try rw [h39]
    exact rfl
  isplitl [H23]
  · iexists _; isplitl [H23]; · iexact H23
    ipureintro; refine h23.trans ?_
    try rw [h18]
    try rw [h24]
    try rw [h26]
    try rw [h40]
    try rw [h41]
    try rw [h32]
    try rw [h33]
    try rw [h37]
    try rw [h38]
    try rw [h39]
    exact rfl
  isplitl [H24]
  · iexists _; isplitl [H24]; · iexact H24
    ipureintro; refine k24.trans ?_
    try rw [h34]
    try rw [h35]
    try rw [h36]
    try rw [h18]
    try rw [h24]
    try rw [h26]
    try rw [h40]
    try rw [h41]
    try rw [h32]
    try rw [h33]
    try rw [h37]
    try rw [h38]
    try rw [h39]
    exact rfl
  isplitl [H25]
  · iexists _; isplitl [H25]; · iexact H25
    ipureintro; refine h25.trans ?_
    try rw [h18]
    try rw [h24]
    try rw [h26]
    try rw [h40]
    try rw [h41]
    try rw [h32]
    try rw [h33]
    try rw [h37]
    try rw [h38]
    try rw [h39]
    exact rfl
  isplitl [H26]
  · iexists _; isplitl [H26]; · iexact H26
    ipureintro; refine k26.trans ?_
    try rw [h34]
    try rw [h35]
    try rw [h36]
    try rw [h18]
    try rw [h24]
    try rw [h26]
    try rw [h40]
    try rw [h41]
    try rw [h32]
    try rw [h33]
    try rw [h37]
    try rw [h38]
    try rw [h39]
    exact rfl
  isplitl [H27]
  · iexists _; isplitl [H27]; · iexact H27
    ipureintro; refine h27.trans ?_
    exact rfl
  isplitl [H28]
  · iexists _; isplitl [H28]; · iexact H28
    ipureintro; refine h28.trans ?_
    try rw [h18]
    try rw [h24]
    try rw [h26]
    try rw [h40]
    try rw [h41]
    try rw [h32]
    try rw [h33]
    try rw [h37]
    try rw [h38]
    try rw [h39]
    exact rfl
  isplitl [H29]
  · iexists _; isplitl [H29]; · iexact H29
    ipureintro; refine h29.trans ?_
    try rw [h18]
    try rw [h24]
    try rw [h26]
    try rw [h40]
    try rw [h41]
    try rw [h32]
    try rw [h33]
    try rw [h37]
    try rw [h38]
    try rw [h39]
    exact rfl
  isplitl [H30]
  · iexists _; isplitl [H30]; · iexact H30
    ipureintro; refine k30.trans ?_
    try rw [h34]
    try rw [h35]
    try rw [h36]
    try rw [h18]
    try rw [h24]
    try rw [h26]
    try rw [h40]
    try rw [h41]
    try rw [h32]
    try rw [h33]
    try rw [h37]
    try rw [h38]
    try rw [h39]
    exact rfl
  isplitl [H31]
  · iexists _; isplitl [H31]; · iexact H31
    ipureintro; refine h31.trans ?_
    try rw [h18]
    try rw [h24]
    try rw [h26]
    try rw [h40]
    try rw [h41]
    try rw [h32]
    try rw [h33]
    try rw [h37]
    try rw [h38]
    try rw [h39]
    exact rfl
  isplitl [H32]
  · iexists _; isplitl [H32]; · iexact H32
    ipureintro; refine h32.trans ?_
    exact rfl
  isplitl [H33]
  · iexists _; isplitl [H33]; · iexact H33
    ipureintro; refine h33.trans ?_
    exact rfl
  isplitl [H34]
  · iexists _; isplitl [H34]; · iexact H34
    ipureintro; refine h34.trans ?_
    try rw [h18]
    try rw [h24]
    try rw [h26]
    try rw [h40]
    try rw [h41]
    try rw [h32]
    try rw [h33]
    try rw [h37]
    try rw [h38]
    try rw [h39]
    exact rfl
  isplitl [H35]
  · iexists _; isplitl [H35]; · iexact H35
    ipureintro; refine h35.trans ?_
    try rw [h18]
    try rw [h24]
    try rw [h26]
    try rw [h40]
    try rw [h41]
    try rw [h32]
    try rw [h33]
    try rw [h37]
    try rw [h38]
    try rw [h39]
    exact rfl
  isplitl [H36]
  · iexists _; isplitl [H36]; · iexact H36
    ipureintro; refine h36.trans ?_
    try rw [h18]
    try rw [h24]
    try rw [h26]
    try rw [h40]
    try rw [h41]
    try rw [h32]
    try rw [h33]
    try rw [h37]
    try rw [h38]
    try rw [h39]
    exact rfl
  isplitl [H37]
  · iexists _; isplitl [H37]; · iexact H37
    ipureintro; refine h37.trans ?_
    exact rfl
  isplitl [H38]
  · iexists _; isplitl [H38]; · iexact H38
    ipureintro; refine h38.trans ?_
    exact rfl
  isplitl [H39]
  · iexists _; isplitl [H39]; · iexact H39
    ipureintro; refine h39.trans ?_
    exact rfl
  isplitl [H40]
  · iexists _; isplitl [H40]; · iexact H40
    ipureintro; refine k40.trans ?_
    try rw [h34]
    try rw [h35]
    try rw [h36]
    try rw [h18]
    try rw [h24]
    try rw [h26]
    try rw [h40]
    try rw [h41]
    try rw [h32]
    try rw [h33]
    try rw [h37]
    try rw [h38]
    try rw [h39]
    exact rfl
  iexists _; isplitl [H41]; · iexact H41
  ipureintro; refine k41.trans ?_
  try rw [h34]
  try rw [h35]
  try rw [h36]
  try rw [h18]
  try rw [h24]
  try rw [h26]
  try rw [h40]
  try rw [h41]
  try rw [h32]
  try rw [h33]
  try rw [h37]
  try rw [h38]
  try rw [h39]
  exact rfl

end Cert.KernelIdeal.Hand

end
-- ==== Proof.KernelIdeal.RunFirst.lean ====
module

public import proofs.«01_k».proof.Proof.Gen.KernelIdeal.Skeleton
public import proofs.«01_k».proof.Proof.Gen.KernelIdeal.Frame
public import Idealize.ShloMosaic.Lib.Tactic
public import Idealize.ShloMosaic.Lib.Pipeline.Frame
public import Idealize.ShloMosaic.Lib.WritesUnit
public import proofs.«01_k».proof.Proof.Slab
public import proofs.«01_k».proof.Proof.KernelIdeal.Spec
public import proofs.«01_k».proof.Proof.KernelIdeal.StepSpec
public import proofs.«01_k».proof.Proof.KernelIdeal.BodyFirst
public import proofs.«01_k».proof.Proof.KernelIdeal.Words

@[expose] public section

set_option maxRecDepth 16384
set_option maxHeartbeats 4000000

noncomputable section

namespace Cert.KernelIdeal.Hand

open Cert.KernelIdeal Cert.KernelIdeal.Gen
open Cert.Slab
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (arg1 : Memref sig .tc .smem S2 .f32) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S256x4096 .bf16) (harg15 : arg15.IsWhole) (arg16 : Memref sig .tc .vmem S1x256 .f32) (harg16 : arg16.IsWhole) (arg17 : Memref sig .tc .vmem S1x256 .f32) (harg17 : arg17.IsWhole) (arg18 : Memref sig .tc .vmem S8x4096 .f32) (harg18 : arg18.IsWhole) (arg19 : Memref sig .tc .vmem S5x256x128 .f32) (harg19 : arg19.IsWhole) (arg20 : Memref sig .tc .vmem S2x8x128 .f32) (harg20 : arg20.IsWhole) (arg21 : Memref sig .tc .vmem S1x4096 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x4096 .f32) (harg24 : arg24.IsWhole) (arg25 : Memref sig .tc .vmem S256x256 .f32) (harg25 : arg25.IsWhole) (arg26 : Memref sig .tc .vmem S256x4096 .f32) (harg26 : arg26.IsWhole) (arg27 : Memref sig .tc .vmem S256x4096 .i8) (harg27 : arg27.IsWhole) (arg28 : Memref sig .tc .vmem S4096x256 .i8) (harg28 : arg28.IsWhole) (arg29 : Memref sig .tc .vmem S4096x256 .i8) (harg29 : arg29.IsWhole) (arg30 : Memref sig .tc .vmem S256x256 .i8) (harg30 : arg30.IsWhole) (arg31 : Memref sig .tc .vmem S256x4096 .i8) (harg31 : arg31.IsWhole) (arg32 : Memref sig .tc .vmem S256x4096 .bf16) (harg32 : arg32.IsWhole) (arg33 : Memref sig .tc .vmem S4096x256 .bf16) (harg33 : arg33.IsWhole) (arg34 : Memref sig .tc .vmem S4096x256 .bf16) (harg34 : arg34.IsWhole) (arg35 : Memref sig .tc .vmem S4096x256 .bf16) (harg35 : arg35.IsWhole) (arg36 : Memref sig .tc .vmem S256x4096 .bf16) (harg36 : arg36.IsWhole) (arg37 : Memref sig .tc .vmem S1x4096 .f32) (harg37 : arg37.IsWhole) (arg38 : Memref sig .tc .vmem S1x4096 .bf16) (harg38 : arg38.IsWhole) (arg39 : Memref sig .tc .vmem S1x4096 .bf16) (harg39 : arg39.IsWhole) (arg40 : Memref sig .tc .vmem S256x128 .f32) (harg40 : arg40.IsWhole) (arg41 : Memref sig .tc .vmem S256x128 .f32) (harg41 : arg41.IsWhole)

/-- The body at the first grid point, every operand owned at named contents: what each operand then holds. -/
theorem run_first (c : Dev nD) (i : grid0.Coords) (k0_h1 : k0_cond1 i = 1#1) (k0_h2 : ¬ k0_cond2 i = 1#1)
    (x1 : S2.Idx → Elt F .f32) (x2 : S256x4096.Idx → Elt F .bf16) (x3 : S256x4096.Idx → Elt F .bf16) (x4 : S1x4096.Idx → Elt F .f32) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x11 : S256x4096.Idx → Elt F .bf16) (x12 : S256x4096.Idx → Elt F .bf16) (x13 : S4096x256.Idx → Elt F .bf16) (x14 : S4096x256.Idx → Elt F .bf16) (x15 : S256x4096.Idx → Elt F .bf16) (x16 : S1x256.Idx → Elt F .f32) (x17 : S1x256.Idx → Elt F .f32) (x18 : S8x4096.Idx → Elt F .f32) (x19 : S5x256x128.Idx → Elt F .f32) (x20 : S2x8x128.Idx → Elt F .f32) (x21 : S1x4096.Idx → Elt F .f32) (x22 : S256x256.Idx → Elt F .f32) (x23 : S256x256.Idx → Elt F .f32) (x24 : S256x4096.Idx → Elt F .f32) (x25 : S256x256.Idx → Elt F .f32) (x26 : S256x4096.Idx → Elt F .f32) (x27 : S256x4096.Idx → Elt F .i8) (x28 : S4096x256.Idx → Elt F .i8) (x29 : S4096x256.Idx → Elt F .i8) (x30 : S256x256.Idx → Elt F .i8) (x31 : S256x4096.Idx → Elt F .i8) (x32 : S256x4096.Idx → Elt F .bf16) (x33 : S4096x256.Idx → Elt F .bf16) (x34 : S4096x256.Idx → Elt F .bf16) (x35 : S4096x256.Idx → Elt F .bf16) (x36 : S256x4096.Idx → Elt F .bf16) (x37 : S1x4096.Idx → Elt F .f32) (x38 : S1x4096.Idx → Elt F .bf16) (x39 : S1x4096.Idx → Elt F .bf16) (x40 : S256x128.Idx → Elt F .f32) (x41 : S256x128.Idx → Elt F .f32) :
    (iprop(owns (c : Thread nD τ) arg1 fullShare x1
    ∗ owns (c : Thread nD τ) arg2 fullShare x2
    ∗ owns (c : Thread nD τ) arg3 fullShare x3
    ∗ owns (c : Thread nD τ) arg4 fullShare x4
    ∗ owns (c : Thread nD τ) arg5 fullShare x5
    ∗ owns (c : Thread nD τ) arg6 fullShare x6
    ∗ owns (c : Thread nD τ) arg7 fullShare x7
    ∗ owns (c : Thread nD τ) arg8 fullShare x8
    ∗ owns (c : Thread nD τ) arg9 fullShare x9
    ∗ owns (c : Thread nD τ) arg10 fullShare x10
    ∗ owns (c : Thread nD τ) arg11 fullShare x11
    ∗ owns (c : Thread nD τ) arg12 fullShare x12
    ∗ owns (c : Thread nD τ) arg13 fullShare x13
    ∗ owns (c : Thread nD τ) arg14 fullShare x14
    ∗ owns (c : Thread nD τ) arg15 fullShare x15
    ∗ owns (c : Thread nD τ) arg16 fullShare x16
    ∗ owns (c : Thread nD τ) arg17 fullShare x17
    ∗ owns (c : Thread nD τ) arg18 fullShare x18
    ∗ owns (c : Thread nD τ) arg19 fullShare x19
    ∗ owns (c : Thread nD τ) arg20 fullShare x20
    ∗ owns (c : Thread nD τ) arg21 fullShare x21
    ∗ owns (c : Thread nD τ) arg22 fullShare x22
    ∗ owns (c : Thread nD τ) arg23 fullShare x23
    ∗ owns (c : Thread nD τ) arg24 fullShare x24
    ∗ owns (c : Thread nD τ) arg25 fullShare x25
    ∗ owns (c : Thread nD τ) arg26 fullShare x26
    ∗ owns (c : Thread nD τ) arg27 fullShare x27
    ∗ owns (c : Thread nD τ) arg28 fullShare x28
    ∗ owns (c : Thread nD τ) arg29 fullShare x29
    ∗ owns (c : Thread nD τ) arg30 fullShare x30
    ∗ owns (c : Thread nD τ) arg31 fullShare x31
    ∗ owns (c : Thread nD τ) arg32 fullShare x32
    ∗ owns (c : Thread nD τ) arg33 fullShare x33
    ∗ owns (c : Thread nD τ) arg34 fullShare x34
    ∗ owns (c : Thread nD τ) arg35 fullShare x35
    ∗ owns (c : Thread nD τ) arg36 fullShare x36
    ∗ owns (c : Thread nD τ) arg37 fullShare x37
    ∗ owns (c : Thread nD τ) arg38 fullShare x38
    ∗ owns (c : Thread nD τ) arg39 fullShare x39
    ∗ owns (c : Thread nD τ) arg40 fullShare x40
    ∗ owns (c : Thread nD τ) arg41 fullShare x41) : sProp 𝕄G)
  ⊢ wp frame (wpE (defs₀ (F := F)) Variants.none (c : Thread nD τ) none) Set.univ (cc0_lsq_mlp (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41)
      (fun _ => iprop(owns (c : Thread nD τ) arg1 fullShare x1
    ∗ owns (c : Thread nD τ) arg2 fullShare x2
    ∗ owns (c : Thread nD τ) arg3 fullShare x3
    ∗ owns (c : Thread nD τ) arg4 fullShare x4
    ∗ owns (c : Thread nD τ) arg5 fullShare x5
    ∗ owns (c : Thread nD τ) arg6 fullShare x6
    ∗ owns (c : Thread nD τ) arg7 fullShare x7
    ∗ owns (c : Thread nD τ) arg8 fullShare x8
    ∗ owns (c : Thread nD τ) arg9 fullShare x9
    ∗ owns (c : Thread nD τ) arg10 fullShare x10
    ∗ owns (c : Thread nD τ) arg11 fullShare x11
    ∗ owns (c : Thread nD τ) arg12 fullShare x12
    ∗ owns (c : Thread nD τ) arg13 fullShare (d_n13 (s0 x1) (s1 x1) x3 x5 x6 x7 x8 x9 x10 (w2_32 (s0 x1) (w1_a0 x2) x2 x4) (w2_33 (s0 x1) (w1_a0 x2) x2 x4) (w2_37 x10) (w2_38 x10) (w2_39 x10))
    ∗ owns (c : Thread nD τ) arg14 fullShare (d_n14 (s0 x1) (s1 x1) x3 x5 x6 x7 x8 x9 x10 (w2_32 (s0 x1) (w1_a0 x2) x2 x4) (w2_33 (s0 x1) (w1_a0 x2) x2 x4) (w2_37 x10) (w2_38 x10) (w2_39 x10))
    ∗ owns (c : Thread nD τ) arg15 fullShare (d_n15 (s0 x1) (s1 x1) x3 x5 x6 x7 x8 x9 x10 (w2_32 (s0 x1) (w1_a0 x2) x2 x4) (w2_38 x10) (w2_39 x10))
    ∗ owns (c : Thread nD τ) arg16 fullShare (d_n16 (s0 x1) (s1 x1) x3 x5 x6 x7 x8 x9 x10 (w2_32 (s0 x1) (w1_a0 x2) x2 x4) (w2_33 (s0 x1) (w1_a0 x2) x2 x4) (w2_37 x10) (w2_38 x10) (w2_39 x10))
    ∗ owns (c : Thread nD τ) arg17 fullShare (d_n17 (s0 x1) (s1 x1) x3 x5 x6 x7 x8 x9 x10 (w2_32 (s0 x1) (w1_a0 x2) x2 x4) (w2_33 (s0 x1) (w1_a0 x2) x2 x4) (w2_37 x10) (w2_38 x10) (w2_39 x10))
    ∗ owns (c : Thread nD τ) arg18 fullShare (d_n18 (s0 x1) (s1 x1) x3 x5 x6 x7 x8 x9 x10 (w2_32 (s0 x1) (w1_a0 x2) x2 x4) (w2_38 x10) (w2_39 x10) (k0_pay86 (F := F)))
    ∗ owns (c : Thread nD τ) arg19 fullShare x19
    ∗ owns (c : Thread nD τ) arg20 fullShare x20
    ∗ owns (c : Thread nD τ) arg21 fullShare x21
    ∗ owns (c : Thread nD τ) arg22 fullShare (d_v101 (s0 x1) x5 x8 (w2_32 (s0 x1) (w1_a0 x2) x2 x4))
    ∗ owns (c : Thread nD τ) arg23 fullShare (d_v105 (s0 x1) x6 x9 (w2_32 (s0 x1) (w1_a0 x2) x2 x4))
    ∗ owns (c : Thread nD τ) arg24 fullShare (d_n24 (s0 x1) (s1 x1) x5 x6 x7 x8 x9 (w2_32 (s0 x1) (w1_a0 x2) x2 x4) (w2_37 x10) (w2_38 x10) (w2_39 x10) (w2_24 (F := F)))
    ∗ owns (c : Thread nD τ) arg25 fullShare (d_DA x3 x7 x10 (w2_37 x10) (w2_38 x10) (w2_39 x10))
    ∗ owns (c : Thread nD τ) arg26 fullShare (d_n26 (s0 x1) (s1 x1) x3 x5 x6 x7 x8 x9 x10 (w2_32 (s0 x1) (w1_a0 x2) x2 x4) (w2_37 x10) (w2_38 x10) (w2_39 x10) (w2_26 (F := F)))
    ∗ owns (c : Thread nD τ) arg27 fullShare (w2_27 (s0 x1) (w1_a0 x2) x2 x4)
    ∗ owns (c : Thread nD τ) arg28 fullShare (d_n28 x5 x8)
    ∗ owns (c : Thread nD τ) arg29 fullShare (d_n29 x6 x9)
    ∗ owns (c : Thread nD τ) arg30 fullShare (d_n30 (s0 x1) (s1 x1) x5 x6 x8 x9 (w2_32 (s0 x1) (w1_a0 x2) x2 x4))
    ∗ owns (c : Thread nD τ) arg31 fullShare (d_n31 x7 (w2_37 x10) (w2_38 x10) (w2_39 x10))
    ∗ owns (c : Thread nD τ) arg32 fullShare (w2_32 (s0 x1) (w1_a0 x2) x2 x4)
    ∗ owns (c : Thread nD τ) arg33 fullShare (w2_33 (s0 x1) (w1_a0 x2) x2 x4)
    ∗ owns (c : Thread nD τ) arg34 fullShare (d_n34 x5 x8)
    ∗ owns (c : Thread nD τ) arg35 fullShare (d_n35 x6 x9)
    ∗ owns (c : Thread nD τ) arg36 fullShare (d_n36 x7 (w2_37 x10) (w2_38 x10) (w2_39 x10))
    ∗ owns (c : Thread nD τ) arg37 fullShare (w2_37 x10)
    ∗ owns (c : Thread nD τ) arg38 fullShare (w2_38 x10)
    ∗ owns (c : Thread nD τ) arg39 fullShare (w2_39 x10)
    ∗ owns (c : Thread nD τ) arg40 fullShare (d_n40 (s0 x1) (s1 x1) x3 x5 x6 x7 x8 x9 x10 (w2_32 (s0 x1) (w1_a0 x2) x2 x4) (w2_37 x10) (w2_38 x10) (w2_39 x10) (k0_pay87 (F := F)))
    ∗ owns (c : Thread nD τ) arg41 fullShare (d_n41 (s0 x1) (s1 x1) x3 x5 x6 x7 x8 x9 x10 (w2_32 (s0 x1) (w1_a0 x2) x2 x4) (w2_37 x10) (w2_38 x10) (w2_39 x10) (k0_pay88 (F := F))))) := by
  unfold owns
  iintro ⟨⟨%X1, %h1, H1⟩, ⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%X10, %h10, H10⟩, ⟨%X11, %h11, H11⟩, ⟨%X12, %h12, H12⟩, ⟨%X13, %h13, H13⟩, ⟨%X14, %h14, H14⟩, ⟨%X15, %h15, H15⟩, ⟨%X16, %h16, H16⟩, ⟨%X17, %h17, H17⟩, ⟨%X18, %h18, H18⟩, ⟨%X19, %h19, H19⟩, ⟨%X20, %h20, H20⟩, ⟨%X21, %h21, H21⟩, ⟨%X22, %h22, H22⟩, ⟨%X23, %h23, H23⟩, ⟨%X24, %h24, H24⟩, ⟨%X25, %h25, H25⟩, ⟨%X26, %h26, H26⟩, ⟨%X27, %h27, H27⟩, ⟨%X28, %h28, H28⟩, ⟨%X29, %h29, H29⟩, ⟨%X30, %h30, H30⟩, ⟨%X31, %h31, H31⟩, ⟨%X32, %h32, H32⟩, ⟨%X33, %h33, H33⟩, ⟨%X34, %h34, H34⟩, ⟨%X35, %h35, H35⟩, ⟨%X36, %h36, H36⟩, ⟨%X37, %h37, H37⟩, ⟨%X38, %h38, H38⟩, ⟨%X39, %h39, H39⟩, ⟨%X40, %h40, H40⟩, ⟨%X41, %h41, H41⟩⟩
  subst h1 h2 h3 h4 h5 h6 h7 h8 h9 h10 h11 h12 h13 h14 h15 h16 h17 h18 h19 h20 h21 h22 h23 h24 h25 h26 h27 h28 h29 h30 h31 h32 h33 h34 h35 h36 h37 h38 h39 h40 h41
  iapply (use_whole c (body_first arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i k0_h1 k0_h2 X1 X2 X3 X4 X5 X6 X7 X8 X9 X10 X11 X12 X13 X14 X15 X16 X17 X18 X19 X20 X21 X22 X23 X24 X25 X26 X27 X28 X29 X30 X31 X32 X33 X34 X35 X36 X37 X38 X39 X40 X41)) $$ [H1 H2 H3 H4 H5 H6 H7 H8 H9 H10 H11 H12 H13 H14 H15 H16 H17 H18 H19 H20 H21 H22 H23 H24 H25 H26 H27 H28 H29 H30 H31 H32 H33 H34 H35 H36 H37 H38 H39 H40 H41]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H38]; · iexact H38
    isplitl [H39]; · iexact H39
    isplitl [H40]; · iexact H40
    iexact H41
  iintro %r ⟨H1, H2, H3, H4, H5, H6, H7, H8, H9, H10, H11, H12, ⟨%f13, H13, %g13⟩, ⟨%f14, H14, %g14⟩, ⟨%f15, H15, %g15⟩, ⟨%f16, H16, %g16⟩, ⟨%f17, H17, %g17⟩, ⟨%f18, H18, %g18⟩, H19, H20, H21, ⟨%f22, H22, %g22⟩, ⟨%f23, H23, %g23⟩, ⟨%f24, H24, %g24⟩, ⟨%f25, H25, %g25⟩, ⟨%f26, H26, %g26⟩, ⟨%f27, H27, %g27⟩, ⟨%f28, H28, %g28⟩, ⟨%f29, H29, %g29⟩, ⟨%f30, H30, %g30⟩, ⟨%f31, H31, %g31⟩, ⟨%f32, H32, %g32⟩, ⟨%f33, H33, %g33⟩, ⟨%f34, H34, %g34⟩, ⟨%f35, H35, %g35⟩, ⟨%f36, H36, %g36⟩, ⟨%f37, H37, %g37⟩, ⟨%f38, H38, %g38⟩, ⟨%f39, H39, %g39⟩, ⟨%f40, H40, %g40⟩, ⟨%f41, H41, %g41⟩⟩
  isplitl [H1]
  · iexists X1; isplitr; · ipureintro; rfl
    iexact H1
  isplitl [H2]
  · iexists X2; isplitr; · ipureintro; rfl
    iexact H2
  isplitl [H3]
  · iexists X3; isplitr; · ipureintro; rfl
    iexact H3
  isplitl [H4]
  · iexists X4; isplitr; · ipureintro; rfl
    iexact H4
  isplitl [H5]
  · iexists X5; isplitr; · ipureintro; rfl
    iexact H5
  isplitl [H6]
  · iexists X6; isplitr; · ipureintro; rfl
    iexact H6
  isplitl [H7]
  · iexists X7; isplitr; · ipureintro; rfl
    iexact H7
  isplitl [H8]
  · iexists X8; isplitr; · ipureintro; rfl
    iexact H8
  isplitl [H9]
  · iexists X9; isplitr; · ipureintro; rfl
    iexact H9
  isplitl [H10]
  · iexists X10; isplitr; · ipureintro; rfl
    iexact H10
  isplitl [H11]
  · iexists X11; isplitr; · ipureintro; rfl
    iexact H11
  isplitl [H12]
  · iexists X12; isplitr; · ipureintro; rfl
    iexact H12
  isplitl [H13]
  · iexists f13; isplitr; · ipureintro; exact g13
    iexact H13
  isplitl [H14]
  · iexists f14; isplitr; · ipureintro; exact g14
    iexact H14
  isplitl [H15]
  · iexists f15; isplitr; · ipureintro; exact g15
    iexact H15
  isplitl [H16]
  · iexists f16; isplitr; · ipureintro; exact g16
    iexact H16
  isplitl [H17]
  · iexists f17; isplitr; · ipureintro; exact g17
    iexact H17
  isplitl [H18]
  · iexists f18; isplitr; · ipureintro; exact g18
    iexact H18
  isplitl [H19]
  · iexists X19; isplitr; · ipureintro; rfl
    iexact H19
  isplitl [H20]
  · iexists X20; isplitr; · ipureintro; rfl
    iexact H20
  isplitl [H21]
  · iexists X21; isplitr; · ipureintro; rfl
    iexact H21
  isplitl [H22]
  · iexists f22; isplitr; · ipureintro; exact g22
    iexact H22
  isplitl [H23]
  · iexists f23; isplitr; · ipureintro; exact g23
    iexact H23
  isplitl [H24]
  · iexists f24; isplitr; · ipureintro; exact g24
    iexact H24
  isplitl [H25]
  · iexists f25; isplitr; · ipureintro; exact g25
    iexact H25
  isplitl [H26]
  · iexists f26; isplitr; · ipureintro; exact g26
    iexact H26
  isplitl [H27]
  · iexists f27; isplitr; · ipureintro; exact g27
    iexact H27
  isplitl [H28]
  · iexists f28; isplitr; · ipureintro; exact g28
    iexact H28
  isplitl [H29]
  · iexists f29; isplitr; · ipureintro; exact g29
    iexact H29
  isplitl [H30]
  · iexists f30; isplitr; · ipureintro; exact g30
    iexact H30
  isplitl [H31]
  · iexists f31; isplitr; · ipureintro; exact g31
    iexact H31
  isplitl [H32]
  · iexists f32; isplitr; · ipureintro; exact g32
    iexact H32
  isplitl [H33]
  · iexists f33; isplitr; · ipureintro; exact g33
    iexact H33
  isplitl [H34]
  · iexists f34; isplitr; · ipureintro; exact g34
    iexact H34
  isplitl [H35]
  · iexists f35; isplitr; · ipureintro; exact g35
    iexact H35
  isplitl [H36]
  · iexists f36; isplitr; · ipureintro; exact g36
    iexact H36
  isplitl [H37]
  · iexists f37; isplitr; · ipureintro; exact g37
    iexact H37
  isplitl [H38]
  · iexists f38; isplitr; · ipureintro; exact g38
    iexact H38
  isplitl [H39]
  · iexists f39; isplitr; · ipureintro; exact g39
    iexact H39
  isplitl [H40]
  · iexists f40; isplitr; · ipureintro; exact g40
    iexact H40
  iexists f41; isplitr; · ipureintro; exact g41
  iexact H41

end Cert.KernelIdeal.Hand

end
-- ==== Proof.KernelIdeal.BodyMid.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Pipeline.Frame
public import Idealize.ShloMosaic.Lib.WritesUnit
public import proofs.«01_k».proof.Proof.Slab
public import proofs.«01_k».proof.Proof.KernelIdeal.Spec
public import proofs.«01_k».proof.Proof.KernelIdeal.StepSpec
public import proofs.«01_k».proof.Proof.KernelIdeal.PartA
public import proofs.«01_k».proof.Proof.KernelIdeal.PartB
public import proofs.«01_k».proof.Proof.KernelIdeal.PartC

@[expose] public section

set_option maxRecDepth 16384
set_option maxHeartbeats 4000000

noncomputable section

namespace Cert.KernelIdeal.Hand

open Cert.KernelIdeal Cert.KernelIdeal.Gen
open Cert.Slab
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ
variable (arg1 : Memref sig .tc .smem S2 .f32) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S256x4096 .bf16) (harg15 : arg15.IsWhole) (arg16 : Memref sig .tc .vmem S1x256 .f32) (harg16 : arg16.IsWhole) (arg17 : Memref sig .tc .vmem S1x256 .f32) (harg17 : arg17.IsWhole) (arg18 : Memref sig .tc .vmem S8x4096 .f32) (harg18 : arg18.IsWhole) (arg19 : Memref sig .tc .vmem S5x256x128 .f32) (harg19 : arg19.IsWhole) (arg20 : Memref sig .tc .vmem S2x8x128 .f32) (harg20 : arg20.IsWhole) (arg21 : Memref sig .tc .vmem S1x4096 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x4096 .f32) (harg24 : arg24.IsWhole) (arg25 : Memref sig .tc .vmem S256x256 .f32) (harg25 : arg25.IsWhole) (arg26 : Memref sig .tc .vmem S256x4096 .f32) (harg26 : arg26.IsWhole) (arg27 : Memref sig .tc .vmem S256x4096 .i8) (harg27 : arg27.IsWhole) (arg28 : Memref sig .tc .vmem S4096x256 .i8) (harg28 : arg28.IsWhole) (arg29 : Memref sig .tc .vmem S4096x256 .i8) (harg29 : arg29.IsWhole) (arg30 : Memref sig .tc .vmem S256x256 .i8) (harg30 : arg30.IsWhole) (arg31 : Memref sig .tc .vmem S256x4096 .i8) (harg31 : arg31.IsWhole) (arg32 : Memref sig .tc .vmem S256x4096 .bf16) (harg32 : arg32.IsWhole) (arg33 : Memref sig .tc .vmem S4096x256 .bf16) (harg33 : arg33.IsWhole) (arg34 : Memref sig .tc .vmem S4096x256 .bf16) (harg34 : arg34.IsWhole) (arg35 : Memref sig .tc .vmem S4096x256 .bf16) (harg35 : arg35.IsWhole) (arg36 : Memref sig .tc .vmem S256x4096 .bf16) (harg36 : arg36.IsWhole) (arg37 : Memref sig .tc .vmem S1x4096 .f32) (harg37 : arg37.IsWhole) (arg38 : Memref sig .tc .vmem S1x4096 .bf16) (harg38 : arg38.IsWhole) (arg39 : Memref sig .tc .vmem S1x4096 .bf16) (harg39 : arg39.IsWhole) (arg40 : Memref sig .tc .vmem S256x128 .f32) (harg40 : arg40.IsWhole) (arg41 : Memref sig .tc .vmem S256x128 .f32) (harg41 : arg41.IsWhole)

theorem body_mid (c : Dev nD) (i : grid0.Coords) (k0_h1 : ¬ k0_cond1 i = 1#1) (k0_h2 : ¬ k0_cond2 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (X23 : BufTy.Contents (Elt F) arg23.view.ty) (X24 : BufTy.Contents (Elt F) arg24.view.ty) (X25 : BufTy.Contents (Elt F) arg25.view.ty) (X26 : BufTy.Contents (Elt F) arg26.view.ty) (X27 : BufTy.Contents (Elt F) arg27.view.ty) (X28 : BufTy.Contents (Elt F) arg28.view.ty) (X29 : BufTy.Contents (Elt F) arg29.view.ty) (X30 : BufTy.Contents (Elt F) arg30.view.ty) (X31 : BufTy.Contents (Elt F) arg31.view.ty) (X32 : BufTy.Contents (Elt F) arg32.view.ty) (X33 : BufTy.Contents (Elt F) arg33.view.ty) (X34 : BufTy.Contents (Elt F) arg34.view.ty) (X35 : BufTy.Contents (Elt F) arg35.view.ty) (X36 : BufTy.Contents (Elt F) arg36.view.ty) (X37 : BufTy.Contents (Elt F) arg37.view.ty) (X38 : BufTy.Contents (Elt F) arg38.view.ty) (X39 : BufTy.Contents (Elt F) arg39.view.ty) (X40 : BufTy.Contents (Elt F) arg40.view.ty) (X41 : BufTy.Contents (Elt F) arg41.view.ty) :
  (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22) ∗ (arg23.view.loc (c : Thread nD τ) ↦[arg23.view.set]{fullShare} X23) ∗ (arg24.view.loc (c : Thread nD τ) ↦[arg24.view.set]{fullShare} X24) ∗ (arg25.view.loc (c : Thread nD τ) ↦[arg25.view.set]{fullShare} X25) ∗ (arg26.view.loc (c : Thread nD τ) ↦[arg26.view.set]{fullShare} X26) ∗ (arg27.view.loc (c : Thread nD τ) ↦[arg27.view.set]{fullShare} X27) ∗ (arg28.view.loc (c : Thread nD τ) ↦[arg28.view.set]{fullShare} X28) ∗ (arg29.view.loc (c : Thread nD τ) ↦[arg29.view.set]{fullShare} X29) ∗ (arg30.view.loc (c : Thread nD τ) ↦[arg30.view.set]{fullShare} X30) ∗ (arg31.view.loc (c : Thread nD τ) ↦[arg31.view.set]{fullShare} X31) ∗ (arg32.view.loc (c : Thread nD τ) ↦[arg32.view.set]{fullShare} X32) ∗ (arg33.view.loc (c : Thread nD τ) ↦[arg33.view.set]{fullShare} X33) ∗ (arg34.view.loc (c : Thread nD τ) ↦[arg34.view.set]{fullShare} X34) ∗ (arg35.view.loc (c : Thread nD τ) ↦[arg35.view.set]{fullShare} X35) ∗ (arg36.view.loc (c : Thread nD τ) ↦[arg36.view.set]{fullShare} X36) ∗ (arg37.view.loc (c : Thread nD τ) ↦[arg37.view.set]{fullShare} X37) ∗ (arg38.view.loc (c : Thread nD τ) ↦[arg38.view.set]{fullShare} X38) ∗ (arg39.view.loc (c : Thread nD τ) ↦[arg39.view.set]{fullShare} X39) ∗ (arg40.view.loc (c : Thread nD τ) ↦[arg40.view.set]{fullShare} X40) ∗ (arg41.view.loc (c : Thread nD τ) ↦[arg41.view.set]{fullShare} X41)) : sProp 𝕄G)
  ⊢ wp frame (wpE (defs₀ (F := F)) Variants.none (c : Thread nD τ) none) Set.univ (cc0_lsq_mlp (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41) (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (∃ f, (arg13.view.loc (c : Thread nD τ) ↦[arg13.view.set]{fullShare} f) ∗ ⌜(arg13.view.read (Elt F) f) = (d_n13 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (arg32.view.read (Elt F) X32) (arg33.view.read (Elt F) X33) (arg37.view.read (Elt F) X37) (arg38.view.read (Elt F) X38) (arg39.view.read (Elt F) X39))⌝) ∗ (∃ f, (arg14.view.loc (c : Thread nD τ) ↦[arg14.view.set]{fullShare} f) ∗ ⌜(arg14.view.read (Elt F) f) = (d_n14 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (arg32.view.read (Elt F) X32) (arg33.view.read (Elt F) X33) (arg37.view.read (Elt F) X37) (arg38.view.read (Elt F) X38) (arg39.view.read (Elt F) X39))⌝) ∗ (∃ f, (arg15.view.loc (c : Thread nD τ) ↦[arg15.view.set]{fullShare} f) ∗ ⌜(arg15.view.read (Elt F) f) = (d_n15 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (arg32.view.read (Elt F) X32) (arg38.view.read (Elt F) X38) (arg39.view.read (Elt F) X39))⌝) ∗ (∃ f, (arg16.view.loc (c : Thread nD τ) ↦[arg16.view.set]{fullShare} f) ∗ ⌜(arg16.view.read (Elt F) f) = (d_n16 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (arg32.view.read (Elt F) X32) (arg33.view.read (Elt F) X33) (arg37.view.read (Elt F) X37) (arg38.view.read (Elt F) X38) (arg39.view.read (Elt F) X39))⌝) ∗ (∃ f, (arg17.view.loc (c : Thread nD τ) ↦[arg17.view.set]{fullShare} f) ∗ ⌜(arg17.view.read (Elt F) f) = (d_n17 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (arg32.view.read (Elt F) X32) (arg33.view.read (Elt F) X33) (arg37.view.read (Elt F) X37) (arg38.view.read (Elt F) X38) (arg39.view.read (Elt F) X39))⌝) ∗ (∃ f, (arg18.view.loc (c : Thread nD τ) ↦[arg18.view.set]{fullShare} f) ∗ ⌜(arg18.view.read (Elt F) f) = (d_n18 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (arg32.view.read (Elt F) X32) (arg38.view.read (Elt F) X38) (arg39.view.read (Elt F) X39) (arg18.view.read (Elt F) X18))⌝) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (∃ f, (arg22.view.loc (c : Thread nD τ) ↦[arg22.view.set]{fullShare} f) ∗ ⌜(arg22.view.read (Elt F) f) = (d_v101 (sv0 arg1 X1) (arg5.view.read (Elt F) X5) (arg8.view.read (Elt F) X8) (arg32.view.read (Elt F) X32))⌝) ∗ (∃ f, (arg23.view.loc (c : Thread nD τ) ↦[arg23.view.set]{fullShare} f) ∗ ⌜(arg23.view.read (Elt F) f) = (d_v105 (sv0 arg1 X1) (arg6.view.read (Elt F) X6) (arg9.view.read (Elt F) X9) (arg32.view.read (Elt F) X32))⌝) ∗ (∃ f, (arg24.view.loc (c : Thread nD τ) ↦[arg24.view.set]{fullShare} f) ∗ ⌜(arg24.view.read (Elt F) f) = (d_n24 (sv0 arg1 X1) (sv1 arg1 X1) (arg5.view.read (Elt F) X5) (arg6.view.read (Elt F) X6) (arg7.view.read (Elt F) X7) (arg8.view.read (Elt F) X8) (arg9.view.read (Elt F) X9) (arg32.view.read (Elt F) X32) (arg37.view.read (Elt F) X37) (arg38.view.read (Elt F) X38) (arg39.view.read (Elt F) X39) (arg24.view.read (Elt F) X24))⌝) ∗ (∃ f, (arg25.view.loc (c : Thread nD τ) ↦[arg25.view.set]{fullShare} f) ∗ ⌜(arg25.view.read (Elt F) f) = (d_DA (arg3.view.read (Elt F) X3) (arg7.view.read (Elt F) X7) (arg10.view.read (Elt F) X10) (arg37.view.read (Elt F) X37) (arg38.view.read (Elt F) X38) (arg39.view.read (Elt F) X39))⌝) ∗ (∃ f, (arg26.view.loc (c : Thread nD τ) ↦[arg26.view.set]{fullShare} f) ∗ ⌜(arg26.view.read (Elt F) f) = (d_n26 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (arg32.view.read (Elt F) X32) (arg37.view.read (Elt F) X37) (arg38.view.read (Elt F) X38) (arg39.view.read (Elt F) X39) (arg26.view.read (Elt F) X26))⌝) ∗ (arg27.view.loc (c : Thread nD τ) ↦[arg27.view.set]{fullShare} X27) ∗ (∃ f, (arg28.view.loc (c : Thread nD τ) ↦[arg28.view.set]{fullShare} f) ∗ ⌜(arg28.view.read (Elt F) f) = (d_n28 (arg5.view.read (Elt F) X5) (arg8.view.read (Elt F) X8))⌝) ∗ (∃ f, (arg29.view.loc (c : Thread nD τ) ↦[arg29.view.set]{fullShare} f) ∗ ⌜(arg29.view.read (Elt F) f) = (d_n29 (arg6.view.read (Elt F) X6) (arg9.view.read (Elt F) X9))⌝) ∗ (∃ f, (arg30.view.loc (c : Thread nD τ) ↦[arg30.view.set]{fullShare} f) ∗ ⌜(arg30.view.read (Elt F) f) = (d_n30 (sv0 arg1 X1) (sv1 arg1 X1) (arg5.view.read (Elt F) X5) (arg6.view.read (Elt F) X6) (arg8.view.read (Elt F) X8) (arg9.view.read (Elt F) X9) (arg32.view.read (Elt F) X32))⌝) ∗ (∃ f, (arg31.view.loc (c : Thread nD τ) ↦[arg31.view.set]{fullShare} f) ∗ ⌜(arg31.view.read (Elt F) f) = (d_n31 (arg7.view.read (Elt F) X7) (arg37.view.read (Elt F) X37) (arg38.view.read (Elt F) X38) (arg39.view.read (Elt F) X39))⌝) ∗ (arg32.view.loc (c : Thread nD τ) ↦[arg32.view.set]{fullShare} X32) ∗ (arg33.view.loc (c : Thread nD τ) ↦[arg33.view.set]{fullShare} X33) ∗ (∃ f, (arg34.view.loc (c : Thread nD τ) ↦[arg34.view.set]{fullShare} f) ∗ ⌜(arg34.view.read (Elt F) f) = (d_n34 (arg5.view.read (Elt F) X5) (arg8.view.read (Elt F) X8))⌝) ∗ (∃ f, (arg35.view.loc (c : Thread nD τ) ↦[arg35.view.set]{fullShare} f) ∗ ⌜(arg35.view.read (Elt F) f) = (d_n35 (arg6.view.read (Elt F) X6) (arg9.view.read (Elt F) X9))⌝) ∗ (∃ f, (arg36.view.loc (c : Thread nD τ) ↦[arg36.view.set]{fullShare} f) ∗ ⌜(arg36.view.read (Elt F) f) = (d_n36 (arg7.view.read (Elt F) X7) (arg37.view.read (Elt F) X37) (arg38.view.read (Elt F) X38) (arg39.view.read (Elt F) X39))⌝) ∗ (arg37.view.loc (c : Thread nD τ) ↦[arg37.view.set]{fullShare} X37) ∗ (arg38.view.loc (c : Thread nD τ) ↦[arg38.view.set]{fullShare} X38) ∗ (arg39.view.loc (c : Thread nD τ) ↦[arg39.view.set]{fullShare} X39) ∗ (∃ f, (arg40.view.loc (c : Thread nD τ) ↦[arg40.view.set]{fullShare} f) ∗ ⌜(arg40.view.read (Elt F) f) = (d_n40 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (arg32.view.read (Elt F) X32) (arg37.view.read (Elt F) X37) (arg38.view.read (Elt F) X38) (arg39.view.read (Elt F) X39) (arg40.view.read (Elt F) X40))⌝) ∗ (∃ f, (arg41.view.loc (c : Thread nD τ) ↦[arg41.view.set]{fullShare} f) ∗ ⌜(arg41.view.read (Elt F) f) = (d_n41 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (arg32.view.read (Elt F) X32) (arg37.view.read (Elt F) X37) (arg38.view.read (Elt F) X38) (arg39.view.read (Elt F) X39) (arg41.view.read (Elt F) X41))⌝))) := by
  rw [cc0_lsq_mlp_eq_skeleton]
  unfold cc0_lsq_mlp_skel
  iintro ⟨H1, H2, H3, H4, H5, H6, H7, H8, H9, H10, H11, H12, H13, H14, H15, H16, H17, H18, H19, H20, H21, H22, H23, H24, H25, H26, H27, H28, H29, H30, H31, H32, H33, H34, H35, H36, H37, H38, H39, H40, H41⟩
  iapply (use_part c (part11_later arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i k0_h1 X1 X8 X9)) $$ [H1 H8 H9]
  · isplitl [H1]; · iexact H1
    isplitl [H8]; · iexact H8
    iexact H9
  iintro %r ⟨H1, H8, H9, %hr⟩
  subst hr
  iapply (use_part c (part12_sound arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i _ _ _ _ _ X22)) $$ [H22]
  · iexact H22
  iintro %r ⟨H22, %hr⟩
  subst hr
  iapply (use_part c (part13_sound arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i _ _ _ _ _ _ _ _ _ _ _ X3 X5 X6 X7 X10 X32 X37 X38 X39 X22 X23 X25 X28 X29 X31 X34 X35 X36)) $$ [H3 H5 H6 H7 H10 H32 H37 H38 H39 H22 H23 H25 H28 H29 H31 H34 H35 H36]
  · isplitl [H3]; · iexact H3
    isplitl [H5]; · iexact H5
    isplitl [H6]; · iexact H6
    isplitl [H7]; · iexact H7
    isplitl [H10]; · iexact H10
    isplitl [H32]; · iexact H32
    isplitl [H37]; · iexact H37
    isplitl [H38]; · iexact H38
    isplitl [H39]; · iexact H39
    isplitl [H22]; · iexact H22
    isplitl [H23]; · iexact H23
    isplitl [H25]; · iexact H25
    isplitl [H28]; · iexact H28
    isplitl [H29]; · iexact H29
    isplitl [H31]; · iexact H31
    isplitl [H34]; · iexact H34
    isplitl [H35]; · iexact H35
    iexact H36
  iintro %r ⟨H3, H5, H6, H7, H10, H32, H37, H38, H39, ⟨%f22, H22, %h22⟩, ⟨%f23, H23, %h23⟩, ⟨%f25, H25, %h25⟩, ⟨%f28, H28, %h28⟩, ⟨%f29, H29, %h29⟩, ⟨%f31, H31, %h31⟩, ⟨%f34, H34, %h34⟩, ⟨%f35, H35, %h35⟩, ⟨%f36, H36, %h36⟩, %hr⟩
  subst hr
  iapply (use_part c (part14_sound arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i _ _ _ _ _ X40 X41)) $$ [H40 H41]
  · isplitl [H40]; · iexact H40
    iexact H41
  iintro %r ⟨⟨%g40, H40, %k40⟩, ⟨%g41, H41, %k41⟩, %hr⟩
  subst hr
  iapply (use_part c (part15_sound arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i _ _ _ _ _ _ _ _ _ _ _ _ _ _ _ _ X3 X5 X6 X7 X10 X33 f34 f35 f36 X38 X39 X13 X14 X15 X18 X24 X26 X16 X30)) $$ [H3 H5 H6 H7 H10 H33 H34 H35 H36 H38 H39 H13 H14 H15 H18 H24 H26 H16 H30]
  · isplitl [H3]; · iexact H3
    isplitl [H5]; · iexact H5
    isplitl [H6]; · iexact H6
    isplitl [H7]; · iexact H7
    isplitl [H10]; · iexact H10
    isplitl [H33]; · iexact H33
    isplitl [H34]; · iexact H34
    isplitl [H35]; · iexact H35
    isplitl [H36]; · iexact H36
    isplitl [H38]; · iexact H38
    isplitl [H39]; · iexact H39
    isplitl [H13]; · iexact H13
    isplitl [H14]; · iexact H14
    isplitl [H15]; · iexact H15
    isplitl [H18]; · iexact H18
    isplitl [H24]; · iexact H24
    isplitl [H26]; · iexact H26
    isplitl [H16]; · iexact H16
    iexact H30
  iintro %r ⟨H3, H5, H6, H7, H10, H33, H34, H35, H36, H38, H39, ⟨%g13, H13, %k13⟩, ⟨%g14, H14, %k14⟩, ⟨%g15, H15, %k15⟩, ⟨%g18, H18, %k18⟩, ⟨%g24, H24, %k24⟩, ⟨%g26, H26, %k26⟩, ⟨%g16, H16, %k16⟩, ⟨%g30, H30, %k30⟩, %hr⟩
  subst hr
  sl_exec
  sl_unfold_run_names
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]
  · iexists _; isplitl [H13]; · iexact H13
    ipureintro; refine k13.trans ?_
    try rw [h34]
    try rw [h35]
    try rw [h36]
    exact rfl
  isplitl [H14]
  · iexists _; isplitl [H14]; · iexact H14
    ipureintro; refine k14.trans ?_
    try rw [h34]
    try rw [h35]
    try rw [h36]
    exact rfl
  isplitl [H15]
  · iexists _; isplitl [H15]; · iexact H15
    ipureintro; refine k15.trans ?_
    try rw [h34]
    try rw [h35]
    try rw [h36]
    exact rfl
  isplitl [H16]
  · iexists _; isplitl [H16]; · iexact H16
    ipureintro; refine k16.trans ?_
    try rw [h34]
    try rw [h35]
    try rw [h36]
    exact rfl
  isplitl [H17]
  · iexists _; isplitl [H17]; · iexact H17
    ipureintro; refine store_all _ _ _ _ _ _ ?_
    try rw [h34]
    try rw [h35]
    try rw [h36]
    exact rfl
  isplitl [H18]
  · iexists _; isplitl [H18]; · iexact H18
    ipureintro; refine k18.trans ?_
    try rw [h34]
    try rw [h35]
    try rw [h36]
    exact rfl
  isplitl [H19]; · iexact H19
  isplitl [H20]; · iexact H20
  isplitl [H21]; · iexact H21
  isplitl [H22]
  · iexists _; isplitl [H22]; · iexact H22
    ipureintro; refine h22.trans ?_
    exact rfl
  isplitl [H23]
  · iexists _; isplitl [H23]; · iexact H23
    ipureintro; refine h23.trans ?_
    exact rfl
  isplitl [H24]
  · iexists _; isplitl [H24]; · iexact H24
    ipureintro; refine k24.trans ?_
    try rw [h34]
    try rw [h35]
    try rw [h36]
    exact rfl
  isplitl [H25]
  · iexists _; isplitl [H25]; · iexact H25
    ipureintro; refine h25.trans ?_
    exact rfl
  isplitl [H26]
  · iexists _; isplitl [H26]; · iexact H26
    ipureintro; refine k26.trans ?_
    try rw [h34]
    try rw [h35]
    try rw [h36]
    exact rfl
  isplitl [H27]; · iexact H27
  isplitl [H28]
  · iexists _; isplitl [H28]; · iexact H28
    ipureintro; refine h28.trans ?_
    exact rfl
  isplitl [H29]
  · iexists _; isplitl [H29]; · iexact H29
    ipureintro; refine h29.trans ?_
    exact rfl
  isplitl [H30]
  · iexists _; isplitl [H30]; · iexact H30
    ipureintro; refine k30.trans ?_
    try rw [h34]
    try rw [h35]
    try rw [h36]
    exact rfl
  isplitl [H31]
  · iexists _; isplitl [H31]; · iexact H31
    ipureintro; refine h31.trans ?_
    exact rfl
  isplitl [H32]; · iexact H32
  isplitl [H33]; · iexact H33
  isplitl [H34]
  · iexists _; isplitl [H34]; · iexact H34
    ipureintro; refine h34.trans ?_
    exact rfl
  isplitl [H35]
  · iexists _; isplitl [H35]; · iexact H35
    ipureintro; refine h35.trans ?_
    exact rfl
  isplitl [H36]
  · iexists _; isplitl [H36]; · iexact H36
    ipureintro; refine h36.trans ?_
    exact rfl
  isplitl [H37]; · iexact H37
  isplitl [H38]; · iexact H38
  isplitl [H39]; · iexact H39
  isplitl [H40]
  · iexists _; isplitl [H40]; · iexact H40
    ipureintro; refine k40.trans ?_
    try rw [h34]
    try rw [h35]
    try rw [h36]
    exact rfl
  iexists _; isplitl [H41]; · iexact H41
  ipureintro; refine k41.trans ?_
  try rw [h34]
  try rw [h35]
  try rw [h36]
  exact rfl

end Cert.KernelIdeal.Hand

end
-- ==== Proof.KernelIdeal.RunMid.lean ====
module

public import proofs.«01_k».proof.Proof.Gen.KernelIdeal.Skeleton
public import proofs.«01_k».proof.Proof.Gen.KernelIdeal.Frame
public import Idealize.ShloMosaic.Lib.Tactic
public import Idealize.ShloMosaic.Lib.Pipeline.Frame
public import Idealize.ShloMosaic.Lib.WritesUnit
public import proofs.«01_k».proof.Proof.Slab
public import proofs.«01_k».proof.Proof.KernelIdeal.Spec
public import proofs.«01_k».proof.Proof.KernelIdeal.StepSpec
public import proofs.«01_k».proof.Proof.KernelIdeal.BodyMid
public import proofs.«01_k».proof.Proof.KernelIdeal.Words

@[expose] public section

set_option maxRecDepth 16384
set_option maxHeartbeats 4000000

noncomputable section

namespace Cert.KernelIdeal.Hand

open Cert.KernelIdeal Cert.KernelIdeal.Gen
open Cert.Slab
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (arg1 : Memref sig .tc .smem S2 .f32) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S256x4096 .bf16) (harg15 : arg15.IsWhole) (arg16 : Memref sig .tc .vmem S1x256 .f32) (harg16 : arg16.IsWhole) (arg17 : Memref sig .tc .vmem S1x256 .f32) (harg17 : arg17.IsWhole) (arg18 : Memref sig .tc .vmem S8x4096 .f32) (harg18 : arg18.IsWhole) (arg19 : Memref sig .tc .vmem S5x256x128 .f32) (harg19 : arg19.IsWhole) (arg20 : Memref sig .tc .vmem S2x8x128 .f32) (harg20 : arg20.IsWhole) (arg21 : Memref sig .tc .vmem S1x4096 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x4096 .f32) (harg24 : arg24.IsWhole) (arg25 : Memref sig .tc .vmem S256x256 .f32) (harg25 : arg25.IsWhole) (arg26 : Memref sig .tc .vmem S256x4096 .f32) (harg26 : arg26.IsWhole) (arg27 : Memref sig .tc .vmem S256x4096 .i8) (harg27 : arg27.IsWhole) (arg28 : Memref sig .tc .vmem S4096x256 .i8) (harg28 : arg28.IsWhole) (arg29 : Memref sig .tc .vmem S4096x256 .i8) (harg29 : arg29.IsWhole) (arg30 : Memref sig .tc .vmem S256x256 .i8) (harg30 : arg30.IsWhole) (arg31 : Memref sig .tc .vmem S256x4096 .i8) (harg31 : arg31.IsWhole) (arg32 : Memref sig .tc .vmem S256x4096 .bf16) (harg32 : arg32.IsWhole) (arg33 : Memref sig .tc .vmem S4096x256 .bf16) (harg33 : arg33.IsWhole) (arg34 : Memref sig .tc .vmem S4096x256 .bf16) (harg34 : arg34.IsWhole) (arg35 : Memref sig .tc .vmem S4096x256 .bf16) (harg35 : arg35.IsWhole) (arg36 : Memref sig .tc .vmem S256x4096 .bf16) (harg36 : arg36.IsWhole) (arg37 : Memref sig .tc .vmem S1x4096 .f32) (harg37 : arg37.IsWhole) (arg38 : Memref sig .tc .vmem S1x4096 .bf16) (harg38 : arg38.IsWhole) (arg39 : Memref sig .tc .vmem S1x4096 .bf16) (harg39 : arg39.IsWhole) (arg40 : Memref sig .tc .vmem S256x128 .f32) (harg40 : arg40.IsWhole) (arg41 : Memref sig .tc .vmem S256x128 .f32) (harg41 : arg41.IsWhole)

/-- The body at a grid point that is neither the first nor the last, every operand owned at named contents: what each operand then holds. -/
theorem run_mid (c : Dev nD) (i : grid0.Coords) (k0_h1 : ¬ k0_cond1 i = 1#1) (k0_h2 : ¬ k0_cond2 i = 1#1)
    (x1 : S2.Idx → Elt F .f32) (x2 : S256x4096.Idx → Elt F .bf16) (x3 : S256x4096.Idx → Elt F .bf16) (x4 : S1x4096.Idx → Elt F .f32) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x11 : S256x4096.Idx → Elt F .bf16) (x12 : S256x4096.Idx → Elt F .bf16) (x13 : S4096x256.Idx → Elt F .bf16) (x14 : S4096x256.Idx → Elt F .bf16) (x15 : S256x4096.Idx → Elt F .bf16) (x16 : S1x256.Idx → Elt F .f32) (x17 : S1x256.Idx → Elt F .f32) (x18 : S8x4096.Idx → Elt F .f32) (x19 : S5x256x128.Idx → Elt F .f32) (x20 : S2x8x128.Idx → Elt F .f32) (x21 : S1x4096.Idx → Elt F .f32) (x22 : S256x256.Idx → Elt F .f32) (x23 : S256x256.Idx → Elt F .f32) (x24 : S256x4096.Idx → Elt F .f32) (x25 : S256x256.Idx → Elt F .f32) (x26 : S256x4096.Idx → Elt F .f32) (x27 : S256x4096.Idx → Elt F .i8) (x28 : S4096x256.Idx → Elt F .i8) (x29 : S4096x256.Idx → Elt F .i8) (x30 : S256x256.Idx → Elt F .i8) (x31 : S256x4096.Idx → Elt F .i8) (x32 : S256x4096.Idx → Elt F .bf16) (x33 : S4096x256.Idx → Elt F .bf16) (x34 : S4096x256.Idx → Elt F .bf16) (x35 : S4096x256.Idx → Elt F .bf16) (x36 : S256x4096.Idx → Elt F .bf16) (x37 : S1x4096.Idx → Elt F .f32) (x38 : S1x4096.Idx → Elt F .bf16) (x39 : S1x4096.Idx → Elt F .bf16) (x40 : S256x128.Idx → Elt F .f32) (x41 : S256x128.Idx → Elt F .f32) :
    (iprop(owns (c : Thread nD τ) arg1 fullShare x1
    ∗ owns (c : Thread nD τ) arg2 fullShare x2
    ∗ owns (c : Thread nD τ) arg3 fullShare x3
    ∗ owns (c : Thread nD τ) arg4 fullShare x4
    ∗ owns (c : Thread nD τ) arg5 fullShare x5
    ∗ owns (c : Thread nD τ) arg6 fullShare x6
    ∗ owns (c : Thread nD τ) arg7 fullShare x7
    ∗ owns (c : Thread nD τ) arg8 fullShare x8
    ∗ owns (c : Thread nD τ) arg9 fullShare x9
    ∗ owns (c : Thread nD τ) arg10 fullShare x10
    ∗ owns (c : Thread nD τ) arg11 fullShare x11
    ∗ owns (c : Thread nD τ) arg12 fullShare x12
    ∗ owns (c : Thread nD τ) arg13 fullShare x13
    ∗ owns (c : Thread nD τ) arg14 fullShare x14
    ∗ owns (c : Thread nD τ) arg15 fullShare x15
    ∗ owns (c : Thread nD τ) arg16 fullShare x16
    ∗ owns (c : Thread nD τ) arg17 fullShare x17
    ∗ owns (c : Thread nD τ) arg18 fullShare x18
    ∗ owns (c : Thread nD τ) arg19 fullShare x19
    ∗ owns (c : Thread nD τ) arg20 fullShare x20
    ∗ owns (c : Thread nD τ) arg21 fullShare x21
    ∗ owns (c : Thread nD τ) arg22 fullShare x22
    ∗ owns (c : Thread nD τ) arg23 fullShare x23
    ∗ owns (c : Thread nD τ) arg24 fullShare x24
    ∗ owns (c : Thread nD τ) arg25 fullShare x25
    ∗ owns (c : Thread nD τ) arg26 fullShare x26
    ∗ owns (c : Thread nD τ) arg27 fullShare x27
    ∗ owns (c : Thread nD τ) arg28 fullShare x28
    ∗ owns (c : Thread nD τ) arg29 fullShare x29
    ∗ owns (c : Thread nD τ) arg30 fullShare x30
    ∗ owns (c : Thread nD τ) arg31 fullShare x31
    ∗ owns (c : Thread nD τ) arg32 fullShare x32
    ∗ owns (c : Thread nD τ) arg33 fullShare x33
    ∗ owns (c : Thread nD τ) arg34 fullShare x34
    ∗ owns (c : Thread nD τ) arg35 fullShare x35
    ∗ owns (c : Thread nD τ) arg36 fullShare x36
    ∗ owns (c : Thread nD τ) arg37 fullShare x37
    ∗ owns (c : Thread nD τ) arg38 fullShare x38
    ∗ owns (c : Thread nD τ) arg39 fullShare x39
    ∗ owns (c : Thread nD τ) arg40 fullShare x40
    ∗ owns (c : Thread nD τ) arg41 fullShare x41) : sProp 𝕄G)
  ⊢ wp frame (wpE (defs₀ (F := F)) Variants.none (c : Thread nD τ) none) Set.univ (cc0_lsq_mlp (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41)
      (fun _ => iprop(owns (c : Thread nD τ) arg1 fullShare x1
    ∗ owns (c : Thread nD τ) arg2 fullShare x2
    ∗ owns (c : Thread nD τ) arg3 fullShare x3
    ∗ owns (c : Thread nD τ) arg4 fullShare x4
    ∗ owns (c : Thread nD τ) arg5 fullShare x5
    ∗ owns (c : Thread nD τ) arg6 fullShare x6
    ∗ owns (c : Thread nD τ) arg7 fullShare x7
    ∗ owns (c : Thread nD τ) arg8 fullShare x8
    ∗ owns (c : Thread nD τ) arg9 fullShare x9
    ∗ owns (c : Thread nD τ) arg10 fullShare x10
    ∗ owns (c : Thread nD τ) arg11 fullShare x11
    ∗ owns (c : Thread nD τ) arg12 fullShare x12
    ∗ owns (c : Thread nD τ) arg13 fullShare (d_n13 (s0 x1) (s1 x1) x3 x5 x6 x7 x8 x9 x10 x32 x33 x37 x38 x39)
    ∗ owns (c : Thread nD τ) arg14 fullShare (d_n14 (s0 x1) (s1 x1) x3 x5 x6 x7 x8 x9 x10 x32 x33 x37 x38 x39)
    ∗ owns (c : Thread nD τ) arg15 fullShare (d_n15 (s0 x1) (s1 x1) x3 x5 x6 x7 x8 x9 x10 x32 x38 x39)
    ∗ owns (c : Thread nD τ) arg16 fullShare (d_n16 (s0 x1) (s1 x1) x3 x5 x6 x7 x8 x9 x10 x32 x33 x37 x38 x39)
    ∗ owns (c : Thread nD τ) arg17 fullShare (d_n17 (s0 x1) (s1 x1) x3 x5 x6 x7 x8 x9 x10 x32 x33 x37 x38 x39)
    ∗ owns (c : Thread nD τ) arg18 fullShare (d_n18 (s0 x1) (s1 x1) x3 x5 x6 x7 x8 x9 x10 x32 x38 x39 x18)
    ∗ owns (c : Thread nD τ) arg19 fullShare x19
    ∗ owns (c : Thread nD τ) arg20 fullShare x20
    ∗ owns (c : Thread nD τ) arg21 fullShare x21
    ∗ owns (c : Thread nD τ) arg22 fullShare (d_v101 (s0 x1) x5 x8 x32)
    ∗ owns (c : Thread nD τ) arg23 fullShare (d_v105 (s0 x1) x6 x9 x32)
    ∗ owns (c : Thread nD τ) arg24 fullShare (d_n24 (s0 x1) (s1 x1) x5 x6 x7 x8 x9 x32 x37 x38 x39 x24)
    ∗ owns (c : Thread nD τ) arg25 fullShare (d_DA x3 x7 x10 x37 x38 x39)
    ∗ owns (c : Thread nD τ) arg26 fullShare (d_n26 (s0 x1) (s1 x1) x3 x5 x6 x7 x8 x9 x10 x32 x37 x38 x39 x26)
    ∗ owns (c : Thread nD τ) arg27 fullShare x27
    ∗ owns (c : Thread nD τ) arg28 fullShare (d_n28 x5 x8)
    ∗ owns (c : Thread nD τ) arg29 fullShare (d_n29 x6 x9)
    ∗ owns (c : Thread nD τ) arg30 fullShare (d_n30 (s0 x1) (s1 x1) x5 x6 x8 x9 x32)
    ∗ owns (c : Thread nD τ) arg31 fullShare (d_n31 x7 x37 x38 x39)
    ∗ owns (c : Thread nD τ) arg32 fullShare x32
    ∗ owns (c : Thread nD τ) arg33 fullShare x33
    ∗ owns (c : Thread nD τ) arg34 fullShare (d_n34 x5 x8)
    ∗ owns (c : Thread nD τ) arg35 fullShare (d_n35 x6 x9)
    ∗ owns (c : Thread nD τ) arg36 fullShare (d_n36 x7 x37 x38 x39)
    ∗ owns (c : Thread nD τ) arg37 fullShare x37
    ∗ owns (c : Thread nD τ) arg38 fullShare x38
    ∗ owns (c : Thread nD τ) arg39 fullShare x39
    ∗ owns (c : Thread nD τ) arg40 fullShare (d_n40 (s0 x1) (s1 x1) x3 x5 x6 x7 x8 x9 x10 x32 x37 x38 x39 x40)
    ∗ owns (c : Thread nD τ) arg41 fullShare (d_n41 (s0 x1) (s1 x1) x3 x5 x6 x7 x8 x9 x10 x32 x37 x38 x39 x41))) := by
  unfold owns
  iintro ⟨⟨%X1, %h1, H1⟩, ⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%X10, %h10, H10⟩, ⟨%X11, %h11, H11⟩, ⟨%X12, %h12, H12⟩, ⟨%X13, %h13, H13⟩, ⟨%X14, %h14, H14⟩, ⟨%X15, %h15, H15⟩, ⟨%X16, %h16, H16⟩, ⟨%X17, %h17, H17⟩, ⟨%X18, %h18, H18⟩, ⟨%X19, %h19, H19⟩, ⟨%X20, %h20, H20⟩, ⟨%X21, %h21, H21⟩, ⟨%X22, %h22, H22⟩, ⟨%X23, %h23, H23⟩, ⟨%X24, %h24, H24⟩, ⟨%X25, %h25, H25⟩, ⟨%X26, %h26, H26⟩, ⟨%X27, %h27, H27⟩, ⟨%X28, %h28, H28⟩, ⟨%X29, %h29, H29⟩, ⟨%X30, %h30, H30⟩, ⟨%X31, %h31, H31⟩, ⟨%X32, %h32, H32⟩, ⟨%X33, %h33, H33⟩, ⟨%X34, %h34, H34⟩, ⟨%X35, %h35, H35⟩, ⟨%X36, %h36, H36⟩, ⟨%X37, %h37, H37⟩, ⟨%X38, %h38, H38⟩, ⟨%X39, %h39, H39⟩, ⟨%X40, %h40, H40⟩, ⟨%X41, %h41, H41⟩⟩
  subst h1 h2 h3 h4 h5 h6 h7 h8 h9 h10 h11 h12 h13 h14 h15 h16 h17 h18 h19 h20 h21 h22 h23 h24 h25 h26 h27 h28 h29 h30 h31 h32 h33 h34 h35 h36 h37 h38 h39 h40 h41
  iapply (use_whole c (body_mid arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i k0_h1 k0_h2 X1 X2 X3 X4 X5 X6 X7 X8 X9 X10 X11 X12 X13 X14 X15 X16 X17 X18 X19 X20 X21 X22 X23 X24 X25 X26 X27 X28 X29 X30 X31 X32 X33 X34 X35 X36 X37 X38 X39 X40 X41)) $$ [H1 H2 H3 H4 H5 H6 H7 H8 H9 H10 H11 H12 H13 H14 H15 H16 H17 H18 H19 H20 H21 H22 H23 H24 H25 H26 H27 H28 H29 H30 H31 H32 H33 H34 H35 H36 H37 H38 H39 H40 H41]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H38]; · iexact H38
    isplitl [H39]; · iexact H39
    isplitl [H40]; · iexact H40
    iexact H41
  iintro %r ⟨H1, H2, H3, H4, H5, H6, H7, H8, H9, H10, H11, H12, ⟨%f13, H13, %g13⟩, ⟨%f14, H14, %g14⟩, ⟨%f15, H15, %g15⟩, ⟨%f16, H16, %g16⟩, ⟨%f17, H17, %g17⟩, ⟨%f18, H18, %g18⟩, H19, H20, H21, ⟨%f22, H22, %g22⟩, ⟨%f23, H23, %g23⟩, ⟨%f24, H24, %g24⟩, ⟨%f25, H25, %g25⟩, ⟨%f26, H26, %g26⟩, H27, ⟨%f28, H28, %g28⟩, ⟨%f29, H29, %g29⟩, ⟨%f30, H30, %g30⟩, ⟨%f31, H31, %g31⟩, H32, H33, ⟨%f34, H34, %g34⟩, ⟨%f35, H35, %g35⟩, ⟨%f36, H36, %g36⟩, H37, H38, H39, ⟨%f40, H40, %g40⟩, ⟨%f41, H41, %g41⟩⟩
  isplitl [H1]
  · iexists X1; isplitr; · ipureintro; rfl
    iexact H1
  isplitl [H2]
  · iexists X2; isplitr; · ipureintro; rfl
    iexact H2
  isplitl [H3]
  · iexists X3; isplitr; · ipureintro; rfl
    iexact H3
  isplitl [H4]
  · iexists X4; isplitr; · ipureintro; rfl
    iexact H4
  isplitl [H5]
  · iexists X5; isplitr; · ipureintro; rfl
    iexact H5
  isplitl [H6]
  · iexists X6; isplitr; · ipureintro; rfl
    iexact H6
  isplitl [H7]
  · iexists X7; isplitr; · ipureintro; rfl
    iexact H7
  isplitl [H8]
  · iexists X8; isplitr; · ipureintro; rfl
    iexact H8
  isplitl [H9]
  · iexists X9; isplitr; · ipureintro; rfl
    iexact H9
  isplitl [H10]
  · iexists X10; isplitr; · ipureintro; rfl
    iexact H10
  isplitl [H11]
  · iexists X11; isplitr; · ipureintro; rfl
    iexact H11
  isplitl [H12]
  · iexists X12; isplitr; · ipureintro; rfl
    iexact H12
  isplitl [H13]
  · iexists f13; isplitr; · ipureintro; exact g13
    iexact H13
  isplitl [H14]
  · iexists f14; isplitr; · ipureintro; exact g14
    iexact H14
  isplitl [H15]
  · iexists f15; isplitr; · ipureintro; exact g15
    iexact H15
  isplitl [H16]
  · iexists f16; isplitr; · ipureintro; exact g16
    iexact H16
  isplitl [H17]
  · iexists f17; isplitr; · ipureintro; exact g17
    iexact H17
  isplitl [H18]
  · iexists f18; isplitr; · ipureintro; exact g18
    iexact H18
  isplitl [H19]
  · iexists X19; isplitr; · ipureintro; rfl
    iexact H19
  isplitl [H20]
  · iexists X20; isplitr; · ipureintro; rfl
    iexact H20
  isplitl [H21]
  · iexists X21; isplitr; · ipureintro; rfl
    iexact H21
  isplitl [H22]
  · iexists f22; isplitr; · ipureintro; exact g22
    iexact H22
  isplitl [H23]
  · iexists f23; isplitr; · ipureintro; exact g23
    iexact H23
  isplitl [H24]
  · iexists f24; isplitr; · ipureintro; exact g24
    iexact H24
  isplitl [H25]
  · iexists f25; isplitr; · ipureintro; exact g25
    iexact H25
  isplitl [H26]
  · iexists f26; isplitr; · ipureintro; exact g26
    iexact H26
  isplitl [H27]
  · iexists X27; isplitr; · ipureintro; rfl
    iexact H27
  isplitl [H28]
  · iexists f28; isplitr; · ipureintro; exact g28
    iexact H28
  isplitl [H29]
  · iexists f29; isplitr; · ipureintro; exact g29
    iexact H29
  isplitl [H30]
  · iexists f30; isplitr; · ipureintro; exact g30
    iexact H30
  isplitl [H31]
  · iexists f31; isplitr; · ipureintro; exact g31
    iexact H31
  isplitl [H32]
  · iexists X32; isplitr; · ipureintro; rfl
    iexact H32
  isplitl [H33]
  · iexists X33; isplitr; · ipureintro; rfl
    iexact H33
  isplitl [H34]
  · iexists f34; isplitr; · ipureintro; exact g34
    iexact H34
  isplitl [H35]
  · iexists f35; isplitr; · ipureintro; exact g35
    iexact H35
  isplitl [H36]
  · iexists f36; isplitr; · ipureintro; exact g36
    iexact H36
  isplitl [H37]
  · iexists X37; isplitr; · ipureintro; rfl
    iexact H37
  isplitl [H38]
  · iexists X38; isplitr; · ipureintro; rfl
    iexact H38
  isplitl [H39]
  · iexists X39; isplitr; · ipureintro; rfl
    iexact H39
  isplitl [H40]
  · iexists f40; isplitr; · ipureintro; exact g40
    iexact H40
  iexists f41; isplitr; · ipureintro; exact g41
  iexact H41

end Cert.KernelIdeal.Hand

end
-- ==== Proof.KernelIdeal.LoopsD.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Pipeline.Frame
public import Idealize.ShloMosaic.Lib.WritesUnit
public import proofs.«01_k».proof.Proof.Slab

@[expose] public section

set_option maxRecDepth 16384
set_option maxHeartbeats 4000000

noncomputable section

namespace Cert.KernelIdeal.Hand

open Cert.KernelIdeal Cert.KernelIdeal.Gen
open Cert.Slab
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ
variable (arg1 : Memref sig .tc .smem S2 .f32) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S256x4096 .bf16) (harg15 : arg15.IsWhole) (arg16 : Memref sig .tc .vmem S1x256 .f32) (harg16 : arg16.IsWhole) (arg17 : Memref sig .tc .vmem S1x256 .f32) (harg17 : arg17.IsWhole) (arg18 : Memref sig .tc .vmem S8x4096 .f32) (harg18 : arg18.IsWhole) (arg19 : Memref sig .tc .vmem S5x256x128 .f32) (harg19 : arg19.IsWhole) (arg20 : Memref sig .tc .vmem S2x8x128 .f32) (harg20 : arg20.IsWhole) (arg21 : Memref sig .tc .vmem S1x4096 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x4096 .f32) (harg24 : arg24.IsWhole) (arg25 : Memref sig .tc .vmem S256x256 .f32) (harg25 : arg25.IsWhole) (arg26 : Memref sig .tc .vmem S256x4096 .f32) (harg26 : arg26.IsWhole) (arg27 : Memref sig .tc .vmem S256x4096 .i8) (harg27 : arg27.IsWhole) (arg28 : Memref sig .tc .vmem S4096x256 .i8) (harg28 : arg28.IsWhole) (arg29 : Memref sig .tc .vmem S4096x256 .i8) (harg29 : arg29.IsWhole) (arg30 : Memref sig .tc .vmem S256x256 .i8) (harg30 : arg30.IsWhole) (arg31 : Memref sig .tc .vmem S256x4096 .i8) (harg31 : arg31.IsWhole) (arg32 : Memref sig .tc .vmem S256x4096 .bf16) (harg32 : arg32.IsWhole) (arg33 : Memref sig .tc .vmem S4096x256 .bf16) (harg33 : arg33.IsWhole) (arg34 : Memref sig .tc .vmem S4096x256 .bf16) (harg34 : arg34.IsWhole) (arg35 : Memref sig .tc .vmem S4096x256 .bf16) (harg35 : arg35.IsWhole) (arg36 : Memref sig .tc .vmem S256x4096 .bf16) (harg36 : arg36.IsWhole) (arg37 : Memref sig .tc .vmem S1x4096 .f32) (harg37 : arg37.IsWhole) (arg38 : Memref sig .tc .vmem S1x4096 .bf16) (harg38 : arg38.IsWhole) (arg39 : Memref sig .tc .vmem S1x4096 .bf16) (harg39 : arg39.IsWhole) (arg40 : Memref sig .tc .vmem S256x128 .f32) (harg40 : arg40.IsWhole) (arg41 : Memref sig .tc .vmem S256x128 .f32) (harg41 : arg41.IsWhole)

/-- Loop 6 of the kernel: what its buffers hold before trip `k`. -/
def inv6 (c : Dev nD) (i : grid0.Coords) (v1 : Elt F .f32) (v6 : FVec F S1x1 .f32) (k0_h2 : k0_cond2 i = 1#1) (v217 : FVec F S256x128 .f32) (X2 : BufTy.Contents (Elt F) arg2.view.ty) (X3 : BufTy.Contents (Elt F) arg3.view.ty) (X4 : BufTy.Contents (Elt F) arg4.view.ty) (X10 : BufTy.Contents (Elt F) arg10.view.ty) (X26 : BufTy.Contents (Elt F) arg26.view.ty) (X37 : BufTy.Contents (Elt F) arg37.view.ty) (y11 : S256x4096.Idx → Elt F .bf16) (y18 : S8x4096.Idx → Elt F .f32) (y21 : S1x4096.Idx → Elt F .f32) (y24 : S256x4096.Idx → Elt F .f32) (z0 : FVec F S256x128 .f32) (z1 : FVec F S256x128 .f32) (z2 : FVec F S256x128 .f32) : ℕ → (FVec F S256x128 .f32) × (FVec F S256x128 .f32) × (FVec F S256x128 .f32) → sProp 𝕄G :=
  fun k acc => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg10.view.loc (c : Thread nD τ) ↦[arg10.view.set]{fullShare} X10) ∗ (arg26.view.loc (c : Thread nD τ) ↦[arg26.view.set]{fullShare} X26) ∗ (arg37.view.loc (c : Thread nD τ) ↦[arg37.view.set]{fullShare} X37) ∗ (∃ f, (arg11.view.loc (c : Thread nD τ) ↦[arg11.view.set]{fullShare} f) ∗ ⌜(arg11.view.read (Elt F) f) = upC k (fun j => k0_pay52 v1 (cs (arg2.view.read (Elt F) X2) j) (cs y24 j) (cs (arg10.view.read (Elt F) X10) j)) y11⌝) ∗ (∃ f, (arg18.view.loc (c : Thread nD τ) ↦[arg18.view.set]{fullShare} f) ∗ ⌜(arg18.view.read (Elt F) f) = upC k (fun j => k0_pay50 v1 (cs y24 j) (cs (arg3.view.read (Elt F) X3) j) (cs y18 j) (cs (arg37.view.read (Elt F) X37) j)) y18⌝) ∗ (∃ f, (arg21.view.loc (c : Thread nD τ) ↦[arg21.view.set]{fullShare} f) ∗ ⌜(arg21.view.read (Elt F) f) = upC k (fun j => k0_pay65 v217 (k0_pay48 (cs (arg2.view.read (Elt F) X2) j)) (k0_pay53 (cs (arg26.view.read (Elt F) X26) j)) (k0_pay57 v6 (k0_pay62 v217) (k0_pay48 (cs (arg2.view.read (Elt F) X2) j)) (cs (arg4.view.read (Elt F) X4) j))) y21⌝) ∗ (∃ f, (arg24.view.loc (c : Thread nD τ) ↦[arg24.view.set]{fullShare} f) ∗ ⌜(arg24.view.read (Elt F) f) = upC k (fun j => k0_pay51 v1 (cs y24 j) (cs (arg10.view.read (Elt F) X10) j)) y24⌝) ∗ ⌜acc = (accTo (fun j a => k0_pay58 v6 (k0_pay62 v217) a (k0_pay48 (cs (arg2.view.read (Elt F) X2) j)) (cs (arg26.view.read (Elt F) X26) j) (cs (arg4.view.read (Elt F) X4) j)) z0 k, accTo (fun j a => k0_pay59 v6 (k0_pay62 v217) a (k0_pay48 (cs (arg2.view.read (Elt F) X2) j)) (cs (arg26.view.read (Elt F) X26) j) (cs (arg4.view.read (Elt F) X4) j)) z1 k, accTo (fun j a => k0_pay66 a (k0_pay48 (cs (arg2.view.read (Elt F) X2) j)) (k0_pay53 (cs (arg26.view.read (Elt F) X26) j)) (k0_pay54 (cs (arg4.view.read (Elt F) X4) j)) (k0_pay57 v6 (k0_pay62 v217) (k0_pay48 (cs (arg2.view.read (Elt F) X2) j)) (cs (arg4.view.read (Elt F) X4) j))) z2 k)⌝)

/-- One trip of loop 6. -/
theorem step6 (c : Dev nD) (i : grid0.Coords) (v1 : Elt F .f32) (v6 : FVec F S1x1 .f32) (k0_h2 : k0_cond2 i = 1#1) (v217 : FVec F S256x128 .f32) (X2 : BufTy.Contents (Elt F) arg2.view.ty) (X3 : BufTy.Contents (Elt F) arg3.view.ty) (X4 : BufTy.Contents (Elt F) arg4.view.ty) (X10 : BufTy.Contents (Elt F) arg10.view.ty) (X26 : BufTy.Contents (Elt F) arg26.view.ty) (X37 : BufTy.Contents (Elt F) arg37.view.ty) (y11 : S256x4096.Idx → Elt F .bf16) (y18 : S8x4096.Idx → Elt F .f32) (y21 : S1x4096.Idx → Elt F .f32) (y24 : S256x4096.Idx → Elt F .f32) (z0 : FVec F S256x128 .f32) (z1 : FVec F S256x128 .f32) (z2 : FVec F S256x128 .f32) (k : Fin (Scf.trips k0_t6_loop.lb k0_t6_loop.ub k0_t6_loop.st)) (acc : (FVec F S256x128 .f32) × (FVec F S256x128 .f32) × (FVec F S256x128 .f32)) :
  inv6 arg2 arg3 arg4 arg10 arg11 arg18 arg21 arg24 arg26 arg37 c i v1 v6 k0_h2 v217 X2 X3 X4 X10 X26 X37 y11 y18 y21 y24 z0 z1 z2 k.val acc ⊢ wp frame (wpE (defs₀ (F := F)) Variants.none (c : Thread nD τ) none) Set.univ (k0_t6_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v1 v6 k0_h2 v217 k acc) (inv6 arg2 arg3 arg4 arg10 arg11 arg18 arg21 arg24 arg26 arg37 c i v1 v6 k0_h2 v217 X2 X3 X4 X10 X26 X37 y11 y18 y21 y24 z0 z1 z2 (k.val + 1)) := by
    obtain ⟨a0, a1, a2⟩ := acc
    have hk : k.val < 8 := Nat.lt_of_lt_of_le k.isLt k0_t6_abs.2.1
    unfold k0_t6_body inv6
    iintro ⟨H2, H3, H4, H10, H26, H37, ⟨%f11, H11, %h11⟩, ⟨%f18, H18, %h18⟩, ⟨%f21, H21, %h21⟩, ⟨%f24, H24, %h24⟩, %ha⟩
    obtain ⟨ha0, ha⟩ := Prod.mk.inj ha
    obtain ⟨ha1, ha2⟩ := Prod.mk.inj ha
    subst ha0; subst ha1; subst ha2
    sl_exec
    sl_unfold_run_names
    sl_step
    isplitl [H2]; · iexact H2
    isplitl [H3]; · iexact H3
    isplitl [H4]; · iexact H4
    isplitl [H10]; · iexact H10
    isplitl [H26]; · iexact H26
    isplitl [H37]; · iexact H37
    isplitl [H11]
    · iexists _; isplitl [H11]; · iexact H11
      ipureintro; exact store_c (m := 256) arg11.view f11 ⟨k.val, hk⟩ (k0_off13_eq k) _ _ _ h11 _ (by rw [load_c (m := 256) arg2.view X2 ⟨k.val, hk⟩ (k0_off13_eq k), load_c (m := 1) arg10.view X10 ⟨k.val, hk⟩ (k0_off15_eq k), load_c (m := 256) arg24.view f24 ⟨k.val, hk⟩ (k0_off13_eq k), h24, cs_upC ⟨k.val, hk⟩])
    isplitl [H18]
    · iexists _; isplitl [H18]; · iexact H18
      ipureintro; exact store_c (m := 8) arg18.view f18 ⟨k.val, hk⟩ (k0_off14_eq k) _ _ _ h18 _ (by rw [load_c (m := 256) arg3.view X3 ⟨k.val, hk⟩ (k0_off13_eq k), load_c (m := 1) arg37.view X37 ⟨k.val, hk⟩ (k0_off15_eq k), load_c (m := 8) arg18.view f18 ⟨k.val, hk⟩ (k0_off14_eq k), h18, cs_upC ⟨k.val, hk⟩, load_c (m := 256) arg24.view f24 ⟨k.val, hk⟩ (k0_off13_eq k), h24, cs_upC ⟨k.val, hk⟩])
    isplitl [H21]
    · iexists _; isplitl [H21]; · iexact H21
      ipureintro; exact store_c (m := 1) arg21.view f21 ⟨k.val, hk⟩ (k0_off15_eq k) _ _ _ h21 _ (by rw [load_c (m := 256) arg2.view X2 ⟨k.val, hk⟩ (k0_off13_eq k), load_c (m := 1) arg4.view X4 ⟨k.val, hk⟩ (k0_off15_eq k), load_c (m := 256) arg26.view X26 ⟨k.val, hk⟩ (k0_off13_eq k)])
    isplitl [H24]
    · iexists _; isplitl [H24]; · iexact H24
      ipureintro; exact store_c (m := 256) arg24.view f24 ⟨k.val, hk⟩ (k0_off13_eq k) _ _ _ h24 _ (by rw [load_c (m := 1) arg10.view X10 ⟨k.val, hk⟩ (k0_off15_eq k), load_c (m := 256) arg24.view f24 ⟨k.val, hk⟩ (k0_off13_eq k), h24, cs_upC ⟨k.val, hk⟩])
    ipureintro
    exact congrArg₂ Prod.mk (by rw [accTo_succ _ _ _ hk, load_c (m := 256) arg2.view X2 ⟨k.val, hk⟩ (k0_off13_eq k), load_c (m := 1) arg4.view X4 ⟨k.val, hk⟩ (k0_off15_eq k), load_c (m := 256) arg26.view X26 ⟨k.val, hk⟩ (k0_off13_eq k)]) (congrArg₂ Prod.mk (by rw [accTo_succ _ _ _ hk, load_c (m := 256) arg2.view X2 ⟨k.val, hk⟩ (k0_off13_eq k), load_c (m := 1) arg4.view X4 ⟨k.val, hk⟩ (k0_off15_eq k), load_c (m := 256) arg26.view X26 ⟨k.val, hk⟩ (k0_off13_eq k)]) (by rw [accTo_succ _ _ _ hk, load_c (m := 256) arg2.view X2 ⟨k.val, hk⟩ (k0_off13_eq k), load_c (m := 1) arg4.view X4 ⟨k.val, hk⟩ (k0_off15_eq k), load_c (m := 256) arg26.view X26 ⟨k.val, hk⟩ (k0_off13_eq k)]))

end Cert.KernelIdeal.Hand

end
-- ==== Proof.KernelIdeal.PartE.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Pipeline.Frame
public import Idealize.ShloMosaic.Lib.WritesUnit
public import proofs.«01_k».proof.Proof.Slab
public import proofs.«01_k».proof.Proof.KernelIdeal.Spec
public import proofs.«01_k».proof.Proof.KernelIdeal.LoopsA
public import proofs.«01_k».proof.Proof.KernelIdeal.LoopsD
public import proofs.«01_k».proof.Proof.KernelIdeal.PartA

@[expose] public section

set_option maxRecDepth 16384
set_option maxHeartbeats 4000000

noncomputable section

namespace Cert.KernelIdeal.Hand

open Cert.KernelIdeal Cert.KernelIdeal.Gen
open Cert.Slab
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ
variable (arg1 : Memref sig .tc .smem S2 .f32) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S256x4096 .bf16) (harg15 : arg15.IsWhole) (arg16 : Memref sig .tc .vmem S1x256 .f32) (harg16 : arg16.IsWhole) (arg17 : Memref sig .tc .vmem S1x256 .f32) (harg17 : arg17.IsWhole) (arg18 : Memref sig .tc .vmem S8x4096 .f32) (harg18 : arg18.IsWhole) (arg19 : Memref sig .tc .vmem S5x256x128 .f32) (harg19 : arg19.IsWhole) (arg20 : Memref sig .tc .vmem S2x8x128 .f32) (harg20 : arg20.IsWhole) (arg21 : Memref sig .tc .vmem S1x4096 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x4096 .f32) (harg24 : arg24.IsWhole) (arg25 : Memref sig .tc .vmem S256x256 .f32) (harg25 : arg25.IsWhole) (arg26 : Memref sig .tc .vmem S256x4096 .f32) (harg26 : arg26.IsWhole) (arg27 : Memref sig .tc .vmem S256x4096 .i8) (harg27 : arg27.IsWhole) (arg28 : Memref sig .tc .vmem S4096x256 .i8) (harg28 : arg28.IsWhole) (arg29 : Memref sig .tc .vmem S4096x256 .i8) (harg29 : arg29.IsWhole) (arg30 : Memref sig .tc .vmem S256x256 .i8) (harg30 : arg30.IsWhole) (arg31 : Memref sig .tc .vmem S256x4096 .i8) (harg31 : arg31.IsWhole) (arg32 : Memref sig .tc .vmem S256x4096 .bf16) (harg32 : arg32.IsWhole) (arg33 : Memref sig .tc .vmem S4096x256 .bf16) (harg33 : arg33.IsWhole) (arg34 : Memref sig .tc .vmem S4096x256 .bf16) (harg34 : arg34.IsWhole) (arg35 : Memref sig .tc .vmem S4096x256 .bf16) (harg35 : arg35.IsWhole) (arg36 : Memref sig .tc .vmem S256x4096 .bf16) (harg36 : arg36.IsWhole) (arg37 : Memref sig .tc .vmem S1x4096 .f32) (harg37 : arg37.IsWhole) (arg38 : Memref sig .tc .vmem S1x4096 .bf16) (harg38 : arg38.IsWhole) (arg39 : Memref sig .tc .vmem S1x4096 .bf16) (harg39 : arg39.IsWhole) (arg40 : Memref sig .tc .vmem S256x128 .f32) (harg40 : arg40.IsWhole) (arg41 : Memref sig .tc .vmem S256x128 .f32) (harg41 : arg41.IsWhole)

theorem part9_sound (c : Dev nD) (i : grid0.Coords) (v1 : Elt F .f32) (v6 : FVec F S1x1 .f32) (k0_h2 : k0_cond2 i = 1#1) (X2 : BufTy.Contents (Elt F) arg2.view.ty) (X3 : BufTy.Contents (Elt F) arg3.view.ty) (X4 : BufTy.Contents (Elt F) arg4.view.ty) (X10 : BufTy.Contents (Elt F) arg10.view.ty) (X26 : BufTy.Contents (Elt F) arg26.view.ty) (X37 : BufTy.Contents (Elt F) arg37.view.ty) (X40 : BufTy.Contents (Elt F) arg40.view.ty) (X41 : BufTy.Contents (Elt F) arg41.view.ty) (X11 : BufTy.Contents (Elt F) arg11.view.ty) (X18 : BufTy.Contents (Elt F) arg18.view.ty) (X21 : BufTy.Contents (Elt F) arg21.view.ty) (X24 : BufTy.Contents (Elt F) arg24.view.ty) :
  (iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg10.view.loc (c : Thread nD τ) ↦[arg10.view.set]{fullShare} X10) ∗ (arg26.view.loc (c : Thread nD τ) ↦[arg26.view.set]{fullShare} X26) ∗ (arg37.view.loc (c : Thread nD τ) ↦[arg37.view.set]{fullShare} X37) ∗ (arg40.view.loc (c : Thread nD τ) ↦[arg40.view.set]{fullShare} X40) ∗ (arg41.view.loc (c : Thread nD τ) ↦[arg41.view.set]{fullShare} X41) ∗ (arg11.view.loc (c : Thread nD τ) ↦[arg11.view.set]{fullShare} X11) ∗ (arg18.view.loc (c : Thread nD τ) ↦[arg18.view.set]{fullShare} X18) ∗ (arg21.view.loc (c : Thread nD τ) ↦[arg21.view.set]{fullShare} X21) ∗ (arg24.view.loc (c : Thread nD τ) ↦[arg24.view.set]{fullShare} X24)) : sProp 𝕄G)
  ⊢ wp frame (wpE (defs₀ (F := F)) Variants.none (c : Thread nD τ) none) Set.univ (k0_part9 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v1 v6 k0_h2) (fun r => iprop((arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg10.view.loc (c : Thread nD τ) ↦[arg10.view.set]{fullShare} X10) ∗ (arg26.view.loc (c : Thread nD τ) ↦[arg26.view.set]{fullShare} X26) ∗ (arg37.view.loc (c : Thread nD τ) ↦[arg37.view.set]{fullShare} X37) ∗ (arg40.view.loc (c : Thread nD τ) ↦[arg40.view.set]{fullShare} X40) ∗ (arg41.view.loc (c : Thread nD τ) ↦[arg41.view.set]{fullShare} X41) ∗ (∃ f, (arg11.view.loc (c : Thread nD τ) ↦[arg11.view.set]{fullShare} f) ∗ ⌜(arg11.view.read (Elt F) f) = (w6_11 v1 (arg2.view.read (Elt F) X2) (arg24.view.read (Elt F) X24) (arg10.view.read (Elt F) X10))⌝) ∗ (∃ f, (arg18.view.loc (c : Thread nD τ) ↦[arg18.view.set]{fullShare} f) ∗ ⌜(arg18.view.read (Elt F) f) = (w6_18 v1 (arg24.view.read (Elt F) X24) (arg3.view.read (Elt F) X3) (arg18.view.read (Elt F) X18) (arg37.view.read (Elt F) X37))⌝) ∗ (∃ f, (arg21.view.loc (c : Thread nD τ) ↦[arg21.view.set]{fullShare} f) ∗ ⌜(arg21.view.read (Elt F) f) = (w6_21 (w5_a0 (arg2.view.read (Elt F) X2)) (arg2.view.read (Elt F) X2) (arg26.view.read (Elt F) X26) v6 (arg4.view.read (Elt F) X4))⌝) ∗ (∃ f, (arg24.view.loc (c : Thread nD τ) ↦[arg24.view.set]{fullShare} f) ∗ ⌜(arg24.view.read (Elt F) f) = (w6_24 v1 (arg24.view.read (Elt F) X24) (arg10.view.read (Elt F) X10))⌝) ∗ ⌜r = ⟨k0_pay62 (w5_a0 (arg2.view.read (Elt F) X2)), k0_pay67 (w6_a0 v6 (w5_a0 (arg2.view.read (Elt F) X2)) (arg2.view.read (Elt F) X2) (arg26.view.read (Elt F) X26) (arg4.view.read (Elt F) X4)), k0_pay68 (w6_a1 v6 (w5_a0 (arg2.view.read (Elt F) X2)) (arg2.view.read (Elt F) X2) (arg26.view.read (Elt F) X26) (arg4.view.read (Elt F) X4)), k0_pay69 (arg40.view.read (Elt F) X40), k0_pay70 (arg41.view.read (Elt F) X41), k0_pay71 (w6_a2 (arg2.view.read (Elt F) X2) (arg26.view.read (Elt F) X26) (arg4.view.read (Elt F) X4) v6 (w5_a0 (arg2.view.read (Elt F) X2))), (Scalar.ofBits .f32 0x39800000#32)⟩⌝)) := by
  rw [k0_part9_eq_skeleton]
  unfold k0_part9_skel
  iintro ⟨H2, H3, H4, H10, H26, H37, H40, H41, H11, H18, H21, H24⟩
  sl_exec
  sl_unfold_run_names
  sl_for (inv5 arg2 c i v1 v6 k0_h2 X2 k0_pay60) $$ [H2]
  · exact fun k acc => step5 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i v1 v6 k0_h2 X2 k0_pay60 k acc
  · unfold inv5
    isplitl [H2]; · iexact H2
    ipureintro; rfl
  iintro %acc HI
  unfold inv5
  icases HI with ⟨H2, %ha⟩
  rw [tr5] at ha; subst ha
  sl_exec
  sl_unfold_run_names
  sl_for (inv6 arg2 arg3 arg4 arg10 arg11 arg18 arg21 arg24 arg26 arg37 c i v1 v6 k0_h2 (w5_a0 (arg2.view.read (Elt F) X2)) X2 X3 X4 X10 X26 X37 (arg11.view.read (Elt F) X11) (arg18.view.read (Elt F) X18) (arg21.view.read (Elt F) X21) (arg24.view.read (Elt F) X24) k0_pay63 k0_pay63 k0_pay63) $$ [H2 H3 H4 H10 H26 H37 H11 H18 H21 H24]
  · exact fun k acc => step6 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i v1 v6 k0_h2 (w5_a0 (arg2.view.read (Elt F) X2)) X2 X3 X4 X10 X26 X37 (arg11.view.read (Elt F) X11) (arg18.view.read (Elt F) X18) (arg21.view.read (Elt F) X21) (arg24.view.read (Elt F) X24) k0_pay63 k0_pay63 k0_pay63 k acc
  · unfold inv6
    isplitl [H2]; · iexact H2
    isplitl [H3]; · iexact H3
    isplitl [H4]; · iexact H4
    isplitl [H10]; · iexact H10
    isplitl [H26]; · iexact H26
    isplitl [H37]; · iexact H37
    isplitl [H11]
    · iexists _; isplitl [H11]; · iexact H11
      ipureintro; exact rfl
    isplitl [H18]
    · iexists _; isplitl [H18]; · iexact H18
      ipureintro; exact rfl
    isplitl [H21]
    · iexists _; isplitl [H21]; · iexact H21
      ipureintro; exact rfl
    isplitl [H24]
    · iexists _; isplitl [H24]; · iexact H24
      ipureintro; exact rfl
    ipureintro; rfl
  iintro %acc HI
  unfold inv6
  icases HI with ⟨H2, H3, H4, H10, H26, H37, ⟨%f11, H11, %h11⟩, ⟨%f18, H18, %h18⟩, ⟨%f21, H21, %h21⟩, ⟨%f24, H24, %h24⟩, %ha⟩
  rw [tr6, upC_eight] at h11
  rw [tr6, upC_eight] at h18
  rw [tr6, upC_eight] at h21
  rw [tr6, upC_eight] at h24
  rw [tr6] at ha; subst ha
  sl_exec
  sl_unfold_run_names
  sl_step
  isplitl [H2]; · iexact H2
  isplitl [H3]; · iexact H3
  isplitl [H4]; · iexact H4
  isplitl [H10]; · iexact H10
  isplitl [H26]; · iexact H26
  isplitl [H37]; · iexact H37
  isplitl [H40]; · iexact H40
  isplitl [H41]; · iexact H41
  isplitl [H11]
  · iexists _; isplitl [H11]; · iexact H11
    ipureintro; exact h11
  isplitl [H18]
  · iexists _; isplitl [H18]; · iexact H18
    ipureintro; exact h18
  isplitl [H21]
  · iexists _; isplitl [H21]; · iexact H21
    ipureintro; exact h21
  isplitl [H24]
  · iexists _; isplitl [H24]; · iexact H24
    ipureintro; exact h24
  ipureintro; rw [View.readAt_full arg40.view X40, View.readAt_full arg41.view X41]; rfl

theorem part10_sound (c : Dev nD) (i : grid0.Coords) (v224 : FVec F S256x1 .f32) (v231 : FVec F S256x1 .f32) (v235 : FVec F S256x1 .f32) (v240 : FVec F S256x1 .f32) (v245 : FVec F S256x1 .f32) (v247 : FVec F S256x1 .f32) (cst_114 : F .f32)  (X20 : BufTy.Contents (Elt F) arg20.view.ty) (X19 : BufTy.Contents (Elt F) arg19.view.ty) :
  (iprop((arg20.view.loc (c : Thread nD τ) ↦[arg20.view.set]{fullShare} X20) ∗ (arg19.view.loc (c : Thread nD τ) ↦[arg19.view.set]{fullShare} X19)) : sProp 𝕄G)
  ⊢ wp frame (wpE (defs₀ (F := F)) Variants.none (c : Thread nD τ) none) Set.univ (k0_part10 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 v224 v231 v235 v240 v245 v247 cst_114 ) (fun r => iprop((arg20.view.loc (c : Thread nD τ) ↦[arg20.view.set]{fullShare} X20) ∗ (∃ f, (arg19.view.loc (c : Thread nD τ) ↦[arg19.view.set]{fullShare} f) ∗ ⌜(arg19.view.read (Elt F) f) = (arg19.view.read (Elt F) f)⌝) ∗ ⌜r = ⟨k0_pay72 v224 v247 cst_114, k0_pay78 v240 v245, k0_pay79 v231 v235⟩⌝)) := by
  rw [k0_part10_eq_skeleton]
  unfold k0_part10_skel
  iintro ⟨H20, H19⟩
  sl_exec
  sl_unfold_run_names
  sl_step
  isplitl [H20]; · iexact H20
  isplitl [H19]
  · iexists _; isplitl [H19]; · iexact H19
    ipureintro; exact rfl
  ipureintro; rfl

end Cert.KernelIdeal.Hand

end
-- ==== Proof.KernelIdeal.BodyLast.lean ====
module

public import proofs.«01_k».proof.Proof.Gen.KernelIdeal.Skeleton
public import proofs.«01_k».proof.Proof.Gen.KernelIdeal.Frame
public import Idealize.ShloMosaic.Lib.Exec
public import Idealize.ShloMosaic.Lib.Tactic
public import Idealize.ShloMosaic.Lib.Pipeline.Frame
public import Idealize.ShloMosaic.Lib.WritesUnit
public import proofs.«01_k».proof.Proof.Slab
public import proofs.«01_k».proof.Proof.KernelIdeal.Spec
public import proofs.«01_k».proof.Proof.KernelIdeal.StepSpec
public import proofs.«01_k».proof.Proof.KernelIdeal.PartA
public import proofs.«01_k».proof.Proof.KernelIdeal.PartB
public import proofs.«01_k».proof.Proof.KernelIdeal.PartC
public import proofs.«01_k».proof.Proof.KernelIdeal.PartE
public import proofs.«01_k».proof.Proof.KernelIdeal.LoopsA

@[expose] public section

set_option maxRecDepth 16384
set_option maxHeartbeats 4000000

noncomputable section

namespace Cert.KernelIdeal.Hand

open Cert.KernelIdeal Cert.KernelIdeal.Gen
open Cert.Slab
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ
variable (arg1 : Memref sig .tc .smem S2 .f32) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S256x4096 .bf16) (harg15 : arg15.IsWhole) (arg16 : Memref sig .tc .vmem S1x256 .f32) (harg16 : arg16.IsWhole) (arg17 : Memref sig .tc .vmem S1x256 .f32) (harg17 : arg17.IsWhole) (arg18 : Memref sig .tc .vmem S8x4096 .f32) (harg18 : arg18.IsWhole) (arg19 : Memref sig .tc .vmem S5x256x128 .f32) (harg19 : arg19.IsWhole) (arg20 : Memref sig .tc .vmem S2x8x128 .f32) (harg20 : arg20.IsWhole) (arg21 : Memref sig .tc .vmem S1x4096 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x4096 .f32) (harg24 : arg24.IsWhole) (arg25 : Memref sig .tc .vmem S256x256 .f32) (harg25 : arg25.IsWhole) (arg26 : Memref sig .tc .vmem S256x4096 .f32) (harg26 : arg26.IsWhole) (arg27 : Memref sig .tc .vmem S256x4096 .i8) (harg27 : arg27.IsWhole) (arg28 : Memref sig .tc .vmem S4096x256 .i8) (harg28 : arg28.IsWhole) (arg29 : Memref sig .tc .vmem S4096x256 .i8) (harg29 : arg29.IsWhole) (arg30 : Memref sig .tc .vmem S256x256 .i8) (harg30 : arg30.IsWhole) (arg31 : Memref sig .tc .vmem S256x4096 .i8) (harg31 : arg31.IsWhole) (arg32 : Memref sig .tc .vmem S256x4096 .bf16) (harg32 : arg32.IsWhole) (arg33 : Memref sig .tc .vmem S4096x256 .bf16) (harg33 : arg33.IsWhole) (arg34 : Memref sig .tc .vmem S4096x256 .bf16) (harg34 : arg34.IsWhole) (arg35 : Memref sig .tc .vmem S4096x256 .bf16) (harg35 : arg35.IsWhole) (arg36 : Memref sig .tc .vmem S256x4096 .bf16) (harg36 : arg36.IsWhole) (arg37 : Memref sig .tc .vmem S1x4096 .f32) (harg37 : arg37.IsWhole) (arg38 : Memref sig .tc .vmem S1x4096 .bf16) (harg38 : arg38.IsWhole) (arg39 : Memref sig .tc .vmem S1x4096 .bf16) (harg39 : arg39.IsWhole) (arg40 : Memref sig .tc .vmem S256x128 .f32) (harg40 : arg40.IsWhole) (arg41 : Memref sig .tc .vmem S256x128 .f32) (harg41 : arg41.IsWhole)

theorem body_last (c : Dev nD) (i : grid0.Coords) (k0_h1 : ¬ k0_cond1 i = 1#1) (k0_h2 : k0_cond2 i = 1#1) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (X7 : BufTy.Contents (Elt F) arg7.view.ty) (X8 : BufTy.Contents (Elt F) arg8.view.ty) (X9 : BufTy.Contents (Elt F) arg9.view.ty) (X10 : BufTy.Contents (Elt F) arg10.view.ty) (X11 : BufTy.Contents (Elt F) arg11.view.ty) (X12 : BufTy.Contents (Elt F) arg12.view.ty) (X13 : BufTy.Contents (Elt F) arg13.view.ty) (X14 : BufTy.Contents (Elt F) arg14.view.ty) (X15 : BufTy.Contents (Elt F) arg15.view.ty) (X16 : BufTy.Contents (Elt F) arg16.view.ty) (X17 : BufTy.Contents (Elt F) arg17.view.ty) (X18 : BufTy.Contents (Elt F) arg18.view.ty) (X19 : BufTy.Contents (Elt F) arg19.view.ty) (X20 : BufTy.Contents (Elt F) arg20.view.ty) (X21 : BufTy.Contents (Elt F) arg21.view.ty) (X22 : BufTy.Contents (Elt F) arg22.view.ty) (X23 : BufTy.Contents (Elt F) arg23.view.ty) (X24 : BufTy.Contents (Elt F) arg24.view.ty) (X25 : BufTy.Contents (Elt F) arg25.view.ty) (X26 : BufTy.Contents (Elt F) arg26.view.ty) (X27 : BufTy.Contents (Elt F) arg27.view.ty) (X28 : BufTy.Contents (Elt F) arg28.view.ty) (X29 : BufTy.Contents (Elt F) arg29.view.ty) (X30 : BufTy.Contents (Elt F) arg30.view.ty) (X31 : BufTy.Contents (Elt F) arg31.view.ty) (X32 : BufTy.Contents (Elt F) arg32.view.ty) (X33 : BufTy.Contents (Elt F) arg33.view.ty) (X34 : BufTy.Contents (Elt F) arg34.view.ty) (X35 : BufTy.Contents (Elt F) arg35.view.ty) (X36 : BufTy.Contents (Elt F) arg36.view.ty) (X37 : BufTy.Contents (Elt F) arg37.view.ty) (X38 : BufTy.Contents (Elt F) arg38.view.ty) (X39 : BufTy.Contents (Elt F) arg39.view.ty) (X40 : BufTy.Contents (Elt F) arg40.view.ty) (X41 : BufTy.Contents (Elt F) arg41.view.ty) :
  (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (arg11.view.loc (c : Thread nD τ) ↦[arg11.view.set]{fullShare} X11) ∗ (arg12.view.loc (c : Thread nD τ) ↦[arg12.view.set]{fullShare} X12) ∗ (arg13.view.loc (c : Thread nD τ) ↦[arg13.view.set]{fullShare} X13) ∗ (arg14.view.loc (c : Thread nD τ) ↦[arg14.view.set]{fullShare} X14) ∗ (arg15.view.loc (c : Thread nD τ) ↦[arg15.view.set]{fullShare} X15) ∗ (arg16.view.loc (c : Thread nD τ) ↦[arg16.view.set]{fullShare} X16) ∗ (arg17.view.loc (c : Thread nD τ) ↦[arg17.view.set]{fullShare} X17) ∗ (arg18.view.loc (c : Thread nD τ) ↦[arg18.view.set]{fullShare} X18) ∗ (arg19.view.loc (c : Thread nD τ) ↦[arg19.view.set]{fullShare} X19) ∗ (arg20.view.loc (c : Thread nD τ) ↦[arg20.view.set]{fullShare} X20) ∗ (arg21.view.loc (c : Thread nD τ) ↦[arg21.view.set]{fullShare} X21) ∗ (arg22.view.loc (c : Thread nD τ) ↦[arg22.view.set]{fullShare} X22) ∗ (arg23.view.loc (c : Thread nD τ) ↦[arg23.view.set]{fullShare} X23) ∗ (arg24.view.loc (c : Thread nD τ) ↦[arg24.view.set]{fullShare} X24) ∗ (arg25.view.loc (c : Thread nD τ) ↦[arg25.view.set]{fullShare} X25) ∗ (arg26.view.loc (c : Thread nD τ) ↦[arg26.view.set]{fullShare} X26) ∗ (arg27.view.loc (c : Thread nD τ) ↦[arg27.view.set]{fullShare} X27) ∗ (arg28.view.loc (c : Thread nD τ) ↦[arg28.view.set]{fullShare} X28) ∗ (arg29.view.loc (c : Thread nD τ) ↦[arg29.view.set]{fullShare} X29) ∗ (arg30.view.loc (c : Thread nD τ) ↦[arg30.view.set]{fullShare} X30) ∗ (arg31.view.loc (c : Thread nD τ) ↦[arg31.view.set]{fullShare} X31) ∗ (arg32.view.loc (c : Thread nD τ) ↦[arg32.view.set]{fullShare} X32) ∗ (arg33.view.loc (c : Thread nD τ) ↦[arg33.view.set]{fullShare} X33) ∗ (arg34.view.loc (c : Thread nD τ) ↦[arg34.view.set]{fullShare} X34) ∗ (arg35.view.loc (c : Thread nD τ) ↦[arg35.view.set]{fullShare} X35) ∗ (arg36.view.loc (c : Thread nD τ) ↦[arg36.view.set]{fullShare} X36) ∗ (arg37.view.loc (c : Thread nD τ) ↦[arg37.view.set]{fullShare} X37) ∗ (arg38.view.loc (c : Thread nD τ) ↦[arg38.view.set]{fullShare} X38) ∗ (arg39.view.loc (c : Thread nD τ) ↦[arg39.view.set]{fullShare} X39) ∗ (arg40.view.loc (c : Thread nD τ) ↦[arg40.view.set]{fullShare} X40) ∗ (arg41.view.loc (c : Thread nD τ) ↦[arg41.view.set]{fullShare} X41)) : sProp 𝕄G)
  ⊢ wp frame (wpE (defs₀ (F := F)) Variants.none (c : Thread nD τ) none) Set.univ (cc0_lsq_mlp (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41) (fun _ => iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} X7) ∗ (arg8.view.loc (c : Thread nD τ) ↦[arg8.view.set]{fullShare} X8) ∗ (arg9.view.loc (c : Thread nD τ) ↦[arg9.view.set]{fullShare} X9) ∗ (arg10.view.loc (c : Thread nD τ) ↦[arg10.view.set]{fullShare} X10) ∗ (∃ f, (arg11.view.loc (c : Thread nD τ) ↦[arg11.view.set]{fullShare} f) ∗ ⌜(arg11.view.read (Elt F) f) = (d_e11 (sv0 arg1 X1) (sv1 arg1 X1) (arg2.view.read (Elt F) X2) (arg5.view.read (Elt F) X5) (arg6.view.read (Elt F) X6) (arg7.view.read (Elt F) X7) (arg8.view.read (Elt F) X8) (arg9.view.read (Elt F) X9) (arg10.view.read (Elt F) X10) (arg32.view.read (Elt F) X32) (arg37.view.read (Elt F) X37) (arg38.view.read (Elt F) X38) (arg39.view.read (Elt F) X39) (arg24.view.read (Elt F) X24))⌝) ∗ (∃ f, (arg12.view.loc (c : Thread nD τ) ↦[arg12.view.set]{fullShare} f) ∗ ⌜(arg12.view.read (Elt F) f) = (d_e12 (sv0 arg1 X1) (sv1 arg1 X1) (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg32.view.read (Elt F) X32) (arg37.view.read (Elt F) X37) (arg38.view.read (Elt F) X38) (arg39.view.read (Elt F) X39) (arg26.view.read (Elt F) X26))⌝) ∗ (∃ f, (arg13.view.loc (c : Thread nD τ) ↦[arg13.view.set]{fullShare} f) ∗ ⌜(arg13.view.read (Elt F) f) = (d_n13 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (arg32.view.read (Elt F) X32) (arg33.view.read (Elt F) X33) (arg37.view.read (Elt F) X37) (arg38.view.read (Elt F) X38) (arg39.view.read (Elt F) X39))⌝) ∗ (∃ f, (arg14.view.loc (c : Thread nD τ) ↦[arg14.view.set]{fullShare} f) ∗ ⌜(arg14.view.read (Elt F) f) = (d_n14 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (arg32.view.read (Elt F) X32) (arg33.view.read (Elt F) X33) (arg37.view.read (Elt F) X37) (arg38.view.read (Elt F) X38) (arg39.view.read (Elt F) X39))⌝) ∗ (∃ f, (arg15.view.loc (c : Thread nD τ) ↦[arg15.view.set]{fullShare} f) ∗ ⌜(arg15.view.read (Elt F) f) = (d_n15 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (arg32.view.read (Elt F) X32) (arg38.view.read (Elt F) X38) (arg39.view.read (Elt F) X39))⌝) ∗ (∃ f, (arg16.view.loc (c : Thread nD τ) ↦[arg16.view.set]{fullShare} f) ∗ ⌜(arg16.view.read (Elt F) f) = (d_n16 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (arg32.view.read (Elt F) X32) (arg33.view.read (Elt F) X33) (arg37.view.read (Elt F) X37) (arg38.view.read (Elt F) X38) (arg39.view.read (Elt F) X39))⌝) ∗ (∃ f, (arg17.view.loc (c : Thread nD τ) ↦[arg17.view.set]{fullShare} f) ∗ ⌜(arg17.view.read (Elt F) f) = (d_n17 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (arg32.view.read (Elt F) X32) (arg33.view.read (Elt F) X33) (arg37.view.read (Elt F) X37) (arg38.view.read (Elt F) X38) (arg39.view.read (Elt F) X39))⌝) ∗ (∃ f, (arg18.view.loc (c : Thread nD τ) ↦[arg18.view.set]{fullShare} f) ∗ ⌜(arg18.view.read (Elt F) f) = (d_e18 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (arg32.view.read (Elt F) X32) (arg37.view.read (Elt F) X37) (arg38.view.read (Elt F) X38) (arg39.view.read (Elt F) X39) (arg18.view.read (Elt F) X18) (arg24.view.read (Elt F) X24))⌝) ∗ (∃ f, (arg19.view.loc (c : Thread nD τ) ↦[arg19.view.set]{fullShare} f)) ∗ (∃ f, (arg20.view.loc (c : Thread nD τ) ↦[arg20.view.set]{fullShare} f)) ∗ (∃ f, (arg21.view.loc (c : Thread nD τ) ↦[arg21.view.set]{fullShare} f) ∗ ⌜(arg21.view.read (Elt F) f) = (d_e21 (sv0 arg1 X1) (sv1 arg1 X1) (arg2.view.read (Elt F) X2) (arg3.view.read (Elt F) X3) (arg4.view.read (Elt F) X4) (arg5.view.read (Elt F) X5) (arg6.view.read (Elt F) X6) (arg7.view.read (Elt F) X7) (arg8.view.read (Elt F) X8) (arg9.view.read (Elt F) X9) (arg10.view.read (Elt F) X10) (arg32.view.read (Elt F) X32) (arg37.view.read (Elt F) X37) (arg38.view.read (Elt F) X38) (arg39.view.read (Elt F) X39) (arg26.view.read (Elt F) X26))⌝) ∗ (∃ f, (arg22.view.loc (c : Thread nD τ) ↦[arg22.view.set]{fullShare} f) ∗ ⌜(arg22.view.read (Elt F) f) = (d_v101 (sv0 arg1 X1) (arg5.view.read (Elt F) X5) (arg8.view.read (Elt F) X8) (arg32.view.read (Elt F) X32))⌝) ∗ (∃ f, (arg23.view.loc (c : Thread nD τ) ↦[arg23.view.set]{fullShare} f) ∗ ⌜(arg23.view.read (Elt F) f) = (d_v105 (sv0 arg1 X1) (arg6.view.read (Elt F) X6) (arg9.view.read (Elt F) X9) (arg32.view.read (Elt F) X32))⌝) ∗ (∃ f, (arg24.view.loc (c : Thread nD τ) ↦[arg24.view.set]{fullShare} f) ∗ ⌜(arg24.view.read (Elt F) f) = (d_e24 (sv0 arg1 X1) (sv1 arg1 X1) (arg5.view.read (Elt F) X5) (arg6.view.read (Elt F) X6) (arg7.view.read (Elt F) X7) (arg8.view.read (Elt F) X8) (arg9.view.read (Elt F) X9) (arg10.view.read (Elt F) X10) (arg32.view.read (Elt F) X32) (arg37.view.read (Elt F) X37) (arg38.view.read (Elt F) X38) (arg39.view.read (Elt F) X39) (arg24.view.read (Elt F) X24))⌝) ∗ (∃ f, (arg25.view.loc (c : Thread nD τ) ↦[arg25.view.set]{fullShare} f) ∗ ⌜(arg25.view.read (Elt F) f) = (d_DA (arg3.view.read (Elt F) X3) (arg7.view.read (Elt F) X7) (arg10.view.read (Elt F) X10) (arg37.view.read (Elt F) X37) (arg38.view.read (Elt F) X38) (arg39.view.read (Elt F) X39))⌝) ∗ (∃ f, (arg26.view.loc (c : Thread nD τ) ↦[arg26.view.set]{fullShare} f) ∗ ⌜(arg26.view.read (Elt F) f) = (d_n26 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (arg32.view.read (Elt F) X32) (arg37.view.read (Elt F) X37) (arg38.view.read (Elt F) X38) (arg39.view.read (Elt F) X39) (arg26.view.read (Elt F) X26))⌝) ∗ (arg27.view.loc (c : Thread nD τ) ↦[arg27.view.set]{fullShare} X27) ∗ (∃ f, (arg28.view.loc (c : Thread nD τ) ↦[arg28.view.set]{fullShare} f) ∗ ⌜(arg28.view.read (Elt F) f) = (d_n28 (arg5.view.read (Elt F) X5) (arg8.view.read (Elt F) X8))⌝) ∗ (∃ f, (arg29.view.loc (c : Thread nD τ) ↦[arg29.view.set]{fullShare} f) ∗ ⌜(arg29.view.read (Elt F) f) = (d_n29 (arg6.view.read (Elt F) X6) (arg9.view.read (Elt F) X9))⌝) ∗ (∃ f, (arg30.view.loc (c : Thread nD τ) ↦[arg30.view.set]{fullShare} f) ∗ ⌜(arg30.view.read (Elt F) f) = (d_n30 (sv0 arg1 X1) (sv1 arg1 X1) (arg5.view.read (Elt F) X5) (arg6.view.read (Elt F) X6) (arg8.view.read (Elt F) X8) (arg9.view.read (Elt F) X9) (arg32.view.read (Elt F) X32))⌝) ∗ (∃ f, (arg31.view.loc (c : Thread nD τ) ↦[arg31.view.set]{fullShare} f) ∗ ⌜(arg31.view.read (Elt F) f) = (d_n31 (arg7.view.read (Elt F) X7) (arg37.view.read (Elt F) X37) (arg38.view.read (Elt F) X38) (arg39.view.read (Elt F) X39))⌝) ∗ (arg32.view.loc (c : Thread nD τ) ↦[arg32.view.set]{fullShare} X32) ∗ (arg33.view.loc (c : Thread nD τ) ↦[arg33.view.set]{fullShare} X33) ∗ (∃ f, (arg34.view.loc (c : Thread nD τ) ↦[arg34.view.set]{fullShare} f) ∗ ⌜(arg34.view.read (Elt F) f) = (d_n34 (arg5.view.read (Elt F) X5) (arg8.view.read (Elt F) X8))⌝) ∗ (∃ f, (arg35.view.loc (c : Thread nD τ) ↦[arg35.view.set]{fullShare} f) ∗ ⌜(arg35.view.read (Elt F) f) = (d_n35 (arg6.view.read (Elt F) X6) (arg9.view.read (Elt F) X9))⌝) ∗ (∃ f, (arg36.view.loc (c : Thread nD τ) ↦[arg36.view.set]{fullShare} f) ∗ ⌜(arg36.view.read (Elt F) f) = (d_n36 (arg7.view.read (Elt F) X7) (arg37.view.read (Elt F) X37) (arg38.view.read (Elt F) X38) (arg39.view.read (Elt F) X39))⌝) ∗ (arg37.view.loc (c : Thread nD τ) ↦[arg37.view.set]{fullShare} X37) ∗ (arg38.view.loc (c : Thread nD τ) ↦[arg38.view.set]{fullShare} X38) ∗ (arg39.view.loc (c : Thread nD τ) ↦[arg39.view.set]{fullShare} X39) ∗ (∃ f, (arg40.view.loc (c : Thread nD τ) ↦[arg40.view.set]{fullShare} f) ∗ ⌜(arg40.view.read (Elt F) f) = (d_n40 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (arg32.view.read (Elt F) X32) (arg37.view.read (Elt F) X37) (arg38.view.read (Elt F) X38) (arg39.view.read (Elt F) X39) (arg40.view.read (Elt F) X40))⌝) ∗ (∃ f, (arg41.view.loc (c : Thread nD τ) ↦[arg41.view.set]{fullShare} f) ∗ ⌜(arg41.view.read (Elt F) f) = (d_n41 (sv0 arg1 X1) (sv1 arg1 X1) (arg3.view.read (Elt F) X3) (arg5.view.read (Elt F) X5) (arg6.view.read (Elt F) X6) (arg7.view.read (Elt F) X7) (arg8.view.read (Elt F) X8) (arg9.view.read (Elt F) X9) (arg10.view.read (Elt F) X10) (arg32.view.read (Elt F) X32) (arg37.view.read (Elt F) X37) (arg38.view.read (Elt F) X38) (arg39.view.read (Elt F) X39) (arg41.view.read (Elt F) X41))⌝))) := by
  rw [cc0_lsq_mlp_eq_skeleton]
  unfold cc0_lsq_mlp_skel
  iintro ⟨H1, H2, H3, H4, H5, H6, H7, H8, H9, H10, H11, H12, H13, H14, H15, H16, H17, H18, H19, H20, H21, H22, H23, H24, H25, H26, H27, H28, H29, H30, H31, H32, H33, H34, H35, H36, H37, H38, H39, H40, H41⟩
  iapply (use_part c (part11_later arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i k0_h1 X1 X8 X9)) $$ [H1 H8 H9]
  · isplitl [H1]; · iexact H1
    isplitl [H8]; · iexact H8
    iexact H9
  iintro %r ⟨H1, H8, H9, %hr⟩
  subst hr
  iapply (use_part c (part12_sound arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i _ _ _ _ _ X22)) $$ [H22]
  · iexact H22
  iintro %r ⟨H22, %hr⟩
  subst hr
  iapply (use_part c (part13_sound arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i _ _ _ _ _ _ _ _ _ _ _ X3 X5 X6 X7 X10 X32 X37 X38 X39 X22 X23 X25 X28 X29 X31 X34 X35 X36)) $$ [H3 H5 H6 H7 H10 H32 H37 H38 H39 H22 H23 H25 H28 H29 H31 H34 H35 H36]
  · isplitl [H3]; · iexact H3
    isplitl [H5]; · iexact H5
    isplitl [H6]; · iexact H6
    isplitl [H7]; · iexact H7
    isplitl [H10]; · iexact H10
    isplitl [H32]; · iexact H32
    isplitl [H37]; · iexact H37
    isplitl [H38]; · iexact H38
    isplitl [H39]; · iexact H39
    isplitl [H22]; · iexact H22
    isplitl [H23]; · iexact H23
    isplitl [H25]; · iexact H25
    isplitl [H28]; · iexact H28
    isplitl [H29]; · iexact H29
    isplitl [H31]; · iexact H31
    isplitl [H34]; · iexact H34
    isplitl [H35]; · iexact H35
    iexact H36
  iintro %r ⟨H3, H5, H6, H7, H10, H32, H37, H38, H39, ⟨%f22, H22, %h22⟩, ⟨%f23, H23, %h23⟩, ⟨%f25, H25, %h25⟩, ⟨%f28, H28, %h28⟩, ⟨%f29, H29, %h29⟩, ⟨%f31, H31, %h31⟩, ⟨%f34, H34, %h34⟩, ⟨%f35, H35, %h35⟩, ⟨%f36, H36, %h36⟩, %hr⟩
  subst hr
  iapply (use_part c (part14_sound arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i _ _ _ _ _ X40 X41)) $$ [H40 H41]
  · isplitl [H40]; · iexact H40
    iexact H41
  iintro %r ⟨⟨%g40, H40, %k40⟩, ⟨%g41, H41, %k41⟩, %hr⟩
  subst hr
  iapply (use_part c (part15_sound arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i _ _ _ _ _ _ _ _ _ _ _ _ _ _ _ _ X3 X5 X6 X7 X10 X33 f34 f35 f36 X38 X39 X13 X14 X15 X18 X24 X26 X16 X30)) $$ [H3 H5 H6 H7 H10 H33 H34 H35 H36 H38 H39 H13 H14 H15 H18 H24 H26 H16 H30]
  · isplitl [H3]; · iexact H3
    isplitl [H5]; · iexact H5
    isplitl [H6]; · iexact H6
    isplitl [H7]; · iexact H7
    isplitl [H10]; · iexact H10
    isplitl [H33]; · iexact H33
    isplitl [H34]; · iexact H34
    isplitl [H35]; · iexact H35
    isplitl [H36]; · iexact H36
    isplitl [H38]; · iexact H38
    isplitl [H39]; · iexact H39
    isplitl [H13]; · iexact H13
    isplitl [H14]; · iexact H14
    isplitl [H15]; · iexact H15
    isplitl [H18]; · iexact H18
    isplitl [H24]; · iexact H24
    isplitl [H26]; · iexact H26
    isplitl [H16]; · iexact H16
    iexact H30
  iintro %r ⟨H3, H5, H6, H7, H10, H33, H34, H35, H36, H38, H39, ⟨%g13, H13, %k13⟩, ⟨%g14, H14, %k14⟩, ⟨%g15, H15, %k15⟩, ⟨%g18, H18, %k18⟩, ⟨%g24, H24, %k24⟩, ⟨%g26, H26, %k26⟩, ⟨%g16, H16, %k16⟩, ⟨%g30, H30, %k30⟩, %hr⟩
  subst hr
  set_option sl_exec.stopBefore "k0_part9" in sl_exec
  sl_unfold_run_names
  iapply (use_part c (part9_sound arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i _ _ k0_h2 X2 X3 X4 X10 g26 X37 g40 g41 X11 g18 X21 g24)) $$ [H2 H3 H4 H10 H26 H37 H40 H41 H11 H18 H21 H24]
  · isplitl [H2]; · iexact H2
    isplitl [H3]; · iexact H3
    isplitl [H4]; · iexact H4
    isplitl [H10]; · iexact H10
    isplitl [H26]; · iexact H26
    isplitl [H37]; · iexact H37
    isplitl [H40]; · iexact H40
    isplitl [H41]; · iexact H41
    isplitl [H11]; · iexact H11
    isplitl [H18]; · iexact H18
    isplitl [H21]; · iexact H21
    iexact H24
  iintro %r ⟨H2, H3, H4, H10, H26, H37, H40, H41, ⟨%e11, H11, %l11⟩, ⟨%e18, H18, %l18⟩, ⟨%e21, H21, %l21⟩, ⟨%e24, H24, %l24⟩, %hr⟩
  subst hr
  iapply (use_part c (part10_sound arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i _ _ _ _ _ _ _ X20 X19)) $$ [H20 H19]
  · isplitl [H20]; · iexact H20
    iexact H19
  iintro %r ⟨H20, ⟨%e19, H19, %l19⟩, %hr⟩
  subst hr
  sl_exec
  sl_unfold_run_names
  sl_for (inv7 arg2 arg3 arg4 arg12 arg26 c i (k0_pay80 (sv0 arg1 X1)) k0_h2 (k0_pay62 (w5_a0 (arg2.view.read (Elt F) X2))) (k0_pay72 (k0_pay62 (w5_a0 (arg2.view.read (Elt F) X2))) (k0_pay71 (w6_a2 (arg2.view.read (Elt F) X2) (arg26.view.read (Elt F) g26) (arg4.view.read (Elt F) X4) (k0_pay80 (sv0 arg1 X1)) (w5_a0 (arg2.view.read (Elt F) X2)))) (Scalar.ofBits .f32 0x39800000#32)) X2 X3 X4 g26 (arg12.view.read (Elt F) X12)) $$ [H2 H3 H4 H26 H12]
  · exact fun k acc => step7 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i (k0_pay80 (sv0 arg1 X1)) k0_h2 (k0_pay62 (w5_a0 (arg2.view.read (Elt F) X2))) (k0_pay72 (k0_pay62 (w5_a0 (arg2.view.read (Elt F) X2))) (k0_pay71 (w6_a2 (arg2.view.read (Elt F) X2) (arg26.view.read (Elt F) g26) (arg4.view.read (Elt F) X4) (k0_pay80 (sv0 arg1 X1)) (w5_a0 (arg2.view.read (Elt F) X2)))) (Scalar.ofBits .f32 0x39800000#32)) X2 X3 X4 g26 (arg12.view.read (Elt F) X12) k acc
  · unfold inv7
    isplitl [H2]; · iexact H2
    isplitl [H3]; · iexact H3
    isplitl [H4]; · iexact H4
    isplitl [H26]; · iexact H26
    iexists _; isplitl [H12]; · iexact H12
    ipureintro; exact rfl
  iintro %acc HI
  unfold inv7
  icases HI with ⟨H2, H3, H4, H26, ⟨%f12, H12, %h12⟩⟩
  rw [tr7, upC_eight] at h12
  sl_exec
  sl_unfold_run_names
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · iexists _; isplitl [H11]; · iexact H11
    ipureintro; refine l11.trans ?_
    try rw [k24]
    try rw [k26]
    try rw [k18]
    try rw [k40]
    try rw [k41]
    try rw [h34]
    try rw [h35]
    try rw [h36]
    exact rfl
  isplitl [H12]
  · iexists _; isplitl [H12]; · iexact H12
    ipureintro; refine h12.trans ?_
    try rw [k24]
    try rw [k26]
    try rw [k18]
    try rw [k40]
    try rw [k41]
    try rw [h34]
    try rw [h35]
    try rw [h36]
    exact rfl
  isplitl [H13]
  · iexists _; isplitl [H13]; · iexact H13
    ipureintro; refine k13.trans ?_
    try rw [h34]
    try rw [h35]
    try rw [h36]
    exact rfl
  isplitl [H14]
  · iexists _; isplitl [H14]; · iexact H14
    ipureintro; refine k14.trans ?_
    try rw [h34]
    try rw [h35]
    try rw [h36]
    exact rfl
  isplitl [H15]
  · iexists _; isplitl [H15]; · iexact H15
    ipureintro; refine k15.trans ?_
    try rw [h34]
    try rw [h35]
    try rw [h36]
    exact rfl
  isplitl [H16]
  · iexists _; isplitl [H16]; · iexact H16
    ipureintro; refine k16.trans ?_
    try rw [h34]
    try rw [h35]
    try rw [h36]
    exact rfl
  isplitl [H17]
  · iexists _; isplitl [H17]; · iexact H17
    ipureintro; refine store_all _ _ _ _ _ _ ?_
    try rw [k24]
    try rw [k26]
    try rw [k18]
    try rw [k40]
    try rw [k41]
    try rw [h34]
    try rw [h35]
    try rw [h36]
    exact rfl
  isplitl [H18]
  · iexists _; isplitl [H18]; · iexact H18
    ipureintro; refine l18.trans ?_
    try rw [k24]
    try rw [k26]
    try rw [k18]
    try rw [k40]
    try rw [k41]
    try rw [h34]
    try rw [h35]
    try rw [h36]
    exact rfl
  isplitl [H19]; · iexists _; iexact H19
  isplitl [H20]; · iexists _; iexact H20
  isplitl [H21]
  · iexists _; isplitl [H21]; · iexact H21
    ipureintro; refine l21.trans ?_
    try rw [k24]
    try rw [k26]
    try rw [k18]
    try rw [k40]
    try rw [k41]
    try rw [h34]
    try rw [h35]
    try rw [h36]
    exact rfl
  isplitl [H22]
  · iexists _; isplitl [H22]; · iexact H22
    ipureintro; refine h22.trans ?_
    exact rfl
  isplitl [H23]
  · iexists _; isplitl [H23]; · iexact H23
    ipureintro; refine h23.trans ?_
    exact rfl
  isplitl [H24]
  · iexists _; isplitl [H24]; · iexact H24
    ipureintro; refine l24.trans ?_
    try rw [k24]
    try rw [k26]
    try rw [k18]
    try rw [k40]
    try rw [k41]
    try rw [h34]
    try rw [h35]
    try rw [h36]
    exact rfl
  isplitl [H25]
  · iexists _; isplitl [H25]; · iexact H25
    ipureintro; refine h25.trans ?_
    exact rfl
  isplitl [H26]
  · iexists _; isplitl [H26]; · iexact H26
    ipureintro; refine k26.trans ?_
    try rw [h34]
    try rw [h35]
    try rw [h36]
    exact rfl
  isplitl [H27]; · iexact H27
  isplitl [H28]
  · iexists _; isplitl [H28]; · iexact H28
    ipureintro; refine h28.trans ?_
    exact rfl
  isplitl [H29]
  · iexists _; isplitl [H29]; · iexact H29
    ipureintro; refine h29.trans ?_
    exact rfl
  isplitl [H30]
  · iexists _; isplitl [H30]; · iexact H30
    ipureintro; refine k30.trans ?_
    try rw [h34]
    try rw [h35]
    try rw [h36]
    exact rfl
  isplitl [H31]
  · iexists _; isplitl [H31]; · iexact H31
    ipureintro; refine h31.trans ?_
    exact rfl
  isplitl [H32]; · iexact H32
  isplitl [H33]; · iexact H33
  isplitl [H34]
  · iexists _; isplitl [H34]; · iexact H34
    ipureintro; refine h34.trans ?_
    exact rfl
  isplitl [H35]
  · iexists _; isplitl [H35]; · iexact H35
    ipureintro; refine h35.trans ?_
    exact rfl
  isplitl [H36]
  · iexists _; isplitl [H36]; · iexact H36
    ipureintro; refine h36.trans ?_
    exact rfl
  isplitl [H37]; · iexact H37
  isplitl [H38]; · iexact H38
  isplitl [H39]; · iexact H39
  isplitl [H40]
  · iexists _; isplitl [H40]; · iexact H40
    ipureintro; refine k40.trans ?_
    try rw [h34]
    try rw [h35]
    try rw [h36]
    exact rfl
  iexists _; isplitl [H41]; · iexact H41
  ipureintro; refine k41.trans ?_
  try rw [h34]
  try rw [h35]
  try rw [h36]
  exact rfl

end Cert.KernelIdeal.Hand

end
-- ==== Proof.KernelIdeal.RunLast.lean ====
module

public import proofs.«01_k».proof.Proof.Gen.KernelIdeal.Skeleton
public import proofs.«01_k».proof.Proof.Gen.KernelIdeal.Frame
public import Idealize.ShloMosaic.Lib.Tactic
public import Idealize.ShloMosaic.Lib.Pipeline.Frame
public import Idealize.ShloMosaic.Lib.WritesUnit
public import proofs.«01_k».proof.Proof.Slab
public import proofs.«01_k».proof.Proof.KernelIdeal.Spec
public import proofs.«01_k».proof.Proof.KernelIdeal.StepSpec
public import proofs.«01_k».proof.Proof.KernelIdeal.BodyLast
public import proofs.«01_k».proof.Proof.KernelIdeal.Words

@[expose] public section

set_option maxRecDepth 16384
set_option maxHeartbeats 4000000

noncomputable section

namespace Cert.KernelIdeal.Hand

open Cert.KernelIdeal Cert.KernelIdeal.Gen
open Cert.Slab
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄G" => MT nD τ sig Unit (Elt F) ℕ (UR sig nD τ) ℕ

variable (arg1 : Memref sig .tc .smem S2 .f32) (harg1 : arg1.IsWhole) (arg2 : Memref sig .tc .vmem S256x4096 .bf16) (harg2 : arg2.IsWhole) (arg3 : Memref sig .tc .vmem S256x4096 .bf16) (harg3 : arg3.IsWhole) (arg4 : Memref sig .tc .vmem S1x4096 .f32) (harg4 : arg4.IsWhole) (arg5 : Memref sig .tc .vmem S4096x256 .bf16) (harg5 : arg5.IsWhole) (arg6 : Memref sig .tc .vmem S4096x256 .bf16) (harg6 : arg6.IsWhole) (arg7 : Memref sig .tc .vmem S256x4096 .bf16) (harg7 : arg7.IsWhole) (arg8 : Memref sig .tc .vmem S1x256 .f32) (harg8 : arg8.IsWhole) (arg9 : Memref sig .tc .vmem S1x256 .f32) (harg9 : arg9.IsWhole) (arg10 : Memref sig .tc .vmem S1x4096 .f32) (harg10 : arg10.IsWhole) (arg11 : Memref sig .tc .vmem S256x4096 .bf16) (harg11 : arg11.IsWhole) (arg12 : Memref sig .tc .vmem S256x4096 .bf16) (harg12 : arg12.IsWhole) (arg13 : Memref sig .tc .vmem S4096x256 .bf16) (harg13 : arg13.IsWhole) (arg14 : Memref sig .tc .vmem S4096x256 .bf16) (harg14 : arg14.IsWhole) (arg15 : Memref sig .tc .vmem S256x4096 .bf16) (harg15 : arg15.IsWhole) (arg16 : Memref sig .tc .vmem S1x256 .f32) (harg16 : arg16.IsWhole) (arg17 : Memref sig .tc .vmem S1x256 .f32) (harg17 : arg17.IsWhole) (arg18 : Memref sig .tc .vmem S8x4096 .f32) (harg18 : arg18.IsWhole) (arg19 : Memref sig .tc .vmem S5x256x128 .f32) (harg19 : arg19.IsWhole) (arg20 : Memref sig .tc .vmem S2x8x128 .f32) (harg20 : arg20.IsWhole) (arg21 : Memref sig .tc .vmem S1x4096 .f32) (harg21 : arg21.IsWhole) (arg22 : Memref sig .tc .vmem S256x256 .f32) (harg22 : arg22.IsWhole) (arg23 : Memref sig .tc .vmem S256x256 .f32) (harg23 : arg23.IsWhole) (arg24 : Memref sig .tc .vmem S256x4096 .f32) (harg24 : arg24.IsWhole) (arg25 : Memref sig .tc .vmem S256x256 .f32) (harg25 : arg25.IsWhole) (arg26 : Memref sig .tc .vmem S256x4096 .f32) (harg26 : arg26.IsWhole) (arg27 : Memref sig .tc .vmem S256x4096 .i8) (harg27 : arg27.IsWhole) (arg28 : Memref sig .tc .vmem S4096x256 .i8) (harg28 : arg28.IsWhole) (arg29 : Memref sig .tc .vmem S4096x256 .i8) (harg29 : arg29.IsWhole) (arg30 : Memref sig .tc .vmem S256x256 .i8) (harg30 : arg30.IsWhole) (arg31 : Memref sig .tc .vmem S256x4096 .i8) (harg31 : arg31.IsWhole) (arg32 : Memref sig .tc .vmem S256x4096 .bf16) (harg32 : arg32.IsWhole) (arg33 : Memref sig .tc .vmem S4096x256 .bf16) (harg33 : arg33.IsWhole) (arg34 : Memref sig .tc .vmem S4096x256 .bf16) (harg34 : arg34.IsWhole) (arg35 : Memref sig .tc .vmem S4096x256 .bf16) (harg35 : arg35.IsWhole) (arg36 : Memref sig .tc .vmem S256x4096 .bf16) (harg36 : arg36.IsWhole) (arg37 : Memref sig .tc .vmem S1x4096 .f32) (harg37 : arg37.IsWhole) (arg38 : Memref sig .tc .vmem S1x4096 .bf16) (harg38 : arg38.IsWhole) (arg39 : Memref sig .tc .vmem S1x4096 .bf16) (harg39 : arg39.IsWhole) (arg40 : Memref sig .tc .vmem S256x128 .f32) (harg40 : arg40.IsWhole) (arg41 : Memref sig .tc .vmem S256x128 .f32) (harg41 : arg41.IsWhole)

/-- The body at the last grid point, every operand owned at named contents: what each operand then holds. -/
theorem run_last (c : Dev nD) (i : grid0.Coords) (k0_h1 : ¬ k0_cond1 i = 1#1) (k0_h2 : k0_cond2 i = 1#1)
    (x1 : S2.Idx → Elt F .f32) (x2 : S256x4096.Idx → Elt F .bf16) (x3 : S256x4096.Idx → Elt F .bf16) (x4 : S1x4096.Idx → Elt F .f32) (x5 : S4096x256.Idx → Elt F .bf16) (x6 : S4096x256.Idx → Elt F .bf16) (x7 : S256x4096.Idx → Elt F .bf16) (x8 : S1x256.Idx → Elt F .f32) (x9 : S1x256.Idx → Elt F .f32) (x10 : S1x4096.Idx → Elt F .f32) (x11 : S256x4096.Idx → Elt F .bf16) (x12 : S256x4096.Idx → Elt F .bf16) (x13 : S4096x256.Idx → Elt F .bf16) (x14 : S4096x256.Idx → Elt F .bf16) (x15 : S256x4096.Idx → Elt F .bf16) (x16 : S1x256.Idx → Elt F .f32) (x17 : S1x256.Idx → Elt F .f32) (x18 : S8x4096.Idx → Elt F .f32) (x19 : S5x256x128.Idx → Elt F .f32) (x20 : S2x8x128.Idx → Elt F .f32) (x21 : S1x4096.Idx → Elt F .f32) (x22 : S256x256.Idx → Elt F .f32) (x23 : S256x256.Idx → Elt F .f32) (x24 : S256x4096.Idx → Elt F .f32) (x25 : S256x256.Idx → Elt F .f32) (x26 : S256x4096.Idx → Elt F .f32) (x27 : S256x4096.Idx → Elt F .i8) (x28 : S4096x256.Idx → Elt F .i8) (x29 : S4096x256.Idx → Elt F .i8) (x30 : S256x256.Idx → Elt F .i8) (x31 : S256x4096.Idx → Elt F .i8) (x32 : S256x4096.Idx → Elt F .bf16) (x33 : S4096x256.Idx → Elt F .bf16) (x34 : S4096x256.Idx → Elt F .bf16) (x35 : S4096x256.Idx → Elt F .bf16) (x36 : S256x4096.Idx → Elt F .bf16) (x37 : S1x4096.Idx → Elt F .f32) (x38 : S1x4096.Idx → Elt F .bf16) (x39 : S1x4096.Idx → Elt F .bf16) (x40 : S256x128.Idx → Elt F .f32) (x41 : S256x128.Idx → Elt F .f32) :
    (iprop(owns (c : Thread nD τ) arg1 fullShare x1
    ∗ owns (c : Thread nD τ) arg2 fullShare x2
    ∗ owns (c : Thread nD τ) arg3 fullShare x3
    ∗ owns (c : Thread nD τ) arg4 fullShare x4
    ∗ owns (c : Thread nD τ) arg5 fullShare x5
    ∗ owns (c : Thread nD τ) arg6 fullShare x6
    ∗ owns (c : Thread nD τ) arg7 fullShare x7
    ∗ owns (c : Thread nD τ) arg8 fullShare x8
    ∗ owns (c : Thread nD τ) arg9 fullShare x9
    ∗ owns (c : Thread nD τ) arg10 fullShare x10
    ∗ owns (c : Thread nD τ) arg11 fullShare x11
    ∗ owns (c : Thread nD τ) arg12 fullShare x12
    ∗ owns (c : Thread nD τ) arg13 fullShare x13
    ∗ owns (c : Thread nD τ) arg14 fullShare x14
    ∗ owns (c : Thread nD τ) arg15 fullShare x15
    ∗ owns (c : Thread nD τ) arg16 fullShare x16
    ∗ owns (c : Thread nD τ) arg17 fullShare x17
    ∗ owns (c : Thread nD τ) arg18 fullShare x18
    ∗ owns (c : Thread nD τ) arg19 fullShare x19
    ∗ owns (c : Thread nD τ) arg20 fullShare x20
    ∗ owns (c : Thread nD τ) arg21 fullShare x21
    ∗ owns (c : Thread nD τ) arg22 fullShare x22
    ∗ owns (c : Thread nD τ) arg23 fullShare x23
    ∗ owns (c : Thread nD τ) arg24 fullShare x24
    ∗ owns (c : Thread nD τ) arg25 fullShare x25
    ∗ owns (c : Thread nD τ) arg26 fullShare x26
    ∗ owns (c : Thread nD τ) arg27 fullShare x27
    ∗ owns (c : Thread nD τ) arg28 fullShare x28
    ∗ owns (c : Thread nD τ) arg29 fullShare x29
    ∗ owns (c : Thread nD τ) arg30 fullShare x30
    ∗ owns (c : Thread nD τ) arg31 fullShare x31
    ∗ owns (c : Thread nD τ) arg32 fullShare x32
    ∗ owns (c : Thread nD τ) arg33 fullShare x33
    ∗ owns (c : Thread nD τ) arg34 fullShare x34
    ∗ owns (c : Thread nD τ) arg35 fullShare x35
    ∗ owns (c : Thread nD τ) arg36 fullShare x36
    ∗ owns (c : Thread nD τ) arg37 fullShare x37
    ∗ owns (c : Thread nD τ) arg38 fullShare x38
    ∗ owns (c : Thread nD τ) arg39 fullShare x39
    ∗ owns (c : Thread nD τ) arg40 fullShare x40
    ∗ owns (c : Thread nD τ) arg41 fullShare x41) : sProp 𝕄G)
  ⊢ wp frame (wpE (defs₀ (F := F)) Variants.none (c : Thread nD τ) none) Set.univ (cc0_lsq_mlp (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41)
      (fun _ => iprop(owns (c : Thread nD τ) arg1 fullShare x1
    ∗ owns (c : Thread nD τ) arg2 fullShare x2
    ∗ owns (c : Thread nD τ) arg3 fullShare x3
    ∗ owns (c : Thread nD τ) arg4 fullShare x4
    ∗ owns (c : Thread nD τ) arg5 fullShare x5
    ∗ owns (c : Thread nD τ) arg6 fullShare x6
    ∗ owns (c : Thread nD τ) arg7 fullShare x7
    ∗ owns (c : Thread nD τ) arg8 fullShare x8
    ∗ owns (c : Thread nD τ) arg9 fullShare x9
    ∗ owns (c : Thread nD τ) arg10 fullShare x10
    ∗ owns (c : Thread nD τ) arg11 fullShare (d_e11 (s0 x1) (s1 x1) x2 x5 x6 x7 x8 x9 x10 x32 x37 x38 x39 x24)
    ∗ owns (c : Thread nD τ) arg12 fullShare (d_e12 (s0 x1) (s1 x1) x2 x3 x4 x5 x6 x7 x8 x9 x10 x32 x37 x38 x39 x26)
    ∗ owns (c : Thread nD τ) arg13 fullShare (d_n13 (s0 x1) (s1 x1) x3 x5 x6 x7 x8 x9 x10 x32 x33 x37 x38 x39)
    ∗ owns (c : Thread nD τ) arg14 fullShare (d_n14 (s0 x1) (s1 x1) x3 x5 x6 x7 x8 x9 x10 x32 x33 x37 x38 x39)
    ∗ owns (c : Thread nD τ) arg15 fullShare (d_n15 (s0 x1) (s1 x1) x3 x5 x6 x7 x8 x9 x10 x32 x38 x39)
    ∗ owns (c : Thread nD τ) arg16 fullShare (d_n16 (s0 x1) (s1 x1) x3 x5 x6 x7 x8 x9 x10 x32 x33 x37 x38 x39)
    ∗ owns (c : Thread nD τ) arg17 fullShare (d_n17 (s0 x1) (s1 x1) x3 x5 x6 x7 x8 x9 x10 x32 x33 x37 x38 x39)
    ∗ owns (c : Thread nD τ) arg18 fullShare (d_e18 (s0 x1) (s1 x1) x3 x5 x6 x7 x8 x9 x10 x32 x37 x38 x39 x18 x24)
    ∗ (∃ x, owns (c : Thread nD τ) arg19 fullShare x)
    ∗ (∃ x, owns (c : Thread nD τ) arg20 fullShare x)
    ∗ owns (c : Thread nD τ) arg21 fullShare (d_e21 (s0 x1) (s1 x1) x2 x3 x4 x5 x6 x7 x8 x9 x10 x32 x37 x38 x39 x26)
    ∗ owns (c : Thread nD τ) arg22 fullShare (d_v101 (s0 x1) x5 x8 x32)
    ∗ owns (c : Thread nD τ) arg23 fullShare (d_v105 (s0 x1) x6 x9 x32)
    ∗ owns (c : Thread nD τ) arg24 fullShare (d_e24 (s0 x1) (s1 x1) x5 x6 x7 x8 x9 x10 x32 x37 x38 x39 x24)
    ∗ owns (c : Thread nD τ) arg25 fullShare (d_DA x3 x7 x10 x37 x38 x39)
    ∗ owns (c : Thread nD τ) arg26 fullShare (d_n26 (s0 x1) (s1 x1) x3 x5 x6 x7 x8 x9 x10 x32 x37 x38 x39 x26)
    ∗ owns (c : Thread nD τ) arg27 fullShare x27
    ∗ owns (c : Thread nD τ) arg28 fullShare (d_n28 x5 x8)
    ∗ owns (c : Thread nD τ) arg29 fullShare (d_n29 x6 x9)
    ∗ owns (c : Thread nD τ) arg30 fullShare (d_n30 (s0 x1) (s1 x1) x5 x6 x8 x9 x32)
    ∗ owns (c : Thread nD τ) arg31 fullShare (d_n31 x7 x37 x38 x39)
    ∗ owns (c : Thread nD τ) arg32 fullShare x32
    ∗ owns (c : Thread nD τ) arg33 fullShare x33
    ∗ owns (c : Thread nD τ) arg34 fullShare (d_n34 x5 x8)
    ∗ owns (c : Thread nD τ) arg35 fullShare (d_n35 x6 x9)
    ∗ owns (c : Thread nD τ) arg36 fullShare (d_n36 x7 x37 x38 x39)
    ∗ owns (c : Thread nD τ) arg37 fullShare x37
    ∗ owns (c : Thread nD τ) arg38 fullShare x38
    ∗ owns (c : Thread nD τ) arg39 fullShare x39
    ∗ owns (c : Thread nD τ) arg40 fullShare (d_n40 (s0 x1) (s1 x1) x3 x5 x6 x7 x8 x9 x10 x32 x37 x38 x39 x40)
    ∗ owns (c : Thread nD τ) arg41 fullShare (d_n41 (s0 x1) (s1 x1) x3 x5 x6 x7 x8 x9 x10 x32 x37 x38 x39 x41))) := by
  unfold owns
  iintro ⟨⟨%X1, %h1, H1⟩, ⟨%X2, %h2, H2⟩, ⟨%X3, %h3, H3⟩, ⟨%X4, %h4, H4⟩, ⟨%X5, %h5, H5⟩, ⟨%X6, %h6, H6⟩, ⟨%X7, %h7, H7⟩, ⟨%X8, %h8, H8⟩, ⟨%X9, %h9, H9⟩, ⟨%X10, %h10, H10⟩, ⟨%X11, %h11, H11⟩, ⟨%X12, %h12, H12⟩, ⟨%X13, %h13, H13⟩, ⟨%X14, %h14, H14⟩, ⟨%X15, %h15, H15⟩, ⟨%X16, %h16, H16⟩, ⟨%X17, %h17, H17⟩, ⟨%X18, %h18, H18⟩, ⟨%X19, %h19, H19⟩, ⟨%X20, %h20, H20⟩, ⟨%X21, %h21, H21⟩, ⟨%X22, %h22, H22⟩, ⟨%X23, %h23, H23⟩, ⟨%X24, %h24, H24⟩, ⟨%X25, %h25, H25⟩, ⟨%X26, %h26, H26⟩, ⟨%X27, %h27, H27⟩, ⟨%X28, %h28, H28⟩, ⟨%X29, %h29, H29⟩, ⟨%X30, %h30, H30⟩, ⟨%X31, %h31, H31⟩, ⟨%X32, %h32, H32⟩, ⟨%X33, %h33, H33⟩, ⟨%X34, %h34, H34⟩, ⟨%X35, %h35, H35⟩, ⟨%X36, %h36, H36⟩, ⟨%X37, %h37, H37⟩, ⟨%X38, %h38, H38⟩, ⟨%X39, %h39, H39⟩, ⟨%X40, %h40, H40⟩, ⟨%X41, %h41, H41⟩⟩
  subst h1 h2 h3 h4 h5 h6 h7 h8 h9 h10 h11 h12 h13 h14 h15 h16 h17 h18 h19 h20 h21 h22 h23 h24 h25 h26 h27 h28 h29 h30 h31 h32 h33 h34 h35 h36 h37 h38 h39 h40 h41
  iapply (use_whole c (body_last arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 arg33 harg33 arg34 harg34 arg35 harg35 arg36 harg36 arg37 harg37 arg38 harg38 arg39 harg39 arg40 harg40 arg41 harg41 c i k0_h1 k0_h2 X1 X2 X3 X4 X5 X6 X7 X8 X9 X10 X11 X12 X13 X14 X15 X16 X17 X18 X19 X20 X21 X22 X23 X24 X25 X26 X27 X28 X29 X30 X31 X32 X33 X34 X35 X36 X37 X38 X39 X40 X41)) $$ [H1 H2 H3 H4 H5 H6 H7 H8 H9 H10 H11 H12 H13 H14 H15 H16 H17 H18 H19 H20 H21 H22 H23 H24 H25 H26 H27 H28 H29 H30 H31 H32 H33 H34 H35 H36 H37 H38 H39 H40 H41]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [H32]; · iexact H32
    isplitl [H33]; · iexact H33
    isplitl [H34]; · iexact H34
    isplitl [H35]; · iexact H35
    isplitl [H36]; · iexact H36
    isplitl [H37]; · iexact H37
    isplitl [H38]; · iexact H38
    isplitl [H39]; · iexact H39
    isplitl [H40]; · iexact H40
    iexact H41
  iintro %r ⟨H1, H2, H3, H4, H5, H6, H7, H8, H9, H10, ⟨%f11, H11, %g11⟩, ⟨%f12, H12, %g12⟩, ⟨%f13, H13, %g13⟩, ⟨%f14, H14, %g14⟩, ⟨%f15, H15, %g15⟩, ⟨%f16, H16, %g16⟩, ⟨%f17, H17, %g17⟩, ⟨%f18, H18, %g18⟩, ⟨%f19, H19⟩, ⟨%f20, H20⟩, ⟨%f21, H21, %g21⟩, ⟨%f22, H22, %g22⟩, ⟨%f23, H23, %g23⟩, ⟨%f24, H24, %g24⟩, ⟨%f25, H25, %g25⟩, ⟨%f26, H26, %g26⟩, H27, ⟨%f28, H28, %g28⟩, ⟨%f29, H29, %g29⟩, ⟨%f30, H30, %g30⟩, ⟨%f31, H31, %g31⟩, H32, H33, ⟨%f34, H34, %g34⟩, ⟨%f35, H35, %g35⟩, ⟨%f36, H36, %g36⟩, H37, H38, H39, ⟨%f40, H40, %g40⟩, ⟨%f41, H41, %g41⟩⟩
  isplitl [H1]
  · iexists X1; isplitr; · ipureintro; rfl
    iexact H1
  isplitl [H2]
  · iexists X2; isplitr; · ipureintro; rfl
    iexact H2
  isplitl [H3]
  · iexists X3; isplitr; · ipureintro; rfl
    iexact H3
  isplitl [H4]
  · iexists X4; isplitr; · ipureintro; rfl
    iexact H4
  isplitl [H5]
  · iexists X5; isplitr; · ipureintro; rfl
    iexact H5
  isplitl [H6]
  · iexists X6; isplitr; · ipureintro; rfl
    iexact H6
  isplitl [H7]
  · iexists X7; isplitr; · ipureintro; rfl
    iexact H7
  isplitl [H8]
  · iexists X8; isplitr; · ipureintro; rfl
    iexact H8
  isplitl [H9]
  · iexists X9; isplitr; · ipureintro; rfl
    iexact H9
  isplitl [H10]
  · iexists X10; isplitr; · ipureintro; rfl
    iexact H10
  isplitl [H11]
  · iexists f11; isplitr; · ipureintro; exact g11
    iexact H11
  isplitl [H12]
  · iexists f12; isplitr; · ipureintro; exact g12
    iexact H12
  isplitl [H13]
  · iexists f13; isplitr; · ipureintro; exact g13
    iexact H13
  isplitl [H14]
  · iexists f14; isplitr; · ipureintro; exact g14
    iexact H14
  isplitl [H15]
  · iexists f15; isplitr; · ipureintro; exact g15
    iexact H15
  isplitl [H16]
  · iexists f16; isplitr; · ipureintro; exact g16
    iexact H16
  isplitl [H17]
  · iexists f17; isplitr; · ipureintro; exact g17
    iexact H17
  isplitl [H18]
  · iexists f18; isplitr; · ipureintro; exact g18
    iexact H18
  isplitl [H19]
  · iexists _, f19; isplitr; · ipureintro; rfl
    iexact H19
  isplitl [H20]
  · iexists _, f20; isplitr; · ipureintro; rfl
    iexact H20
  isplitl [H21]
  · iexists f21; isplitr; · ipureintro; exact g21
    iexact H21
  isplitl [H22]
  · iexists f22; isplitr; · ipureintro; exact g22
    iexact H22
  isplitl [H23]
  · iexists f23; isplitr; · ipureintro; exact g23
    iexact H23
  isplitl [H24]
  · iexists f24; isplitr; · ipureintro; exact g24
    iexact H24
  isplitl [H25]
  · iexists f25; isplitr; · ipureintro; exact g25
    iexact H25
  isplitl [H26]
  · iexists f26; isplitr; · ipureintro; exact g26
    iexact H26
  isplitl [H27]
  · iexists X27; isplitr; · ipureintro; rfl
    iexact H27
  isplitl [H28]
  · iexists f28; isplitr; · ipureintro; exact g28
    iexact H28
  isplitl [H29]
  · iexists f29; isplitr; · ipureintro; exact g29
    iexact H29
  isplitl [H30]
  · iexists f30; isplitr; · ipureintro; exact g30
    iexact H30
  isplitl [H31]
  · iexists f31; isplitr; · ipureintro; exact g31
    iexact H31
  isplitl [H32]
  · iexists X32; isplitr; · ipureintro; rfl
    iexact H32
  isplitl [H33]
  · iexists X33; isplitr; · ipureintro; rfl
    iexact H33
  isplitl [H34]
  · iexists f34; isplitr; · ipureintro; exact g34
    iexact H34
  isplitl [H35]
  · iexists f35; isplitr; · ipureintro; exact g35
    iexact H35
  isplitl [H36]
  · iexists f36; isplitr; · ipureintro; exact g36
    iexact H36
  isplitl [H37]
  · iexists X37; isplitr; · ipureintro; rfl
    iexact H37
  isplitl [H38]
  · iexists X38; isplitr; · ipureintro; rfl
    iexact H38
  isplitl [H39]
  · iexists X39; isplitr; · ipureintro; rfl
    iexact H39
  isplitl [H40]
  · iexists f40; isplitr; · ipureintro; exact g40
    iexact H40
  iexists f41; isplitr; · ipureintro; exact g41
  iexact H41

end Cert.KernelIdeal.Hand

end
-- ==== Proof.KernelIdeal.Run.lean ====
module

public import proofs.«01_k».proof.Proof.KernelIdeal.Data
public import proofs.«01_k».proof.Proof.KernelIdeal.RunFirst
public import proofs.«01_k».proof.Proof.KernelIdeal.RunMid
public import proofs.«01_k».proof.Proof.KernelIdeal.RunLast

@[expose] public section

set_option maxRecDepth 16384
set_option maxHeartbeats 4000000

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]

local notation "𝕄G" => MT nD τ sig Unit (Elt F) ℕ (UR sig nD τ) ℕ

variable (m : (ℓ : Loc nD τ sig) → Buf (Elt F) ℓ)

theorem cond1_iff : ∀ t : Fin cfg0.N, k0_cond1 (grid0.coords t) = 1#1 ↔ t.val = 0 := by decide +kernel
theorem cond2_iff : ∀ t : Fin cfg0.N, k0_cond2 (grid0.coords t) = 1#1 ↔ t.val = 55 := by decide +kernel

/-- The body table's row at the point is the body as `bodyAt0` spells it. -/
theorem defs₀_row (t : Fin cfg0.N) : defs₀ (F := F) .tc cfg0.body (cfg0.bodyArgs t (cfg0.slots t)) = bodyAt0 t := by
  unfold defs₀; rw [Defs.onTc_tc]

theorem Phi_zero (c : Dev nD) (t : Fin (cfg0.N + 1)) (h : t.val = 0) : (rdat m c).Φ t = PhiAny c := by
  show (if t.val = 0 then PhiAny c else PhiOwn m c) = _
  exact if_pos h
theorem Phi_pos (c : Dev nD) (t : Fin (cfg0.N + 1)) (h : ¬ t.val = 0) : (rdat m c).Φ t = PhiOwn m c := by
  show (if t.val = 0 then PhiAny c else PhiOwn m c) = _
  exact if_neg h

/-- The body obligation at the first point. -/
theorem body_ob_first (c : Dev nD) (t : Fin cfg0.N) (h1 : t.val = 0)
    (Y : (w : Fin cfg0.W) → (cfg0.win w).block.Idx → Elt F (cfg0.win w).elt) (hY : ∀ w, (rdat m c).Finds w t (Y w)) :
    iprop((rdat m c).Φ t.castSucc ∗ (rdat m c).owesAt () t.castSucc
        ∗ bigSep Finset.univ fun w : Fin cfg0.W => owns (c : Thread nD τ) ((cfg0.win w).stage (cfg0.slots t w)) fullShare (Y w))
      ⊢ wp frame (wpE (defs₀ (F := F)) Variants.none (c : Thread nD τ) none) Set.univ (defs₀ .tc cfg0.body (cfg0.bodyArgs t (cfg0.slots t))) fun _ =>
          iprop((rdat m c).Φ t.succ ∗ (rdat m c).owesAt () t.succ
            ∗ bigSep Finset.univ fun w : Fin cfg0.W =>
                iprop(∃ X, ⌜(rdat m c).after w t (Y w) X⌝ ∗ owns (c : Thread nD τ) ((cfg0.win w).stage (cfg0.slots t w)) fullShare X)) := by
  obtain rfl : t = t0 := Fin.ext h1
  have e0 := finds_0 m c t0 _ (hY 0)
  have e1 := finds_1 m c t0 _ (hY 1)
  have e2 := finds_2 m c t0 _ (hY 2)
  have e3 := finds_3 m c t0 _ (hY 3)
  have e4 := finds_4 m c t0 _ (hY 4)
  have e5 := finds_5 m c t0 _ (hY 5)
  have e6 := finds_6 m c t0 _ (hY 6)
  have e7 := finds_7 m c t0 _ (hY 7)
  have e8 := finds_8 m c t0 _ (hY 8)
  have e9 := finds_9 m c t0 _ (hY 9)
  have p0 : (rdat m c).Φ t0.castSucc = PhiAny c := Phi_zero m c _ rfl
  have p1 : (rdat m c).Φ t0.succ = PhiOwn m c := Phi_pos m c _ (Nat.succ_ne_zero _)
  rw [bigSep_W0, bigSep_W0, defs₀_row, p0, p1]
  unfold bodyAt0 RDat.owesAt Pipeline.owesWithin PhiAny PhiOwn
  rw [show (rdat m c).owed t0.castSucc = 0 from rfl, show (rdat m c).owed t0.succ = 0 from rfl]
  rw [e0, e1, e2, e3, e4, e5, e6, e7, e8, e9]
  iintro ⟨⟨⟨%y32, S32⟩, ⟨%y33, S33⟩, ⟨%y34, S34⟩, ⟨%y35, S35⟩, ⟨%y36, S36⟩, ⟨%y37, S37⟩, ⟨%y38, S38⟩, ⟨%y39, S39⟩, ⟨%y40, S40⟩, ⟨%y41, S41⟩, Hg⟩, ⟨%W, %hW, HO⟩, H1, H2, H3, H4, H5, H6, H7, H8, H9, H10, H11, H12, H13, H14, H15, H16, H17, H18, H19, H20, H21, H22, H23, H24, H25, H26, H27, H28, H29, H30, H31⟩
  iapply (use_whole c (run_first (win0_0.stage (cfg0.slots t0 0)) (hstage0_0 ((cfg0.slots t0 0).cast nbuf0_0)) (win0_1.stage (cfg0.slots t0 1)) (hstage0_1 ((cfg0.slots t0 1).cast nbuf0_1)) (win0_2.stage (cfg0.slots t0 2)) (hstage0_2 ((cfg0.slots t0 2).cast nbuf0_2)) (win0_3.stage (cfg0.slots t0 3)) (hstage0_3 ((cfg0.slots t0 3).cast nbuf0_3)) (win0_4.stage (cfg0.slots t0 4)) (hstage0_4 ((cfg0.slots t0 4).cast nbuf0_4)) (win0_5.stage (cfg0.slots t0 5)) (hstage0_5 ((cfg0.slots t0 5).cast nbuf0_5)) (win0_6.stage (cfg0.slots t0 6)) (hstage0_6 ((cfg0.slots t0 6).cast nbuf0_6)) (win0_7.stage (cfg0.slots t0 7)) (hstage0_7 ((cfg0.slots t0 7).cast nbuf0_7)) (win0_8.stage (cfg0.slots t0 8)) (hstage0_8 ((cfg0.slots t0 8).cast nbuf0_8)) (win0_9.stage (cfg0.slots t0 9)) (hstage0_9 ((cfg0.slots t0 9).cast nbuf0_9)) (win0_10.stage (cfg0.slots t0 10)) (hstage0_10 ((cfg0.slots t0 10).cast nbuf0_10)) (win0_11.stage (cfg0.slots t0 11)) (hstage0_11 ((cfg0.slots t0 11).cast nbuf0_11)) (win0_12.stage (cfg0.slots t0 12)) (hstage0_12 ((cfg0.slots t0 12).cast nbuf0_12)) (win0_13.stage (cfg0.slots t0 13)) (hstage0_13 ((cfg0.slots t0 13).cast nbuf0_13)) (win0_14.stage (cfg0.slots t0 14)) (hstage0_14 ((cfg0.slots t0 14).cast nbuf0_14)) (win0_15.stage (cfg0.slots t0 15)) (hstage0_15 ((cfg0.slots t0 15).cast nbuf0_15)) (win0_16.stage (cfg0.slots t0 16)) (hstage0_16 ((cfg0.slots t0 16).cast nbuf0_16)) (win0_17.stage (cfg0.slots t0 17)) (hstage0_17 ((cfg0.slots t0 17).cast nbuf0_17)) (win0_18.stage (cfg0.slots t0 18)) (hstage0_18 ((cfg0.slots t0 18).cast nbuf0_18)) (win0_19.stage (cfg0.slots t0 19)) (hstage0_19 ((cfg0.slots t0 19).cast nbuf0_19)) (win0_20.stage (cfg0.slots t0 20)) (hstage0_20 ((cfg0.slots t0 20).cast nbuf0_20)) (win0_21.stage (cfg0.slots t0 21)) (hstage0_21 ((cfg0.slots t0 21).cast nbuf0_21)) (win0_22.stage (cfg0.slots t0 22)) (hstage0_22 ((cfg0.slots t0 22).cast nbuf0_22)) (win0_23.stage (cfg0.slots t0 23)) (hstage0_23 ((cfg0.slots t0 23).cast nbuf0_23)) (win0_24.stage (cfg0.slots t0 24)) (hstage0_24 ((cfg0.slots t0 24).cast nbuf0_24)) (win0_25.stage (cfg0.slots t0 25)) (hstage0_25 ((cfg0.slots t0 25).cast nbuf0_25)) (win0_26.stage (cfg0.slots t0 26)) (hstage0_26 ((cfg0.slots t0 26).cast nbuf0_26)) (win0_27.stage (cfg0.slots t0 27)) (hstage0_27 ((cfg0.slots t0 27).cast nbuf0_27)) (win0_28.stage (cfg0.slots t0 28)) (hstage0_28 ((cfg0.slots t0 28).cast nbuf0_28)) (win0_29.stage (cfg0.slots t0 29)) (hstage0_29 ((cfg0.slots t0 29).cast nbuf0_29)) (win0_30.stage (cfg0.slots t0 30)) (hstage0_30 ((cfg0.slots t0 30).cast nbuf0_30)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) c (grid0.coords t0) ((cond1_iff t0).mpr rfl) (fun e => absurd ((cond2_iff t0).mp e) (by decide)) (b1 m c t0) (b2 m c t0) (b3 m c t0) (b4 m c t0) (b5 m c t0) (b6 m c t0) (b7 m c t0) (b8 m c t0) (b9 m c t0) (b10 m c t0) (Y 10) (Y 11) (Y 12) (Y 13) (Y 14) (Y 15) (Y 16) (Y 17) (Y 18) (Y 19) (Y 20) (Y 21) (Y 22) (Y 23) (Y 24) (Y 25) (Y 26) (Y 27) (Y 28) (Y 29) (Y 30) y32 y33 y34 y35 y36 y37 y38 y39 y40 y41)) $$ [H1 H2 H3 H4 H5 H6 H7 H8 H9 H10 H11 H12 H13 H14 H15 H16 H17 H18 H19 H20 H21 H22 H23 H24 H25 H26 H27 H28 H29 H30 H31 S32 S33 S34 S35 S36 S37 S38 S39 S40 S41]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [S32]; · iexact S32
    isplitl [S33]; · iexact S33
    isplitl [S34]; · iexact S34
    isplitl [S35]; · iexact S35
    isplitl [S36]; · iexact S36
    isplitl [S37]; · iexact S37
    isplitl [S38]; · iexact S38
    isplitl [S39]; · iexact S39
    isplitl [S40]; · iexact S40
    iexact S41
  iintro %r ⟨H1, H2, H3, H4, H5, H6, H7, H8, H9, H10, H11, H12, H13, H14, H15, H16, H17, H18, H19, H20, H21, H22, H23, H24, H25, H26, H27, H28, H29, H30, H31, S32, S33, S34, S35, S36, S37, S38, S39, S40, S41⟩
  isplitl [S32 S33 S34 S35 S36 S37 S38 S39 S40 S41 Hg]
  · isplitl [S32]; · iexact S32
    isplitl [S33]; · iexact S33
    isplitl [S34]; · iexists _; iexact S34
    isplitl [S35]; · iexists _; iexact S35
    isplitl [S36]; · iexists _; iexact S36
    isplitl [S37]; · iexact S37
    isplitl [S38]; · iexact S38
    isplitl [S39]; · iexact S39
    isplitl [S40]; · iexists _; iexact S40
    isplitl [S41]; · iexists _; iexact S41
    iexact Hg
  isplitl [HO]
  · iexists W; isplitr; · ipureintro; exact fun _ _ => Or.inl trivial
    iexact HO
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; exact fun h => absurd h (by decide)
  isplitl [H12]
  · iexists _; isplitr; swap; · iexact H12
    ipureintro; exact fun h => absurd h (by decide)
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; trivial
  isplitl [H17]
  · iexists _; isplitr; swap; · iexact H17
    ipureintro; trivial
  isplitl [H18]
  · iexists _; isplitr; swap; · iexact H18
    ipureintro; trivial
  isplitl [H19]
  · iexists _; isplitr; swap; · iexact H19
    ipureintro; trivial
  isplitl [H20]
  · iexists _; isplitr; swap; · iexact H20
    ipureintro; trivial
  isplitl [H21]
  · iexists _; isplitr; swap; · iexact H21
    ipureintro; exact fun h => absurd h (by decide)
  isplitl [H22]
  · iexists _; isplitr; swap; · iexact H22
    ipureintro; rfl
  isplitl [H23]
  · iexists _; isplitr; swap; · iexact H23
    ipureintro; rfl
  isplitl [H24]
  · iexists _; isplitr; swap; · iexact H24
    ipureintro; exact ⟨fun _ => (P24_succ m c t0).symm, fun h => absurd h (by decide)⟩
  isplitl [H25]
  · iexists _; isplitr; swap; · iexact H25
    ipureintro; rfl
  isplitl [H26]
  · iexists _; isplitr; swap; · iexact H26
    ipureintro; exact (P26_succ m c t0).symm
  isplitl [H27]
  · iexists _; isplitr; swap; · iexact H27
    ipureintro; rfl
  isplitl [H28]
  · iexists _; isplitr; swap; · iexact H28
    ipureintro; rfl
  isplitl [H29]
  · iexists _; isplitr; swap; · iexact H29
    ipureintro; rfl
  isplitl [H30]
  · iexists _; isplitr; swap; · iexact H30
    ipureintro; rfl
  iexists _; isplitr; swap; · iexact H31
  ipureintro; rfl

/-- The body obligation at a point between. -/
theorem body_ob_mid (c : Dev nD) (t : Fin cfg0.N) (h1 : t.val ≠ 0) (h2 : t.val ≠ 55)
    (Y : (w : Fin cfg0.W) → (cfg0.win w).block.Idx → Elt F (cfg0.win w).elt) (hY : ∀ w, (rdat m c).Finds w t (Y w)) :
    iprop((rdat m c).Φ t.castSucc ∗ (rdat m c).owesAt () t.castSucc
        ∗ bigSep Finset.univ fun w : Fin cfg0.W => owns (c : Thread nD τ) ((cfg0.win w).stage (cfg0.slots t w)) fullShare (Y w))
      ⊢ wp frame (wpE (defs₀ (F := F)) Variants.none (c : Thread nD τ) none) Set.univ (defs₀ .tc cfg0.body (cfg0.bodyArgs t (cfg0.slots t))) fun _ =>
          iprop((rdat m c).Φ t.succ ∗ (rdat m c).owesAt () t.succ
            ∗ bigSep Finset.univ fun w : Fin cfg0.W =>
                iprop(∃ X, ⌜(rdat m c).after w t (Y w) X⌝ ∗ owns (c : Thread nD τ) ((cfg0.win w).stage (cfg0.slots t w)) fullShare X)) := by
  have e0 := finds_0 m c t _ (hY 0)
  have e1 := finds_1 m c t _ (hY 1)
  have e2 := finds_2 m c t _ (hY 2)
  have e3 := finds_3 m c t _ (hY 3)
  have e4 := finds_4 m c t _ (hY 4)
  have e5 := finds_5 m c t _ (hY 5)
  have e6 := finds_6 m c t _ (hY 6)
  have e7 := finds_7 m c t _ (hY 7)
  have e8 := finds_8 m c t _ (hY 8)
  have e9 := finds_9 m c t _ (hY 9)
  have e23 := finds_23 m c t h1 _ (hY 23)
  have e25 := finds_25 m c t h1 _ (hY 25)
  have e26 := finds_26 m c t h1 _ (hY 26)
  have p0 : (rdat m c).Φ t.castSucc = PhiOwn m c := Phi_pos m c _ h1
  have p1 : (rdat m c).Φ t.succ = PhiOwn m c := Phi_pos m c _ (Nat.succ_ne_zero _)
  rw [bigSep_W0, bigSep_W0, defs₀_row, p0, p1]
  unfold bodyAt0 RDat.owesAt Pipeline.owesWithin PhiOwn
  rw [show (rdat m c).owed t.castSucc = 0 from rfl, show (rdat m c).owed t.succ = 0 from rfl]
  rw [e0, e1, e2, e3, e4, e5, e6, e7, e8, e9, e23, e25, e26]
  iintro ⟨⟨S32, S33, ⟨%y34, S34⟩, ⟨%y35, S35⟩, ⟨%y36, S36⟩, S37, S38, S39, ⟨%y40, S40⟩, ⟨%y41, S41⟩, Hg⟩, ⟨%W, %hW, HO⟩, H1, H2, H3, H4, H5, H6, H7, H8, H9, H10, H11, H12, H13, H14, H15, H16, H17, H18, H19, H20, H21, H22, H23, H24, H25, H26, H27, H28, H29, H30, H31⟩
  iapply (use_whole c (run_mid (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (win0_30.stage (cfg0.slots t 30)) (hstage0_30 ((cfg0.slots t 30).cast nbuf0_30)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) c (grid0.coords t) (fun e => h1 ((cond1_iff t).mp e)) (fun e => h2 ((cond2_iff t).mp e)) (b1 m c t) (b2 m c t) (b3 m c t) (b4 m c t) (b5 m c t) (b6 m c t) (b7 m c t) (b8 m c t) (b9 m c t) (b10 m c t) (Y 10) (Y 11) (Y 12) (Y 13) (Y 14) (Y 15) (Y 16) (Y 17) (Y 18) (Y 19) (Y 20) (Y 21) (Y 22) (P24 m c t.val) (Y 24) (P26 m c t.val) (cc1 m c) (Y 27) (Y 28) (Y 29) (Y 30) (c32 m c) (c33 m c) y34 y35 y36 (c37 m c) (c38 m c) (c39 m c) y40 y41)) $$ [H1 H2 H3 H4 H5 H6 H7 H8 H9 H10 H11 H12 H13 H14 H15 H16 H17 H18 H19 H20 H21 H22 H23 H24 H25 H26 H27 H28 H29 H30 H31 S32 S33 S34 S35 S36 S37 S38 S39 S40 S41]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [S32]; · iexact S32
    isplitl [S33]; · iexact S33
    isplitl [S34]; · iexact S34
    isplitl [S35]; · iexact S35
    isplitl [S36]; · iexact S36
    isplitl [S37]; · iexact S37
    isplitl [S38]; · iexact S38
    isplitl [S39]; · iexact S39
    isplitl [S40]; · iexact S40
    iexact S41
  iintro %r ⟨H1, H2, H3, H4, H5, H6, H7, H8, H9, H10, H11, H12, H13, H14, H15, H16, H17, H18, H19, H20, H21, H22, H23, H24, H25, H26, H27, H28, H29, H30, H31, S32, S33, S34, S35, S36, S37, S38, S39, S40, S41⟩
  isplitl [S32 S33 S34 S35 S36 S37 S38 S39 S40 S41 Hg]
  · isplitl [S32]; · iexact S32
    isplitl [S33]; · iexact S33
    isplitl [S34]; · iexists _; iexact S34
    isplitl [S35]; · iexists _; iexact S35
    isplitl [S36]; · iexists _; iexact S36
    isplitl [S37]; · iexact S37
    isplitl [S38]; · iexact S38
    isplitl [S39]; · iexact S39
    isplitl [S40]; · iexists _; iexact S40
    isplitl [S41]; · iexists _; iexact S41
    iexact Hg
  isplitl [HO]
  · iexists W; isplitr; · ipureintro; exact fun _ _ => Or.inl trivial
    iexact HO
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; exact fun h => absurd h h2
  isplitl [H12]
  · iexists _; isplitr; swap; · iexact H12
    ipureintro; exact fun h => absurd h h2
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; trivial
  isplitl [H17]
  · iexists _; isplitr; swap; · iexact H17
    ipureintro; trivial
  isplitl [H18]
  · iexists _; isplitr; swap; · iexact H18
    ipureintro; trivial
  isplitl [H19]
  · iexists _; isplitr; swap; · iexact H19
    ipureintro; trivial
  isplitl [H20]
  · iexists _; isplitr; swap; · iexact H20
    ipureintro; trivial
  isplitl [H21]
  · iexists _; isplitr; swap; · iexact H21
    ipureintro; exact fun h => absurd h h2
  isplitl [H22]
  · iexists _; isplitr; swap; · iexact H22
    ipureintro; rfl
  isplitl [H23]
  · iexists _; isplitr; swap; · iexact H23
    ipureintro; rfl
  isplitl [H24]
  · iexists _; isplitr; swap; · iexact H24
    ipureintro; exact ⟨fun _ => (P24_succ m c t).symm, fun h => absurd h h2⟩
  isplitl [H25]
  · iexists _; isplitr; swap; · iexact H25
    ipureintro; rfl
  isplitl [H26]
  · iexists _; isplitr; swap; · iexact H26
    ipureintro; exact (P26_succ m c t).symm
  isplitl [H27]
  · iexists _; isplitr; swap; · iexact H27
    ipureintro; rfl
  isplitl [H28]
  · iexists _; isplitr; swap; · iexact H28
    ipureintro; rfl
  isplitl [H29]
  · iexists _; isplitr; swap; · iexact H29
    ipureintro; rfl
  isplitl [H30]
  · iexists _; isplitr; swap; · iexact H30
    ipureintro; rfl
  iexists _; isplitr; swap; · iexact H31
  ipureintro; rfl

/-- The body obligation at the last point. -/
theorem body_ob_last (c : Dev nD) (t : Fin cfg0.N) (h1 : t.val ≠ 0) (h2 : t.val = 55)
    (Y : (w : Fin cfg0.W) → (cfg0.win w).block.Idx → Elt F (cfg0.win w).elt) (hY : ∀ w, (rdat m c).Finds w t (Y w)) :
    iprop((rdat m c).Φ t.castSucc ∗ (rdat m c).owesAt () t.castSucc
        ∗ bigSep Finset.univ fun w : Fin cfg0.W => owns (c : Thread nD τ) ((cfg0.win w).stage (cfg0.slots t w)) fullShare (Y w))
      ⊢ wp frame (wpE (defs₀ (F := F)) Variants.none (c : Thread nD τ) none) Set.univ (defs₀ .tc cfg0.body (cfg0.bodyArgs t (cfg0.slots t))) fun _ =>
          iprop((rdat m c).Φ t.succ ∗ (rdat m c).owesAt () t.succ
            ∗ bigSep Finset.univ fun w : Fin cfg0.W =>
                iprop(∃ X, ⌜(rdat m c).after w t (Y w) X⌝ ∗ owns (c : Thread nD τ) ((cfg0.win w).stage (cfg0.slots t w)) fullShare X)) := by
  have e0 := finds_0 m c t _ (hY 0)
  have e1 := finds_1 m c t _ (hY 1)
  have e2 := finds_2 m c t _ (hY 2)
  have e3 := finds_3 m c t _ (hY 3)
  have e4 := finds_4 m c t _ (hY 4)
  have e5 := finds_5 m c t _ (hY 5)
  have e6 := finds_6 m c t _ (hY 6)
  have e7 := finds_7 m c t _ (hY 7)
  have e8 := finds_8 m c t _ (hY 8)
  have e9 := finds_9 m c t _ (hY 9)
  have e23 := finds_23 m c t h1 _ (hY 23)
  have e25 := finds_25 m c t h1 _ (hY 25)
  have e26 := finds_26 m c t h1 _ (hY 26)
  have p0 : (rdat m c).Φ t.castSucc = PhiOwn m c := Phi_pos m c _ h1
  have p1 : (rdat m c).Φ t.succ = PhiOwn m c := Phi_pos m c _ (Nat.succ_ne_zero _)
  rw [bigSep_W0, bigSep_W0, defs₀_row, p0, p1]
  unfold bodyAt0 RDat.owesAt Pipeline.owesWithin PhiOwn
  rw [show (rdat m c).owed t.castSucc = 0 from rfl, show (rdat m c).owed t.succ = 0 from rfl]
  rw [e0, e1, e2, e3, e4, e5, e6, e7, e8, e9, e23, e25, e26]
  iintro ⟨⟨S32, S33, ⟨%y34, S34⟩, ⟨%y35, S35⟩, ⟨%y36, S36⟩, S37, S38, S39, ⟨%y40, S40⟩, ⟨%y41, S41⟩, Hg⟩, ⟨%W, %hW, HO⟩, H1, H2, H3, H4, H5, H6, H7, H8, H9, H10, H11, H12, H13, H14, H15, H16, H17, H18, H19, H20, H21, H22, H23, H24, H25, H26, H27, H28, H29, H30, H31⟩
  iapply (use_whole c (run_last (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (win0_21.stage (cfg0.slots t 21)) (hstage0_21 ((cfg0.slots t 21).cast nbuf0_21)) (win0_22.stage (cfg0.slots t 22)) (hstage0_22 ((cfg0.slots t 22).cast nbuf0_22)) (win0_23.stage (cfg0.slots t 23)) (hstage0_23 ((cfg0.slots t 23).cast nbuf0_23)) (win0_24.stage (cfg0.slots t 24)) (hstage0_24 ((cfg0.slots t 24).cast nbuf0_24)) (win0_25.stage (cfg0.slots t 25)) (hstage0_25 ((cfg0.slots t 25).cast nbuf0_25)) (win0_26.stage (cfg0.slots t 26)) (hstage0_26 ((cfg0.slots t 26).cast nbuf0_26)) (win0_27.stage (cfg0.slots t 27)) (hstage0_27 ((cfg0.slots t 27).cast nbuf0_27)) (win0_28.stage (cfg0.slots t 28)) (hstage0_28 ((cfg0.slots t 28).cast nbuf0_28)) (win0_29.stage (cfg0.slots t 29)) (hstage0_29 ((cfg0.slots t 29).cast nbuf0_29)) (win0_30.stage (cfg0.slots t 30)) (hstage0_30 ((cfg0.slots t 30).cast nbuf0_30)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) c (grid0.coords t) (fun e => h1 ((cond1_iff t).mp e)) ((cond2_iff t).mpr h2) (b1 m c t) (b2 m c t) (b3 m c t) (b4 m c t) (b5 m c t) (b6 m c t) (b7 m c t) (b8 m c t) (b9 m c t) (b10 m c t) (Y 10) (Y 11) (Y 12) (Y 13) (Y 14) (Y 15) (Y 16) (Y 17) (Y 18) (Y 19) (Y 20) (Y 21) (Y 22) (P24 m c t.val) (Y 24) (P26 m c t.val) (cc1 m c) (Y 27) (Y 28) (Y 29) (Y 30) (c32 m c) (c33 m c) y34 y35 y36 (c37 m c) (c38 m c) (c39 m c) y40 y41)) $$ [H1 H2 H3 H4 H5 H6 H7 H8 H9 H10 H11 H12 H13 H14 H15 H16 H17 H18 H19 H20 H21 H22 H23 H24 H25 H26 H27 H28 H29 H30 H31 S32 S33 S34 S35 S36 S37 S38 S39 S40 S41]
  · isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    isplitl [H20]; · iexact H20
    isplitl [H21]; · iexact H21
    isplitl [H22]; · iexact H22
    isplitl [H23]; · iexact H23
    isplitl [H24]; · iexact H24
    isplitl [H25]; · iexact H25
    isplitl [H26]; · iexact H26
    isplitl [H27]; · iexact H27
    isplitl [H28]; · iexact H28
    isplitl [H29]; · iexact H29
    isplitl [H30]; · iexact H30
    isplitl [H31]; · iexact H31
    isplitl [S32]; · iexact S32
    isplitl [S33]; · iexact S33
    isplitl [S34]; · iexact S34
    isplitl [S35]; · iexact S35
    isplitl [S36]; · iexact S36
    isplitl [S37]; · iexact S37
    isplitl [S38]; · iexact S38
    isplitl [S39]; · iexact S39
    isplitl [S40]; · iexact S40
    iexact S41
  iintro %r ⟨H1, H2, H3, H4, H5, H6, H7, H8, H9, H10, H11, H12, H13, H14, H15, H16, H17, H18, ⟨%z19, H19⟩, ⟨%z20, H20⟩, H21, H22, H23, H24, H25, H26, H27, H28, H29, H30, H31, S32, S33, S34, S35, S36, S37, S38, S39, S40, S41⟩
  isplitl [S32 S33 S34 S35 S36 S37 S38 S39 S40 S41 Hg]
  · isplitl [S32]; · iexact S32
    isplitl [S33]; · iexact S33
    isplitl [S34]; · iexists _; iexact S34
    isplitl [S35]; · iexists _; iexact S35
    isplitl [S36]; · iexists _; iexact S36
    isplitl [S37]; · iexact S37
    isplitl [S38]; · iexact S38
    isplitl [S39]; · iexact S39
    isplitl [S40]; · iexists _; iexact S40
    isplitl [S41]; · iexists _; iexact S41
    iexact Hg
  isplitl [HO]
  · iexists W; isplitr; · ipureintro; exact fun _ _ => Or.inl trivial
    iexact HO
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  isplitl [H8]
  · iexists _; isplitr; swap; · iexact H8
    ipureintro; rfl
  isplitl [H9]
  · iexists _; isplitr; swap; · iexact H9
    ipureintro; rfl
  isplitl [H10]
  · iexists _; isplitr; swap; · iexact H10
    ipureintro; rfl
  isplitl [H11]
  · iexists _; isplitr; swap; · iexact H11
    ipureintro; exact fun _ => rfl
  isplitl [H12]
  · iexists _; isplitr; swap; · iexact H12
    ipureintro; exact fun _ => rfl
  isplitl [H13]
  · iexists _; isplitr; swap; · iexact H13
    ipureintro; rfl
  isplitl [H14]
  · iexists _; isplitr; swap; · iexact H14
    ipureintro; rfl
  isplitl [H15]
  · iexists _; isplitr; swap; · iexact H15
    ipureintro; rfl
  isplitl [H16]
  · iexists _; isplitr; swap; · iexact H16
    ipureintro; trivial
  isplitl [H17]
  · iexists _; isplitr; swap; · iexact H17
    ipureintro; trivial
  isplitl [H18]
  · iexists _; isplitr; swap; · iexact H18
    ipureintro; trivial
  isplitl [H19]
  · iexists _; isplitr; swap; · iexact H19
    ipureintro; trivial
  isplitl [H20]
  · iexists _; isplitr; swap; · iexact H20
    ipureintro; trivial
  isplitl [H21]
  · iexists _; isplitr; swap; · iexact H21
    ipureintro; exact fun _ => rfl
  isplitl [H22]
  · iexists _; isplitr; swap; · iexact H22
    ipureintro; rfl
  isplitl [H23]
  · iexists _; isplitr; swap; · iexact H23
    ipureintro; rfl
  isplitl [H24]
  · iexists _; isplitr; swap; · iexact H24
    ipureintro; exact ⟨fun h => absurd h2 h, fun _ => rfl⟩
  isplitl [H25]
  · iexists _; isplitr; swap; · iexact H25
    ipureintro; rfl
  isplitl [H26]
  · iexists _; isplitr; swap; · iexact H26
    ipureintro; exact (P26_succ m c t).symm
  isplitl [H27]
  · iexists _; isplitr; swap; · iexact H27
    ipureintro; rfl
  isplitl [H28]
  · iexists _; isplitr; swap; · iexact H28
    ipureintro; rfl
  isplitl [H29]
  · iexists _; isplitr; swap; · iexact H29
    ipureintro; rfl
  isplitl [H30]
  · iexists _; isplitr; swap; · iexact H30
    ipureintro; rfl
  iexists _; isplitr; swap; · iexact H31
  ipureintro; rfl

theorem body_obligation (c : Dev nD) : (rdat (F := F) m c).BodyObligation (defs₀ (F := F)) Variants.none () Set.univ := fun t Y hY => by
  by_cases h1 : t.val = 0
  · exact body_ob_first m c t h1 Y hY
  · by_cases h2 : t.val = 55
    · exact body_ob_last m c t h1 h2 Y hY
    · exact body_ob_mid m c t h1 h2 Y hY

/-! ## The launch -/

theorem phi_in (c : Dev nD) : Pipeline.ΦA spec0 c ⊢ (rdat (F := F) m c).Φ 0 := by
  rw [Phi_zero m c 0 rfl]; exact (PhiA_eq c).1
theorem phi_out (c : Dev nD) : (rdat (F := F) m c).Φ (Fin.last cfg0.N) ⊢ Pipeline.ΦA spec0 c := by
  rw [Phi_pos m c (Fin.last cfg0.N) (by decide)]
  exact (PhiOwn_any m c).trans (PhiA_eq c).2

set_option backward.isDefEq.respectTransparency.types false in
/-- Every weakly fair execution of @main from zero counters terminates; every window's array holds what the write-backs put
    there, every other unscoped buffer what the region found, and every counter is zero. -/
theorem run_main (ρ : Dev nD → PrngReg) :
    θ_run defs (onTc (τ := τ) (main (F := F))) ⟨m, fun _ => 0, ρ⟩
      (fun r => RDat.FramePost (cfgs 0) (fun c => rdat m c) (V m) r ∧ r.2.sem = fun _ => 0) :=
  RDat.θ_run_frame_track (Q' := _) cfgs (0 : Fin 1) launch0 defs₀ Variants.none (fun c => rdat m c) m ρ main
    (hbody := fun c => body_obligation m c) (hshare := fun c w => by unfold RDat.share; split <;> rfl)
    (howed := fun _ _ => rfl) (V := V m) (hmain := hmain m Variants.none) (hA := rdat_A m)
    (hin := fun c => phi_in m c) (hout := fun c => phi_out m c)

end Cert.KernelIdeal.Hand

end
-- ==== Proof.KernelIdeal.Frame.lean ====
module

public import proofs.«01_k».proof.Proof.KernelIdeal.Run

@[expose] public section

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.Sem
open Idealize.ShloMosaic.Pipeline (Dat RDat)

variable {F : FTy → Type} [FloatOps F]

variable (m : (ℓ : Loc nD τ sig) → Buf (Elt F) ℓ)

/-- What the run says of the argument arrays: none has changed. -/
theorem args_kept (r : PUnit × MemSt nD τ sig (Elt F)) (h : RDat.FramePost (cfgs 0) (fun c => rdat m c) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      (RDat.FramePost.arr_in h c 4 rfl).trans (V_main_arg3 m c),
      (RDat.FramePost.arr_in h c 5 rfl).trans (V_main_arg4 m c),
      (RDat.FramePost.arr_in h c 6 rfl).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩

/-- The kernel terminates without fault, leaves its arguments unchanged and every counter at zero, whatever the floats are. -/
theorem frame_all (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10))
      ∧ r.2.sem = fun _ => 0) :=
  (θ_run (defs (F := F)) _ _).mono (fun r h => ⟨fun c => args_kept m r h.1 c, h.2⟩) (run_main m ρ)

end Cert.KernelIdeal.Hand

end
-- ==== Proof.KernelFrame.lean ====
module

public import proofs.«01_k».proof.Defs
public import proofs.«01_k».proof.Proof.Gen.Kernel
public import proofs.«01_k».proof.Proof.Gen.KernelIdeal
public import proofs.«01_k».proof.Proof.KernelIdeal.Frame
public import Idealize.ShloMosaic.Lib.Pipeline.Regions

@[expose] public section

noncomputable section

namespace Cert.Proof

open Idealize.ShloMosaic Idealize.ShloMosaic.TcCoe Idealize.SL.Sem

/-- No operation was rewritten on the way to the ideal program, so the two printed programs are the same program under two
    names, and what is said of the one at the bit-exact floats is what is said of the other. -/
theorem same_program :
    (∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ r.2.sem = fun _ => 0))
    = (∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))
      ∧ r.2.sem = fun _ => 0)) := by
  chain_rfl

/-- The kernel on its words: it terminates without fault, leaves its arguments unchanged and every counter at zero. -/
theorem quiescent_Kernel : Cert.quiescent_Kernel (hKernel := Cert.Kernel.Gen.facts) :=
  fun m g _ => (same_program.mp fun m g => Cert.KernelIdeal.Hand.frame_all (F := Bits) m g) m g

end Cert.Proof

end
-- ==== Proof.Quant.lean ====
module

public import Idealize.ShloMosaic.PureOps.Ideal.Laws
public import Idealize.ShloMosaic.Lib.IdealHost
public import Idealize.ShloMosaic.Lib.Pointwise.Sums
public import proofs.«01_k».proof.Proof.Slab

/-!
The scalar mathematics of the quantiser.

A weight `w` with step `s` has the code `wc w s`, the rounded quotient clipped to `-8 … 7`; a step that is not
zero turns the kernel's clipping before the division into clipping after it (`wc_of_clip`), and its test of
being left alone by the clipping into the test on the quotient (`okW_iff`).
-/

@[expose] public section

noncomputable section

namespace Cert.Quant

open Idealize.ShloMosaic
open scoped BigOperators

/-- A single precision pattern as an extended real. -/
abbrev b32 (b : BitVec 32) : EReal := Ideal.ofBits .f32 b

/-- To the nearest integer, ties to even. -/
abbrev rnd (x : EReal) : EReal := Ideal.liftRound Ideal.roundHalfEven x

/-- The code of a weight. -/
def wc (w s : EReal) : EReal := min (b32 0x40E00000#32) (max (b32 0xC1000000#32) (rnd (Ideal.div w s)))

/-- The code of an activation, given the quotient. -/
def ac (v : EReal) : EReal := min (b32 0x42FE0000#32) (max (b32 0xC3000000#32) (rnd v))

/-- The weight lies in the range of the codes. -/
def okW (w s : EReal) : Prop := b32 0xC1000000#32 ≤ Ideal.div w s ∧ Ideal.div w s ≤ b32 0x40E00000#32

/-- The activation lies in the range of the codes. -/
def okA (v : EReal) : Prop := b32 0xC3000000#32 ≤ v ∧ v ≤ b32 0x42FE0000#32

instance (w s : EReal) : Decidable (okW w s) := Classical.propDecidable _
instance (v : EReal) : Decidable (okA v) := Classical.propDecidable _

theorem b7 : b32 0x40E00000#32 = ((7 : ℝ) : EReal) := by
  simp [b32, Ideal.ofBits, Ideal.ieee, -EReal.coe_mul]; norm_num
theorem b8 : b32 0xC1000000#32 = ((-8 : ℝ) : EReal) := by
  simp [b32, Ideal.ofBits, Ideal.ieee, -EReal.coe_mul, -EReal.coe_neg]; norm_num
theorem b4096 : b32 0x45800000#32 = ((4096 : ℝ) : EReal) := by
  simp [b32, Ideal.ofBits, Ideal.ieee, -EReal.coe_mul]; norm_num
theorem binv : b32 0x39800000#32 = ((4096⁻¹ : ℝ) : EReal) := by
  simp [b32, Ideal.ofBits, Ideal.ieee, -EReal.coe_mul]; norm_num

/-- Times `1/4096` is divided by `4096`. -/
theorem mul_inv4096 (x : EReal) : x * b32 0x39800000#32 = Ideal.div x (b32 0x45800000#32) := by
  have h : ((4096 : ℝ) : EReal) ≠ 0 := by exact_mod_cast (by norm_num : (4096 : ℝ) ≠ 0)
  rw [binv, b4096]; unfold Ideal.div; rw [if_neg h, EReal.coe_inv]

theorem rhe_mono : Monotone Ideal.roundHalfEven := by
  intro r s h
  have hf : ⌊r⌋ ≤ ⌊s⌋ := Int.floor_le_floor h
  have up : ∀ x : ℝ, Ideal.roundHalfEven x ≤ ⌊x⌋ + 1 := by
    intro x; unfold Ideal.roundHalfEven; dsimp only; split_ifs <;> omega
  have lo : ∀ x : ℝ, ⌊x⌋ ≤ Ideal.roundHalfEven x := by
    intro x; unfold Ideal.roundHalfEven; dsimp only; split_ifs <;> omega
  rcases hf.eq_or_lt with e | e
  · unfold Ideal.roundHalfEven; dsimp only; rw [e]
    split_ifs <;> first | omega | (exfalso; linarith)
  · have := up r; have := lo s; omega

theorem rhe_int (n : ℤ) : Ideal.roundHalfEven (n : ℝ) = n := by
  unfold Ideal.roundHalfEven; simp

theorem rnd_mono : Monotone rnd := by
  intro x y h
  induction x with
  | bot => show (⊥ : EReal) ≤ _; exact bot_le
  | top => have : y = ⊤ := top_le_iff.1 h; subst this; exact le_rfl
  | coe a =>
    induction y with
    | bot => simp at h
    | top => show _ ≤ (⊤ : EReal); exact le_top
    | coe b =>
      show ((Ideal.roundHalfEven a : ℝ) : EReal) ≤ ((Ideal.roundHalfEven b : ℝ) : EReal)
      exact_mod_cast rhe_mono (EReal.coe_le_coe_iff.1 h)

theorem rnd_b7 : rnd (b32 0x40E00000#32) = b32 0x40E00000#32 := by
  rw [b7]; show ((Ideal.roundHalfEven 7 : ℝ) : EReal) = _
  have := rhe_int 7; norm_num at this ⊢; rw [this]; norm_num
theorem rnd_b8 : rnd (b32 0xC1000000#32) = b32 0xC1000000#32 := by
  rw [b8]; show ((Ideal.roundHalfEven (-8) : ℝ) : EReal) = _
  have := rhe_int (-8); norm_num at this ⊢; rw [this]; norm_num

theorem b87 : b32 0xC1000000#32 ≤ b32 0x40E00000#32 := by
  rw [b7, b8]; exact_mod_cast (by norm_num : (-8 : ℝ) ≤ 7)

/-- The lower end of a weight's range. -/
def lo (s : EReal) : EReal := min (b32 0xC1000000#32 * s) (b32 0x40E00000#32 * s)
/-- The upper end of a weight's range. -/
def hi (s : EReal) : EReal := max (b32 0xC1000000#32 * s) (b32 0x40E00000#32 * s)

theorem div_coe (w : EReal) {r : ℝ} (hr : r ≠ 0) : Ideal.div w (r : EReal) = w * ((r⁻¹ : ℝ) : EReal) := by
  unfold Ideal.div; rw [if_neg (by exact_mod_cast hr), EReal.coe_inv]

theorem mul_cancel (w : EReal) {r : ℝ} (hr : r ≠ 0) : w * (r : EReal) * ((r⁻¹ : ℝ) : EReal) = w := by
  rw [mul_assoc, ← EReal.coe_mul, mul_inv_cancel₀ hr]; simp

theorem mul_cancel' (w : EReal) {r : ℝ} (hr : r ≠ 0) : w * ((r⁻¹ : ℝ) : EReal) * (r : EReal) = w := by
  rw [mul_assoc, ← EReal.coe_mul, inv_mul_cancel₀ hr]; simp

theorem mul_pos_mono {c : ℝ} (hc : 0 ≤ c) : Monotone fun w : EReal => w * (c : EReal) :=
  fun _ _ h => mul_le_mul_of_nonneg_right h (by exact_mod_cast hc)

theorem mul_neg_anti {c : ℝ} (hc : c ≤ 0) : Antitone fun w : EReal => w * (c : EReal) := by
  intro a b h
  have := mul_pos_mono (neg_nonneg.2 hc) h
  dsimp only at this ⊢
  rw [EReal.coe_neg, mul_neg, mul_neg] at this
  exact EReal.neg_le_neg_iff.1 this

theorem div_top (w : EReal) : Ideal.div w ⊤ = 0 := by
  unfold Ideal.div; rw [if_neg (by simp), EReal.inv_top, mul_zero]
theorem div_bot (w : EReal) : Ideal.div w ⊥ = 0 := by
  unfold Ideal.div; rw [if_neg (by simp), EReal.inv_bot, mul_zero]

theorem b8_top : b32 0xC1000000#32 * ⊤ = ⊥ := by rw [b8]; exact EReal.coe_mul_top_of_neg (by norm_num)
theorem b8_bot : b32 0xC1000000#32 * ⊥ = ⊤ := by rw [b8]; exact EReal.coe_mul_bot_of_neg (by norm_num)
theorem b7_top : b32 0x40E00000#32 * ⊤ = ⊤ := by rw [b7]; exact EReal.coe_mul_top_of_pos (by norm_num)
theorem b7_bot : b32 0x40E00000#32 * ⊥ = ⊥ := by rw [b7]; exact EReal.coe_mul_bot_of_pos (by norm_num)

theorem rnd_zero : rnd 0 = 0 := by
  show ((Ideal.roundHalfEven 0 : ℝ) : EReal) = 0
  have := rhe_int 0; norm_num at this ⊢; exact this

/-- The product with a step, divided by it again, doesn't fall below `-8` … -/
theorem not_under {s : EReal} (hs : s ≠ 0) :
    ¬ b32 0xC1000000#32 * s * Ideal.div 1 s < b32 0xC1000000#32 := by
  rw [Ideal.mul_one_div hs]
  induction s with
  | bot => rw [div_bot, b8]; exact not_lt.2 (by exact_mod_cast (by norm_num : (-8 : ℝ) ≤ 0))
  | top => rw [div_top, b8]; exact not_lt.2 (by exact_mod_cast (by norm_num : (-8 : ℝ) ≤ 0))
  | coe r =>
    have hr : r ≠ 0 := by exact_mod_cast hs
    rw [div_coe _ hr, mul_cancel _ hr]; exact lt_irrefl _

/-- … nor rise above `7`. -/
theorem not_over {s : EReal} (hs : s ≠ 0) :
    ¬ b32 0x40E00000#32 < b32 0x40E00000#32 * s * Ideal.div 1 s := by
  rw [Ideal.mul_one_div hs]
  induction s with
  | bot => rw [div_bot, b7]; exact not_lt.2 (by exact_mod_cast (by norm_num : (0 : ℝ) ≤ 7))
  | top => rw [div_top, b7]; exact not_lt.2 (by exact_mod_cast (by norm_num : (0 : ℝ) ≤ 7))
  | coe r =>
    have hr : r ≠ 0 := by exact_mod_cast hs
    rw [div_coe _ hr, mul_cancel _ hr]; exact lt_irrefl _

theorem lo_pos {r : ℝ} (hr : 0 < r) : lo (r : EReal) = b32 0xC1000000#32 * (r : EReal) :=
  min_eq_left (mul_pos_mono hr.le b87)
theorem hi_pos {r : ℝ} (hr : 0 < r) : hi (r : EReal) = b32 0x40E00000#32 * (r : EReal) :=
  max_eq_right (mul_pos_mono hr.le b87)
theorem lo_neg {r : ℝ} (hr : r < 0) : lo (r : EReal) = b32 0x40E00000#32 * (r : EReal) :=
  min_eq_right (mul_neg_anti hr.le b87)
theorem hi_neg {r : ℝ} (hr : r < 0) : hi (r : EReal) = b32 0xC1000000#32 * (r : EReal) :=
  max_eq_left (mul_neg_anti hr.le b87)

/-- The code by clipping the weight first. -/
theorem wc_of_clip (w : EReal) {s : EReal} (hs : s ≠ 0) :
    rnd (min (max w (lo s)) (hi s) * Ideal.div 1 s) = wc w s := by
  rw [Ideal.mul_one_div hs]; unfold wc
  have h0 : min (b32 0x40E00000#32) (max (b32 0xC1000000#32) (0 : EReal)) = 0 := by
    rw [b7, b8, max_eq_right (by exact_mod_cast (by norm_num : (-8 : ℝ) ≤ 0)), min_eq_right (by exact_mod_cast (by norm_num : (0 : ℝ) ≤ 7))]
  induction s with
  | bot => rw [div_bot, div_bot, rnd_zero, h0]
  | top => rw [div_top, div_top, rnd_zero, h0]
  | coe r =>
    have hr : r ≠ 0 := by exact_mod_cast hs
    rw [div_coe _ hr, div_coe _ hr]
    rcases lt_or_gt_of_ne hr with h | h
    · rw [lo_neg h, hi_neg h]
      have A := mul_neg_anti (inv_nonpos.2 h.le)
      have e := A.map_min (a := max w (b32 0x40E00000#32 * (r : EReal))) (b := b32 0xC1000000#32 * (r : EReal))
      rw [e]
      have e := A.map_max (a := w) (b := b32 0x40E00000#32 * (r : EReal))
      rw [e, mul_cancel _ hr, mul_cancel _ hr, rnd_mono.map_max, rnd_mono.map_min, rnd_b7, rnd_b8]
      rw [max_min_distrib_right, max_eq_left b87, min_comm, max_comm (rnd _)]
    · rw [lo_pos h, hi_pos h]
      have A := mul_pos_mono (inv_nonneg.2 h.le)
      have e := A.map_min (a := max w (b32 0xC1000000#32 * (r : EReal))) (b := b32 0x40E00000#32 * (r : EReal))
      rw [e]
      have e := A.map_max (a := w) (b := b32 0xC1000000#32 * (r : EReal))
      rw [e, mul_cancel _ hr, mul_cancel _ hr, rnd_mono.map_min, rnd_mono.map_max, rnd_b7, rnd_b8]
      rw [min_comm, max_comm (rnd _)]

theorem eq_clip {w l h : EReal} (hl : l ≤ h) : w = min (max w l) h ↔ l ≤ w ∧ w ≤ h := by
  constructor
  · intro e
    refine ⟨?_, ?_⟩
    · rw [e]; exact le_min (le_max_right _ _) hl
    · rw [e]; exact min_le_right _ _
  · rintro ⟨a, b⟩; rw [max_eq_left a, min_eq_left b]

/-- The clipping leaves a weight alone exactly when its quotient is in range. -/
theorem okW_iff (w : EReal) {s : EReal} (hs : s ≠ 0) : w = min (max w (lo s)) (hi s) ↔ okW w s := by
  have hlh : lo s ≤ hi s := le_trans (min_le_left _ _) (le_max_left _ _)
  rw [eq_clip hlh]; unfold okW
  have h0 : b32 0xC1000000#32 ≤ 0 ∧ 0 ≤ b32 0x40E00000#32 := by
    rw [b7, b8]; exact ⟨by exact_mod_cast (by norm_num : (-8 : ℝ) ≤ 0), by exact_mod_cast (by norm_num : (0 : ℝ) ≤ 7)⟩
  induction s with
  | bot => rw [div_bot]; simp only [lo, hi, b8_bot, b7_bot]; simp [h0]
  | top => rw [div_top]; simp only [lo, hi, b8_top, b7_top]; simp [h0]
  | coe r =>
    have hr : r ≠ 0 := by exact_mod_cast hs
    rw [div_coe _ hr]
    rcases lt_or_gt_of_ne hr with h | h
    · rw [lo_neg h, hi_neg h]
      have A := mul_neg_anti (inv_nonpos.2 h.le)
      have B := mul_neg_anti h.le
      constructor
      · rintro ⟨a, b⟩
        have a' := A a; have b' := A b; dsimp only at a' b'
        rw [mul_cancel _ hr] at a' b'; exact ⟨b', a'⟩
      · rintro ⟨a, b⟩
        have a' := B a; have b' := B b; dsimp only at a' b'
        rw [mul_cancel' _ hr] at a' b'; exact ⟨b', a'⟩
    · rw [lo_pos h, hi_pos h]
      have A := mul_pos_mono (inv_nonneg.2 h.le)
      have B := mul_pos_mono h.le
      constructor
      · rintro ⟨a, b⟩
        have a' := A a; have b' := A b; dsimp only at a' b'
        rw [mul_cancel _ hr] at a' b'; exact ⟨a', b'⟩
      · rintro ⟨a, b⟩
        have a' := B a; have b' := B b; dsimp only at a' b'
        rw [mul_cancel' _ hr] at a' b'; exact ⟨a', b'⟩

/-- A value carried through eight trips, each adding its share to what `val` reads. -/
theorem accTo_sum {β M : Type} [AddCommMonoid M] (step : Fin 8 → β → β) (a : β) (val : β → M) (g : Fin 8 → M)
    (h : ∀ j a, val (step j a) = val a + g j) : val (Cert.Slab.accTo step a 8) = val a + ∑ j, g j := by
  have e : Cert.Slab.accTo step a 8 = step 7 (step 6 (step 5 (step 4 (step 3 (step 2 (step 1 (step 0 a))))))) := rfl
  rw [e]; simp only [h, Fin.sum_univ_eight, add_assoc]

/-- Eight slabs of 512 make the long axis. -/
theorem sum_slabs (f : Fin 4096 → EReal) :
    ∑ j : Fin 8, ∑ x : Fin 512, f ⟨512 * j.val + x.val, by have := j.isLt; have := x.isLt; omega⟩ = ∑ k, f k := by
  rw [Fin.sum_univ_tiles 8 512 (by norm_num) f]
  refine Finset.sum_congr rfl fun j _ => Finset.sum_congr rfl fun x _ => congrArg f (Fin.ext ?_)
  show 512 * j.val + x.val = j.val * 512 + x.val; omega

/-- Fifty-six blocks of 256 make the hidden axis. -/
theorem sum_blocks (f : Fin 14336 → EReal) :
    ∑ t : Fin 56, ∑ x : Fin 256, f ⟨256 * t.val + x.val, by have := t.isLt; have := x.isLt; omega⟩ = ∑ k, f k := by
  rw [Fin.sum_univ_tiles 56 256 (by norm_num) f]
  refine Finset.sum_congr rfl fun j _ => Finset.sum_congr rfl fun x _ => congrArg f (Fin.ext ?_)
  show 256 * j.val + x.val = j.val * 256 + x.val; omega

/-- The long axis by the 128 lanes, each lane's share gathered slab by slab and four at a time. -/
theorem sum_lanes (f : Fin 4096 → EReal) :
    ∑ l : Fin 128, ∑ j : Fin 8, (f ⟨512 * j.val + l.val, by have := j.isLt; have := l.isLt; omega⟩
      + f ⟨512 * j.val + (128 + l.val), by have := j.isLt; have := l.isLt; omega⟩
      + f ⟨512 * j.val + (256 + l.val), by have := j.isLt; have := l.isLt; omega⟩
      + f ⟨512 * j.val + (384 + l.val), by have := j.isLt; have := l.isLt; omega⟩) = ∑ k, f k := by
  rw [← sum_slabs, Finset.sum_comm]
  refine Finset.sum_congr rfl fun j _ => ?_
  rw [Fin.sum_univ_tiles 4 128 (by norm_num) fun x : Fin 512 => f ⟨512 * j.val + x.val, by have := j.isLt; have := x.isLt; omega⟩]
  rw [Fin.sum_univ_four, Finset.sum_add_distrib, Finset.sum_add_distrib, Finset.sum_add_distrib]
  refine congrArg₂ _ (congrArg₂ _ (congrArg₂ _ ?_ ?_) ?_) ?_ <;>
    exact Finset.sum_congr rfl fun x _ => congrArg f (Fin.ext (by simp))

end Cert.Quant

end
-- ==== Proof.Math.lean ====
module

public import proofs.«01_k».proof.Proof.Quant

/-!
The results of the step, entry by entry, as plain mathematics over the extended reals.
-/

@[expose] public section

noncomputable section

namespace Cert.Quant

open Idealize.ShloMosaic
open scoped BigOperators

/-- What the step is given: activations, incoming gradient, norm weights, the three weight matrices, their
steps by output column, and the two activation steps. -/
structure In where
  X : Fin 256 → Fin 4096 → EReal
  DY : Fin 256 → Fin 4096 → EReal
  NW : Fin 4096 → EReal
  WG : Fin 4096 → Fin 14336 → EReal
  WU : Fin 4096 → Fin 14336 → EReal
  WD : Fin 14336 → Fin 4096 → EReal
  SG : Fin 14336 → EReal
  SU : Fin 14336 → EReal
  SD : Fin 4096 → EReal
  a : EReal
  b : EReal

variable (I : In)

/-- The reciprocal of a row's root mean square. -/
def R (i : Fin 256) : EReal :=
  Ideal.rsqrt (Ideal.div (∑ k, I.X i k * I.X i k) (b32 0x45800000#32) + b32 0x3727C5AC#32)
/-- The normalised activation over its step. -/
def V1 (i : Fin 256) (k : Fin 4096) : EReal := Ideal.div (I.X i k * R I i * I.NW k) I.a
/-- Its code. -/
def C1 (i : Fin 256) (k : Fin 4096) : EReal := ac (V1 I i k)
/-- The codes of the three weight matrices. -/
def CG (k : Fin 4096) (j : Fin 14336) : EReal := wc (I.WG k j) (I.SG j)
def CU (k : Fin 4096) (j : Fin 14336) : EReal := wc (I.WU k j) (I.SU j)
def CD (j : Fin 14336) (k : Fin 4096) : EReal := wc (I.WD j k) (I.SD k)
/-- The two projections. -/
def G (i : Fin 256) (j : Fin 14336) : EReal := (∑ k, C1 I i k * CG I k j) * I.a * I.SG j
def U (i : Fin 256) (j : Fin 14336) : EReal := (∑ k, C1 I i k * CU I k j) * I.a * I.SU j
/-- The logistic function, as it is computed. -/
def sgm (g : EReal) : EReal := Ideal.div 1 (1 + Ideal.exp (0 - g))
/-- The gated activation over its step. -/
def V2 (i : Fin 256) (j : Fin 14336) : EReal := Ideal.div (G I i j * sgm (G I i j) * U I i j) I.b
/-- Its code. -/
def C2 (i : Fin 256) (j : Fin 14336) : EReal := ac (V2 I i j)
/-- The sum of the output projection, before it is scaled. -/
def O0 (i : Fin 256) (k : Fin 4096) : EReal := ∑ j, C2 I i j * CD I j k
/-- The output projection. -/
def O (i : Fin 256) (k : Fin 4096) : EReal := O0 I i k * I.b * I.SD k
def Y (i : Fin 256) (k : Fin 4096) : EReal := I.X i k + O I i k
/-- The gradient of the gated activation, before and after its mask. -/
def DA2 (i : Fin 256) (j : Fin 14336) : EReal := ∑ k, I.DY i k * (I.SD k * CD I j k)
def DA (i : Fin 256) (j : Fin 14336) : EReal := if okA (V2 I i j) then DA2 I i j else 0
/-- The gradients of the two projections. -/
def DG (i : Fin 256) (j : Fin 14336) : EReal :=
  DA I i j * U I i j * sgm (G I i j) * (1 + G I i j * (1 - sgm (G I i j)))
def DU (i : Fin 256) (j : Fin 14336) : EReal := DA I i j * G I i j * sgm (G I i j)
/-- The gradient of the normalised activation, before and after its mask. -/
def DA1 (i : Fin 256) (k : Fin 4096) : EReal :=
  (∑ j, DG I i j * (I.SG j * CG I k j)) + ∑ j, DU I i j * (I.SU j * CU I k j)
def DN (i : Fin 256) (k : Fin 4096) : EReal := if okA (V1 I i k) then DA1 I i k else 0
/-- The gradients of the weights. -/
def DWG (k : Fin 4096) (j : Fin 14336) : EReal :=
  if okW (I.WG k j) (I.SG j) then (∑ i, C1 I i k * DG I i j) * I.a else 0
def DWU (k : Fin 4096) (j : Fin 14336) : EReal :=
  if okW (I.WU k j) (I.SU j) then (∑ i, C1 I i k * DU I i j) * I.a else 0
def DWD (j : Fin 14336) (k : Fin 4096) : EReal :=
  if okW (I.WD j k) (I.SD k) then (∑ i, C2 I i j * I.DY i k) * I.b else 0
/-- The gradient of the norm weights. -/
def DNW (k : Fin 4096) : EReal := ∑ i, DN I i k * I.X i k * R I i
/-- A row's share of the norm's gradient. -/
def DHD (i : Fin 256) : EReal :=
  R I i * Ideal.div (∑ k, DN I i k * I.NW k * I.X i k) (b32 0x45800000#32)
/-- The gradient of the activations. -/
def DX (i : Fin 256) (k : Fin 4096) : EReal :=
  I.DY i k + (R I i * (DN I i k * I.NW k) - I.X i k * (R I i * R I i) * DHD I i)

/-- Picking by two tests at once. -/
theorem sel_and {p q r : Prop} [Decidable p] [Decidable q] [Decidable r] (h : r ↔ p ∧ q) (x y : EReal) :
    Scalar.select (IntOp.andi (BitVec.ofBool (decide p)) (BitVec.ofBool (decide q))) x y = if r then x else y := by
  by_cases hp : p <;> by_cases hq : q <;> simp [h, hp, hq, Scalar.select, IntOp.andi]

/-- Picking by the range of an activation. -/
theorem sel_okA (v x y : EReal) : Scalar.select (IntOp.andi (BitVec.ofBool (decide (Ideal.ofBits .f32 3271557120#32 ≤ v)))
    (BitVec.ofBool (decide (v ≤ Ideal.ofBits .f32 1123942400#32)))) x y = if okA v then x else y :=
  sel_and (r := okA v) Iff.rfl x y

/-- Picking by the range of a weight. -/
theorem sel_okW (w s x y : EReal) : Scalar.select (IntOp.andi (BitVec.ofBool (decide (Ideal.ofBits .f32 3238002688#32 ≤ Ideal.div w s)))
    (BitVec.ofBool (decide (Ideal.div w s ≤ Ideal.ofBits .f32 1088421888#32)))) x y = if okW w s then x else y :=
  sel_and (r := okW w s) Iff.rfl x y

/-! Arrays with these entries. -/

/-- The matrix with the given entries. -/
def mat {α : Type} {m n : ℕ} (f : Fin m → Fin n → α) : (Cert.Slab.Sh m n).Idx → α := fun y => f (y 0) (y 1)

theorem mat_of {α : Type} {m n : ℕ} (x : (Cert.Slab.Sh m n).Idx → α) (f : Fin m → Fin n → α)
    (h : ∀ i j, x (ix2 i j) = f i j) : x = mat f := by
  funext y
  have e : y = ix2 (y 0) (y 1) := funext fun a => by revert a; exact Fin.forall_fin_two.mpr ⟨rfl, rfl⟩
  rw [e]; exact h _ _

end Cert.Quant

end
-- ==== Proof.Args.lean ====
module

public import proofs.«01_k».proof.Proof.Math

/-!
The step's inputs read off its eleven argument arrays.
-/

@[expose] public section

noncomputable section

namespace Cert.Quant

open Idealize.ShloMosaic

theorem cast_rows : (⟨3, ![2, 128, 4096]⟩ : Shape).ShapeCasts ⟨2, ![256, 4096]⟩ := by decide

/-- The inputs in argument order: the two token arrays are read as 256 rows. -/
def inOf (x dy : (⟨3, ![2, 128, 4096]⟩ : Shape).Idx → EReal) (nw : (⟨1, ![4096]⟩ : Shape).Idx → EReal)
    (wg wu : (⟨2, ![4096, 14336]⟩ : Shape).Idx → EReal) (wd : (⟨2, ![14336, 4096]⟩ : Shape).Idx → EReal)
    (sg su : (⟨1, ![14336]⟩ : Shape).Idx → EReal) (sd : (⟨1, ![4096]⟩ : Shape).Idx → EReal)
    (a b : (⟨0, ![]⟩ : Shape).Idx → EReal) : In where
  X i k := shapeCast ⟨2, ![256, 4096]⟩ x cast_rows (ix2 i k)
  DY i k := shapeCast ⟨2, ![256, 4096]⟩ dy cast_rows (ix2 i k)
  NW k := nw (ix1 k)
  WG k j := wg (ix2 k j)
  WU k j := wu (ix2 k j)
  WD j k := wd (ix2 j k)
  SG j := sg (ix1 j)
  SU j := su (ix1 j)
  SD k := sd (ix1 k)
  a := a ix0
  b := b ix0

end Cert.Quant

end
-- ==== Proof.KernMath.lean ====
module

public import proofs.«01_k».proof.Proof.KernelIdeal.StepSpec
public import proofs.«01_k».proof.Proof.Math
public import Idealize.ShloMosaic.Lib.Pointwise
public import Idealize.ShloMosaic.Lib.IdealHost

/-!
What the kernel's parts compute, entry by entry, at a grid point whose blocks lie at the columns `J` of the
hidden axis.
-/

@[expose] public section

set_option maxRecDepth 16384
set_option maxHeartbeats 1000000

noncomputable section

namespace Cert.KernelIdeal.Val

open Cert.KernelIdeal Cert.KernelIdeal.Gen Cert.KernelIdeal.Hand
open Cert.Slab
open Idealize.ShloMosaic Idealize.ShloMosaic.TcCoe
open Cert.Quant
open scoped BigOperators

/-- The long coordinate at place `l` of slab `j`. -/
abbrev kk (j : Fin 8) (l : Fin 512) : Fin 4096 := ⟨512 * j.val + l.val, by have := j.isLt; have := l.isLt; omega⟩

theorem cs_at {α : Type} {m : ℕ} (x : (Sh m 4096).Idx → α) (j : Fin 8) (i : Fin m) (l : Fin 512) :
    cs x j (ix2 i l) = x (ix2 i (kk j l)) := rfl
theorem rs_at {α : Type} {m : ℕ} (x : (Sh 4096 m).Idx → α) (j : Fin 8) (i : Fin m) (l : Fin 512) :
    rs x j (ix2 l i) = x (ix2 (kk j l) i) := rfl

theorem kk_sl (k : Fin 4096) : kk (sl k) (pos k) = k :=
  Fin.ext (by show 512 * (k.val / 512) + k.val % 512 = k.val; omega)

theorem ofC_of {α : Type} {m : ℕ} (w : Fin 8 → (Sh m 512).Idx → α) (f : Fin m → Fin 4096 → α)
    (h : ∀ j i l, w j (ix2 i l) = f i (kk j l)) (i : Fin m) (k : Fin 4096) : ofC w (ix2 i k) = f i k :=
  (h (sl k) i (pos k)).trans (congrArg (f i) (kk_sl k))
theorem ofR_of {α : Type} {m : ℕ} (w : Fin 8 → (Sh 512 m).Idx → α) (f : Fin 4096 → Fin m → α)
    (h : ∀ j l i, w j (ix2 l i) = f (kk j l) i) (k : Fin 4096) (i : Fin m) : ofR w (ix2 k i) = f k i :=
  (h (sl k) (pos k) i).trans (congrArg (fun z => f z i) (kk_sl k))

theorem if_okW (w : EReal) {s : EReal} (hs : s ≠ 0) [Decidable (w = min (max w (lo s)) (hi s))] (x y : EReal) :
    (if w = min (max w (lo s)) (hi s) then x else y) = if okW w s then x else y := if_congr (okW_iff w hs) rfl rfl

/-! ## Steps -/

section Steps
variable (s : FVec Ideal S1x256 .f32) (r : Fin 1) (l : Fin 256) (t : EReal) (h : s (ix2 r l) = t) (ht : t ≠ 0)
include h ht

theorem q92 : k0_pay92 (F := Ideal) s (ix2 r l) = Ideal.div 1 t := by
  pointwise [k0_pay92, k0_pay91, k0_pay89]; simp only [h, if_neg ht]
theorem q93 : k0_pay93 (F := Ideal) s (ix2 r l) = b32 0xC1000000#32 * t := by
  pointwise [k0_pay93, k0_pay92, k0_pay91, k0_pay89]; simp only [h, if_neg ht, if_neg (not_under ht)]
theorem q94 : k0_pay94 (F := Ideal) s (ix2 r l) = b32 0x40E00000#32 * t := by
  pointwise [k0_pay94, k0_pay91, k0_pay89]; simp only [h, if_neg ht]
theorem q95 : k0_pay95 (F := Ideal) s (ix2 r l) = b32 0x40E00000#32 * t * Ideal.div 1 t := by
  pointwise [k0_pay95, k0_pay94, k0_pay92, k0_pay91, k0_pay89]; simp only [h, if_neg ht]
theorem q48 : d_v48 (F := Ideal) s (ix2 r l) = lo t := by
  have e1 := q93 s r l t h ht
  have e2 := q94 s r l t h ht
  have e3 := q95 s r l t h ht
  unfold d_v48 d_v34 d_v38 d_v39
  pointwise [k0_pay97, k0_pay96]; simp only [e1, e2, e3, if_neg (not_over ht), lo]
theorem q50 : d_v50 (F := Ideal) s (ix2 r l) = hi t := by
  have e1 := q93 s r l t h ht
  have e2 := q94 s r l t h ht
  have e3 := q95 s r l t h ht
  unfold d_v50 d_v34 d_v38 d_v39
  pointwise [k0_pay98, k0_pay96]; simp only [e1, e2, e3, if_neg (not_over ht), hi]
theorem q56 : d_v56 (F := Ideal) s (ix2 r l) = Ideal.div 1 t := by
  unfold d_v56 d_v16
  pointwise [k0_pay100, k0_pay99, k0_pay90]; simp only [h, if_neg ht]
theorem q82 : d_v82 (F := Ideal) s (ix2 r l) = lo t := by
  unfold d_v82 d_v16
  pointwise [k0_pay103, k0_pay101, k0_pay102, k0_pay100, k0_pay99, k0_pay90]
  simp only [h, if_neg ht, if_neg (not_over ht), if_neg (not_under ht), lo]
theorem q84 : d_v84 (F := Ideal) s (ix2 r l) = hi t := by
  unfold d_v84 d_v16
  pointwise [k0_pay104, k0_pay101, k0_pay102, k0_pay100, k0_pay99, k0_pay90]
  simp only [h, if_neg ht, if_neg (not_over ht), if_neg (not_under ht), hi]
end Steps

section SD
variable (x : S1x4096.Idx → EReal) (D : Fin 4096 → EReal) (h : ∀ r k, x (ix2 r k) = D k) (hD : ∀ k, D k ≠ 0)
include h hD

theorem q37 (r k) : w2_37 (F := Ideal) x (ix2 r k) = Ideal.div 1 (D k) := by
  refine ofC_of _ (fun _ k => Ideal.div 1 (D k)) (fun j i l => ?_) r k
  pointwise [k0_pay13, k0_pay10, k0_pay9]
  simp only [cs_at, h, if_neg (hD _)]
theorem q38 (r k) : w2_38 (F := Ideal) x (ix2 r k) = lo (D k) := by
  refine ofC_of _ (fun _ k => lo (D k)) (fun j i l => ?_) r k
  pointwise [k0_pay14, k0_pay11, k0_pay12, k0_pay10, k0_pay9]
  simp only [cs_at, h, if_neg (hD _), if_neg (not_over (hD _)), if_neg (not_under (hD _)), lo]
theorem q39 (r k) : w2_39 (F := Ideal) x (ix2 r k) = hi (D k) := by
  refine ofC_of _ (fun _ k => hi (D k)) (fun j i l => ?_) r k
  pointwise [k0_pay15, k0_pay11, k0_pay12, k0_pay10, k0_pay9]
  simp only [cs_at, h, if_neg (hD _), if_neg (not_over (hD _)), if_neg (not_under (hD _)), hi]
end SD

/-! ## Codes -/

theorem q17 (v22 : FVec Ideal S1x256 .f32) (v48 v50 : FVec Ideal S1x256 .bf16) (x : Vec Ideal S512x256 .bf16) (r l) {s : EReal}
    (hs : s ≠ 0) (h22 : v22 (ix2 0 l) = Ideal.div 1 s) (h48 : v48 (ix2 0 l) = lo s) (h50 : v50 (ix2 0 l) = hi s) :
    k0_pay17 (F := Ideal) v22 v48 v50 x (ix2 r l) = wc (x (ix2 r l)) s := by
  pointwise [k0_pay17]; simp only [h22, h48, h50]; exact wc_of_clip _ hs
theorem q22 (v22 : FVec Ideal S1x256 .f32) (v48 v50 : FVec Ideal S1x256 .bf16) (x : Vec Ideal S512x256 .bf16) (r l) {s : EReal}
    (hs : s ≠ 0) (h22 : v22 (ix2 0 l) = Ideal.div 1 s) (h48 : v48 (ix2 0 l) = lo s) (h50 : v50 (ix2 0 l) = hi s) :
    k0_pay22 (F := Ideal) v22 v48 v50 x (ix2 r l) = wc (x (ix2 r l)) s := by
  pointwise [k0_pay22]; simp only [h22, h48, h50]; exact wc_of_clip _ hs
theorem q28 (x : Vec Ideal S256x512 .bf16) (v22 : Vec Ideal S1x512 .f32) (v48 v50 : Vec Ideal S1x512 .bf16) (r l) {s : EReal}
    (hs : s ≠ 0) (h22 : v22 (ix2 0 l) = Ideal.div 1 s) (h48 : v48 (ix2 0 l) = lo s) (h50 : v50 (ix2 0 l) = hi s) :
    k0_pay28 (F := Ideal) x v22 v48 v50 (ix2 r l) = wc (x (ix2 r l)) s := by
  pointwise [k0_pay28]; simp only [h22, h48, h50]; exact wc_of_clip _ hs

/-- A sum over the 128 lanes of what eight trips gathered into them, four columns of a slab at a time. -/
theorem acc_lanes (step : Fin 8 → FVec Ideal S256x128 .f32 → FVec Ideal S256x128 .f32) (a : FVec Ideal S256x128 .f32)
    (f : Fin 4096 → EReal) (i : Fin 256)
    (h : ∀ (j : Fin 8) (a : FVec Ideal S256x128 .f32) (l : Fin 128), step j a (ix2 i l) = a (ix2 i l) + (f ⟨512 * j.val + l.val, by have := j.isLt; have := l.isLt; omega⟩
      + f ⟨512 * j.val + (128 + l.val), by have := j.isLt; have := l.isLt; omega⟩
      + f ⟨512 * j.val + (256 + l.val), by have := j.isLt; have := l.isLt; omega⟩
      + f ⟨512 * j.val + (384 + l.val), by have := j.isLt; have := l.isLt; omega⟩))
    (h0 : ∀ l : Fin 128, a (ix2 i l) = 0) :
    ∑ l : Fin 128, accTo step a 8 (ix2 i l) = ∑ k, f k := by
  rw [← sum_lanes f]
  refine Finset.sum_congr rfl fun l _ => ?_
  refine (accTo_sum step a (fun a : FVec Ideal S256x128 .f32 => (a (ix2 i l) : EReal)) _ (fun j a => h j a l)).trans ?_
  show a (ix2 i l) + _ = _
  rw [h0 l]; exact zero_add _

/-! ## The first point -/

section First
variable (I : In) (ha : I.a ≠ 0) (x2 : S256x4096.Idx → EReal) (x4 : S1x4096.Idx → EReal)
variable (h2 : ∀ i k, x2 (ix2 i k) = I.X i k) (h4 : ∀ r k, x4 (ix2 r k) = I.NW k)

include h2 in
theorem q84R (i r) : k0_pay84 (F := Ideal) (w1_a0 x2) (ix2 i r) = R I i := by
  have e : ∑ l : Fin 128, w1_a0 (F := Ideal) x2 (ix2 i l) = ∑ k, I.X i k * I.X i k :=
    acc_lanes _ _ (fun k => I.X i k * I.X i k) i
      (fun j a l => by pointwise [k0_pay83]; simp only [cs_at, h2])
      (fun l => by pointwise [k0_pay82])
  pointwise [k0_pay84]
  simp only [e, mul_inv4096]; rfl
include ha h2 h4 in
theorem q5 (j i l) : k0_pay5 (F := Ideal) (k0_pay80 I.a) (k0_pay84 (w1_a0 x2)) (cs x2 j) (cs x4 j) (ix2 i l) = C1 I i (kk j l) := by
  have e := q84R I x2 h2 i
  pointwise [k0_pay5, k0_pay80]
  simp only [e, cs_at, h2, h4, Ideal.mul_one_div ha]; rfl
include ha h2 h4 in
theorem q32 (i k) : w2_32 (F := Ideal) I.a (w1_a0 x2) x2 x4 (ix2 i k) = C1 I i k := by
  refine ofC_of _ (fun i k => C1 I i k) (fun j i l => ?_) i k
  have e := q5 I ha x2 x4 h2 h4 j i l
  pointwise [k0_pay6]; exact e
include ha h2 h4 in
theorem q33 (k i) : w2_33 (F := Ideal) I.a (w1_a0 x2) x2 x4 (ix2 k i) = C1 I i k := by
  refine ofR_of _ (fun k i => C1 I i k) (fun j l i => ?_) k i
  have e := q5 I ha x2 x4 h2 h4 j i l
  pointwise [k0_pay7]; exact e
include ha h2 h4 in
theorem q27 (i k) : w2_27 (F := Ideal) I.a (w1_a0 x2) x2 x4 (ix2 i k) = FloatOps.fptosi (F := Ideal) (φ := .f32) 8 (C1 I i k) := by
  refine ofC_of _ (fun i k => FloatOps.fptosi (F := Ideal) (φ := .f32) 8 (C1 I i k)) (fun j i l => ?_) i k
  have e := q5 I ha x2 x4 h2 h4 j i l
  pointwise [k0_pay8]; rw [e]; rfl
end First

theorem at48 (z : S256x512.Idx → EReal) (q) : k0_pay48 (F := Ideal) z q = z q := by
  obtain ⟨i, j, rfl⟩ : ∃ (i : Fin 256) (j : Fin 512), q = ix2 i j := ⟨q 0, q 1, funext fun a => by fin_cases a <;> rfl⟩
  pointwise [k0_pay48]

/-! ## Any point -/

/-- The blocks and the arrays filled at the first point hold what `I` says, the hidden axis taken at the columns `J`. -/
structure Holds (I : In) (J : Fin 256 → Fin 14336) (x2 x3 : S256x4096.Idx → EReal) (x4 : S1x4096.Idx → EReal)
    (x5 x6 : S4096x256.Idx → EReal) (x7 : S256x4096.Idx → EReal) (x8 x9 : S1x256.Idx → EReal) (x10 : S1x4096.Idx → EReal)
    (x32 : S256x4096.Idx → EReal) (x33 : S4096x256.Idx → EReal) (x37 x38 x39 : S1x4096.Idx → EReal) : Prop where
  ha : I.a ≠ 0
  hb : I.b ≠ 0
  hG : ∀ j, I.SG j ≠ 0
  hU : ∀ j, I.SU j ≠ 0
  hD : ∀ k, I.SD k ≠ 0
  h2 : ∀ i k, x2 (ix2 i k) = I.X i k
  h3 : ∀ i k, x3 (ix2 i k) = I.DY i k
  h4 : ∀ r k, x4 (ix2 r k) = I.NW k
  h5 : ∀ k j, x5 (ix2 k j) = I.WG k (J j)
  h6 : ∀ k j, x6 (ix2 k j) = I.WU k (J j)
  h7 : ∀ j k, x7 (ix2 j k) = I.WD (J j) k
  h8 : ∀ r j, x8 (ix2 r j) = I.SG (J j)
  h9 : ∀ r j, x9 (ix2 r j) = I.SU (J j)
  h10 : ∀ r k, x10 (ix2 r k) = I.SD k
  h32 : ∀ i k, x32 (ix2 i k) = C1 I i k
  h33 : ∀ k i, x33 (ix2 k i) = C1 I i k
  h37 : ∀ r k, x37 (ix2 r k) = Ideal.div 1 (I.SD k)
  h38 : ∀ r k, x38 (ix2 r k) = lo (I.SD k)
  h39 : ∀ r k, x39 (ix2 r k) = hi (I.SD k)

section Point
variable {I : In} {J : Fin 256 → Fin 14336} {x2 x3 : S256x4096.Idx → EReal} {x4 : S1x4096.Idx → EReal}
    {x5 x6 : S4096x256.Idx → EReal} {x7 : S256x4096.Idx → EReal} {x8 x9 : S1x256.Idx → EReal} {x10 : S1x4096.Idx → EReal}
    {x32 : S256x4096.Idx → EReal} {x33 : S4096x256.Idx → EReal} {x37 x38 x39 : S1x4096.Idx → EReal}
variable (H : Holds I J x2 x3 x4 x5 x6 x7 x8 x9 x10 x32 x33 x37 x38 x39)
include H

theorem g17 (j l i) : k0_pay17 (F := Ideal) (d_v22 x8) (d_v48 x8) (d_v50 x8) (rs x5 j) (ix2 l i) = CG I (kk j l) (J i) :=
  (q17 _ _ _ _ _ _ (H.hG (J i)) (q92 x8 0 i _ (H.h8 0 i) (H.hG _)) (q48 x8 0 i _ (H.h8 0 i) (H.hG _))
    (q50 x8 0 i _ (H.h8 0 i) (H.hG _))).trans (congrArg (fun z => wc z _) (H.h5 (kk j l) i))
theorem g22 (j l i) : k0_pay22 (F := Ideal) (d_v56 x9) (d_v82 x9) (d_v84 x9) (rs x6 j) (ix2 l i) = CU I (kk j l) (J i) :=
  (q22 _ _ _ _ _ _ (H.hU (J i)) (q56 x9 0 i _ (H.h9 0 i) (H.hU _)) (q82 x9 0 i _ (H.h9 0 i) (H.hU _))
    (q84 x9 0 i _ (H.h9 0 i) (H.hU _))).trans (congrArg (fun z => wc z _) (H.h6 (kk j l) i))
theorem g28 (j i l) : k0_pay28 (F := Ideal) (cs x7 j) (cs x37 j) (cs x38 j) (cs x39 j) (ix2 i l) = CD I (J i) (kk j l) :=
  (q28 _ _ _ _ _ _ (H.hD (kk j l)) (H.h37 0 _) (H.h38 0 _) (H.h39 0 _)).trans
    (congrArg (fun z => wc z _) (H.h7 i (kk j l)))

theorem eG (i j) : d_G (F := Ideal) x5 x8 x32 (ix2 i j) = ∑ k, C1 I i k * CG I k (J j) := by
  unfold d_G w3_22
  refine (accTo_sum _ _ (fun a : S256x256.Idx → EReal => a (ix2 i j))
    (fun s => ∑ x : Fin 512, C1 I i (kk s x) * CG I (kk s x) (J j)) (fun s a => ?_)).trans ?_
  · have e := fun l => g17 H s l j
    pointwise [k0_pay21, k0_pay18]; simp only [e, cs_at, H.h32]
  · rw [sum_slabs fun k => C1 I i k * CG I k (J j)]
    unfold d_v85; pointwise [k0_pay105]
theorem eU (i j) : d_U (F := Ideal) x6 x9 x32 (ix2 i j) = ∑ k, C1 I i k * CU I k (J j) := by
  unfold d_U w3_23
  refine (accTo_sum _ _ (fun a : S256x256.Idx → EReal => a (ix2 i j))
    (fun s => ∑ x : Fin 512, C1 I i (kk s x) * CU I (kk s x) (J j)) (fun s a => ?_)).trans ?_
  · have e := fun l => g22 H s l j
    pointwise [k0_pay27, k0_pay23]; simp only [e, cs_at, H.h32]
  · rw [sum_slabs fun k => C1 I i k * CU I k (J j)]
    pointwise [k0_pay106]
theorem eDA2 (i j) : d_DA (F := Ideal) x3 x7 x10 x37 x38 x39 (ix2 i j) = DA2 I i (J j) := by
  unfold d_DA w3_25
  refine (accTo_sum _ _ (fun a : S256x256.Idx → EReal => a (ix2 i j))
    (fun s => ∑ x : Fin 512, I.DY i (kk s x) * (I.SD (kk s x) * CD I (J j) (kk s x))) (fun s a => ?_)).trans ?_
  · have e := fun l => g28 H s j l
    pointwise [k0_pay108, k0_pay31]; simp only [e, cs_at, H.h3, H.h10]
  · rw [sum_slabs fun k => I.DY i k * (I.SD k * CD I (J j) k)]
    pointwise [k0_pay107]; rfl

theorem e28 (k j) : d_n28 (F := Ideal) x5 x8 (ix2 k j) = FloatOps.fptosi (F := Ideal) (φ := .f32) 8 (CG I k (J j)) := by
  unfold d_n28 w3_28
  refine ofR_of _ (fun k j => FloatOps.fptosi (F := Ideal) (φ := .f32) 8 (CG I k (J j))) (fun s l i => ?_) k j
  have e := g17 H s l i
  pointwise [k0_pay19, k0_pay18]; rw [e]; rfl
theorem e29 (k j) : d_n29 (F := Ideal) x6 x9 (ix2 k j) = FloatOps.fptosi (F := Ideal) (φ := .f32) 8 (CU I k (J j)) := by
  unfold d_n29 w3_29
  refine ofR_of _ (fun k j => FloatOps.fptosi (F := Ideal) (φ := .f32) 8 (CU I k (J j))) (fun s l i => ?_) k j
  have e := g22 H s l i
  pointwise [k0_pay24, k0_pay23]; rw [e]; rfl
theorem e31 (j k) : d_n31 (F := Ideal) x7 x37 x38 x39 (ix2 j k) = FloatOps.fptosi (F := Ideal) (φ := .f32) 8 (CD I (J j) k) := by
  unfold d_n31 w3_31
  refine ofC_of _ (fun j k => FloatOps.fptosi (F := Ideal) (φ := .f32) 8 (CD I (J j) k)) (fun s i l => ?_) j k
  have e := g28 H s i l
  pointwise [k0_pay30, k0_pay29]; rw [e]; rfl
theorem e34 (k j) : d_n34 (F := Ideal) x5 x8 (ix2 k j) = I.SG (J j) * CG I k (J j) := by
  unfold d_n34 w3_34
  refine ofR_of _ (fun k j => I.SG (J j) * CG I k (J j)) (fun s l i => ?_) k j
  have e := g17 H s l i
  unfold d_v14
  pointwise [k0_pay20, k0_pay89]; rw [e]; simp only [H.h8]
theorem e35 (k j) : d_n35 (F := Ideal) x6 x9 (ix2 k j) = I.SU (J j) * CU I k (J j) := by
  unfold d_n35 w3_35
  refine ofR_of _ (fun k j => I.SU (J j) * CU I k (J j)) (fun s l i => ?_) k j
  have e := g22 H s l i
  unfold d_v16
  pointwise [k0_pay26, k0_pay25, k0_pay90]; rw [e]; simp only [H.h9]
theorem e36 (j k) : d_n36 (F := Ideal) x7 x37 x38 x39 (ix2 j k) = CD I (J j) k := by
  unfold d_n36 w3_36
  refine ofC_of _ (fun j k => CD I (J j) k) (fun s i l => ?_) j k
  have e := g28 H s i l
  pointwise [k0_pay32, k0_pay29]; rw [e]

theorem e101 (i j) : d_v101 (F := Ideal) I.a x5 x8 x32 (ix2 i j) = G I i (J j) := by
  have e := eG H i j
  unfold d_v101 d_v14
  pointwise [k0_pay112, k0_pay109, k0_pay89]; simp only [e, H.h8]; rfl
theorem e105 (i j) : d_v105 (F := Ideal) I.a x6 x9 x32 (ix2 i j) = U I i (J j) := by
  have e := eU H i j
  unfold d_v105 d_v16
  pointwise [k0_pay113, k0_pay110, k0_pay90]; simp only [e, H.h9]; rfl
theorem e114 (i j) : d_v114 (F := Ideal) I.a x5 x8 x32 (ix2 i j) = sgm (G I i (J j)) := by
  have e : k0_pay112 (F := Ideal) I.a (d_v14 (F := Ideal) x8) (d_G (F := Ideal) x5 x8 x32) (ix2 i j) = _ := e101 H i j
  unfold d_v114
  pointwise [k0_pay114]; simp only [e]; rfl
theorem e117 (i j) : k0_pay117 (F := Ideal) (d_v116 (F := Ideal) I.a x5 x6 x8 x9 x32) (d_v117 (F := Ideal) I.b) (ix2 i j) = V2 I i (J j) := by
  have e : k0_pay112 (F := Ideal) I.a (d_v14 (F := Ideal) x8) (d_G (F := Ideal) x5 x8 x32) (ix2 i j) = _ := e101 H i j
  have e' : k0_pay113 (F := Ideal) I.a (d_v16 (F := Ideal) x9) (d_U (F := Ideal) x6 x9 x32) (ix2 i j) = _ := e105 H i j
  have e'' : k0_pay114 (F := Ideal) I.a (d_v14 (F := Ideal) x8) (d_G (F := Ideal) x5 x8 x32) (ix2 i j) = _ := e114 H i j
  unfold d_v116 d_v117 d_v9
  pointwise [k0_pay117, k0_pay115, k0_pay116, k0_pay81]; simp only [e, e', e'', Ideal.mul_one_div H.hb]; rfl
theorem e126 (i j) : d_v126 (F := Ideal) I.a I.b x5 x6 x8 x9 x32 (ix2 i j) = C2 I i (J j) := by
  have e := e117 H i j
  unfold d_v126
  pointwise [k0_pay118]; simp only [e]; rfl
theorem e30 (i j) : d_n30 (F := Ideal) I.a I.b x5 x6 x8 x9 x32 (ix2 i j) = FloatOps.fptosi (F := Ideal) (φ := .f32) 8 (C2 I i (J j)) := by
  have e := e126 H i j
  unfold d_n30
  pointwise [k0_pay127, k0_pay126]; rw [e]; rfl
theorem e156 (i j) : d_v156 (F := Ideal) I.a I.b x3 x5 x6 x7 x8 x9 x10 x32 x37 x38 x39 (ix2 i j) = DA I i (J j) := by
  have e := e117 H i j
  have e' := eDA2 H i j
  unfold d_v156 d_v97
  pointwise [k0_pay122, k0_pay119, k0_pay111]; simp only [e, e', sel_okA]; rfl
theorem e158 (i j) : d_v158 (F := Ideal) I.a I.b x3 x5 x6 x7 x8 x9 x10 x32 x37 x38 x39 (ix2 i j) = DA I i (J j) * U I i (J j) * sgm (G I i (J j)) := by
  have e : k0_pay122 (F := Ideal) (d_v97 (F := Ideal) x3 x7 x10 x37 x38 x39) (d_v116 (F := Ideal) I.a x5 x6 x8 x9 x32) (d_v117 (F := Ideal) I.b) (ix2 i j) = _ := e156 H i j
  have e' := e105 H i j
  have e'' := e114 H i j
  unfold d_v158
  pointwise [k0_pay123]; simp only [e, e', e'']
theorem eDG (i j) : k0_pay124 (F := Ideal) (d_v101 (F := Ideal) I.a x5 x8 x32) (d_v114 (F := Ideal) I.a x5 x8 x32)
    (d_v158 (F := Ideal) I.a I.b x3 x5 x6 x7 x8 x9 x10 x32 x37 x38 x39) (1 : EReal) (ix2 i j) = DG I i (J j) := by
  have e := e101 H i j
  have e' := e114 H i j
  have e'' := e158 H i j
  pointwise [k0_pay124]; simp only [e, e', e'']; rfl
theorem eDU (i j) : k0_pay125 (F := Ideal) (d_v101 (F := Ideal) I.a x5 x8 x32) (d_v114 (F := Ideal) I.a x5 x8 x32)
    (d_v156 (F := Ideal) I.a I.b x3 x5 x6 x7 x8 x9 x10 x32 x37 x38 x39) (ix2 i j) = DU I i (J j) := by
  have e := e101 H i j
  have e' := e114 H i j
  have e'' := e156 H i j
  pointwise [k0_pay125]; simp only [e, e', e'']; rfl

theorem e13 (k j) : d_n13 (F := Ideal) I.a I.b x3 x5 x6 x7 x8 x9 x10 x32 x33 x37 x38 x39 (ix2 k j) = DWG I k (J j) := by
  unfold d_n13 w4_13
  refine ofR_of _ (fun k j => DWG I k (J j)) (fun s l i => ?_) k j
  have e := fun x => eDG H x i
  have f1 := q48 x8 0 i _ (H.h8 0 i) (H.hG _)
  have f2 := q50 x8 0 i _ (H.h8 0 i) (H.hG _)
  have f3 : d_v14 (F := Ideal) x8 (ix2 0 i) = I.SG (J i) := by unfold d_v14; pointwise [k0_pay89]; exact H.h8 _ _
  pointwise [k0_pay38, k0_pay35, k0_pay36, k0_pay37, k0_pay128]
  simp only [e, f1, f2, f3, rs_at, H.h5, H.h33, if_neg (H.hG (J i))]
  exact if_okW _ (H.hG _) _ _
theorem e14 (k j) : d_n14 (F := Ideal) I.a I.b x3 x5 x6 x7 x8 x9 x10 x32 x33 x37 x38 x39 (ix2 k j) = DWU I k (J j) := by
  unfold d_n14 w4_14
  refine ofR_of _ (fun k j => DWU I k (J j)) (fun s l i => ?_) k j
  have e := fun x => eDU H x i
  have f1 := q82 x9 0 i _ (H.h9 0 i) (H.hU _)
  have f2 := q84 x9 0 i _ (H.h9 0 i) (H.hU _)
  have f3 : d_v16 (F := Ideal) x9 (ix2 0 i) = I.SU (J i) := by unfold d_v16; pointwise [k0_pay90]; exact H.h9 _ _
  pointwise [k0_pay43, k0_pay40, k0_pay41, k0_pay42, k0_pay129]
  simp only [e, f1, f2, f3, rs_at, H.h6, H.h33, if_neg (H.hU (J i))]
  exact if_okW _ (H.hU _) _ _
theorem e15 (j k) : d_n15 (F := Ideal) I.a I.b x3 x5 x6 x7 x8 x9 x10 x32 x38 x39 (ix2 j k) = DWD I (J j) k := by
  unfold d_n15 w4_15
  refine ofC_of _ (fun j k => DWD I (J j) k) (fun s i l => ?_) j k
  have e := fun x => e126 H x i
  pointwise [k0_pay134, k0_pay131, k0_pay132, k0_pay133, k0_pay126, k0_pay46, k0_pay47]
  simp only [e, cs_at, H.h3, H.h7, H.h10, H.h38, H.h39, if_neg (H.hD _)]
  exact if_okW _ (H.hD _) _ _

theorem e24 (y : S256x4096.Idx → EReal) (i k) :
    d_n24 (F := Ideal) I.a I.b x5 x6 x7 x8 x9 x32 x37 x38 x39 y (ix2 i k) = y (ix2 i k) + ∑ x, C2 I i (J x) * CD I (J x) k := by
  unfold d_n24 w4_24
  refine ofC_of _ (fun i k => y (ix2 i k) + ∑ x, C2 I i (J x) * CD I (J x) k) (fun s i l => ?_) i k
  have e := fun x => e126 H i x
  have e' := fun x => e36 H x (kk s l)
  pointwise [k0_pay33, k0_pay126]
  simp only [e, e', cs_at]
theorem e26 (y : S256x4096.Idx → EReal) (i k) :
    d_n26 (F := Ideal) I.a I.b x3 x5 x6 x7 x8 x9 x10 x32 x37 x38 x39 y (ix2 i k) = y (ix2 i k)
      + (∑ x, DG I i (J x) * (I.SG (J x) * CG I k (J x)) + ∑ x, DU I i (J x) * (I.SU (J x) * CU I k (J x))) := by
  unfold d_n26 w4_26
  refine ofC_of _ (fun i k => y (ix2 i k)
      + (∑ x, DG I i (J x) * (I.SG (J x) * CG I k (J x)) + ∑ x, DU I i (J x) * (I.SU (J x) * CU I k (J x)))) (fun s i l => ?_) i k
  have e := fun x => eDG H i x
  have e1 := fun x => eDU H i x
  have e2 := fun x => e34 H (kk s l) x
  have e3 := fun x => e35 H (kk s l) x
  pointwise [k0_pay34]
  simp only [e, e1, e2, e3, cs_at, rs_at]

/-! ## The last point -/

theorem eR (i r) : k0_pay62 (F := Ideal) (d_e217 x2) (ix2 i r) = R I i := by
  have e : ∑ l : Fin 128, w5_a0 (F := Ideal) x2 (ix2 i l) = ∑ k, I.X i k * I.X i k :=
    acc_lanes _ _ (fun k => I.X i k * I.X i k) i
      (fun j a l => by pointwise [k0_pay61]; simp only [cs_at, H.h2])
      (fun l => by pointwise [k0_pay60])
  unfold d_e217
  pointwise [k0_pay62]
  simp only [e, mul_inv4096]; rfl

section Last
variable {y : S256x4096.Idx → EReal}

theorem e24' (hy : ∀ i k, d_n24 (F := Ideal) I.a I.b x5 x6 x7 x8 x9 x32 x37 x38 x39 y (ix2 i k) = O0 I i k) (i k) :
    d_e24 (F := Ideal) I.a I.b x5 x6 x7 x8 x9 x10 x32 x37 x38 x39 y (ix2 i k) = O I i k := by
  unfold d_e24 w6_24
  refine ofC_of _ (fun i k => O I i k) (fun s i l => ?_) i k
  pointwise [k0_pay51, k0_pay49]
  simp only [hy, cs_at, H.h10]; rfl
theorem e11 (hy : ∀ i k, d_n24 (F := Ideal) I.a I.b x5 x6 x7 x8 x9 x32 x37 x38 x39 y (ix2 i k) = O0 I i k) (i k) :
    d_e11 (F := Ideal) I.a I.b x2 x5 x6 x7 x8 x9 x10 x32 x37 x38 x39 y (ix2 i k) = Y I i k := by
  unfold d_e11 w6_11
  refine ofC_of _ (fun i k => Y I i k) (fun s i l => ?_) i k
  pointwise [k0_pay52, k0_pay48, k0_pay51, k0_pay49]
  simp only [hy, cs_at, H.h2, H.h10]; rfl

theorem e57 (s i l) : k0_pay55 (F := Ideal) (k0_pay80 (F := Ideal) I.a) (k0_pay62 (F := Ideal) (d_e217 (F := Ideal) x2)) (k0_pay48 (F := Ideal) (cs x2 s)) (cs x4 s) (ix2 i l) = V1 I i (kk s l) := by
  have e := eR H i
  pointwise [k0_pay55, k0_pay80, k0_pay48, k0_pay54]
  simp only [e, cs_at, H.h2, H.h4, Ideal.mul_one_div H.ha]; rfl

variable (hy : ∀ i k, d_n26 (F := Ideal) I.a I.b x3 x5 x6 x7 x8 x9 x10 x32 x37 x38 x39 y (ix2 i k) = DA1 I i k)
include hy

theorem e64 (s i l) : k0_pay64 (F := Ideal) (k0_pay53 (F := Ideal) (cs (d_n26 (F := Ideal) I.a I.b x3 x5 x6 x7 x8 x9 x10 x32 x37 x38 x39 y) s))
    (k0_pay57 (F := Ideal) (k0_pay80 (F := Ideal) I.a) (k0_pay62 (F := Ideal) (d_e217 (F := Ideal) x2)) (k0_pay48 (F := Ideal) (cs x2 s)) (cs x4 s)) (ix2 i l) = DN I i (kk s l) := by
  have e := e57 H s i l
  pointwise [k0_pay64, k0_pay53, k0_pay57]
  simp only [e, cs_at, hy, sel_okA]; rfl
theorem e21 (r k) : d_e21 (F := Ideal) I.a I.b x2 x3 x4 x5 x6 x7 x8 x9 x10 x32 x37 x38 x39 y (ix2 r k) = DNW I k := by
  unfold d_e21 w6_21
  refine ofC_of _ (fun _ k => DNW I k) (fun s i l => ?_) r k
  have e := fun i => e64 H hy s i l
  have e' := fun i => eR H i 0
  unfold d_e6
  pointwise [k0_pay65]
  simp only [e, e', at48, cs_at, H.h2]; rfl
theorem e250 (i r) : d_e250 (F := Ideal) I.a I.b x2 x3 x4 x5 x6 x7 x8 x9 x10 x32 x37 x38 x39 y (ix2 i r) = DHD I i := by
  have e : ∑ l : Fin 128, d_ea2 (F := Ideal) I.a I.b x2 x3 x4 x5 x6 x7 x8 x9 x10 x32 x37 x38 x39 y (ix2 i l) = ∑ k, DN I i k * I.NW k * I.X i k := by
    unfold d_ea2 w6_a2 d_e6
    refine acc_lanes _ _ (fun k => DN I i k * I.NW k * I.X i k) i (fun j a l => ?_) (fun l => by pointwise [k0_pay63])
    have e := fun l => e64 H hy j i l
    pointwise [k0_pay66, k0_pay54]; simp only [e, at48, cs_at, H.h2, H.h4]
  have e' := eR H i
  unfold d_e250 d_e247 d_e224
  pointwise [k0_pay72, k0_pay71]
  simp only [e, e', mul_inv4096]; rfl
theorem e12 (i k) : d_e12 (F := Ideal) I.a I.b x2 x3 x4 x5 x6 x7 x8 x9 x10 x32 x37 x38 x39 y (ix2 i k) = DX I i k := by
  unfold d_e12 w7_12
  refine ofC_of _ (fun i k => DX I i k) (fun s i l => ?_) i k
  have e := e57 H s i l
  have e1 := eR H i
  have e2 := e250 H hy i
  unfold d_e6 d_e224
  pointwise [k0_pay4, k0_pay80]
  simp only [e1, e2, cs_at, H.h2, H.h3, H.h4, hy, Ideal.mul_one_div H.ha, sel_okA]
  by_cases h : okA (V1 I i (kk s l))
  · have h' : okA (Ideal.div (I.X i (kk s l) * R I i * I.NW (kk s l)) I.a) := h
    simp only [DX, DN, if_pos h, if_pos h']
  · have h' : ¬ okA (Ideal.div (I.X i (kk s l) * R I i * I.NW (kk s l)) I.a) := h
    simp only [DX, DN, if_neg h, if_neg h', zero_mul, mul_zero]
end Last
end Point

end Cert.KernelIdeal.Val

end
-- ==== Proof.KernArgs.lean ====
module

public import proofs.«01_k».proof.Proof.Args
public import proofs.«01_k».proof.Proof.KernMath
public import proofs.«01_k».proof.Proof.KernelIdeal.Data
public import Idealize.ShloMosaic.Lib.Pipeline.ValueKit.Geometry
public import Idealize.ShloMosaic.Lib.Claim
public import Idealize.ShloMosaic.Lib.Pointwise
public import Idealize.ShloMosaic.Lib.IdealHost
public import Idealize.ShloMosaic.Lib.ValueLayout

/-!
What the kernel's windows hold at each grid point, by the kernel's arguments.
-/

@[expose] public section

set_option maxRecDepth 16384

noncomputable section

namespace Cert.KernelIdeal.Val

open Cert.KernelIdeal Cert.KernelIdeal.Gen Cert.KernelIdeal.Hand Cert.Quant Cert.Slab
open Idealize.ShloMosaic Idealize.ShloMosaic.TcCoe
open Idealize.ShloMosaic.Pipeline (Dat RDat)

variable (m : (ℓ : Loc nD τ sig) → Buf (Elt Ideal) ℓ) (c : Dev nD)

/-- The inputs the kernel is given. -/
def inK : In := inOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10))

theorem V2 : V m c main_v2 = concatenate S2 0 [⟨S1, broadcastInDim S1 ![] bcast_S_S1 (m ((c : Thread nD τ).loc main_arg9))⟩,
    ⟨S1, broadcastInDim S1 ![] bcast_S_S1 (m ((c : Thread nD τ).loc main_arg10))⟩] concatenates_S1_S1_S2_d0 := by
  unfold_abbrev_sides; after_results
theorem V3 : V m c main_v3 = shapeCast S256x4096 (m ((c : Thread nD τ).loc main_arg0)) shapeCasts_S2x128x4096_S256x4096 := by
  unfold_abbrev_sides; after_results; rfl
theorem V4 : V m c main_v4 = shapeCast S256x4096 (m ((c : Thread nD τ).loc main_arg1)) shapeCasts_S2x128x4096_S256x4096 := by
  unfold_abbrev_sides; after_results; rfl
theorem V5 : V m c main_v5 = shapeCast S1x4096 (m ((c : Thread nD τ).loc main_arg2)) shapeCasts_S4096_S1x4096 := by
  unfold_abbrev_sides; after_results; rfl
theorem V6 : V m c main_v6 = shapeCast S1x14336 (m ((c : Thread nD τ).loc main_arg6)) shapeCasts_S14336_S1x14336 := by
  unfold_abbrev_sides; after_results; rfl
theorem V7 : V m c main_v7 = shapeCast S1x14336 (m ((c : Thread nD τ).loc main_arg7)) shapeCasts_S14336_S1x14336 := by
  unfold_abbrev_sides; after_results; rfl
theorem V8 : V m c main_v8 = shapeCast S1x4096 (m ((c : Thread nD τ).loc main_arg8)) shapeCasts_S4096_S1x4096 := by
  unfold_abbrev_sides; after_results; rfl

/-- Column `j` of the block that grid point `t` works on. -/
def jj (t : Fin cfg0.N) (j : Fin 256) : Fin 14336 := ⟨t.val * 256 + j.val, by have h : t.val < 56 := t.isLt; omega⟩

theorem x0 : ∀ t : Fin cfg0.N, win0_0.index t = ![0] := by decide +kernel
theorem x1 : ∀ t : Fin cfg0.N, win0_1.index t = ![0, 0] := by decide +kernel
theorem x2 : ∀ t : Fin cfg0.N, win0_2.index t = ![0, 0] := by decide +kernel
theorem x3 : ∀ t : Fin cfg0.N, win0_3.index t = ![0, 0] := by decide +kernel
theorem x4 : ∀ t : Fin cfg0.N, win0_4.index t = ![0, t.val] := by decide +kernel
theorem x5 : ∀ t : Fin cfg0.N, win0_5.index t = ![0, t.val] := by decide +kernel
theorem x6 : ∀ t : Fin cfg0.N, win0_6.index t = ![t.val, 0] := by decide +kernel
theorem x7 : ∀ t : Fin cfg0.N, win0_7.index t = ![0, t.val] := by decide +kernel
theorem x8 : ∀ t : Fin cfg0.N, win0_8.index t = ![0, t.val] := by decide +kernel
theorem x9 : ∀ t : Fin cfg0.N, win0_9.index t = ![0, 0] := by decide +kernel

variable (t : Fin cfg0.N)
theorem at2 (i k) : b2 m c t (ix2 i k) = (inK m c).X i k := by
  have e : b2 m c t (ix2 i k) = V m c main_v3 (ix2 i k) := by blk_ext [iblk, x1 t]
  rw [e, V3]; rfl
theorem at3 (i k) : b3 m c t (ix2 i k) = (inK m c).DY i k := by
  have e : b3 m c t (ix2 i k) = V m c main_v4 (ix2 i k) := by blk_ext [iblk, x2 t]
  rw [e, V4]; rfl
theorem at4 (r k) : b4 m c t (ix2 r k) = (inK m c).NW k := by
  have e : b4 m c t (ix2 r k) = V m c main_v5 (ix2 r k) := by blk_ext [iblk, x3 t]
  rw [e, V5]; exact ValueIdx.shapeCast_a_1a_apply _ _ r _
theorem at5 (k j) : b5 m c t (ix2 k j) = (inK m c).WG k (jj t j) := by
  have e : b5 m c t (ix2 k j) = V m c main_arg3 (ix2 k (jj t j)) := by blk_ext [iblk, x4 t, jj]
  rw [e, V_main_arg3]; rfl
theorem at6 (k j) : b6 m c t (ix2 k j) = (inK m c).WU k (jj t j) := by
  have e : b6 m c t (ix2 k j) = V m c main_arg4 (ix2 k (jj t j)) := by blk_ext [iblk, x5 t, jj]
  rw [e, V_main_arg4]; rfl
theorem at7 (j k) : b7 m c t (ix2 j k) = (inK m c).WD (jj t j) k := by
  have e : b7 m c t (ix2 j k) = V m c main_arg5 (ix2 (jj t j) k) := by blk_ext [iblk, x6 t, jj]
  rw [e, V_main_arg5]; rfl
theorem at8 (r j) : b8 m c t (ix2 r j) = (inK m c).SG (jj t j) := by
  have e : b8 m c t (ix2 r j) = V m c main_v6 (ix2 r (jj t j)) := by blk_ext [iblk, x7 t, jj]
  rw [e, V6]; exact ValueIdx.shapeCast_a_1a_apply _ _ r _
theorem at9 (r j) : b9 m c t (ix2 r j) = (inK m c).SU (jj t j) := by
  have e : b9 m c t (ix2 r j) = V m c main_v7 (ix2 r (jj t j)) := by blk_ext [iblk, x8 t, jj]
  rw [e, V7]; exact ValueIdx.shapeCast_a_1a_apply _ _ r _
theorem at10 (r k) : b10 m c t (ix2 r k) = (inK m c).SD k := by
  have e : b10 m c t (ix2 r k) = V m c main_v8 (ix2 r k) := by blk_ext [iblk, x9 t]
  rw [e, V8]; exact ValueIdx.shapeCast_a_1a_apply _ _ r _
theorem at1a : s0 (b1 m c t) = (inK m c).a := by
  have e : s0 (b1 m c t) = V m c main_v2 (ix1 0) := by unfold s0; blk_ext [iblk, x0 t]; rfl
  rw [e, V2]; pointwise [ValueIdx.broadcastInDim_scalar_apply]; rfl
theorem at1b : s1 (b1 m c t) = (inK m c).b := by
  have e : s1 (b1 m c t) = V m c main_v2 (ix1 1) := by unfold s1; blk_ext [iblk, x0 t]; rfl
  rw [e, V2]; pointwise [ValueIdx.broadcastInDim_scalar_apply]; rfl

end Cert.KernelIdeal.Val

end
-- ==== Proof.KernPoint.lean ====
module

public import proofs.«01_k».proof.Proof.KernArgs

/-!
The blocks at each grid point, and the two running sums.
-/

@[expose] public section

set_option maxRecDepth 16384

noncomputable section

namespace Cert.KernelIdeal.Val

open Cert.KernelIdeal Cert.KernelIdeal.Gen Cert.KernelIdeal.Hand Cert.Quant Cert.Slab
open Idealize.ShloMosaic Idealize.ShloMosaic.TcCoe
open Idealize.ShloMosaic.Pipeline (Dat RDat)
open scoped BigOperators

variable (m : (ℓ : Loc nD τ sig) → Buf (Elt Ideal) ℓ) (c : Dev nD)

/-- No step of the inputs is zero. -/
structure Steps (I : In) : Prop where
  ha : I.a ≠ 0
  hb : I.b ≠ 0
  hG : ∀ j, I.SG j ≠ 0
  hU : ∀ j, I.SU j ≠ 0
  hD : ∀ k, I.SD k ≠ 0

variable (N : Steps (inK m c))
include N

theorem at32 (i k) : c32 m c (ix2 i k) = C1 (inK m c) i k := by
  rw [c32, at1a]; exact q32 (inK m c) N.ha _ _ (at2 m c t0) (at4 m c t0) i k
theorem at33 (k i) : c33 m c (ix2 k i) = C1 (inK m c) i k := by
  rw [c33, at1a]; exact q33 (inK m c) N.ha _ _ (at2 m c t0) (at4 m c t0) k i
theorem at27 (i k) : cc1 m c (ix2 i k) = FloatOps.fptosi (F := Ideal) (φ := .f32) 8 (C1 (inK m c) i k) := by
  rw [cc1, at1a]; exact q27 (inK m c) N.ha _ _ (at2 m c t0) (at4 m c t0) i k
theorem at37 (r k) : c37 m c (ix2 r k) = Ideal.div 1 ((inK m c).SD k) := by
  rw [c37]; exact q37 _ _ (at10 m c t0) N.hD r k
theorem at38 (r k) : c38 m c (ix2 r k) = lo ((inK m c).SD k) := by
  rw [c38]; exact q38 _ _ (at10 m c t0) N.hD r k
theorem at39 (r k) : c39 m c (ix2 r k) = hi ((inK m c).SD k) := by
  rw [c39]; exact q39 _ _ (at10 m c t0) N.hD r k

theorem holdsK (t : Fin cfg0.N) : Holds (inK m c) (jj t) (b2 m c t) (b3 m c t) (b4 m c t) (b5 m c t) (b6 m c t) (b7 m c t) (b8 m c t) (b9 m c t) (b10 m c t)
    (c32 m c) (c33 m c) (c37 m c) (c38 m c) (c39 m c) :=
  ⟨N.ha, N.hb, N.hG, N.hU, N.hD, at2 m c t, at3 m c t, at4 m c t, at5 m c t, at6 m c t, at7 m c t, at8 m c t, at9 m c t, at10 m c t,
    at32 m c N, at33 m c N, at37 m c N, at38 m c N, at39 m c N⟩

omit N in
theorem sum_points (f : Fin 14336 → EReal) : ∑ u ∈ Finset.range 56, ∑ x, f (jj (tt u) x) = ∑ k, f k := by
  rw [Finset.sum_range, ← sum_blocks f]
  refine Finset.sum_congr rfl fun t _ => Finset.sum_congr rfl fun x _ => congrArg f (Fin.ext ?_)
  show t.val % 56 * 256 + x.val = 256 * t.val + x.val
  have := t.isLt; omega

theorem sum24 (n : ℕ) (i k) : P24 m c n (ix2 i k)
    = ∑ u ∈ Finset.range n, ∑ x, C2 (inK m c) i (jj (tt u) x) * CD (inK m c) (jj (tt u) x) k := by
  induction n with
  | zero =>
    rw [Finset.sum_range_zero, P24]
    exact ofC_of _ (fun _ _ => (0 : EReal)) (fun j i l => by pointwise [k0_pay16]) i k
  | succ n ih => rw [Finset.sum_range_succ, ← ih, P24, at1a, at1b]; exact e24 (holdsK m c N (tt n)) _ i k

theorem sum26 (n : ℕ) (i k) : P26 m c n (ix2 i k)
    = ∑ u ∈ Finset.range n, (∑ x, DG (inK m c) i (jj (tt u) x) * ((inK m c).SG (jj (tt u) x) * CG (inK m c) k (jj (tt u) x))
      + ∑ x, DU (inK m c) i (jj (tt u) x) * ((inK m c).SU (jj (tt u) x) * CU (inK m c) k (jj (tt u) x))) := by
  induction n with
  | zero =>
    rw [Finset.sum_range_zero, P26]
    exact ofC_of _ (fun _ _ => (0 : EReal)) (fun j i l => by pointwise [k0_pay85]) i k
  | succ n ih => rw [Finset.sum_range_succ, ← ih, P26, at1a, at1b]; exact e26 (holdsK m c N (tt n)) _ i k

theorem all24 (i k) : P24 m c 56 (ix2 i k) = O0 (inK m c) i k := by
  rw [sum24 m c N]; exact sum_points fun j => C2 (inK m c) i j * CD (inK m c) j k
theorem all26 (i k) : P26 m c 56 (ix2 i k) = DA1 (inK m c) i k := by
  rw [sum26 m c N, Finset.sum_add_distrib]
  exact congrArg₂ (· + ·) (sum_points fun j => DG (inK m c) i j * ((inK m c).SG j * CG (inK m c) k j))
    (sum_points fun j => DU (inK m c) i j * ((inK m c).SU j * CU (inK m c) k j))

theorem last24 (t : Fin cfg0.N) (ht : t.val = 55) (i k) : d_n24 (F := Ideal) (inK m c).a (inK m c).b (b5 m c t) (b6 m c t) (b7 m c t) (b8 m c t) (b9 m c t)
    (c32 m c) (c37 m c) (c38 m c) (c39 m c) (P24 m c t.val) (ix2 i k) = O0 (inK m c) i k := by
  have h := P24_succ m c t
  rw [at1a, at1b] at h
  rw [← h, ht]; exact all24 m c N i k
theorem last26 (t : Fin cfg0.N) (ht : t.val = 55) (i k) : d_n26 (F := Ideal) (inK m c).a (inK m c).b (b3 m c t) (b5 m c t) (b6 m c t) (b7 m c t) (b8 m c t) (b9 m c t)
    (b10 m c t) (c32 m c) (c37 m c) (c38 m c) (c39 m c) (P26 m c t.val) (ix2 i k) = DA1 (inK m c) i k := by
  have h := P26_succ m c t
  rw [at1a, at1b] at h
  rw [← h, ht]; exact all26 m c N i k

end Cert.KernelIdeal.Val

end
-- ==== Proof.PreSteps.lean ====
module

public import proofs.«01_k».proof.Defs
public import proofs.«01_k».proof.Proof.KernPoint
public import Idealize.ShloMosaic.Lib.Pointwise
public import Idealize.ShloMosaic.Lib.IdealHost

/-!
The precondition says that no step is zero.
-/

@[expose] public section

set_option maxRecDepth 16384

noncomputable section

namespace Cert.Proof

open Idealize.ShloMosaic Cert.Quant

theorem facts_pre : Cert.Pre_steps_nonzero.Facts := ⟨by decide, by decide⟩

/-- A comparison with zero that reads one says the compared number is not zero. -/
theorem ne_zero_at {s : Shape} (x y : FVec Ideal s .f32) (i : s.Idx) (hy : y i = (0 : EReal))
    (h : cmpf (F := Ideal) .une x y = fun _ => 1#1) : x i ≠ (0 : EReal) := by
  intro hx
  have h1 := congrFun h i
  pointwise [] at h1
  revert h1; rw [hx, hy]; simp

attribute [local instance] facts_pre in
theorem steps_of (m : (ℓ : Loc Cert.KernelIdeal.nD Cert.KernelIdeal.τ Cert.KernelIdeal.sig) → Buf (Elt Ideal) ℓ)
    (h : Cert.Pre_KernelIdeal_steps_nonzero (hPre_steps_nonzero := facts_pre) m) (c : Dev Cert.KernelIdeal.nD) :
    Cert.KernelIdeal.Val.Steps (Cert.KernelIdeal.Val.inK m c) := by
  obtain ⟨h1, h2, h3, h4, h5⟩ := h c
  exact ⟨ne_zero_at _ _ ix0 (by pointwise []) h4, ne_zero_at _ _ ix0 (by pointwise []) h5,
    fun j => ne_zero_at _ _ (ix1 j) (by pointwise [ValueIdx.broadcastInDim_scalar_apply]) h1, fun j => ne_zero_at _ _ (ix1 j) (by pointwise [ValueIdx.broadcastInDim_scalar_apply]) h2,
    fun j => ne_zero_at _ _ (ix1 j) (by pointwise [ValueIdx.broadcastInDim_scalar_apply]) h3⟩

end Cert.Proof

end
-- ==== Proof.KernValue.lean ====
module

public import proofs.«01_k».proof.Proof.KernPoint
public import Idealize.ShloMosaic.Lib.Pipeline.ArrRel

/-!
What the kernel's arrays hold after its run, by its arguments.
-/

@[expose] public section

set_option maxRecDepth 16384

noncomputable section

namespace Cert.KernelIdeal.Val

open Cert.KernelIdeal Cert.KernelIdeal.Gen Cert.KernelIdeal.Hand Cert.Quant Cert.Slab
open Idealize.ShloMosaic Idealize.ShloMosaic.TcCoe
open Idealize.ShloMosaic.Pipeline (Dat RDat)
open scoped BigOperators

variable (m : (ℓ : Loc nD τ sig) → Buf (Elt Ideal) ℓ) (c : Dev nD)

theorem x10 : ∀ t : Fin cfg0.N, win0_10.index t = ![0, 0] := by decide +kernel
theorem x11 : ∀ t : Fin cfg0.N, win0_11.index t = ![0, 0] := by decide +kernel
theorem x12 : ∀ t : Fin cfg0.N, win0_12.index t = ![0, t.val] := by decide +kernel
theorem x13 : ∀ t : Fin cfg0.N, win0_13.index t = ![0, t.val] := by decide +kernel
theorem x14 : ∀ t : Fin cfg0.N, win0_14.index t = ![t.val, 0] := by decide +kernel
theorem x20 : ∀ t : Fin cfg0.N, win0_20.index t = ![0, 0] := by decide +kernel
theorem x21 : ∀ t : Fin cfg0.N, win0_21.index t = ![0, t.val] := by decide +kernel
theorem x22 : ∀ t : Fin cfg0.N, win0_22.index t = ![0, t.val] := by decide +kernel
theorem x23 : ∀ t : Fin cfg0.N, win0_23.index t = ![0, 0] := by decide +kernel
theorem x24 : ∀ t : Fin cfg0.N, win0_24.index t = ![0, t.val] := by decide +kernel
theorem x25 : ∀ t : Fin cfg0.N, win0_25.index t = ![0, 0] := by decide +kernel
theorem x26 : ∀ t : Fin cfg0.N, win0_26.index t = ![0, 0] := by decide +kernel
theorem x27 : ∀ t : Fin cfg0.N, win0_27.index t = ![0, t.val] := by decide +kernel
theorem x28 : ∀ t : Fin cfg0.N, win0_28.index t = ![0, t.val] := by decide +kernel
theorem x29 : ∀ t : Fin cfg0.N, win0_29.index t = ![0, t.val] := by decide +kernel
theorem x30 : ∀ t : Fin cfg0.N, win0_30.index t = ![t.val, 0] := by decide +kernel
theorem l10 : ∀ t : Fin cfg0.N, (cfg0.win 10).flush t = true → t.val = 55 := by decide +kernel
theorem l11 : ∀ t : Fin cfg0.N, (cfg0.win 11).flush t = true → t.val = 55 := by decide +kernel
theorem l20 : ∀ t : Fin cfg0.N, (cfg0.win 20).flush t = true → t.val = 55 := by decide +kernel
theorem l23 : ∀ t : Fin cfg0.N, (cfg0.win 23).flush t = true → t.val = 55 := by decide +kernel
theorem l25 : ∀ t : Fin cfg0.N, (cfg0.win 25).flush t = true → t.val = 55 := by decide +kernel
theorem l26 : ∀ t : Fin cfg0.N, (cfg0.win 26).flush t = true → t.val = 55 := by decide +kernel

variable (N : Steps (inK m c))
variable (after : (w' : Fin cfg0.W) → Fin cfg0.N → (cfg0.win w').block.Idx → Elt Ideal (cfg0.win w').elt)
variable (hL : ∀ (w : Fin cfg0.W) (u : Fin cfg0.N), (cfg0.win w).flush u = true → (rdat m c).Leaves w u (after w u))
include N hL

theorem end10 : ((rdat m c).withAfter after).arrAt 10 cfg0.N = mat (Y (inK m c)) := by
  refine ((rdat m c).withAfter after).arrAt_eq_of_covers 10 _ (by decide +kernel) fun t hf y => ?_
  blk_simp
  obtain ⟨_, _, h⟩ := hL 10 t hf
  have ht := l10 t hf
  have h' : after 10 t = ((d_e11 (s0 (b1 m c t)) (s1 (b1 m c t)) (b2 m c t) (b5 m c t) (b6 m c t) (b7 m c t) (b8 m c t) (b9 m c t) (b10 m c t) (c32 m c) (c37 m c) (c38 m c) (c39 m c) (P24 m c t.val)) : S256x4096.Idx → Elt Ideal .bf16) := h ht
  rw [at1a, at1b] at h'; rw [RDat.withAfter_after, h']
  obtain ⟨i, j, rfl⟩ : ∃ (i : Fin 256) (j : Fin 4096), y = ix2 i j := ⟨y 0, y 1, funext fun a => by fin_cases a <;> rfl⟩
  have e : (win0_10.blk t).view.emb (ix2 i j) = ix2 i j := by blk_ext [x10 t, jj]
  refine Eq.trans ?_ (congrArg (mat (Y (inK m c))) e).symm
  exact e11 (holdsK m c N t) (last24 m c N t ht) i j

theorem end11 : ((rdat m c).withAfter after).arrAt 11 cfg0.N = mat (DX (inK m c)) := by
  refine ((rdat m c).withAfter after).arrAt_eq_of_covers 11 _ (by decide +kernel) fun t hf y => ?_
  blk_simp
  obtain ⟨_, _, h⟩ := hL 11 t hf
  have ht := l11 t hf
  have h' : after 11 t = ((d_e12 (s0 (b1 m c t)) (s1 (b1 m c t)) (b2 m c t) (b3 m c t) (b4 m c t) (b5 m c t) (b6 m c t) (b7 m c t) (b8 m c t) (b9 m c t) (b10 m c t) (c32 m c) (c37 m c) (c38 m c) (c39 m c) (P26 m c t.val)) : S256x4096.Idx → Elt Ideal .bf16) := h ht
  rw [at1a, at1b] at h'; rw [RDat.withAfter_after, h']
  obtain ⟨i, j, rfl⟩ : ∃ (i : Fin 256) (j : Fin 4096), y = ix2 i j := ⟨y 0, y 1, funext fun a => by fin_cases a <;> rfl⟩
  have e : (win0_11.blk t).view.emb (ix2 i j) = ix2 i j := by blk_ext [x11 t, jj]
  refine Eq.trans ?_ (congrArg (mat (DX (inK m c))) e).symm
  exact e12 (holdsK m c N t) (last26 m c N t ht) i j

theorem end12 : ((rdat m c).withAfter after).arrAt 12 cfg0.N = mat (DWG (inK m c)) := by
  refine ((rdat m c).withAfter after).arrAt_eq_of_covers 12 _ (by decide +kernel) fun t hf y => ?_
  blk_simp
  obtain ⟨_, _, h⟩ := hL 12 t hf
  have h' : after 12 t = ((d_n13 (s0 (b1 m c t)) (s1 (b1 m c t)) (b3 m c t) (b5 m c t) (b6 m c t) (b7 m c t) (b8 m c t) (b9 m c t) (b10 m c t) (c32 m c) (c33 m c) (c37 m c) (c38 m c) (c39 m c)) : S4096x256.Idx → Elt Ideal .bf16) := h
  rw [at1a, at1b] at h'; rw [RDat.withAfter_after, h']
  obtain ⟨i, j, rfl⟩ : ∃ (i : Fin 4096) (j : Fin 256), y = ix2 i j := ⟨y 0, y 1, funext fun a => by fin_cases a <;> rfl⟩
  have e : (win0_12.blk t).view.emb (ix2 i j) = ix2 i (jj t j) := by blk_ext [x12 t, jj]
  refine Eq.trans ?_ (congrArg (mat (DWG (inK m c))) e).symm
  exact e13 (holdsK m c N t) i j

theorem end13 : ((rdat m c).withAfter after).arrAt 13 cfg0.N = mat (DWU (inK m c)) := by
  refine ((rdat m c).withAfter after).arrAt_eq_of_covers 13 _ (by decide +kernel) fun t hf y => ?_
  blk_simp
  obtain ⟨_, _, h⟩ := hL 13 t hf
  have h' : after 13 t = ((d_n14 (s0 (b1 m c t)) (s1 (b1 m c t)) (b3 m c t) (b5 m c t) (b6 m c t) (b7 m c t) (b8 m c t) (b9 m c t) (b10 m c t) (c32 m c) (c33 m c) (c37 m c) (c38 m c) (c39 m c)) : S4096x256.Idx → Elt Ideal .bf16) := h
  rw [at1a, at1b] at h'; rw [RDat.withAfter_after, h']
  obtain ⟨i, j, rfl⟩ : ∃ (i : Fin 4096) (j : Fin 256), y = ix2 i j := ⟨y 0, y 1, funext fun a => by fin_cases a <;> rfl⟩
  have e : (win0_13.blk t).view.emb (ix2 i j) = ix2 i (jj t j) := by blk_ext [x13 t, jj]
  refine Eq.trans ?_ (congrArg (mat (DWU (inK m c))) e).symm
  exact e14 (holdsK m c N t) i j

theorem end14 : ((rdat m c).withAfter after).arrAt 14 cfg0.N = mat (DWD (inK m c)) := by
  refine ((rdat m c).withAfter after).arrAt_eq_of_covers 14 _ (by decide +kernel) fun t hf y => ?_
  blk_simp
  obtain ⟨_, _, h⟩ := hL 14 t hf
  have h' : after 14 t = ((d_n15 (s0 (b1 m c t)) (s1 (b1 m c t)) (b3 m c t) (b5 m c t) (b6 m c t) (b7 m c t) (b8 m c t) (b9 m c t) (b10 m c t) (c32 m c) (c38 m c) (c39 m c)) : S256x4096.Idx → Elt Ideal .bf16) := h
  rw [at1a, at1b] at h'; rw [RDat.withAfter_after, h']
  obtain ⟨i, j, rfl⟩ : ∃ (i : Fin 256) (j : Fin 4096), y = ix2 i j := ⟨y 0, y 1, funext fun a => by fin_cases a <;> rfl⟩
  have e : (win0_14.blk t).view.emb (ix2 i j) = ix2 (jj t i) j := by blk_ext [x14 t, jj]
  refine Eq.trans ?_ (congrArg (mat (DWD (inK m c))) e).symm
  exact e15 (holdsK m c N t) i j

theorem end20 : ((rdat m c).withAfter after).arrAt 20 cfg0.N = mat (m := 1) (n := 4096) (fun _ k => DNW (inK m c) k) := by
  refine ((rdat m c).withAfter after).arrAt_eq_of_covers 20 _ (by decide +kernel) fun t hf y => ?_
  blk_simp
  obtain ⟨_, _, h⟩ := hL 20 t hf
  have ht := l20 t hf
  have h' : after 20 t = ((d_e21 (s0 (b1 m c t)) (s1 (b1 m c t)) (b2 m c t) (b3 m c t) (b4 m c t) (b5 m c t) (b6 m c t) (b7 m c t) (b8 m c t) (b9 m c t) (b10 m c t) (c32 m c) (c37 m c) (c38 m c) (c39 m c) (P26 m c t.val)) : S1x4096.Idx → Elt Ideal .f32) := h ht
  rw [at1a, at1b] at h'; rw [RDat.withAfter_after, h']
  obtain ⟨i, j, rfl⟩ : ∃ (i : Fin 1) (j : Fin 4096), y = ix2 i j := ⟨y 0, y 1, funext fun a => by fin_cases a <;> rfl⟩
  have e : (win0_20.blk t).view.emb (ix2 i j) = ix2 i j := by blk_ext [x20 t, jj]
  refine Eq.trans ?_ (congrArg (mat (m := 1) (n := 4096) (fun _ k => DNW (inK m c) k)) e).symm
  exact e21 (holdsK m c N t) (last26 m c N t ht) i j

theorem end21 : ((rdat m c).withAfter after).arrAt 21 cfg0.N = mat (G (inK m c)) := by
  refine ((rdat m c).withAfter after).arrAt_eq_of_covers 21 _ (by decide +kernel) fun t hf y => ?_
  blk_simp
  obtain ⟨_, _, h⟩ := hL 21 t hf
  have h' : after 21 t = ((d_v101 (s0 (b1 m c t)) (b5 m c t) (b8 m c t) (c32 m c)) : S256x256.Idx → Elt Ideal .f32) := h
  rw [at1a] at h'; rw [RDat.withAfter_after, h']
  obtain ⟨i, j, rfl⟩ : ∃ (i : Fin 256) (j : Fin 256), y = ix2 i j := ⟨y 0, y 1, funext fun a => by fin_cases a <;> rfl⟩
  have e : (win0_21.blk t).view.emb (ix2 i j) = ix2 i (jj t j) := by blk_ext [x21 t, jj]
  refine Eq.trans ?_ (congrArg (mat (G (inK m c))) e).symm
  exact e101 (holdsK m c N t) i j

theorem end22 : ((rdat m c).withAfter after).arrAt 22 cfg0.N = mat (U (inK m c)) := by
  refine ((rdat m c).withAfter after).arrAt_eq_of_covers 22 _ (by decide +kernel) fun t hf y => ?_
  blk_simp
  obtain ⟨_, _, h⟩ := hL 22 t hf
  have h' : after 22 t = ((d_v105 (s0 (b1 m c t)) (b6 m c t) (b9 m c t) (c32 m c)) : S256x256.Idx → Elt Ideal .f32) := h
  rw [at1a] at h'; rw [RDat.withAfter_after, h']
  obtain ⟨i, j, rfl⟩ : ∃ (i : Fin 256) (j : Fin 256), y = ix2 i j := ⟨y 0, y 1, funext fun a => by fin_cases a <;> rfl⟩
  have e : (win0_22.blk t).view.emb (ix2 i j) = ix2 i (jj t j) := by blk_ext [x22 t, jj]
  refine Eq.trans ?_ (congrArg (mat (U (inK m c))) e).symm
  exact e105 (holdsK m c N t) i j

theorem end23 : ((rdat m c).withAfter after).arrAt 23 cfg0.N = mat (O (inK m c)) := by
  refine ((rdat m c).withAfter after).arrAt_eq_of_covers 23 _ (by decide +kernel) fun t hf y => ?_
  blk_simp
  obtain ⟨_, _, h⟩ := hL 23 t hf
  have ht := l23 t hf
  have h' : after 23 t = ((d_e24 (s0 (b1 m c t)) (s1 (b1 m c t)) (b5 m c t) (b6 m c t) (b7 m c t) (b8 m c t) (b9 m c t) (b10 m c t) (c32 m c) (c37 m c) (c38 m c) (c39 m c) (P24 m c t.val)) : S256x4096.Idx → Elt Ideal .f32) := h.2 ht
  rw [at1a, at1b] at h'; rw [RDat.withAfter_after, h']
  obtain ⟨i, j, rfl⟩ : ∃ (i : Fin 256) (j : Fin 4096), y = ix2 i j := ⟨y 0, y 1, funext fun a => by fin_cases a <;> rfl⟩
  have e : (win0_23.blk t).view.emb (ix2 i j) = ix2 i j := by blk_ext [x23 t, jj]
  refine Eq.trans ?_ (congrArg (mat (O (inK m c))) e).symm
  exact e24' (holdsK m c N t) (last24 m c N t ht) i j

theorem end24 : ((rdat m c).withAfter after).arrAt 24 cfg0.N = mat (DA2 (inK m c)) := by
  refine ((rdat m c).withAfter after).arrAt_eq_of_covers 24 _ (by decide +kernel) fun t hf y => ?_
  blk_simp
  obtain ⟨_, _, h⟩ := hL 24 t hf
  have h' : after 24 t = ((d_DA (b3 m c t) (b7 m c t) (b10 m c t) (c37 m c) (c38 m c) (c39 m c)) : S256x256.Idx → Elt Ideal .f32) := h
  rw [RDat.withAfter_after, h']
  obtain ⟨i, j, rfl⟩ : ∃ (i : Fin 256) (j : Fin 256), y = ix2 i j := ⟨y 0, y 1, funext fun a => by fin_cases a <;> rfl⟩
  have e : (win0_24.blk t).view.emb (ix2 i j) = ix2 i (jj t j) := by blk_ext [x24 t, jj]
  refine Eq.trans ?_ (congrArg (mat (DA2 (inK m c))) e).symm
  exact eDA2 (holdsK m c N t) i j

theorem end25 : ((rdat m c).withAfter after).arrAt 25 cfg0.N = mat (DA1 (inK m c)) := by
  refine ((rdat m c).withAfter after).arrAt_eq_of_covers 25 _ (by decide +kernel) fun t hf y => ?_
  blk_simp
  obtain ⟨_, _, h⟩ := hL 25 t hf
  have ht := l25 t hf
  have h' : after 25 t = (P26 m c (t.val + 1) : S256x4096.Idx → Elt Ideal .f32) := h
  rw [RDat.withAfter_after, h', ht]
  obtain ⟨i, j, rfl⟩ : ∃ (i : Fin 256) (j : Fin 4096), y = ix2 i j := ⟨y 0, y 1, funext fun a => by fin_cases a <;> rfl⟩
  have e : (win0_25.blk t).view.emb (ix2 i j) = ix2 i j := by blk_ext [x25 t, jj]
  refine Eq.trans ?_ (congrArg (mat (DA1 (inK m c))) e).symm
  exact all26 m c N i j

theorem end26 : ((rdat m c).withAfter after).arrAt 26 cfg0.N = mat (fun i j => FloatOps.fptosi (F := Ideal) (φ := .f32) 8 (C1 (inK m c) i j)) := by
  refine ((rdat m c).withAfter after).arrAt_eq_of_covers 26 _ (by decide +kernel) fun t hf y => ?_
  blk_simp
  obtain ⟨_, _, h⟩ := hL 26 t hf
  have ht := l26 t hf
  have h' : after 26 t = (cc1 m c : S256x4096.Idx → Elt Ideal .i8) := h
  rw [RDat.withAfter_after, h']
  obtain ⟨i, j, rfl⟩ : ∃ (i : Fin 256) (j : Fin 4096), y = ix2 i j := ⟨y 0, y 1, funext fun a => by fin_cases a <;> rfl⟩
  have e : (win0_26.blk t).view.emb (ix2 i j) = ix2 i j := by blk_ext [x26 t, jj]
  refine Eq.trans ?_ (congrArg (mat (fun i j => FloatOps.fptosi (F := Ideal) (φ := .f32) 8 (C1 (inK m c) i j))) e).symm
  exact at27 m c N i j

theorem end27 : ((rdat m c).withAfter after).arrAt 27 cfg0.N = mat (fun i j => FloatOps.fptosi (F := Ideal) (φ := .f32) 8 (CG (inK m c) i j)) := by
  refine ((rdat m c).withAfter after).arrAt_eq_of_covers 27 _ (by decide +kernel) fun t hf y => ?_
  blk_simp
  obtain ⟨_, _, h⟩ := hL 27 t hf
  have h' : after 27 t = ((d_n28 (b5 m c t) (b8 m c t)) : S4096x256.Idx → Elt Ideal .i8) := h
  rw [RDat.withAfter_after, h']
  obtain ⟨i, j, rfl⟩ : ∃ (i : Fin 4096) (j : Fin 256), y = ix2 i j := ⟨y 0, y 1, funext fun a => by fin_cases a <;> rfl⟩
  have e : (win0_27.blk t).view.emb (ix2 i j) = ix2 i (jj t j) := by blk_ext [x27 t, jj]
  refine Eq.trans ?_ (congrArg (mat (fun i j => FloatOps.fptosi (F := Ideal) (φ := .f32) 8 (CG (inK m c) i j))) e).symm
  exact e28 (holdsK m c N t) i j

theorem end28 : ((rdat m c).withAfter after).arrAt 28 cfg0.N = mat (fun i j => FloatOps.fptosi (F := Ideal) (φ := .f32) 8 (CU (inK m c) i j)) := by
  refine ((rdat m c).withAfter after).arrAt_eq_of_covers 28 _ (by decide +kernel) fun t hf y => ?_
  blk_simp
  obtain ⟨_, _, h⟩ := hL 28 t hf
  have h' : after 28 t = ((d_n29 (b6 m c t) (b9 m c t)) : S4096x256.Idx → Elt Ideal .i8) := h
  rw [RDat.withAfter_after, h']
  obtain ⟨i, j, rfl⟩ : ∃ (i : Fin 4096) (j : Fin 256), y = ix2 i j := ⟨y 0, y 1, funext fun a => by fin_cases a <;> rfl⟩
  have e : (win0_28.blk t).view.emb (ix2 i j) = ix2 i (jj t j) := by blk_ext [x28 t, jj]
  refine Eq.trans ?_ (congrArg (mat (fun i j => FloatOps.fptosi (F := Ideal) (φ := .f32) 8 (CU (inK m c) i j))) e).symm
  exact e29 (holdsK m c N t) i j

theorem end29 : ((rdat m c).withAfter after).arrAt 29 cfg0.N = mat (fun i j => FloatOps.fptosi (F := Ideal) (φ := .f32) 8 (C2 (inK m c) i j)) := by
  refine ((rdat m c).withAfter after).arrAt_eq_of_covers 29 _ (by decide +kernel) fun t hf y => ?_
  blk_simp
  obtain ⟨_, _, h⟩ := hL 29 t hf
  have h' : after 29 t = ((d_n30 (s0 (b1 m c t)) (s1 (b1 m c t)) (b5 m c t) (b6 m c t) (b8 m c t) (b9 m c t) (c32 m c)) : S256x256.Idx → Elt Ideal .i8) := h
  rw [at1a, at1b] at h'; rw [RDat.withAfter_after, h']
  obtain ⟨i, j, rfl⟩ : ∃ (i : Fin 256) (j : Fin 256), y = ix2 i j := ⟨y 0, y 1, funext fun a => by fin_cases a <;> rfl⟩
  have e : (win0_29.blk t).view.emb (ix2 i j) = ix2 i (jj t j) := by blk_ext [x29 t, jj]
  refine Eq.trans ?_ (congrArg (mat (fun i j => FloatOps.fptosi (F := Ideal) (φ := .f32) 8 (C2 (inK m c) i j))) e).symm
  exact e30 (holdsK m c N t) i j

theorem end30 : ((rdat m c).withAfter after).arrAt 30 cfg0.N = mat (fun i j => FloatOps.fptosi (F := Ideal) (φ := .f32) 8 (CD (inK m c) i j)) := by
  refine ((rdat m c).withAfter after).arrAt_eq_of_covers 30 _ (by decide +kernel) fun t hf y => ?_
  blk_simp
  obtain ⟨_, _, h⟩ := hL 30 t hf
  have h' : after 30 t = ((d_n31 (b7 m c t) (c37 m c) (c38 m c) (c39 m c)) : S256x4096.Idx → Elt Ideal .i8) := h
  rw [RDat.withAfter_after, h']
  obtain ⟨i, j, rfl⟩ : ∃ (i : Fin 256) (j : Fin 4096), y = ix2 i j := ⟨y 0, y 1, funext fun a => by fin_cases a <;> rfl⟩
  have e : (win0_30.blk t).view.emb (ix2 i j) = ix2 (jj t i) j := by blk_ext [x30 t, jj]
  refine Eq.trans ?_ (congrArg (mat (fun i j => FloatOps.fptosi (F := Ideal) (φ := .f32) 8 (CD (inK m c) i j))) e).symm
  exact e31 (holdsK m c N t) i j

end Cert.KernelIdeal.Val

end
-- ==== Proof.KernRun.lean ====
module

public import proofs.«01_k».proof.Proof.KernValue
public import proofs.«01_k».proof.Proof.KernelIdeal.Frame

/-!
The kernel's run with its values.
-/

@[expose] public section

set_option maxRecDepth 16384

noncomputable section

namespace Cert.KernelIdeal.Val

open Cert.KernelIdeal Cert.KernelIdeal.Gen Cert.KernelIdeal.Hand Cert.Quant
open Idealize.ShloMosaic Idealize.ShloMosaic.TcCoe Idealize.SL.Sem
open Idealize.ShloMosaic.Pipeline (Dat RDat)

set_option maxHeartbeats 2000000

variable (m : (ℓ : Loc nD τ sig) → Buf (Elt Ideal) ℓ) (r : PUnit × MemSt nD τ sig (Elt Ideal))
    (h : RDat.FramePost (cfgs 0) (fun c => rdat m c) (V m) r) (c : Dev nD) (N : Steps (inK m c))
include h N

theorem end_0 : r.2.mem ((c.tc : Thread nD τ).loc main_v9_0) = (mat (Y (inK m c))) := by
  obtain ⟨after, hL, hA⟩ := RDat.FramePost.exists_exact h c
  exact (hA 10).trans (end10 m c N after hL)
theorem end_1 : r.2.mem ((c.tc : Thread nD τ).loc main_v9_1) = (mat (DX (inK m c))) := by
  obtain ⟨after, hL, hA⟩ := RDat.FramePost.exists_exact h c
  exact (hA 11).trans (end11 m c N after hL)
theorem end_2 : r.2.mem ((c.tc : Thread nD τ).loc main_v9_2) = (mat (DWG (inK m c))) := by
  obtain ⟨after, hL, hA⟩ := RDat.FramePost.exists_exact h c
  exact (hA 12).trans (end12 m c N after hL)
theorem end_3 : r.2.mem ((c.tc : Thread nD τ).loc main_v9_3) = (mat (DWU (inK m c))) := by
  obtain ⟨after, hL, hA⟩ := RDat.FramePost.exists_exact h c
  exact (hA 13).trans (end13 m c N after hL)
theorem end_4 : r.2.mem ((c.tc : Thread nD τ).loc main_v9_4) = (mat (DWD (inK m c))) := by
  obtain ⟨after, hL, hA⟩ := RDat.FramePost.exists_exact h c
  exact (hA 14).trans (end14 m c N after hL)
theorem end_10 : r.2.mem ((c.tc : Thread nD τ).loc main_v9_10) = (mat (m := 1) (n := 4096) (fun _ k => DNW (inK m c) k)) := by
  obtain ⟨after, hL, hA⟩ := RDat.FramePost.exists_exact h c
  exact (hA 20).trans (end20 m c N after hL)
theorem end_11 : r.2.mem ((c.tc : Thread nD τ).loc main_v9_11) = (mat (G (inK m c))) := by
  obtain ⟨after, hL, hA⟩ := RDat.FramePost.exists_exact h c
  exact (hA 21).trans (end21 m c N after hL)
theorem end_12 : r.2.mem ((c.tc : Thread nD τ).loc main_v9_12) = (mat (U (inK m c))) := by
  obtain ⟨after, hL, hA⟩ := RDat.FramePost.exists_exact h c
  exact (hA 22).trans (end22 m c N after hL)
theorem end_13 : r.2.mem ((c.tc : Thread nD τ).loc main_v9_13) = (mat (O (inK m c))) := by
  obtain ⟨after, hL, hA⟩ := RDat.FramePost.exists_exact h c
  exact (hA 23).trans (end23 m c N after hL)
theorem end_14 : r.2.mem ((c.tc : Thread nD τ).loc main_v9_14) = (mat (DA2 (inK m c))) := by
  obtain ⟨after, hL, hA⟩ := RDat.FramePost.exists_exact h c
  exact (hA 24).trans (end24 m c N after hL)
theorem end_15 : r.2.mem ((c.tc : Thread nD τ).loc main_v9_15) = (mat (DA1 (inK m c))) := by
  obtain ⟨after, hL, hA⟩ := RDat.FramePost.exists_exact h c
  exact (hA 25).trans (end25 m c N after hL)
theorem end_16 : r.2.mem ((c.tc : Thread nD τ).loc main_v9_16) = (mat (fun i j => FloatOps.fptosi (F := Ideal) (φ := .f32) 8 (C1 (inK m c) i j))) := by
  obtain ⟨after, hL, hA⟩ := RDat.FramePost.exists_exact h c
  exact (hA 26).trans (end26 m c N after hL)
theorem end_17 : r.2.mem ((c.tc : Thread nD τ).loc main_v9_17) = (mat (fun i j => FloatOps.fptosi (F := Ideal) (φ := .f32) 8 (CG (inK m c) i j))) := by
  obtain ⟨after, hL, hA⟩ := RDat.FramePost.exists_exact h c
  exact (hA 27).trans (end27 m c N after hL)
theorem end_18 : r.2.mem ((c.tc : Thread nD τ).loc main_v9_18) = (mat (fun i j => FloatOps.fptosi (F := Ideal) (φ := .f32) 8 (CU (inK m c) i j))) := by
  obtain ⟨after, hL, hA⟩ := RDat.FramePost.exists_exact h c
  exact (hA 28).trans (end28 m c N after hL)
theorem end_19 : r.2.mem ((c.tc : Thread nD τ).loc main_v9_19) = (mat (fun i j => FloatOps.fptosi (F := Ideal) (φ := .f32) 8 (C2 (inK m c) i j))) := by
  obtain ⟨after, hL, hA⟩ := RDat.FramePost.exists_exact h c
  exact (hA 29).trans (end29 m c N after hL)
theorem end_20 : r.2.mem ((c.tc : Thread nD τ).loc main_v9_20) = (mat (fun i j => FloatOps.fptosi (F := Ideal) (φ := .f32) 8 (CD (inK m c) i j))) := by
  obtain ⟨after, hL, hA⟩ := RDat.FramePost.exists_exact h c
  exact (hA 30).trans (end30 m c N after hL)
omit h N

/-- The kernel's run: its sixteen arrays, and its arguments unchanged. -/
theorem run (ρ : Dev nD → PrngReg) (N : ∀ c, Steps (inK m c)) :
    θ_run (defs (F := Ideal)) (onTc (τ := τ) (main (F := Ideal))) ⟨m, fun _ => 0, ρ⟩ (fun r => ∀ c : Dev nD,
      r.2.mem ((c.tc : Thread nD τ).loc main_v9_0) = (mat (Y (inK m c)))
      ∧ r.2.mem ((c.tc : Thread nD τ).loc main_v9_1) = (mat (DX (inK m c)))
      ∧ r.2.mem ((c.tc : Thread nD τ).loc main_v9_2) = (mat (DWG (inK m c)))
      ∧ r.2.mem ((c.tc : Thread nD τ).loc main_v9_3) = (mat (DWU (inK m c)))
      ∧ r.2.mem ((c.tc : Thread nD τ).loc main_v9_4) = (mat (DWD (inK m c)))
      ∧ r.2.mem ((c.tc : Thread nD τ).loc main_v9_10) = (mat (m := 1) (n := 4096) (fun _ k => DNW (inK m c) k))
      ∧ r.2.mem ((c.tc : Thread nD τ).loc main_v9_11) = (mat (G (inK m c)))
      ∧ r.2.mem ((c.tc : Thread nD τ).loc main_v9_12) = (mat (U (inK m c)))
      ∧ r.2.mem ((c.tc : Thread nD τ).loc main_v9_13) = (mat (O (inK m c)))
      ∧ r.2.mem ((c.tc : Thread nD τ).loc main_v9_14) = (mat (DA2 (inK m c)))
      ∧ r.2.mem ((c.tc : Thread nD τ).loc main_v9_15) = (mat (DA1 (inK m c)))
      ∧ r.2.mem ((c.tc : Thread nD τ).loc main_v9_16) = (mat (fun i j => FloatOps.fptosi (F := Ideal) (φ := .f32) 8 (C1 (inK m c) i j)))
      ∧ r.2.mem ((c.tc : Thread nD τ).loc main_v9_17) = (mat (fun i j => FloatOps.fptosi (F := Ideal) (φ := .f32) 8 (CG (inK m c) i j)))
      ∧ r.2.mem ((c.tc : Thread nD τ).loc main_v9_18) = (mat (fun i j => FloatOps.fptosi (F := Ideal) (φ := .f32) 8 (CU (inK m c) i j)))
      ∧ r.2.mem ((c.tc : Thread nD τ).loc main_v9_19) = (mat (fun i j => FloatOps.fptosi (F := Ideal) (φ := .f32) 8 (C2 (inK m c) i j)))
      ∧ r.2.mem ((c.tc : Thread nD τ).loc main_v9_20) = (mat (fun i j => FloatOps.fptosi (F := Ideal) (φ := .f32) 8 (CD (inK m c) i j)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run (defs (F := Ideal)) _ _).mono (fun r h c => ?_) (run_main m ρ)
  exact ⟨end_0 m r h.1 c (N c),
    end_1 m r h.1 c (N c),
    end_2 m r h.1 c (N c),
    end_3 m r h.1 c (N c),
    end_4 m r h.1 c (N c),
    end_10 m r h.1 c (N c),
    end_11 m r h.1 c (N c),
    end_12 m r h.1 c (N c),
    end_13 m r h.1 c (N c),
    end_14 m r h.1 c (N c),
    end_15 m r h.1 c (N c),
    end_16 m r h.1 c (N c),
    end_17 m r h.1 c (N c),
    end_18 m r h.1 c (N c),
    end_19 m r h.1 c (N c),
    end_20 m r h.1 c (N c),
    args_kept m r h.1 c⟩

end Cert.KernelIdeal.Val

end
-- ==== Proof.RefMath.lean ====
module

public import proofs.«01_k».proof.Proof.Gen.ReferenceIdeal.Skeleton
public import proofs.«01_k».proof.Proof.Math
public import Idealize.ShloMosaic.Lib.Pointwise
public import Idealize.ShloMosaic.Lib.IdealHost

/-!
What the reference's parts compute, entry by entry.
-/

@[expose] public section

set_option maxRecDepth 16384

noncomputable section

namespace Cert.ReferenceIdeal.Val

open Cert.ReferenceIdeal Cert.ReferenceIdeal.Gen
open Idealize.ShloMosaic Idealize.ShloMosaic.TcCoe
open Cert.Quant
open scoped BigOperators

variable (I : In)

/-- The reference's arrays hold what `I` says. -/
structure Holds (x0 x1 : Vec Ideal S256x4096 .bf16) (x2 : Vec Ideal S1x4096 .f32)
    (x3 x4 : Vec Ideal S4096x14336 .bf16) (x5 : Vec Ideal S14336x4096 .bf16) (x6 x7 : Vec Ideal S1x14336 .f32)
    (x8 : Vec Ideal S1x4096 .f32) (x9 x10 : Vec Ideal S1x1 .f32) : Prop where
  h0 : ∀ i k, x0 (ix2 i k) = I.X i k
  h1 : ∀ i k, x1 (ix2 i k) = I.DY i k
  h2 : ∀ i k, x2 (ix2 i k) = I.NW k
  h3 : ∀ k j, x3 (ix2 k j) = I.WG k j
  h4 : ∀ k j, x4 (ix2 k j) = I.WU k j
  h5 : ∀ j k, x5 (ix2 j k) = I.WD j k
  h6 : ∀ i j, x6 (ix2 i j) = I.SG j
  h7 : ∀ i j, x7 (ix2 i j) = I.SU j
  h8 : ∀ i k, x8 (ix2 i k) = I.SD k
  h9 : ∀ i j, x9 (ix2 i j) = I.a
  h10 : ∀ i j, x10 (ix2 i j) = I.b

theorem p3 (x0) (h : ∀ i k, x0 (ix2 i k) = I.X i k) (i k) : k0_pay3 (F := Ideal) x0 (ix2 i k) = I.X i k := by
  pointwise [k0_pay3]; simp only [h]
theorem p4 (x0) (h : ∀ i k, x0 (ix2 i k) = I.DY i k) (i k) : k0_pay4 (F := Ideal) x0 (ix2 i k) = I.DY i k := by
  pointwise [k0_pay4]; simp only [h]
theorem p11 (x0) (h : ∀ i k, x0 (ix2 i k) = I.X i k) (i k) : k0_pay11 (F := Ideal) x0 (ix2 i k) = R I i := by
  pointwise [k0_pay11, k0_pay3]; simp only [h, R]
theorem p12 (x0 x2 x9) (h : ∀ i k, x0 (ix2 i k) = I.X i k) (h2 : ∀ i k, x2 (ix2 i k) = I.NW k)
    (h9 : ∀ i j, x9 (ix2 i j) = I.a) (i k) : k0_pay12 (F := Ideal) x0 x2 x9 (ix2 i k) = V1 I i k := by
  pointwise [k0_pay12, k0_pay11, k0_pay3, k0_pay5, k0_pay9]; simp only [h, h2, h9, V1, R]
theorem p17 (v30) (h : ∀ i k, v30 (ix2 i k) = V1 I i k) (i k) : k0_pay17 (F := Ideal) v30 (ix2 i k) = C1 I i k := by
  pointwise [k0_pay17]; simp only [h, C1, ac]
theorem p21 (v30) (h : ∀ i k, v30 (ix2 i k) = V1 I i k) (i k) :
    k0_pay21 (F := Ideal) v30 (ix2 i k) = FloatOps.fptosi (F := Ideal) (φ := .f32) 8 (C1 I i k) := by
  pointwise [k0_pay21, k0_pay17]; simp only [h, C1, ac]
theorem p25 (v30) (h : ∀ i k, v30 (ix2 i k) = V1 I i k) (i k) : k0_pay25 (F := Ideal) v30 (ix2 i k) = C1 I i k := by
  pointwise [k0_pay25, k0_pay17]; simp only [h, C1, ac]
/-- The quotient of the first weight matrix by its steps. -/
theorem p13 (x6 x3) (h3 : ∀ k j, x3 (ix2 k j) = I.WG k j) (h6 : ∀ i j, x6 (ix2 i j) = I.SG j) (k j) :
    k0_pay13 (F := Ideal) x6 x3 (ix2 k j) = Ideal.div (I.WG k j) (I.SG j) := by
  pointwise [k0_pay13, k0_pay6]; simp only [h3, h6]
theorem p15 (v10 v36) (h4 : ∀ k j, v36 (ix2 k j) = I.WU k j) (h7 : ∀ i j, v10 (ix2 i j) = I.SU j) (k j) :
    k0_pay15 (F := Ideal) v10 v36 (ix2 k j) = Ideal.div (I.WU k j) (I.SU j) := by
  pointwise [k0_pay15]; simp only [h4, h7]
theorem p16 (v12 x5) (h5 : ∀ j k, x5 (ix2 j k) = I.WD j k) (h8 : ∀ i k, v12 (ix2 i k) = I.SD k) (j k) :
    k0_pay16 (F := Ideal) v12 x5 (ix2 j k) = Ideal.div (I.WD j k) (I.SD k) := by
  pointwise [k0_pay16]; simp only [h5, h8]
theorem p18 (v34) (h : ∀ k j, v34 (ix2 k j) = Ideal.div (I.WG k j) (I.SG j)) (k j) :
    k0_pay18 (F := Ideal) v34 (ix2 k j) = CG I k j := by
  pointwise [k0_pay18]; simp only [h, CG, wc]
theorem p22 (v34) (h : ∀ k j, v34 (ix2 k j) = Ideal.div (I.WG k j) (I.SG j)) (k j) :
    k0_pay22 (F := Ideal) v34 (ix2 k j) = FloatOps.fptosi (F := Ideal) (φ := .f32) 8 (CG I k j) := by
  pointwise [k0_pay22, k0_pay18]; simp only [h, CG, wc]
theorem p19 (v10 v36) (h4 : ∀ k j, v36 (ix2 k j) = I.WU k j) (h7 : ∀ i j, v10 (ix2 i j) = I.SU j) (k j) :
    k0_pay19 (F := Ideal) v10 v36 (ix2 k j) = CU I k j := by
  pointwise [k0_pay19, k0_pay15]; simp only [h4, h7, CU, wc]
theorem p23 (v10 v36) (h4 : ∀ k j, v36 (ix2 k j) = I.WU k j) (h7 : ∀ i j, v10 (ix2 i j) = I.SU j) (k j) :
    k0_pay23 (F := Ideal) v10 v36 (ix2 k j) = FloatOps.fptosi (F := Ideal) (φ := .f32) 8 (CU I k j) := by
  pointwise [k0_pay23, k0_pay19, k0_pay15]; simp only [h4, h7, CU, wc]
theorem p20 (v12 x5) (h5 : ∀ j k, x5 (ix2 j k) = I.WD j k) (h8 : ∀ i k, v12 (ix2 i k) = I.SD k) (j k) :
    k0_pay20 (F := Ideal) v12 x5 (ix2 j k) = CD I j k := by
  pointwise [k0_pay20, k0_pay16]; simp only [h5, h8, CD, wc]
theorem p24 (v12 x5) (h5 : ∀ j k, x5 (ix2 j k) = I.WD j k) (h8 : ∀ i k, v12 (ix2 i k) = I.SD k) (j k) :
    k0_pay24 (F := Ideal) v12 x5 (ix2 j k) = FloatOps.fptosi (F := Ideal) (φ := .f32) 8 (CD I j k) := by
  pointwise [k0_pay24, k0_pay20, k0_pay16]; simp only [h5, h8, CD, wc]
theorem p26 (v30 v34) (h : ∀ i k, v30 (ix2 i k) = V1 I i k) (h' : ∀ k j, v34 (ix2 k j) = Ideal.div (I.WG k j) (I.SG j)) (i j) :
    k0_pay26 (F := Ideal) v30 v34 (ix2 i j) = ∑ k, C1 I i k * CG I k j := by
  pointwise [k0_pay26, k0_pay25, k0_pay17, k0_pay18]; simp only [h, h', C1, ac, CG, wc]

section
variable (v8 v10 : Vec Ideal S1x14336 .f32) (v14 v16 : Vec Ideal S1x1 .f32) (v12 : Vec Ideal S1x4096 .f32)
variable (v73 : FVec Ideal S256x14336 .f32) (v57 : FVec Ideal S4096x14336 .f32) (v62 : FVec Ideal S14336x4096 .f32)
variable (v71 v4 : FVec Ideal S256x4096 .bf16)
variable (h8 : ∀ i j, v8 (ix2 i j) = I.SG j) (h10 : ∀ i j, v10 (ix2 i j) = I.SU j) (h12 : ∀ i k, v12 (ix2 i k) = I.SD k)
variable (h14 : ∀ i j, v14 (ix2 i j) = I.a) (h16 : ∀ i j, v16 (ix2 i j) = I.b)
variable (h73 : ∀ i j, v73 (ix2 i j) = ∑ k, C1 I i k * CG I k j)
variable (h57 : ∀ k j, v57 (ix2 k j) = CU I k j) (h62 : ∀ j k, v62 (ix2 j k) = CD I j k)
variable (h71 : ∀ i k, v71 (ix2 i k) = C1 I i k) (h4 : ∀ i k, v4 (ix2 i k) = I.DY i k)

include h8 h14 h73 in
theorem p27 (i j) : k0_pay27 (F := Ideal) v8 v14 v73 (ix2 i j) = G I i j := by
  pointwise [k0_pay27]; simp only [h8, h14, h73, G]
include h8 h14 h73 in
theorem p29 (i j) : k0_pay29 (F := Ideal) v8 v14 v73 (ix2 i j) = sgm (G I i j) := by
  have e := p27 I v8 v14 v73 h8 h14 h73 i j
  pointwise [k0_pay29]; simp only [e, sgm]
include h10 h14 h57 h71 in
theorem p28 (i j) : k0_pay28 (F := Ideal) v10 v14 v57 v71 (ix2 i j) = U I i j := by
  pointwise [k0_pay28]; simp only [h10, h14, h57, h71, U]
include h8 h10 h14 h16 h73 h57 h71 in
theorem p30 (i j) : k0_pay30 (F := Ideal) v8 v10 v14 v16 v57 v71 v73 (ix2 i j) = V2 I i j := by
  have e := p27 I v8 v14 v73 h8 h14 h73 i j
  have e' := p29 I v8 v14 v73 h8 h14 h73 i j
  have e'' := p28 I v10 v14 v57 v71 h10 h14 h57 h71 i j
  pointwise [k0_pay30]; simp only [e, e', e'', h16, V2]
include h8 h10 h14 h16 h73 h57 h71 in
theorem p31 (i j) : k0_pay31 (F := Ideal) v8 v10 v14 v16 v57 v71 v73 (ix2 i j) = C2 I i j := by
  have e := p30 I v8 v10 v14 v16 v73 v57 v71 h8 h10 h14 h16 h73 h57 h71 i j
  pointwise [k0_pay31]; simp only [e, C2, ac]
include h8 h10 h14 h16 h73 h57 h71 in
theorem p32 (i j) : k0_pay32 (F := Ideal) v8 v10 v14 v16 v57 v71 v73 (ix2 i j)
    = FloatOps.fptosi (F := Ideal) (φ := .f32) 8 (C2 I i j) := by
  have e := p31 I v8 v10 v14 v16 v73 v57 v71 h8 h10 h14 h16 h73 h57 h71 i j
  pointwise [k0_pay32]; simp only [e]
include h8 h10 h14 h16 h73 h57 h71 in
theorem p33 (i j) : k0_pay33 (F := Ideal) v8 v10 v14 v16 v57 v71 v73 (ix2 i j) = C2 I i j := by
  have e := p31 I v8 v10 v14 v16 v73 v57 v71 h8 h10 h14 h16 h73 h57 h71 i j
  pointwise [k0_pay33]; simp only [e]
include h8 h10 h12 h14 h16 h73 h57 h62 h71 in
theorem p34 (i k) : k0_pay34 (F := Ideal) v8 v10 v12 v14 v16 v57 v62 v71 v73 (ix2 i k) = O I i k := by
  have e := p33 I v8 v10 v14 v16 v73 v57 v71 h8 h10 h14 h16 h73 h57 h71
  pointwise [k0_pay34]; simp only [e, h62, h16, h12, O, O0]
include h8 h10 h12 h14 h16 h73 h57 h62 h71 in
theorem p35 (v2) (h2 : ∀ i k, v2 (ix2 i k) = I.X i k) (i k) :
    k0_pay35 (F := Ideal) v2 v8 v10 v12 v14 v16 v57 v62 v71 v73 (ix2 i k) = Y I i k := by
  have e := p34 I v8 v10 v14 v16 v12 v73 v57 v62 v71 h8 h10 h12 h14 h16 h73 h57 h62 h71 i k
  pointwise [k0_pay35]; simp only [e, h2, Y]
include h4 h12 h62 in
theorem p38 (i j) : k0_pay38 (F := Ideal) v4 v12 v62 (ix2 i j) = DA2 I i j := by
  pointwise [k0_pay38]; simp only [h4, h12, h62, DA2]
end

theorem p36 (v8 v52) (h8 : ∀ i j, v8 (ix2 i j) = I.SG j) (h52 : ∀ k j, v52 (ix2 k j) = CG I k j) (k j) :
    k0_pay36 (F := Ideal) v8 v52 (ix2 k j) = I.SG j * CG I k j := by
  pointwise [k0_pay36]; simp only [h8, h52]
theorem p37 (v8 v52) (h8 : ∀ i j, v8 (ix2 i j) = I.SU j) (h52 : ∀ k j, v52 (ix2 k j) = CU I k j) (k j) :
    k0_pay37 (F := Ideal) v8 v52 (ix2 k j) = I.SU j * CU I k j := by
  pointwise [k0_pay37]; simp only [h8, h52]
theorem p39 (v4 v16 v42 v104) (h4 : ∀ i k, v4 (ix2 i k) = I.DY i k) (h16 : ∀ i j, v16 (ix2 i j) = I.b)
    (h42 : ∀ j k, v42 (ix2 j k) = Ideal.div (I.WD j k) (I.SD k)) (h104 : ∀ i j, v104 (ix2 i j) = C2 I i j) (j k) :
    k0_pay39 (F := Ideal) v4 v16 v42 v104 (ix2 j k) = DWD I j k := by
  pointwise [k0_pay39]; simp only [h4, h16, h42, h104, DWD, sel_okW]

section
variable (v4 : FVec Ideal S256x4096 .bf16) (v12 : Vec Ideal S1x4096 .f32) (v62 : FVec Ideal S14336x4096 .f32)
variable (v77 v83 v92 v96 : FVec Ideal S256x14336 .f32)
variable (h4 : ∀ i k, v4 (ix2 i k) = I.DY i k) (h12 : ∀ i k, v12 (ix2 i k) = I.SD k) (h62 : ∀ j k, v62 (ix2 j k) = CD I j k)
variable (h77 : ∀ i j, v77 (ix2 i j) = G I i j) (h83 : ∀ i j, v83 (ix2 i j) = U I i j)
variable (h92 : ∀ i j, v92 (ix2 i j) = sgm (G I i j)) (h96 : ∀ i j, v96 (ix2 i j) = V2 I i j)
include h4 h12 h62 h96 in
theorem p40 (i j) : k0_pay40 (F := Ideal) v4 v12 v62 v96 (ix2 i j) = DA I i j := by
  have e := p38 I v12 v62 v4 h12 h62 h4 i j
  pointwise [k0_pay40]; simp only [e, h96, DA, sel_okA]
include h4 h12 h62 h77 h83 h92 h96 in
theorem p41 (i j) : k0_pay41 (F := Ideal) v4 v12 v62 v77 v83 v92 v96 (ix2 i j) = DG I i j := by
  have e := p40 I v4 v12 v62 v96 h4 h12 h62 h96 i j
  pointwise [k0_pay41]; simp only [e, h77, h83, h92, DG]
include h4 h12 h62 h77 h92 h96 in
theorem p42 (i j) : k0_pay42 (F := Ideal) v4 v12 v62 v77 v92 v96 (ix2 i j) = DU I i j := by
  have e := p40 I v4 v12 v62 v96 h4 h12 h62 h96 i j
  pointwise [k0_pay42]; simp only [e, h77, h92, DU]
end

section
variable (v117 v120 : FVec Ideal S4096x14336 .bf16) (v153 : FVec Ideal S256x14336 .bf16) (v155 : FVec Ideal S256x14336 .f32)
variable (h117 : ∀ k j, v117 (ix2 k j) = I.SG j * CG I k j) (h120 : ∀ k j, v120 (ix2 k j) = I.SU j * CU I k j)
variable (h153 : ∀ i j, v153 (ix2 i j) = DG I i j) (h155 : ∀ i j, v155 (ix2 i j) = DU I i j)
include h117 h120 h153 h155 in
theorem p44 (i k) : k0_pay44 (F := Ideal) v117 v120 v153 v155 (ix2 i k) = DA1 I i k := by
  pointwise [k0_pay44, k0_pay43]; simp only [h117, h120, h153, h155, DA1]
include h117 h120 h153 h155 in
theorem p47 (v30) (h30 : ∀ i k, v30 (ix2 i k) = V1 I i k) (i k) : k0_pay47 (F := Ideal) v30 v117 v120 v153 v155 (ix2 i k) = DN I i k := by
  have e := p44 I v117 v120 v153 v155 h117 h120 h153 h155 i k
  pointwise [k0_pay47]; simp only [e, h30, DN, sel_okA]
include h117 h120 h153 h155 in
theorem p48 (v2 v30) (h2 : ∀ i k, v2 (ix2 i k) = I.X i k) (h30 : ∀ i k, v30 (ix2 i k) = V1 I i k) (i k) :
    k0_pay48 (F := Ideal) v2 v30 v117 v120 v153 v155 (ix2 i k) = DN I i k * I.X i k := by
  have e := p47 I v117 v120 v153 v155 h117 h120 h153 h155 v30 h30 i k
  pointwise [k0_pay48]; simp only [e, h2]
include h153 in
theorem p45 (v14 v34 v71) (h14 : ∀ i j, v14 (ix2 i j) = I.a) (h34 : ∀ k j, v34 (ix2 k j) = Ideal.div (I.WG k j) (I.SG j))
    (h71 : ∀ i k, v71 (ix2 i k) = C1 I i k) (k j) : k0_pay45 (F := Ideal) v14 v34 v71 v153 (ix2 k j) = DWG I k j := by
  pointwise [k0_pay45]; simp only [h14, h34, h71, h153, DWG, sel_okW]
include h155 in
theorem p46 (v14 v34 v71) (h14 : ∀ i j, v14 (ix2 i j) = I.a) (h34 : ∀ k j, v34 (ix2 k j) = Ideal.div (I.WU k j) (I.SU j))
    (h71 : ∀ i k, v71 (ix2 i k) = C1 I i k) (k j) : k0_pay46 (F := Ideal) v14 v34 v71 v155 (ix2 k j) = DWU I k j := by
  pointwise [k0_pay46, k0_pay43]; simp only [h14, h34, h71, h155, DWU, sel_okW]
end

theorem p49 (v24) (h : ∀ i k, v24 (ix2 i k) = R I i) (i k) : k0_pay49 (F := Ideal) v24 (ix2 i k) = R I i := by
  pointwise [k0_pay49]; simp only [h]
theorem p1 (v192 v193) (h : ∀ i k, v192 (ix2 i k) = DN I i k * I.X i k) (h' : ∀ i k, v193 (ix2 i k) = R I i) (i k) :
    k0_pay1 (F := Ideal) v192 v193 (ix2 i k) = DNW I k := by
  pointwise [k0_pay1]; simp only [h, h', DNW]
theorem p2 (v2 v4 v6 v24 v191) (h2 : ∀ i k, v2 (ix2 i k) = I.X i k) (h4 : ∀ i k, v4 (ix2 i k) = I.DY i k)
    (h6 : ∀ i k, v6 (ix2 i k) = I.NW k) (h24 : ∀ i k, v24 (ix2 i k) = R I i) (h191 : ∀ i k, v191 (ix2 i k) = DN I i k) (i k) :
    k0_pay2 (F := Ideal) v2 v4 v6 v24 v191 (ix2 i k) = DX I i k := by
  pointwise [k0_pay2]; simp only [h2, h4, h6, h24, h191, DX, DHD]

end Cert.ReferenceIdeal.Val

end
-- ==== Proof.RefOut.lean ====
module

public import proofs.«01_k».proof.Proof.Gen.ReferenceIdeal.Frame
public import proofs.«01_k».proof.Proof.RefMath

/-!
The reference's sixteen arrays, entry by entry.
-/

@[expose] public section

set_option maxRecDepth 16384

noncomputable section

namespace Cert.ReferenceIdeal.Val

open Cert.ReferenceIdeal Cert.ReferenceIdeal.Gen
open Idealize.ShloMosaic Idealize.ShloMosaic.TcCoe
open Cert.Quant
open scoped BigOperators

theorem hz {n : ℕ} : (![0, 0] : Fin 2 → ℕ) = fun _ => 0 := funext fun a => by fin_cases a <;> rfl

theorem ld0 {e : EltTy} (x : S256x4096.Idx → Elt Ideal e) : View.ld (Val := Elt Ideal) x r0_0 = x := View.ld_unit_zero (hz (n := 0)) _ x
theorem ld1 {e : EltTy} (x : S1x4096.Idx → Elt Ideal e) : View.ld (Val := Elt Ideal) x r0_1 = x := View.ld_unit_zero (hz (n := 0)) _ x
theorem ld2 {e : EltTy} (x : S1x14336.Idx → Elt Ideal e) : View.ld (Val := Elt Ideal) x r0_2 = x := View.ld_unit_zero (hz (n := 0)) _ x
theorem ld3 {e : EltTy} (x : S1x1.Idx → Elt Ideal e) : View.ld (Val := Elt Ideal) x r0_3 = x := View.ld_unit_zero (hz (n := 0)) _ x
theorem ld4 {e : EltTy} (x : S4096x14336.Idx → Elt Ideal e) : View.ld (Val := Elt Ideal) x r0_4 = x := View.ld_unit_zero (hz (n := 0)) _ x
theorem ld5 {e : EltTy} (x : S14336x4096.Idx → Elt Ideal e) : View.ld (Val := Elt Ideal) x r0_5 = x := View.ld_unit_zero (hz (n := 0)) _ x
theorem ld6 {e : EltTy} (x : S256x14336.Idx → Elt Ideal e) : View.ld (Val := Elt Ideal) x r0_6 = x := View.ld_unit_zero (hz (n := 0)) _ x

section
variable (I : In) (x0 x1 : Vec Ideal S256x4096 .bf16) (x2 : Vec Ideal S1x4096 .f32)
    (x3 x4 : Vec Ideal S4096x14336 .bf16) (x5 : Vec Ideal S14336x4096 .bf16) (x6 x7 : Vec Ideal S1x14336 .f32)
    (x8 : Vec Ideal S1x4096 .f32) (x9 x10 : Vec Ideal S1x1 .f32)
variable (H : Holds I x0 x1 x2 x3 x4 x5 x6 x7 x8 x9 x10)
include H

theorem a50 (i k) : k0_pay50 x0 x1 x2 x3 x4 x5 x6 x7 x8 x9 x10 (ix2 i k) = I.X i k := by
  rw [k0_pay50, ld0]
  exact p3 I _ H.h0 i k
theorem a51 (i k) : k0_pay51 x0 x1 x2 x3 x4 x5 x6 x7 x8 x9 x10 (ix2 i k) = I.DY i k := by
  rw [k0_pay51, ld0]
  exact p4 I _ H.h1 i k
theorem a52 (i j) : k0_pay52 x0 x1 x2 x3 x4 x5 x6 x7 x8 x9 x10 (ix2 i j) = I.SG j := by
  rw [k0_pay52, ld2]
  pointwise [k0_pay6]; exact H.h6 _ _
theorem a53 (i j) : k0_pay53 x0 x1 x2 x3 x4 x5 x6 x7 x8 x9 x10 (ix2 i j) = I.SU j := by
  rw [k0_pay53, ld2]
  pointwise [k0_pay7]; exact H.h7 _ _
theorem a54 (i k) : k0_pay54 x0 x1 x2 x3 x4 x5 x6 x7 x8 x9 x10 (ix2 i k) = I.SD k := by
  rw [k0_pay54, ld1]
  pointwise [k0_pay8]; exact H.h8 _ _
theorem a55 (i j) : k0_pay55 x0 x1 x2 x3 x4 x5 x6 x7 x8 x9 x10 (ix2 i j) = I.a := by
  rw [k0_pay55, ld3]
  pointwise [k0_pay9]; exact H.h9 _ _
theorem a56 (i j) : k0_pay56 x0 x1 x2 x3 x4 x5 x6 x7 x8 x9 x10 (ix2 i j) = I.b := by
  rw [k0_pay56, ld3]
  pointwise [k0_pay10]; exact H.h10 _ _
theorem a57 (i k) : k0_pay57 x0 x1 x2 x3 x4 x5 x6 x7 x8 x9 x10 (ix2 i k) = R I i := by
  rw [k0_pay57, ld0]
  exact p11 I _ H.h0 i k
theorem a58 (i k) : k0_pay58 x0 x1 x2 x3 x4 x5 x6 x7 x8 x9 x10 (ix2 i k) = V1 I i k := by
  rw [k0_pay58, ld0 , ld1 , ld3]
  exact p12 I _ _ _ H.h0 H.h2 H.h9 i k
theorem a59 (k j) : k0_pay59 x0 x1 x2 x3 x4 x5 x6 x7 x8 x9 x10 (ix2 k j) = Ideal.div (I.WG k j) (I.SG j) := by
  rw [k0_pay59, ld2 , ld4]
  exact p13 I _ _ H.h3 H.h6 k j
theorem a60 (k j) : k0_pay60 x0 x1 x2 x3 x4 x5 x6 x7 x8 x9 x10 (ix2 k j) = I.WU k j := by
  rw [k0_pay60, ld4]
  pointwise [k0_pay14]; exact H.h4 _ _
theorem a61 (k j) : k0_pay61 x0 x1 x2 x3 x4 x5 x6 x7 x8 x9 x10 (ix2 k j) = CU I k j := by
  rw [k0_pay61]
  exact p19 I _ _ (a60 I x0 x1 x2 x3 x4 x5 x6 x7 x8 x9 x10 H) (a53 I x0 x1 x2 x3 x4 x5 x6 x7 x8 x9 x10 H) k j
theorem a62 (j k) : k0_pay62 x0 x1 x2 x3 x4 x5 x6 x7 x8 x9 x10 (ix2 j k) = CD I j k := by
  rw [k0_pay62, ld5]
  exact p20 I _ _ H.h5 (a54 I x0 x1 x2 x3 x4 x5 x6 x7 x8 x9 x10 H) j k
theorem a63 (i k) : k0_pay63 x0 x1 x2 x3 x4 x5 x6 x7 x8 x9 x10 (ix2 i k) = C1 I i k := by
  rw [k0_pay63]
  exact p25 I _ (a58 I x0 x1 x2 x3 x4 x5 x6 x7 x8 x9 x10 H) i k
theorem a64 (i j) : k0_pay64 x0 x1 x2 x3 x4 x5 x6 x7 x8 x9 x10 (ix2 i j) = ∑ k, C1 I i k * CG I k j := by
  rw [k0_pay64]
  exact p26 I _ _ (a58 I x0 x1 x2 x3 x4 x5 x6 x7 x8 x9 x10 H) (a59 I x0 x1 x2 x3 x4 x5 x6 x7 x8 x9 x10 H) i j
theorem a65 (i j) : k0_pay65 x0 x1 x2 x3 x4 x5 x6 x7 x8 x9 x10 (ix2 i j) = G I i j := by
  rw [k0_pay65]
  exact p27 I _ _ _ (a52 I x0 x1 x2 x3 x4 x5 x6 x7 x8 x9 x10 H) (a55 I x0 x1 x2 x3 x4 x5 x6 x7 x8 x9 x10 H) (a64 I x0 x1 x2 x3 x4 x5 x6 x7 x8 x9 x10 H) i j
theorem a66 (i j) : k0_pay66 x0 x1 x2 x3 x4 x5 x6 x7 x8 x9 x10 (ix2 i j) = sgm (G I i j) := by
  rw [k0_pay66]
  exact p29 I _ _ _ (a52 I x0 x1 x2 x3 x4 x5 x6 x7 x8 x9 x10 H) (a55 I x0 x1 x2 x3 x4 x5 x6 x7 x8 x9 x10 H) (a64 I x0 x1 x2 x3 x4 x5 x6 x7 x8 x9 x10 H) i j
theorem a67 (i j) : k0_pay67 x0 x1 x2 x3 x4 x5 x6 x7 x8 x9 x10 (ix2 i j) = V2 I i j := by
  rw [k0_pay67]
  exact p30 I _ _ _ _ _ _ _ (a52 I x0 x1 x2 x3 x4 x5 x6 x7 x8 x9 x10 H) (a53 I x0 x1 x2 x3 x4 x5 x6 x7 x8 x9 x10 H) (a55 I x0 x1 x2 x3 x4 x5 x6 x7 x8 x9 x10 H) (a56 I x0 x1 x2 x3 x4 x5 x6 x7 x8 x9 x10 H) (a64 I x0 x1 x2 x3 x4 x5 x6 x7 x8 x9 x10 H) (a61 I x0 x1 x2 x3 x4 x5 x6 x7 x8 x9 x10 H) (a63 I x0 x1 x2 x3 x4 x5 x6 x7 x8 x9 x10 H) i j
theorem a68 (k j) : k0_pay68 x0 x1 x2 x3 x4 x5 x6 x7 x8 x9 x10 (ix2 k j) = I.SG j * CG I k j := by
  rw [k0_pay68]
  exact p36 I _ _ (a52 I x0 x1 x2 x3 x4 x5 x6 x7 x8 x9 x10 H) (p18 I _ (a59 I x0 x1 x2 x3 x4 x5 x6 x7 x8 x9 x10 H)) k j
theorem a69 (k j) : k0_pay69 x0 x1 x2 x3 x4 x5 x6 x7 x8 x9 x10 (ix2 k j) = I.SU j * CU I k j := by
  rw [k0_pay69]
  exact p37 I _ _ (a53 I x0 x1 x2 x3 x4 x5 x6 x7 x8 x9 x10 H) (a61 I x0 x1 x2 x3 x4 x5 x6 x7 x8 x9 x10 H) k j
theorem a70 (i j) : k0_pay70 x0 x1 x2 x3 x4 x5 x6 x7 x8 x9 x10 (ix2 i j) = DG I i j := by
  rw [k0_pay70]
  exact p41 I _ _ _ _ _ _ _ (a51 I x0 x1 x2 x3 x4 x5 x6 x7 x8 x9 x10 H) (a54 I x0 x1 x2 x3 x4 x5 x6 x7 x8 x9 x10 H) (a62 I x0 x1 x2 x3 x4 x5 x6 x7 x8 x9 x10 H) (a65 I x0 x1 x2 x3 x4 x5 x6 x7 x8 x9 x10 H) (p28 I _ _ _ _ (a53 I x0 x1 x2 x3 x4 x5 x6 x7 x8 x9 x10 H) (a55 I x0 x1 x2 x3 x4 x5 x6 x7 x8 x9 x10 H) (a61 I x0 x1 x2 x3 x4 x5 x6 x7 x8 x9 x10 H) (a63 I x0 x1 x2 x3 x4 x5 x6 x7 x8 x9 x10 H)) (a66 I x0 x1 x2 x3 x4 x5 x6 x7 x8 x9 x10 H) (a67 I x0 x1 x2 x3 x4 x5 x6 x7 x8 x9 x10 H) i j
theorem a71 (i j) : k0_pay71 x0 x1 x2 x3 x4 x5 x6 x7 x8 x9 x10 (ix2 i j) = DU I i j := by
  rw [k0_pay71]
  exact p42 I _ _ _ _ _ _ (a51 I x0 x1 x2 x3 x4 x5 x6 x7 x8 x9 x10 H) (a54 I x0 x1 x2 x3 x4 x5 x6 x7 x8 x9 x10 H) (a62 I x0 x1 x2 x3 x4 x5 x6 x7 x8 x9 x10 H) (a65 I x0 x1 x2 x3 x4 x5 x6 x7 x8 x9 x10 H) (a66 I x0 x1 x2 x3 x4 x5 x6 x7 x8 x9 x10 H) (a67 I x0 x1 x2 x3 x4 x5 x6 x7 x8 x9 x10 H) i j

theorem o11 (i k) : out0_11 x0 x1 x2 x3 x4 x5 x6 x7 x8 x9 x10 (ix2 i k) = Y I i k := by
  rw [out0_11, View.canon_unit_zero (hz (n := 0))]
  exact p35 I _ _ _ _ _ _ _ _ _ (a52 I x0 x1 x2 x3 x4 x5 x6 x7 x8 x9 x10 H) (a53 I x0 x1 x2 x3 x4 x5 x6 x7 x8 x9 x10 H) (a54 I x0 x1 x2 x3 x4 x5 x6 x7 x8 x9 x10 H) (a55 I x0 x1 x2 x3 x4 x5 x6 x7 x8 x9 x10 H) (a56 I x0 x1 x2 x3 x4 x5 x6 x7 x8 x9 x10 H) (a64 I x0 x1 x2 x3 x4 x5 x6 x7 x8 x9 x10 H) (a61 I x0 x1 x2 x3 x4 x5 x6 x7 x8 x9 x10 H) (a62 I x0 x1 x2 x3 x4 x5 x6 x7 x8 x9 x10 H) (a63 I x0 x1 x2 x3 x4 x5 x6 x7 x8 x9 x10 H) _ (a50 I x0 x1 x2 x3 x4 x5 x6 x7 x8 x9 x10 H) i k
theorem o12 (i k) : out0_12 x0 x1 x2 x3 x4 x5 x6 x7 x8 x9 x10 (ix2 i k) = DX I i k := by
  rw [out0_12, View.canon_unit_zero (hz (n := 0)), ld1]
  exact p2 I _ _ _ _ _ (a50 I x0 x1 x2 x3 x4 x5 x6 x7 x8 x9 x10 H) (a51 I x0 x1 x2 x3 x4 x5 x6 x7 x8 x9 x10 H) (fun i k => by pointwise [k0_pay5]; exact H.h2 _ _) (a57 I x0 x1 x2 x3 x4 x5 x6 x7 x8 x9 x10 H) (p47 I _ _ _ _ (a68 I x0 x1 x2 x3 x4 x5 x6 x7 x8 x9 x10 H) (a69 I x0 x1 x2 x3 x4 x5 x6 x7 x8 x9 x10 H) (a70 I x0 x1 x2 x3 x4 x5 x6 x7 x8 x9 x10 H) (a71 I x0 x1 x2 x3 x4 x5 x6 x7 x8 x9 x10 H) _ (a58 I x0 x1 x2 x3 x4 x5 x6 x7 x8 x9 x10 H)) i k
theorem o13 (k j) : out0_13 x0 x1 x2 x3 x4 x5 x6 x7 x8 x9 x10 (ix2 k j) = DWG I k j := by
  rw [out0_13, View.canon_unit_zero (hz (n := 0))]
  exact p45 I _ (a70 I x0 x1 x2 x3 x4 x5 x6 x7 x8 x9 x10 H) _ _ _ (a55 I x0 x1 x2 x3 x4 x5 x6 x7 x8 x9 x10 H) (a59 I x0 x1 x2 x3 x4 x5 x6 x7 x8 x9 x10 H) (a63 I x0 x1 x2 x3 x4 x5 x6 x7 x8 x9 x10 H) k j
theorem o14 (k j) : out0_14 x0 x1 x2 x3 x4 x5 x6 x7 x8 x9 x10 (ix2 k j) = DWU I k j := by
  rw [out0_14, View.canon_unit_zero (hz (n := 0))]
  exact p46 I _ (a71 I x0 x1 x2 x3 x4 x5 x6 x7 x8 x9 x10 H) _ _ _ (a55 I x0 x1 x2 x3 x4 x5 x6 x7 x8 x9 x10 H) (p15 I _ _ (a60 I x0 x1 x2 x3 x4 x5 x6 x7 x8 x9 x10 H) (a53 I x0 x1 x2 x3 x4 x5 x6 x7 x8 x9 x10 H)) (a63 I x0 x1 x2 x3 x4 x5 x6 x7 x8 x9 x10 H) k j
theorem o15 (j k) : out0_15 x0 x1 x2 x3 x4 x5 x6 x7 x8 x9 x10 (ix2 j k) = DWD I j k := by
  rw [out0_15, View.canon_unit_zero (hz (n := 0)), ld5]
  exact p39 I _ _ _ _ (a51 I x0 x1 x2 x3 x4 x5 x6 x7 x8 x9 x10 H) (a56 I x0 x1 x2 x3 x4 x5 x6 x7 x8 x9 x10 H) (p16 I _ _ H.h5 (a54 I x0 x1 x2 x3 x4 x5 x6 x7 x8 x9 x10 H)) (p33 I _ _ _ _ _ _ _ (a52 I x0 x1 x2 x3 x4 x5 x6 x7 x8 x9 x10 H) (a53 I x0 x1 x2 x3 x4 x5 x6 x7 x8 x9 x10 H) (a55 I x0 x1 x2 x3 x4 x5 x6 x7 x8 x9 x10 H) (a56 I x0 x1 x2 x3 x4 x5 x6 x7 x8 x9 x10 H) (a64 I x0 x1 x2 x3 x4 x5 x6 x7 x8 x9 x10 H) (a61 I x0 x1 x2 x3 x4 x5 x6 x7 x8 x9 x10 H) (a63 I x0 x1 x2 x3 x4 x5 x6 x7 x8 x9 x10 H)) j k
theorem o16 (i k) : out0_16 x0 x1 x2 x3 x4 x5 x6 x7 x8 x9 x10 (ix2 i k) = DNW I k := by
  rw [out0_16, View.canon_unit_zero (hz (n := 0))]
  exact p1 I _ _ (p48 I _ _ _ _ (a68 I x0 x1 x2 x3 x4 x5 x6 x7 x8 x9 x10 H) (a69 I x0 x1 x2 x3 x4 x5 x6 x7 x8 x9 x10 H) (a70 I x0 x1 x2 x3 x4 x5 x6 x7 x8 x9 x10 H) (a71 I x0 x1 x2 x3 x4 x5 x6 x7 x8 x9 x10 H) _ _ (a50 I x0 x1 x2 x3 x4 x5 x6 x7 x8 x9 x10 H) (a58 I x0 x1 x2 x3 x4 x5 x6 x7 x8 x9 x10 H)) (p49 I _ (a57 I x0 x1 x2 x3 x4 x5 x6 x7 x8 x9 x10 H)) i k
theorem o17 (i j) : out0_17 x0 x1 x2 x3 x4 x5 x6 x7 x8 x9 x10 (ix2 i j) = G I i j := by
  rw [out0_17, View.canon_unit_zero (hz (n := 0))]
  exact p27 I _ _ _ (a52 I x0 x1 x2 x3 x4 x5 x6 x7 x8 x9 x10 H) (a55 I x0 x1 x2 x3 x4 x5 x6 x7 x8 x9 x10 H) (a64 I x0 x1 x2 x3 x4 x5 x6 x7 x8 x9 x10 H) i j
theorem o18 (i j) : out0_18 x0 x1 x2 x3 x4 x5 x6 x7 x8 x9 x10 (ix2 i j) = U I i j := by
  rw [out0_18, View.canon_unit_zero (hz (n := 0))]
  exact p28 I _ _ _ _ (a53 I x0 x1 x2 x3 x4 x5 x6 x7 x8 x9 x10 H) (a55 I x0 x1 x2 x3 x4 x5 x6 x7 x8 x9 x10 H) (a61 I x0 x1 x2 x3 x4 x5 x6 x7 x8 x9 x10 H) (a63 I x0 x1 x2 x3 x4 x5 x6 x7 x8 x9 x10 H) i j
theorem o19 (i k) : out0_19 x0 x1 x2 x3 x4 x5 x6 x7 x8 x9 x10 (ix2 i k) = O I i k := by
  rw [out0_19, View.canon_unit_zero (hz (n := 0))]
  exact p34 I _ _ _ _ _ _ _ _ _ (a52 I x0 x1 x2 x3 x4 x5 x6 x7 x8 x9 x10 H) (a53 I x0 x1 x2 x3 x4 x5 x6 x7 x8 x9 x10 H) (a54 I x0 x1 x2 x3 x4 x5 x6 x7 x8 x9 x10 H) (a55 I x0 x1 x2 x3 x4 x5 x6 x7 x8 x9 x10 H) (a56 I x0 x1 x2 x3 x4 x5 x6 x7 x8 x9 x10 H) (a64 I x0 x1 x2 x3 x4 x5 x6 x7 x8 x9 x10 H) (a61 I x0 x1 x2 x3 x4 x5 x6 x7 x8 x9 x10 H) (a62 I x0 x1 x2 x3 x4 x5 x6 x7 x8 x9 x10 H) (a63 I x0 x1 x2 x3 x4 x5 x6 x7 x8 x9 x10 H) i k
theorem o20 (i j) : out0_20 x0 x1 x2 x3 x4 x5 x6 x7 x8 x9 x10 (ix2 i j) = DA2 I i j := by
  rw [out0_20, View.canon_unit_zero (hz (n := 0))]
  exact p38 I _ _ _ (a54 I x0 x1 x2 x3 x4 x5 x6 x7 x8 x9 x10 H) (a62 I x0 x1 x2 x3 x4 x5 x6 x7 x8 x9 x10 H) (a51 I x0 x1 x2 x3 x4 x5 x6 x7 x8 x9 x10 H) i j
theorem o21 (i k) : out0_21 x0 x1 x2 x3 x4 x5 x6 x7 x8 x9 x10 (ix2 i k) = DA1 I i k := by
  rw [out0_21, View.canon_unit_zero (hz (n := 0))]
  exact p44 I _ _ _ _ (a68 I x0 x1 x2 x3 x4 x5 x6 x7 x8 x9 x10 H) (a69 I x0 x1 x2 x3 x4 x5 x6 x7 x8 x9 x10 H) (a70 I x0 x1 x2 x3 x4 x5 x6 x7 x8 x9 x10 H) (a71 I x0 x1 x2 x3 x4 x5 x6 x7 x8 x9 x10 H) i k
theorem o22 (i k) : out0_22 x0 x1 x2 x3 x4 x5 x6 x7 x8 x9 x10 (ix2 i k) = FloatOps.fptosi (F := Ideal) (φ := .f32) 8 (C1 I i k) := by
  rw [out0_22, View.canon_unit_zero (hz (n := 0))]
  exact p21 I _ (a58 I x0 x1 x2 x3 x4 x5 x6 x7 x8 x9 x10 H) i k
theorem o23 (k j) : out0_23 x0 x1 x2 x3 x4 x5 x6 x7 x8 x9 x10 (ix2 k j) = FloatOps.fptosi (F := Ideal) (φ := .f32) 8 (CG I k j) := by
  rw [out0_23, View.canon_unit_zero (hz (n := 0))]
  exact p22 I _ (a59 I x0 x1 x2 x3 x4 x5 x6 x7 x8 x9 x10 H) k j
theorem o24 (k j) : out0_24 x0 x1 x2 x3 x4 x5 x6 x7 x8 x9 x10 (ix2 k j) = FloatOps.fptosi (F := Ideal) (φ := .f32) 8 (CU I k j) := by
  rw [out0_24, View.canon_unit_zero (hz (n := 0))]
  exact p23 I _ _ (a60 I x0 x1 x2 x3 x4 x5 x6 x7 x8 x9 x10 H) (a53 I x0 x1 x2 x3 x4 x5 x6 x7 x8 x9 x10 H) k j
theorem o25 (i j) : out0_25 x0 x1 x2 x3 x4 x5 x6 x7 x8 x9 x10 (ix2 i j) = FloatOps.fptosi (F := Ideal) (φ := .f32) 8 (C2 I i j) := by
  rw [out0_25, View.canon_unit_zero (hz (n := 0))]
  exact p32 I _ _ _ _ _ _ _ (a52 I x0 x1 x2 x3 x4 x5 x6 x7 x8 x9 x10 H) (a53 I x0 x1 x2 x3 x4 x5 x6 x7 x8 x9 x10 H) (a55 I x0 x1 x2 x3 x4 x5 x6 x7 x8 x9 x10 H) (a56 I x0 x1 x2 x3 x4 x5 x6 x7 x8 x9 x10 H) (a64 I x0 x1 x2 x3 x4 x5 x6 x7 x8 x9 x10 H) (a61 I x0 x1 x2 x3 x4 x5 x6 x7 x8 x9 x10 H) (a63 I x0 x1 x2 x3 x4 x5 x6 x7 x8 x9 x10 H) i j
theorem o26 (j k) : out0_26 x0 x1 x2 x3 x4 x5 x6 x7 x8 x9 x10 (ix2 j k) = FloatOps.fptosi (F := Ideal) (φ := .f32) 8 (CD I j k) := by
  rw [out0_26, View.canon_unit_zero (hz (n := 0)), ld5]
  exact p24 I _ _ H.h5 (a54 I x0 x1 x2 x3 x4 x5 x6 x7 x8 x9 x10 H) j k

end

end Cert.ReferenceIdeal.Val

end
-- ==== Proof.RefArgs.lean ====
module

public import proofs.«01_k».proof.Proof.Args
public import proofs.«01_k».proof.Proof.RefOut
public import Idealize.ShloMosaic.Lib.Pipeline.ValueKit.Geometry
public import Idealize.ShloMosaic.Lib.Claim
public import Idealize.ShloMosaic.Lib.Pointwise
public import Idealize.ShloMosaic.Lib.IdealHost
public import Idealize.ShloMosaic.Lib.ValueLayout

/-!
What the reference's windows hold, by its arguments.
-/

@[expose] public section

set_option maxRecDepth 16384

noncomputable section

namespace Cert.ReferenceIdeal.Val

open Cert.ReferenceIdeal Cert.ReferenceIdeal.Gen Cert.Quant
open Idealize.ShloMosaic Idealize.ShloMosaic.TcCoe
open Idealize.ShloMosaic.Pipeline (Dat RDat)

variable (m : (ℓ : Loc nD τ sig) → Buf (Elt Ideal) ℓ) (c : Dev nD)

/-- The inputs the reference is given. -/
def inR : In := inOf (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5))
  (m ((c : Thread nD τ).loc main_arg6)) (m ((c : Thread nD τ).loc main_arg7)) (m ((c : Thread nD τ).loc main_arg8))
  (m ((c : Thread nD τ).loc main_arg9)) (m ((c : Thread nD τ).loc main_arg10))

theorem V0 : V m c main_v0 = shapeCast S256x4096 (m ((c : Thread nD τ).loc main_arg0)) shapeCasts_S2x128x4096_S256x4096 := by
  unfold_abbrev_sides; after_results; rfl
theorem V1 : V m c main_v1 = shapeCast S256x4096 (m ((c : Thread nD τ).loc main_arg1)) shapeCasts_S2x128x4096_S256x4096 := by
  unfold_abbrev_sides; after_results; rfl
theorem V2 : V m c main_v2 = shapeCast S1x4096 (m ((c : Thread nD τ).loc main_arg2)) shapeCasts_S4096_S1x4096 := by
  unfold_abbrev_sides; after_results; rfl
theorem V3 : V m c main_v3 = shapeCast S1x14336 (m ((c : Thread nD τ).loc main_arg6)) shapeCasts_S14336_S1x14336 := by
  unfold_abbrev_sides; after_results; rfl
theorem V4 : V m c main_v4 = shapeCast S1x14336 (m ((c : Thread nD τ).loc main_arg7)) shapeCasts_S14336_S1x14336 := by
  unfold_abbrev_sides; after_results; rfl
theorem V5 : V m c main_v5 = shapeCast S1x4096 (m ((c : Thread nD τ).loc main_arg8)) shapeCasts_S4096_S1x4096 := by
  unfold_abbrev_sides; after_results; rfl
theorem V6 : V m c main_v6 = shapeCast S1x1 (m ((c : Thread nD τ).loc main_arg9)) shapeCasts_S_S1x1 := by
  unfold_abbrev_sides; after_results; rfl
theorem V7 : V m c main_v7 = shapeCast S1x1 (m ((c : Thread nD τ).loc main_arg10)) shapeCasts_S_S1x1 := by
  unfold_abbrev_sides; after_results; rfl

theorem x0 : ∀ t : Fin cfg0.N, win0_0.index t = ![0, 0] := by decide +kernel
theorem x1 : ∀ t : Fin cfg0.N, win0_1.index t = ![0, 0] := by decide +kernel
theorem x2 : ∀ t : Fin cfg0.N, win0_2.index t = ![0, 0] := by decide +kernel
theorem x3 : ∀ t : Fin cfg0.N, win0_3.index t = ![0, 0] := by decide +kernel
theorem x4 : ∀ t : Fin cfg0.N, win0_4.index t = ![0, 0] := by decide +kernel
theorem x5 : ∀ t : Fin cfg0.N, win0_5.index t = ![0, 0] := by decide +kernel
theorem x6 : ∀ t : Fin cfg0.N, win0_6.index t = ![0, 0] := by decide +kernel
theorem x7 : ∀ t : Fin cfg0.N, win0_7.index t = ![0, 0] := by decide +kernel
theorem x8 : ∀ t : Fin cfg0.N, win0_8.index t = ![0, 0] := by decide +kernel
theorem x9 : ∀ t : Fin cfg0.N, win0_9.index t = ![0, 0] := by decide +kernel
theorem x10 : ∀ t : Fin cfg0.N, win0_10.index t = ![0, 0] := by decide +kernel
theorem x11 : ∀ t : Fin cfg0.N, win0_11.index t = ![0, 0] := by decide +kernel
theorem x12 : ∀ t : Fin cfg0.N, win0_12.index t = ![0, 0] := by decide +kernel
theorem x13 : ∀ t : Fin cfg0.N, win0_13.index t = ![0, 0] := by decide +kernel
theorem x14 : ∀ t : Fin cfg0.N, win0_14.index t = ![0, 0] := by decide +kernel
theorem x15 : ∀ t : Fin cfg0.N, win0_15.index t = ![0, 0] := by decide +kernel
theorem x16 : ∀ t : Fin cfg0.N, win0_16.index t = ![0, 0] := by decide +kernel
theorem x17 : ∀ t : Fin cfg0.N, win0_17.index t = ![0, 0] := by decide +kernel
theorem x18 : ∀ t : Fin cfg0.N, win0_18.index t = ![0, 0] := by decide +kernel
theorem x19 : ∀ t : Fin cfg0.N, win0_19.index t = ![0, 0] := by decide +kernel
theorem x20 : ∀ t : Fin cfg0.N, win0_20.index t = ![0, 0] := by decide +kernel
theorem x21 : ∀ t : Fin cfg0.N, win0_21.index t = ![0, 0] := by decide +kernel
theorem x22 : ∀ t : Fin cfg0.N, win0_22.index t = ![0, 0] := by decide +kernel
theorem x23 : ∀ t : Fin cfg0.N, win0_23.index t = ![0, 0] := by decide +kernel
theorem x24 : ∀ t : Fin cfg0.N, win0_24.index t = ![0, 0] := by decide +kernel
theorem x25 : ∀ t : Fin cfg0.N, win0_25.index t = ![0, 0] := by decide +kernel
theorem x26 : ∀ t : Fin cfg0.N, win0_26.index t = ![0, 0] := by decide +kernel

variable (t : Fin cfg0.N)
theorem at0 (i k) : iblk m c 0 t (ix2 i k) = (inR m c).X i k := by
  have e : iblk m c 0 t (ix2 i k) = V m c main_v0 (ix2 i k) := by blk_ext [iblk, x0 t]
  rw [e, V0]; rfl
theorem at1 (i k) : iblk m c 1 t (ix2 i k) = (inR m c).DY i k := by
  have e : iblk m c 1 t (ix2 i k) = V m c main_v1 (ix2 i k) := by blk_ext [iblk, x1 t]
  rw [e, V1]; rfl
theorem at2 (r k) : iblk m c 2 t (ix2 r k) = (inR m c).NW k := by
  have e : iblk m c 2 t (ix2 r k) = V m c main_v2 (ix2 r k) := by blk_ext [iblk, x2 t]
  rw [e, V2]; exact ValueIdx.shapeCast_a_1a_apply _ _ r _
theorem at3 (k j) : iblk m c 3 t (ix2 k j) = (inR m c).WG k j := by
  have e : iblk m c 3 t (ix2 k j) = V m c main_arg3 (ix2 k j) := by blk_ext [iblk, x3 t]
  rw [e, V_main_arg3]; rfl
theorem at4 (k j) : iblk m c 4 t (ix2 k j) = (inR m c).WU k j := by
  have e : iblk m c 4 t (ix2 k j) = V m c main_arg4 (ix2 k j) := by blk_ext [iblk, x4 t]
  rw [e, V_main_arg4]; rfl
theorem at5 (j k) : iblk m c 5 t (ix2 j k) = (inR m c).WD j k := by
  have e : iblk m c 5 t (ix2 j k) = V m c main_arg5 (ix2 j k) := by blk_ext [iblk, x5 t]
  rw [e, V_main_arg5]; rfl
theorem at6 (r j) : iblk m c 6 t (ix2 r j) = (inR m c).SG j := by
  have e : iblk m c 6 t (ix2 r j) = V m c main_v3 (ix2 r j) := by blk_ext [iblk, x6 t]
  rw [e, V3]; exact ValueIdx.shapeCast_a_1a_apply _ _ r _
theorem at7 (r j) : iblk m c 7 t (ix2 r j) = (inR m c).SU j := by
  have e : iblk m c 7 t (ix2 r j) = V m c main_v4 (ix2 r j) := by blk_ext [iblk, x7 t]
  rw [e, V4]; exact ValueIdx.shapeCast_a_1a_apply _ _ r _
theorem at8 (r k) : iblk m c 8 t (ix2 r k) = (inR m c).SD k := by
  have e : iblk m c 8 t (ix2 r k) = V m c main_v5 (ix2 r k) := by blk_ext [iblk, x8 t]
  rw [e, V5]; exact ValueIdx.shapeCast_a_1a_apply _ _ r _
theorem at9 (r j) : iblk m c 9 t (ix2 r j) = (inR m c).a := by
  have e : iblk m c 9 t (ix2 r j) = V m c main_v6 (ix2 r j) := by blk_ext [iblk, x9 t]
  rw [e, V6]; unfold shapeCast; exact congrArg (m ((c : Thread nD τ).loc main_arg9)) (funext fun a => Fin.elim0 a)
theorem at10 (r j) : iblk m c 10 t (ix2 r j) = (inR m c).b := by
  have e : iblk m c 10 t (ix2 r j) = V m c main_v7 (ix2 r j) := by blk_ext [iblk, x10 t]
  rw [e, V7]; unfold shapeCast; exact congrArg (m ((c : Thread nD τ).loc main_arg10)) (funext fun a => Fin.elim0 a)

theorem holds : Holds (inR m c) (iblk m c 0 t) (iblk m c 1 t) (iblk m c 2 t) (iblk m c 3 t) (iblk m c 4 t) (iblk m c 5 t) (iblk m c 6 t) (iblk m c 7 t) (iblk m c 8 t) (iblk m c 9 t) (iblk m c 10 t) :=
  ⟨at0 m c t, at1 m c t, at2 m c t, at3 m c t, at4 m c t, at5 m c t, at6 m c t, at7 m c t, at8 m c t, at9 m c t, at10 m c t⟩

end Cert.ReferenceIdeal.Val

end
-- ==== Proof.RefValue.lean ====
module

public import proofs.«01_k».proof.Proof.RefArgs
public import Idealize.ShloMosaic.Lib.Pipeline.ValueKit.Geometry
public import Idealize.ShloMosaic.Lib.Claim
public import Idealize.ShloMosaic.Lib.Pointwise
public import Idealize.ShloMosaic.Lib.IdealHost
public import Idealize.ShloMosaic.Lib.ValueLayout

/-!
What the reference's arrays hold after its run, by its arguments.
-/

@[expose] public section

set_option maxRecDepth 16384

noncomputable section

namespace Cert.ReferenceIdeal.Val

open Cert.ReferenceIdeal Cert.ReferenceIdeal.Gen Cert.Quant
open Idealize.ShloMosaic Idealize.ShloMosaic.TcCoe
open Idealize.ShloMosaic.Pipeline (Dat RDat)

variable (m : (ℓ : Loc nD τ sig) → Buf (Elt Ideal) ℓ) (c : Dev nD)

theorem end11 : (dats (F := Ideal) m 0 c).arrAt 11 cfg0.N = mat (Y (inR m c)) := by
  refine (dats m 0 c).arrAt_eq_of_covers 11 _ (by decide +kernel) fun t hf y => ?_
  blk_simp
  rw [after0_11]
  obtain ⟨i, j, rfl⟩ : ∃ i j, y = ix2 i j := ⟨y 0, y 1, by ext a; fin_cases a <;> rfl⟩
  rw [o11 (inR m c) _ _ _ _ _ _ _ _ _ _ _ (holds m c t)]
  have e : (win0_11.blk t).view.emb (ix2 i j) = ix2 i j := by blk_ext [x11 t]
  rw [e]; rfl

theorem end12 : (dats (F := Ideal) m 0 c).arrAt 12 cfg0.N = mat (DX (inR m c)) := by
  refine (dats m 0 c).arrAt_eq_of_covers 12 _ (by decide +kernel) fun t hf y => ?_
  blk_simp
  rw [after0_12]
  obtain ⟨i, j, rfl⟩ : ∃ i j, y = ix2 i j := ⟨y 0, y 1, by ext a; fin_cases a <;> rfl⟩
  rw [o12 (inR m c) _ _ _ _ _ _ _ _ _ _ _ (holds m c t)]
  have e : (win0_12.blk t).view.emb (ix2 i j) = ix2 i j := by blk_ext [x12 t]
  rw [e]; rfl

theorem end13 : (dats (F := Ideal) m 0 c).arrAt 13 cfg0.N = mat (DWG (inR m c)) := by
  refine (dats m 0 c).arrAt_eq_of_covers 13 _ (by decide +kernel) fun t hf y => ?_
  blk_simp
  rw [after0_13]
  obtain ⟨i, j, rfl⟩ : ∃ i j, y = ix2 i j := ⟨y 0, y 1, by ext a; fin_cases a <;> rfl⟩
  rw [o13 (inR m c) _ _ _ _ _ _ _ _ _ _ _ (holds m c t)]
  have e : (win0_13.blk t).view.emb (ix2 i j) = ix2 i j := by blk_ext [x13 t]
  rw [e]; rfl

theorem end14 : (dats (F := Ideal) m 0 c).arrAt 14 cfg0.N = mat (DWU (inR m c)) := by
  refine (dats m 0 c).arrAt_eq_of_covers 14 _ (by decide +kernel) fun t hf y => ?_
  blk_simp
  rw [after0_14]
  obtain ⟨i, j, rfl⟩ : ∃ i j, y = ix2 i j := ⟨y 0, y 1, by ext a; fin_cases a <;> rfl⟩
  rw [o14 (inR m c) _ _ _ _ _ _ _ _ _ _ _ (holds m c t)]
  have e : (win0_14.blk t).view.emb (ix2 i j) = ix2 i j := by blk_ext [x14 t]
  rw [e]; rfl

theorem end15 : (dats (F := Ideal) m 0 c).arrAt 15 cfg0.N = mat (DWD (inR m c)) := by
  refine (dats m 0 c).arrAt_eq_of_covers 15 _ (by decide +kernel) fun t hf y => ?_
  blk_simp
  rw [after0_15]
  obtain ⟨i, j, rfl⟩ : ∃ i j, y = ix2 i j := ⟨y 0, y 1, by ext a; fin_cases a <;> rfl⟩
  rw [o15 (inR m c) _ _ _ _ _ _ _ _ _ _ _ (holds m c t)]
  have e : (win0_15.blk t).view.emb (ix2 i j) = ix2 i j := by blk_ext [x15 t]
  rw [e]; rfl

theorem end16 : (dats (F := Ideal) m 0 c).arrAt 16 cfg0.N = mat (m := 1) (n := 4096) (fun _ k => DNW (inR m c) k) := by
  refine (dats m 0 c).arrAt_eq_of_covers 16 _ (by decide +kernel) fun t hf y => ?_
  blk_simp
  rw [after0_16]
  obtain ⟨i, j, rfl⟩ : ∃ i j, y = ix2 i j := ⟨y 0, y 1, by ext a; fin_cases a <;> rfl⟩
  rw [o16 (inR m c) _ _ _ _ _ _ _ _ _ _ _ (holds m c t)]
  have e : (win0_16.blk t).view.emb (ix2 i j) = ix2 i j := by blk_ext [x16 t]
  rw [e]; rfl

theorem end17 : (dats (F := Ideal) m 0 c).arrAt 17 cfg0.N = mat (G (inR m c)) := by
  refine (dats m 0 c).arrAt_eq_of_covers 17 _ (by decide +kernel) fun t hf y => ?_
  blk_simp
  rw [after0_17]
  obtain ⟨i, j, rfl⟩ : ∃ i j, y = ix2 i j := ⟨y 0, y 1, by ext a; fin_cases a <;> rfl⟩
  rw [o17 (inR m c) _ _ _ _ _ _ _ _ _ _ _ (holds m c t)]
  have e : (win0_17.blk t).view.emb (ix2 i j) = ix2 i j := by blk_ext [x17 t]
  rw [e]; rfl

theorem end18 : (dats (F := Ideal) m 0 c).arrAt 18 cfg0.N = mat (U (inR m c)) := by
  refine (dats m 0 c).arrAt_eq_of_covers 18 _ (by decide +kernel) fun t hf y => ?_
  blk_simp
  rw [after0_18]
  obtain ⟨i, j, rfl⟩ : ∃ i j, y = ix2 i j := ⟨y 0, y 1, by ext a; fin_cases a <;> rfl⟩
  rw [o18 (inR m c) _ _ _ _ _ _ _ _ _ _ _ (holds m c t)]
  have e : (win0_18.blk t).view.emb (ix2 i j) = ix2 i j := by blk_ext [x18 t]
  rw [e]; rfl

theorem end19 : (dats (F := Ideal) m 0 c).arrAt 19 cfg0.N = mat (O (inR m c)) := by
  refine (dats m 0 c).arrAt_eq_of_covers 19 _ (by decide +kernel) fun t hf y => ?_
  blk_simp
  rw [after0_19]
  obtain ⟨i, j, rfl⟩ : ∃ i j, y = ix2 i j := ⟨y 0, y 1, by ext a; fin_cases a <;> rfl⟩
  rw [o19 (inR m c) _ _ _ _ _ _ _ _ _ _ _ (holds m c t)]
  have e : (win0_19.blk t).view.emb (ix2 i j) = ix2 i j := by blk_ext [x19 t]
  rw [e]; rfl

theorem end20 : (dats (F := Ideal) m 0 c).arrAt 20 cfg0.N = mat (DA2 (inR m c)) := by
  refine (dats m 0 c).arrAt_eq_of_covers 20 _ (by decide +kernel) fun t hf y => ?_
  blk_simp
  rw [after0_20]
  obtain ⟨i, j, rfl⟩ : ∃ i j, y = ix2 i j := ⟨y 0, y 1, by ext a; fin_cases a <;> rfl⟩
  rw [o20 (inR m c) _ _ _ _ _ _ _ _ _ _ _ (holds m c t)]
  have e : (win0_20.blk t).view.emb (ix2 i j) = ix2 i j := by blk_ext [x20 t]
  rw [e]; rfl

theorem end21 : (dats (F := Ideal) m 0 c).arrAt 21 cfg0.N = mat (DA1 (inR m c)) := by
  refine (dats m 0 c).arrAt_eq_of_covers 21 _ (by decide +kernel) fun t hf y => ?_
  blk_simp
  rw [after0_21]
  obtain ⟨i, j, rfl⟩ : ∃ i j, y = ix2 i j := ⟨y 0, y 1, by ext a; fin_cases a <;> rfl⟩
  rw [o21 (inR m c) _ _ _ _ _ _ _ _ _ _ _ (holds m c t)]
  have e : (win0_21.blk t).view.emb (ix2 i j) = ix2 i j := by blk_ext [x21 t]
  rw [e]; rfl

theorem end22 : (dats (F := Ideal) m 0 c).arrAt 22 cfg0.N = mat (fun i j => FloatOps.fptosi (F := Ideal) (φ := .f32) 8 (C1 (inR m c) i j)) := by
  refine (dats m 0 c).arrAt_eq_of_covers 22 _ (by decide +kernel) fun t hf y => ?_
  blk_simp
  rw [after0_22]
  obtain ⟨i, j, rfl⟩ : ∃ i j, y = ix2 i j := ⟨y 0, y 1, by ext a; fin_cases a <;> rfl⟩
  rw [o22 (inR m c) _ _ _ _ _ _ _ _ _ _ _ (holds m c t)]
  have e : (win0_22.blk t).view.emb (ix2 i j) = ix2 i j := by blk_ext [x22 t]
  rw [e]; rfl

theorem end23 : (dats (F := Ideal) m 0 c).arrAt 23 cfg0.N = mat (fun i j => FloatOps.fptosi (F := Ideal) (φ := .f32) 8 (CG (inR m c) i j)) := by
  refine (dats m 0 c).arrAt_eq_of_covers 23 _ (by decide +kernel) fun t hf y => ?_
  blk_simp
  rw [after0_23]
  obtain ⟨i, j, rfl⟩ : ∃ i j, y = ix2 i j := ⟨y 0, y 1, by ext a; fin_cases a <;> rfl⟩
  rw [o23 (inR m c) _ _ _ _ _ _ _ _ _ _ _ (holds m c t)]
  have e : (win0_23.blk t).view.emb (ix2 i j) = ix2 i j := by blk_ext [x23 t]
  rw [e]; rfl

theorem end24 : (dats (F := Ideal) m 0 c).arrAt 24 cfg0.N = mat (fun i j => FloatOps.fptosi (F := Ideal) (φ := .f32) 8 (CU (inR m c) i j)) := by
  refine (dats m 0 c).arrAt_eq_of_covers 24 _ (by decide +kernel) fun t hf y => ?_
  blk_simp
  rw [after0_24]
  obtain ⟨i, j, rfl⟩ : ∃ i j, y = ix2 i j := ⟨y 0, y 1, by ext a; fin_cases a <;> rfl⟩
  rw [o24 (inR m c) _ _ _ _ _ _ _ _ _ _ _ (holds m c t)]
  have e : (win0_24.blk t).view.emb (ix2 i j) = ix2 i j := by blk_ext [x24 t]
  rw [e]; rfl

theorem end25 : (dats (F := Ideal) m 0 c).arrAt 25 cfg0.N = mat (fun i j => FloatOps.fptosi (F := Ideal) (φ := .f32) 8 (C2 (inR m c) i j)) := by
  refine (dats m 0 c).arrAt_eq_of_covers 25 _ (by decide +kernel) fun t hf y => ?_
  blk_simp
  rw [after0_25]
  obtain ⟨i, j, rfl⟩ : ∃ i j, y = ix2 i j := ⟨y 0, y 1, by ext a; fin_cases a <;> rfl⟩
  rw [o25 (inR m c) _ _ _ _ _ _ _ _ _ _ _ (holds m c t)]
  have e : (win0_25.blk t).view.emb (ix2 i j) = ix2 i j := by blk_ext [x25 t]
  rw [e]; rfl

theorem end26 : (dats (F := Ideal) m 0 c).arrAt 26 cfg0.N = mat (fun i j => FloatOps.fptosi (F := Ideal) (φ := .f32) 8 (CD (inR m c) i j)) := by
  refine (dats m 0 c).arrAt_eq_of_covers 26 _ (by decide +kernel) fun t hf y => ?_
  blk_simp
  rw [after0_26]
  obtain ⟨i, j, rfl⟩ : ∃ i j, y = ix2 i j := ⟨y 0, y 1, by ext a; fin_cases a <;> rfl⟩
  rw [o26 (inR m c) _ _ _ _ _ _ _ _ _ _ _ (holds m c t)]
  have e : (win0_26.blk t).view.emb (ix2 i j) = ix2 i j := by blk_ext [x26 t]
  rw [e]; rfl

end Cert.ReferenceIdeal.Val

end
-- ==== Proof.RefRun.lean ====
module

public import proofs.«01_k».proof.Proof.RefValue

/-!
The reference's run with its values.
-/

@[expose] public section

set_option maxRecDepth 16384

noncomputable section

namespace Cert.ReferenceIdeal.Val

open Cert.ReferenceIdeal Cert.ReferenceIdeal.Gen Cert.Quant
open Idealize.ShloMosaic Idealize.ShloMosaic.TcCoe Idealize.SL.Sem
open Idealize.ShloMosaic.Pipeline (Dat RDat)

set_option maxHeartbeats 2000000

variable (m : (ℓ : Loc nD τ sig) → Buf (Elt Ideal) ℓ)

/-- The reference's run: its sixteen arrays, and its arguments unchanged. -/
theorem run (ρ : Dev nD → PrngReg) :
    θ_run (defs (F := Ideal)) (onTc (τ := τ) (main (F := Ideal))) ⟨m, fun _ => 0, ρ⟩ (fun r => ∀ c : Dev nD,
      r.2.mem ((c.tc : Thread nD τ).loc main_v8_0) = (mat (Y (inR m c)))
      ∧ r.2.mem ((c.tc : Thread nD τ).loc main_v8_1) = (mat (DX (inR m c)))
      ∧ r.2.mem ((c.tc : Thread nD τ).loc main_v8_2) = (mat (DWG (inR m c)))
      ∧ r.2.mem ((c.tc : Thread nD τ).loc main_v8_3) = (mat (DWU (inR m c)))
      ∧ r.2.mem ((c.tc : Thread nD τ).loc main_v8_4) = (mat (DWD (inR m c)))
      ∧ r.2.mem ((c.tc : Thread nD τ).loc main_v8_5) = (mat (m := 1) (n := 4096) (fun _ k => DNW (inR m c) k))
      ∧ r.2.mem ((c.tc : Thread nD τ).loc main_v8_6) = (mat (G (inR m c)))
      ∧ r.2.mem ((c.tc : Thread nD τ).loc main_v8_7) = (mat (U (inR m c)))
      ∧ r.2.mem ((c.tc : Thread nD τ).loc main_v8_8) = (mat (O (inR m c)))
      ∧ r.2.mem ((c.tc : Thread nD τ).loc main_v8_9) = (mat (DA2 (inR m c)))
      ∧ r.2.mem ((c.tc : Thread nD τ).loc main_v8_10) = (mat (DA1 (inR m c)))
      ∧ r.2.mem ((c.tc : Thread nD τ).loc main_v8_11) = (mat (fun i j => FloatOps.fptosi (F := Ideal) (φ := .f32) 8 (C1 (inR m c) i j)))
      ∧ r.2.mem ((c.tc : Thread nD τ).loc main_v8_12) = (mat (fun i j => FloatOps.fptosi (F := Ideal) (φ := .f32) 8 (CG (inR m c) i j)))
      ∧ r.2.mem ((c.tc : Thread nD τ).loc main_v8_13) = (mat (fun i j => FloatOps.fptosi (F := Ideal) (φ := .f32) 8 (CU (inR m c) i j)))
      ∧ r.2.mem ((c.tc : Thread nD τ).loc main_v8_14) = (mat (fun i j => FloatOps.fptosi (F := Ideal) (φ := .f32) 8 (C2 (inR m c) i j)))
      ∧ r.2.mem ((c.tc : Thread nD τ).loc main_v8_15) = (mat (fun i j => FloatOps.fptosi (F := Ideal) (φ := .f32) 8 (CD (inR m c) i j)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) := by
  refine (θ_run (defs (F := Ideal)) _ _).mono (fun r h c => ?_) (run_main m ρ)
  exact ⟨((h c).1 11).trans (end11 m c),
    ((h c).1 12).trans (end12 m c),
    ((h c).1 13).trans (end13 m c),
    ((h c).1 14).trans (end14 m c),
    ((h c).1 15).trans (end15 m c),
    ((h c).1 16).trans (end16 m c),
    ((h c).1 17).trans (end17 m c),
    ((h c).1 18).trans (end18 m c),
    ((h c).1 19).trans (end19 m c),
    ((h c).1 20).trans (end20 m c),
    ((h c).1 21).trans (end21 m c),
    ((h c).1 22).trans (end22 m c),
    ((h c).1 23).trans (end23 m c),
    ((h c).1 24).trans (end24 m c),
    ((h c).1 25).trans (end25 m c),
    ((h c).1 26).trans (end26 m c),
    ((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).1 3).trans (((dats m 0 c).arrAt_in 3 rfl _).trans ((A_eq m c 3).trans (V_main_arg3 m c))),
    ((h c).1 4).trans (((dats m 0 c).arrAt_in 4 rfl _).trans ((A_eq m c 4).trans (V_main_arg4 m c))),
    ((h c).1 5).trans (((dats m 0 c).arrAt_in 5 rfl _).trans ((A_eq m c 5).trans (V_main_arg5 m c))),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c)⟩

end Cert.ReferenceIdeal.Val

end
-- ==== Proof.lean ====
/- The proof of the certificate's claim: the kernel and its ideal program keep their arguments and end with every
   semaphore at zero, as the reference does; the ideal program is the kernel with no operation rewritten; and, when no step
   is zero, the kernel's arrays are the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.KernelIdeal.Frame
public import proofs.«01_k».proof.Proof.KernelFrame
public import proofs.«01_k».proof.Proof.PreSteps
public import proofs.«01_k».proof.Proof.KernRun
public import proofs.«01_k».proof.Proof.RefRun

@[expose] public section

noncomputable section

namespace Cert.Proof

open Idealize.ShloMosaic Cert.Quant

theorem quiescent_KernelIdeal : Cert.quiescent_KernelIdeal (hKernelIdeal := Cert.KernelIdeal.Gen.facts) :=
  fun m ρ _ => Cert.KernelIdeal.Hand.frame_all (F := Ideal) m ρ

/-- Equal arrays are equal inputs. -/
theorem inOf_congr {x x' dy dy' nw nw' wg wg' wu wu' wd wd' sg sg' su su' sd sd' a a' b b'} (h0 : x = x') (h1 : dy = dy') (h2 : nw = nw')
    (h3 : wg = wg') (h4 : wu = wu') (h5 : wd = wd') (h6 : sg = sg') (h7 : su = su') (h8 : sd = sd') (h9 : a = a') (h10 : b = b') :
    inOf x dy nw wg wu wd sg su sd a b = inOf x' dy' nw' wg' wu' wd' sg' su' sd' a' b' := by
  subst h0 h1 h2 h3 h4 h5 h6 h7 h8 h9 h10; rfl

theorem algebraic : Cert.algebraic_KernelIdeal_ReferenceIdeal_pre_steps_nonzero (hKernelIdeal := Cert.KernelIdeal.Gen.facts)
    (hReferenceIdeal := Cert.ReferenceIdeal.Gen.facts) (hPre_steps_nonzero := facts_pre) := by
  intro m g m' g' hP hA
  have e : ∀ c, Cert.ReferenceIdeal.Val.inR m' c = Cert.KernelIdeal.Val.inK m c := fun c => by
    obtain ⟨h0, h1, h2, h3, h4, h5, h6, h7, h8, h9, h10⟩ := hA c
    exact inOf_congr h0 h1 h2 h3 h4 h5 h6 h7 h8 h9 h10
  have hR := Cert.ReferenceIdeal.Val.run m' g'
  simp only [e] at hR
  exact ⟨fun c => mat (Y (Cert.KernelIdeal.Val.inK m c)),
    fun c => mat (DX (Cert.KernelIdeal.Val.inK m c)),
    fun c => mat (DWG (Cert.KernelIdeal.Val.inK m c)),
    fun c => mat (DWU (Cert.KernelIdeal.Val.inK m c)),
    fun c => mat (DWD (Cert.KernelIdeal.Val.inK m c)),
    fun c => mat (m := 1) (n := 4096) (fun _ k => DNW (Cert.KernelIdeal.Val.inK m c) k),
    fun c => mat (G (Cert.KernelIdeal.Val.inK m c)),
    fun c => mat (U (Cert.KernelIdeal.Val.inK m c)),
    fun c => mat (O (Cert.KernelIdeal.Val.inK m c)),
    fun c => mat (DA2 (Cert.KernelIdeal.Val.inK m c)),
    fun c => mat (DA1 (Cert.KernelIdeal.Val.inK m c)),
    fun c => mat (fun i j => FloatOps.fptosi (F := Ideal) (φ := .f32) 8 (C1 (Cert.KernelIdeal.Val.inK m c) i j)),
    fun c => mat (fun i j => FloatOps.fptosi (F := Ideal) (φ := .f32) 8 (CG (Cert.KernelIdeal.Val.inK m c) i j)),
    fun c => mat (fun i j => FloatOps.fptosi (F := Ideal) (φ := .f32) 8 (CU (Cert.KernelIdeal.Val.inK m c) i j)),
    fun c => mat (fun i j => FloatOps.fptosi (F := Ideal) (φ := .f32) 8 (C2 (Cert.KernelIdeal.Val.inK m c) i j)),
    fun c => mat (fun i j => FloatOps.fptosi (F := Ideal) (φ := .f32) 8 (CD (Cert.KernelIdeal.Val.inK m c) i j)),
    Cert.KernelIdeal.Val.run m g (steps_of m hP), hR⟩

theorem claim : Cert.Claim :=
  ⟨Cert.Kernel.Gen.facts, Cert.KernelIdeal.Gen.facts, Cert.ReferenceIdeal.Gen.facts, facts_pre, quiescent_Kernel, quiescent_KernelIdeal,
    fun m ρ _ => Cert.KernelIdeal.Hand.frame_all (F := Ideal) m ρ, fun m ρ _ => Cert.ReferenceIdeal.Gen.frame m ρ,
    fun m ρ _ => Cert.ReferenceIdeal.Gen.frame m ρ, trivial, algebraic⟩

end Cert.Proof

end
